-- ==== Defs.lean ====
def Pre_Kernel [hPre_start_names_a_pair : Cert.Pre_start_names_a_pair.Facts] (m : (ℓ : Loc Cert.Kernel.nD Cert.Kernel.τ Cert.Kernel.sig) → Buf (Elt Bits) ℓ) : Prop :=
  ∀ c : Dev Cert.Kernel.nD,
    (Cert.Pre_start_names_a_pair.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_start_names_a_pair : Cert.Pre_start_names_a_pair.Facts] (m : (ℓ : Loc Cert.KernelIdeal.nD Cert.KernelIdeal.τ Cert.KernelIdeal.sig) → Buf (Elt Ideal) ℓ) : Prop :=
  ∀ c : Dev Cert.KernelIdeal.nD,
    (Cert.Pre_start_names_a_pair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_start_in_range_scores_finite [hPre_start_in_range_scores_finite : Cert.Pre_start_in_range_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_start_in_range_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_start_in_range_scores_finite [hPre_start_in_range_scores_finite : Cert.Pre_start_in_range_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_start_in_range_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_DiffAttn [hPre_pairs_named : Cert.Pre_pairs_named.Facts] (m : (ℓ : Loc Cert.DiffAttn.nD Cert.DiffAttn.τ Cert.DiffAttn.sig) → Buf (Elt Bits) ℓ) : Prop :=
  ∀ c : Dev Cert.DiffAttn.nD,
    (Cert.Pre_pairs_named.fn (F := Bits) (m ((c.tc : Thread Cert.DiffAttn.nD Cert.DiffAttn.τ).loc Cert.DiffAttn.main_arg0)) (m ((c.tc : Thread Cert.DiffAttn.nD Cert.DiffAttn.τ).loc Cert.DiffAttn.main_arg1)) (m ((c.tc : Thread Cert.DiffAttn.nD Cert.DiffAttn.τ).loc Cert.DiffAttn.main_arg2)) (m ((c.tc : Thread Cert.DiffAttn.nD Cert.DiffAttn.τ).loc Cert.DiffAttn.main_arg3)) (m ((c.tc : Thread Cert.DiffAttn.nD Cert.DiffAttn.τ).loc Cert.DiffAttn.main_arg4)) (m ((c.tc : Thread Cert.DiffAttn.nD Cert.DiffAttn.τ).loc Cert.DiffAttn.main_arg5)) (m ((c.tc : Thread Cert.DiffAttn.nD Cert.DiffAttn.τ).loc Cert.DiffAttn.main_arg6)) (m ((c.tc : Thread Cert.DiffAttn.nD Cert.DiffAttn.τ).loc Cert.DiffAttn.main_arg7)) (m ((c.tc : Thread Cert.DiffAttn.nD Cert.DiffAttn.τ).loc Cert.DiffAttn.main_arg8)) (m ((c.tc : Thread Cert.DiffAttn.nD Cert.DiffAttn.τ).loc Cert.DiffAttn.main_arg9)) (m ((c.tc : Thread Cert.DiffAttn.nD Cert.DiffAttn.τ).loc Cert.DiffAttn.main_arg10))) = (fun _ => 1#1)

def Pre_DiffAttnIdeal [hPre_pairs_named : Cert.Pre_pairs_named.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_pairs_named.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6)) (m ((c.tc : Thread Cert.DiffAttnIdeal.nD Cert.DiffAttnIdeal.τ).loc Cert.DiffAttnIdeal.main_arg7)) (m ((c.tc : Thread Cert.DiffAttnIdeal.nD Cert.DiffAttnIdeal.τ).loc Cert.DiffAttnIdeal.main_arg8)) (m ((c.tc : Thread Cert.DiffAttnIdeal.nD Cert.DiffAttnIdeal.τ).loc Cert.DiffAttnIdeal.main_arg9)) (m ((c.tc : Thread Cert.DiffAttnIdeal.nD Cert.DiffAttnIdeal.τ).loc Cert.DiffAttnIdeal.main_arg10))) = (fun _ => 1#1)

def Pre_DiffAttnIdeal_pairs_named_all_finite [hPre_pairs_named_all_finite : Cert.Pre_pairs_named_all_finite.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_pairs_named_all_finite.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6)) (m ((c.tc : Thread Cert.DiffAttnIdeal.nD Cert.DiffAttnIdeal.τ).loc Cert.DiffAttnIdeal.main_arg7)) (m ((c.tc : Thread Cert.DiffAttnIdeal.nD Cert.DiffAttnIdeal.τ).loc Cert.DiffAttnIdeal.main_arg8)) (m ((c.tc : Thread Cert.DiffAttnIdeal.nD Cert.DiffAttnIdeal.τ).loc Cert.DiffAttnIdeal.main_arg9)) (m ((c.tc : Thread Cert.DiffAttnIdeal.nD Cert.DiffAttnIdeal.τ).loc Cert.DiffAttnIdeal.main_arg10))) = (fun _ => 1#1)

def Pre_DiffAttnReferenceIdeal (m : (ℓ : Loc Cert.DiffAttnReferenceIdeal.nD Cert.DiffAttnReferenceIdeal.τ Cert.DiffAttnReferenceIdeal.sig) → Buf (Elt Ideal) ℓ) : Prop :=
  True

def Pre_DiffAttnReferenceIdeal_pairs_named_all_finite [hPre_pairs_named_all_finite : Cert.Pre_pairs_named_all_finite.Facts] (m : (ℓ : Loc Cert.DiffAttnReferenceIdeal.nD Cert.DiffAttnReferenceIdeal.τ Cert.DiffAttnReferenceIdeal.sig) → Buf (Elt Ideal) ℓ) : Prop :=
  ∀ c : Dev Cert.DiffAttnReferenceIdeal.nD,
    (Cert.Pre_pairs_named_all_finite.fn (F := Ideal) (m ((c.tc : Thread Cert.DiffAttnReferenceIdeal.nD Cert.DiffAttnReferenceIdeal.τ).loc Cert.DiffAttnReferenceIdeal.main_arg0)) (m ((c.tc : Thread Cert.DiffAttnReferenceIdeal.nD Cert.DiffAttnReferenceIdeal.τ).loc Cert.DiffAttnReferenceIdeal.main_arg1)) (m ((c.tc : Thread Cert.DiffAttnReferenceIdeal.nD Cert.DiffAttnReferenceIdeal.τ).loc Cert.DiffAttnReferenceIdeal.main_arg2)) (m ((c.tc : Thread Cert.DiffAttnReferenceIdeal.nD Cert.DiffAttnReferenceIdeal.τ).loc Cert.DiffAttnReferenceIdeal.main_arg3)) (m ((c.tc : Thread Cert.DiffAttnReferenceIdeal.nD Cert.DiffAttnReferenceIdeal.τ).loc Cert.DiffAttnReferenceIdeal.main_arg4)) (m ((c.tc : Thread Cert.DiffAttnReferenceIdeal.nD Cert.DiffAttnReferenceIdeal.τ).loc Cert.DiffAttnReferenceIdeal.main_arg5)) (m ((c.tc : Thread Cert.DiffAttnReferenceIdeal.nD Cert.DiffAttnReferenceIdeal.τ).loc Cert.DiffAttnReferenceIdeal.main_arg6)) (m ((c.tc : Thread Cert.DiffAttnReferenceIdeal.nD Cert.DiffAttnReferenceIdeal.τ).loc Cert.DiffAttnReferenceIdeal.main_arg7)) (m ((c.tc : Thread Cert.DiffAttnReferenceIdeal.nD Cert.DiffAttnReferenceIdeal.τ).loc Cert.DiffAttnReferenceIdeal.main_arg8)) (m ((c.tc : Thread Cert.DiffAttnReferenceIdeal.nD Cert.DiffAttnReferenceIdeal.τ).loc Cert.DiffAttnReferenceIdeal.main_arg9)) (m ((c.tc : Thread Cert.DiffAttnReferenceIdeal.nD Cert.DiffAttnReferenceIdeal.τ).loc Cert.DiffAttnReferenceIdeal.main_arg10))) = (fun _ => 1#1)

def quiescent_Kernel [hKernel : Cert.Kernel.Facts] [hPre_start_names_a_pair : Cert.Pre_start_names_a_pair.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_start_names_a_pair : Cert.Pre_start_names_a_pair.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_start_in_range_scores_finite [hKernelIdeal : Cert.KernelIdeal.Facts] [hPre_start_in_range_scores_finite : Cert.Pre_start_in_range_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_start_in_range_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_start_in_range_scores_finite [hReferenceIdeal : Cert.ReferenceIdeal.Facts] [hPre_start_in_range_scores_finite : Cert.Pre_start_in_range_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_start_in_range_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2))
      ∧ r.2.sem = fun _ => 0)

def quiescent_DiffAttn [hDiffAttn : Cert.DiffAttn.Facts] [hPre_pairs_named : Cert.Pre_pairs_named.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6)
      ∧ r.2.mem ((c.tc : Thread Cert.DiffAttn.nD Cert.DiffAttn.τ).loc Cert.DiffAttn.main_arg7) = m ((c.tc : Thread Cert.DiffAttn.nD Cert.DiffAttn.τ).loc Cert.DiffAttn.main_arg7)
      ∧ r.2.mem ((c.tc : Thread Cert.DiffAttn.nD Cert.DiffAttn.τ).loc Cert.DiffAttn.main_arg8) = m ((c.tc : Thread Cert.DiffAttn.nD Cert.DiffAttn.τ).loc Cert.DiffAttn.main_arg8)
      ∧ r.2.mem ((c.tc : Thread Cert.DiffAttn.nD Cert.DiffAttn.τ).loc Cert.DiffAttn.main_arg9) = m ((c.tc : Thread Cert.DiffAttn.nD Cert.DiffAttn.τ).loc Cert.DiffAttn.main_arg9)
      ∧ r.2.mem ((c.tc : Thread Cert.DiffAttn.nD Cert.DiffAttn.τ).loc Cert.DiffAttn.main_arg10) = m ((c.tc : Thread Cert.DiffAttn.nD Cert.DiffAttn.τ).loc Cert.DiffAttn.main_arg10))
      ∧ r.2.sem = fun _ => 0)

def quiescent_DiffAttnIdeal [hDiffAttnIdeal : Cert.DiffAttnIdeal.Facts] [hPre_pairs_named : Cert.Pre_pairs_named.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7)
      ∧ r.2.mem ((c.tc : Thread Cert.DiffAttnIdeal.nD Cert.DiffAttnIdeal.τ).loc Cert.DiffAttnIdeal.main_arg8) = m ((c.tc : Thread Cert.DiffAttnIdeal.nD Cert.DiffAttnIdeal.τ).loc Cert.DiffAttnIdeal.main_arg8)
      ∧ r.2.mem ((c.tc : Thread Cert.DiffAttnIdeal.nD Cert.DiffAttnIdeal.τ).loc Cert.DiffAttnIdeal.main_arg9) = m ((c.tc : Thread Cert.DiffAttnIdeal.nD Cert.DiffAttnIdeal.τ).loc Cert.DiffAttnIdeal.main_arg9)
      ∧ r.2.mem ((c.tc : Thread Cert.DiffAttnIdeal.nD Cert.DiffAttnIdeal.τ).loc Cert.DiffAttnIdeal.main_arg10) = m ((c.tc : Thread Cert.DiffAttnIdeal.nD Cert.DiffAttnIdeal.τ).loc Cert.DiffAttnIdeal.main_arg10))
      ∧ r.2.sem = fun _ => 0)

def quiescent_DiffAttnIdeal_pre_pairs_named_all_finite [hDiffAttnIdeal : Cert.DiffAttnIdeal.Facts] [hPre_pairs_named_all_finite : Cert.Pre_pairs_named_all_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_pairs_named_all_finite m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7)
      ∧ r.2.mem ((c.tc : Thread Cert.DiffAttnIdeal.nD Cert.DiffAttnIdeal.τ).loc Cert.DiffAttnIdeal.main_arg8) = m ((c.tc : Thread Cert.DiffAttnIdeal.nD Cert.DiffAttnIdeal.τ).loc Cert.DiffAttnIdeal.main_arg8)
      ∧ r.2.mem ((c.tc : Thread Cert.DiffAttnIdeal.nD Cert.DiffAttnIdeal.τ).loc Cert.DiffAttnIdeal.main_arg9) = m ((c.tc : Thread Cert.DiffAttnIdeal.nD Cert.DiffAttnIdeal.τ).loc Cert.DiffAttnIdeal.main_arg9)
      ∧ r.2.mem ((c.tc : Thread Cert.DiffAttnIdeal.nD Cert.DiffAttnIdeal.τ).loc Cert.DiffAttnIdeal.main_arg10) = m ((c.tc : Thread Cert.DiffAttnIdeal.nD Cert.DiffAttnIdeal.τ).loc Cert.DiffAttnIdeal.main_arg10))
      ∧ r.2.sem = fun _ => 0)

def quiescent_DiffAttnReferenceIdeal [hDiffAttnReferenceIdeal : Cert.DiffAttnReferenceIdeal.Facts] : Prop :=
  ∀ (m : (ℓ : Loc Cert.DiffAttnReferenceIdeal.nD Cert.DiffAttnReferenceIdeal.τ Cert.DiffAttnReferenceIdeal.sig) → Buf (Elt Ideal) ℓ) (g : Dev Cert.DiffAttnReferenceIdeal.nD → PrngReg), Pre_DiffAttnReferenceIdeal m →
    θ_run (Cert.DiffAttnReferenceIdeal.defs (F := Ideal)) (onTc (τ := Cert.DiffAttnReferenceIdeal.τ) (Cert.DiffAttnReferenceIdeal.main (F := Ideal))) ⟨m, fun _ => 0, g⟩ (fun r => (∀ c : Dev Cert.DiffAttnReferenceIdeal.nD,
      r.2.mem ((c.tc : Thread Cert.DiffAttnReferenceIdeal.nD Cert.DiffAttnReferenceIdeal.τ).loc Cert.DiffAttnReferenceIdeal.main_arg0) = m ((c.tc : Thread Cert.DiffAttnReferenceIdeal.nD Cert.DiffAttnReferenceIdeal.τ).loc Cert.DiffAttnReferenceIdeal.main_arg0)
      ∧ r.2.mem ((c.tc : Thread Cert.DiffAttnReferenceIdeal.nD Cert.DiffAttnReferenceIdeal.τ).loc Cert.DiffAttnReferenceIdeal.main_arg1) = m ((c.tc : Thread Cert.DiffAttnReferenceIdeal.nD Cert.DiffAttnReferenceIdeal.τ).loc Cert.DiffAttnReferenceIdeal.main_arg1)
      ∧ r.2.mem ((c.tc : Thread Cert.DiffAttnReferenceIdeal.nD Cert.DiffAttnReferenceIdeal.τ).loc Cert.DiffAttnReferenceIdeal.main_arg2) = m ((c.tc : Thread Cert.DiffAttnReferenceIdeal.nD Cert.DiffAttnReferenceIdeal.τ).loc Cert.DiffAttnReferenceIdeal.main_arg2)
      ∧ r.2.mem ((c.tc : Thread Cert.DiffAttnReferenceIdeal.nD Cert.DiffAttnReferenceIdeal.τ).loc Cert.DiffAttnReferenceIdeal.main_arg3) = m ((c.tc : Thread Cert.DiffAttnReferenceIdeal.nD Cert.DiffAttnReferenceIdeal.τ).loc Cert.DiffAttnReferenceIdeal.main_arg3)
      ∧ r.2.mem ((c.tc : Thread Cert.DiffAttnReferenceIdeal.nD Cert.DiffAttnReferenceIdeal.τ).loc Cert.DiffAttnReferenceIdeal.main_arg4) = m ((c.tc : Thread Cert.DiffAttnReferenceIdeal.nD Cert.DiffAttnReferenceIdeal.τ).loc Cert.DiffAttnReferenceIdeal.main_arg4)
      ∧ r.2.mem ((c.tc : Thread Cert.DiffAttnReferenceIdeal.nD Cert.DiffAttnReferenceIdeal.τ).loc Cert.DiffAttnReferenceIdeal.main_arg5) = m ((c.tc : Thread Cert.DiffAttnReferenceIdeal.nD Cert.DiffAttnReferenceIdeal.τ).loc Cert.DiffAttnReferenceIdeal.main_arg5)
      ∧ r.2.mem ((c.tc : Thread Cert.DiffAttnReferenceIdeal.nD Cert.DiffAttnReferenceIdeal.τ).loc Cert.DiffAttnReferenceIdeal.main_arg6) = m ((c.tc : Thread Cert.DiffAttnReferenceIdeal.nD Cert.DiffAttnReferenceIdeal.τ).loc Cert.DiffAttnReferenceIdeal.main_arg6)
      ∧ r.2.mem ((c.tc : Thread Cert.DiffAttnReferenceIdeal.nD Cert.DiffAttnReferenceIdeal.τ).loc Cert.DiffAttnReferenceIdeal.main_arg7) = m ((c.tc : Thread Cert.DiffAttnReferenceIdeal.nD Cert.DiffAttnReferenceIdeal.τ).loc Cert.DiffAttnReferenceIdeal.main_arg7)
      ∧ r.2.mem ((c.tc : Thread Cert.DiffAttnReferenceIdeal.nD Cert.DiffAttnReferenceIdeal.τ).loc Cert.DiffAttnReferenceIdeal.main_arg8) = m ((c.tc : Thread Cert.DiffAttnReferenceIdeal.nD Cert.DiffAttnReferenceIdeal.τ).loc Cert.DiffAttnReferenceIdeal.main_arg8)
      ∧ r.2.mem ((c.tc : Thread Cert.DiffAttnReferenceIdeal.nD Cert.DiffAttnReferenceIdeal.τ).loc Cert.DiffAttnReferenceIdeal.main_arg9) = m ((c.tc : Thread Cert.DiffAttnReferenceIdeal.nD Cert.DiffAttnReferenceIdeal.τ).loc Cert.DiffAttnReferenceIdeal.main_arg9)
      ∧ r.2.mem ((c.tc : Thread Cert.DiffAttnReferenceIdeal.nD Cert.DiffAttnReferenceIdeal.τ).loc Cert.DiffAttnReferenceIdeal.main_arg10) = m ((c.tc : Thread Cert.DiffAttnReferenceIdeal.nD Cert.DiffAttnReferenceIdeal.τ).loc Cert.DiffAttnReferenceIdeal.main_arg10))
      ∧ r.2.sem = fun _ => 0)

def quiescent_DiffAttnReferenceIdeal_pre_pairs_named_all_finite [hDiffAttnReferenceIdeal : Cert.DiffAttnReferenceIdeal.Facts] [hPre_pairs_named_all_finite : Cert.Pre_pairs_named_all_finite.Facts] : Prop :=
  ∀ (m : (ℓ : Loc Cert.DiffAttnReferenceIdeal.nD Cert.DiffAttnReferenceIdeal.τ Cert.DiffAttnReferenceIdeal.sig) → Buf (Elt Ideal) ℓ) (g : Dev Cert.DiffAttnReferenceIdeal.nD → PrngReg), Pre_DiffAttnReferenceIdeal_pairs_named_all_finite m →
    θ_run (Cert.DiffAttnReferenceIdeal.defs (F := Ideal)) (onTc (τ := Cert.DiffAttnReferenceIdeal.τ) (Cert.DiffAttnReferenceIdeal.main (F := Ideal))) ⟨m, fun _ => 0, g⟩ (fun r => (∀ c : Dev Cert.DiffAttnReferenceIdeal.nD,
      r.2.mem ((c.tc : Thread Cert.DiffAttnReferenceIdeal.nD Cert.DiffAttnReferenceIdeal.τ).loc Cert.DiffAttnReferenceIdeal.main_arg0) = m ((c.tc : Thread Cert.DiffAttnReferenceIdeal.nD Cert.DiffAttnReferenceIdeal.τ).loc Cert.DiffAttnReferenceIdeal.main_arg0)
      ∧ r.2.mem ((c.tc : Thread Cert.DiffAttnReferenceIdeal.nD Cert.DiffAttnReferenceIdeal.τ).loc Cert.DiffAttnReferenceIdeal.main_arg1) = m ((c.tc : Thread Cert.DiffAttnReferenceIdeal.nD Cert.DiffAttnReferenceIdeal.τ).loc Cert.DiffAttnReferenceIdeal.main_arg1)
      ∧ r.2.mem ((c.tc : Thread Cert.DiffAttnReferenceIdeal.nD Cert.DiffAttnReferenceIdeal.τ).loc Cert.DiffAttnReferenceIdeal.main_arg2) = m ((c.tc : Thread Cert.DiffAttnReferenceIdeal.nD Cert.DiffAttnReferenceIdeal.τ).loc Cert.DiffAttnReferenceIdeal.main_arg2)
      ∧ r.2.mem ((c.tc : Thread Cert.DiffAttnReferenceIdeal.nD Cert.DiffAttnReferenceIdeal.τ).loc Cert.DiffAttnReferenceIdeal.main_arg3) = m ((c.tc : Thread Cert.DiffAttnReferenceIdeal.nD Cert.DiffAttnReferenceIdeal.τ).loc Cert.DiffAttnReferenceIdeal.main_arg3)
      ∧ r.2.mem ((c.tc : Thread Cert.DiffAttnReferenceIdeal.nD Cert.DiffAttnReferenceIdeal.τ).loc Cert.DiffAttnReferenceIdeal.main_arg4) = m ((c.tc : Thread Cert.DiffAttnReferenceIdeal.nD Cert.DiffAttnReferenceIdeal.τ).loc Cert.DiffAttnReferenceIdeal.main_arg4)
      ∧ r.2.mem ((c.tc : Thread Cert.DiffAttnReferenceIdeal.nD Cert.DiffAttnReferenceIdeal.τ).loc Cert.DiffAttnReferenceIdeal.main_arg5) = m ((c.tc : Thread Cert.DiffAttnReferenceIdeal.nD Cert.DiffAttnReferenceIdeal.τ).loc Cert.DiffAttnReferenceIdeal.main_arg5)
      ∧ r.2.mem ((c.tc : Thread Cert.DiffAttnReferenceIdeal.nD Cert.DiffAttnReferenceIdeal.τ).loc Cert.DiffAttnReferenceIdeal.main_arg6) = m ((c.tc : Thread Cert.DiffAttnReferenceIdeal.nD Cert.DiffAttnReferenceIdeal.τ).loc Cert.DiffAttnReferenceIdeal.main_arg6)
      ∧ r.2.mem ((c.tc : Thread Cert.DiffAttnReferenceIdeal.nD Cert.DiffAttnReferenceIdeal.τ).loc Cert.DiffAttnReferenceIdeal.main_arg7) = m ((c.tc : Thread Cert.DiffAttnReferenceIdeal.nD Cert.DiffAttnReferenceIdeal.τ).loc Cert.DiffAttnReferenceIdeal.main_arg7)
      ∧ r.2.mem ((c.tc : Thread Cert.DiffAttnReferenceIdeal.nD Cert.DiffAttnReferenceIdeal.τ).loc Cert.DiffAttnReferenceIdeal.main_arg8) = m ((c.tc : Thread Cert.DiffAttnReferenceIdeal.nD Cert.DiffAttnReferenceIdeal.τ).loc Cert.DiffAttnReferenceIdeal.main_arg8)
      ∧ r.2.mem ((c.tc : Thread Cert.DiffAttnReferenceIdeal.nD Cert.DiffAttnReferenceIdeal.τ).loc Cert.DiffAttnReferenceIdeal.main_arg9) = m ((c.tc : Thread Cert.DiffAttnReferenceIdeal.nD Cert.DiffAttnReferenceIdeal.τ).loc Cert.DiffAttnReferenceIdeal.main_arg9)
      ∧ r.2.mem ((c.tc : Thread Cert.DiffAttnReferenceIdeal.nD Cert.DiffAttnReferenceIdeal.τ).loc Cert.DiffAttnReferenceIdeal.main_arg10) = m ((c.tc : Thread Cert.DiffAttnReferenceIdeal.nD Cert.DiffAttnReferenceIdeal.τ).loc Cert.DiffAttnReferenceIdeal.main_arg10))
      ∧ r.2.sem = fun _ => 0)

def preserves_Kernel_KernelIdeal : Prop :=
  True

def algebraic_KernelIdeal_ReferenceIdeal_pre_start_in_range_scores_finite [hKernelIdeal : Cert.KernelIdeal.Facts] [hReferenceIdeal : Cert.ReferenceIdeal.Facts] [hPre_start_in_range_scores_finite : Cert.Pre_start_in_range_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_start_in_range_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v2) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v3) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v7_0)) (v1 : (c : Dev Cert.OddProjIdeal.nD) → Buf (Elt Ideal) ((c.tc : Thread Cert.OddProjIdeal.nD Cert.OddProjIdeal.τ).loc Cert.OddProjIdeal.main_v7_1)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v7_0) = v0 c
          ∧ r.2.mem ((c.tc : Thread Cert.OddProjIdeal.nD Cert.OddProjIdeal.τ).loc Cert.OddProjIdeal.main_v7_1) = v1 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v15) = v0 c
          ∧ r.2.mem ((c.tc : Thread Cert.OddProjReferenceIdeal.nD Cert.OddProjReferenceIdeal.τ).loc Cert.OddProjReferenceIdeal.main_v17) = v1 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v2_0)) (v1 : (c : Dev Cert.EvenProjIdeal.nD) → Buf (Elt Ideal) ((c.tc : Thread Cert.EvenProjIdeal.nD Cert.EvenProjIdeal.τ).loc Cert.EvenProjIdeal.main_v2_1)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v2_0) = v0 c
          ∧ r.2.mem ((c.tc : Thread Cert.EvenProjIdeal.nD Cert.EvenProjIdeal.τ).loc Cert.EvenProjIdeal.main_v2_1) = v1 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v14) = v0 c
          ∧ r.2.mem ((c.tc : Thread Cert.EvenProjReferenceIdeal.nD Cert.EvenProjReferenceIdeal.τ).loc Cert.EvenProjReferenceIdeal.main_v15) = v1 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2))

def preserves_DiffAttn_DiffAttnIdeal : Prop :=
  True

def algebraic_DiffAttnIdeal_DiffAttnReferenceIdeal_pre_pairs_named_all_finite [hDiffAttnIdeal : Cert.DiffAttnIdeal.Facts] [hDiffAttnReferenceIdeal : Cert.DiffAttnReferenceIdeal.Facts] [hPre_pairs_named_all_finite : Cert.Pre_pairs_named_all_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffAttnReferenceIdeal.nD Cert.DiffAttnReferenceIdeal.τ Cert.DiffAttnReferenceIdeal.sig) → Buf (Elt Ideal) ℓ) (g' : Dev Cert.DiffAttnReferenceIdeal.nD → PrngReg), Pre_DiffAttnIdeal_pairs_named_all_finite m →
    (∀ c : Dev Cert.DiffAttnIdeal.nD,
      m' ((c.tc : Thread Cert.DiffAttnReferenceIdeal.nD Cert.DiffAttnReferenceIdeal.τ).loc Cert.DiffAttnReferenceIdeal.main_arg0) = m ((c.tc : Thread Cert.DiffAttnIdeal.nD Cert.DiffAttnIdeal.τ).loc Cert.DiffAttnIdeal.main_arg0)
      ∧ m' ((c.tc : Thread Cert.DiffAttnReferenceIdeal.nD Cert.DiffAttnReferenceIdeal.τ).loc Cert.DiffAttnReferenceIdeal.main_arg1) = m ((c.tc : Thread Cert.DiffAttnIdeal.nD Cert.DiffAttnIdeal.τ).loc Cert.DiffAttnIdeal.main_arg1)
      ∧ m' ((c.tc : Thread Cert.DiffAttnReferenceIdeal.nD Cert.DiffAttnReferenceIdeal.τ).loc Cert.DiffAttnReferenceIdeal.main_arg2) = m ((c.tc : Thread Cert.DiffAttnIdeal.nD Cert.DiffAttnIdeal.τ).loc Cert.DiffAttnIdeal.main_arg2)
      ∧ m' ((c.tc : Thread Cert.DiffAttnReferenceIdeal.nD Cert.DiffAttnReferenceIdeal.τ).loc Cert.DiffAttnReferenceIdeal.main_arg3) = m ((c.tc : Thread Cert.DiffAttnIdeal.nD Cert.DiffAttnIdeal.τ).loc Cert.DiffAttnIdeal.main_arg3)
      ∧ m' ((c.tc : Thread Cert.DiffAttnReferenceIdeal.nD Cert.DiffAttnReferenceIdeal.τ).loc Cert.DiffAttnReferenceIdeal.main_arg4) = m ((c.tc : Thread Cert.DiffAttnIdeal.nD Cert.DiffAttnIdeal.τ).loc Cert.DiffAttnIdeal.main_arg4)
      ∧ m' ((c.tc : Thread Cert.DiffAttnReferenceIdeal.nD Cert.DiffAttnReferenceIdeal.τ).loc Cert.DiffAttnReferenceIdeal.main_arg5) = m ((c.tc : Thread Cert.DiffAttnIdeal.nD Cert.DiffAttnIdeal.τ).loc Cert.DiffAttnIdeal.main_arg5)
      ∧ m' ((c.tc : Thread Cert.DiffAttnReferenceIdeal.nD Cert.DiffAttnReferenceIdeal.τ).loc Cert.DiffAttnReferenceIdeal.main_arg6) = m ((c.tc : Thread Cert.DiffAttnIdeal.nD Cert.DiffAttnIdeal.τ).loc Cert.DiffAttnIdeal.main_arg6)
      ∧ m' ((c.tc : Thread Cert.DiffAttnReferenceIdeal.nD Cert.DiffAttnReferenceIdeal.τ).loc Cert.DiffAttnReferenceIdeal.main_arg7) = m ((c.tc : Thread Cert.DiffAttnIdeal.nD Cert.DiffAttnIdeal.τ).loc Cert.DiffAttnIdeal.main_arg7)
      ∧ m' ((c.tc : Thread Cert.DiffAttnReferenceIdeal.nD Cert.DiffAttnReferenceIdeal.τ).loc Cert.DiffAttnReferenceIdeal.main_arg8) = m ((c.tc : Thread Cert.DiffAttnIdeal.nD Cert.DiffAttnIdeal.τ).loc Cert.DiffAttnIdeal.main_arg8)
      ∧ m' ((c.tc : Thread Cert.DiffAttnReferenceIdeal.nD Cert.DiffAttnReferenceIdeal.τ).loc Cert.DiffAttnReferenceIdeal.main_arg9) = m ((c.tc : Thread Cert.DiffAttnIdeal.nD Cert.DiffAttnIdeal.τ).loc Cert.DiffAttnIdeal.main_arg9)
      ∧ m' ((c.tc : Thread Cert.DiffAttnReferenceIdeal.nD Cert.DiffAttnReferenceIdeal.τ).loc Cert.DiffAttnReferenceIdeal.main_arg10) = m ((c.tc : Thread Cert.DiffAttnIdeal.nD Cert.DiffAttnIdeal.τ).loc Cert.DiffAttnIdeal.main_arg10)) →
    ∃ (v0 : (c : Dev Cert.DiffAttnIdeal.nD) → Buf (Elt Ideal) ((c.tc : Thread Cert.DiffAttnIdeal.nD Cert.DiffAttnIdeal.τ).loc Cert.DiffAttnIdeal.main_v5)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v5) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
          ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
          ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7)
          ∧ r.2.mem ((c.tc : Thread Cert.DiffAttnIdeal.nD Cert.DiffAttnIdeal.τ).loc Cert.DiffAttnIdeal.main_arg8) = m ((c.tc : Thread Cert.DiffAttnIdeal.nD Cert.DiffAttnIdeal.τ).loc Cert.DiffAttnIdeal.main_arg8)
          ∧ r.2.mem ((c.tc : Thread Cert.DiffAttnIdeal.nD Cert.DiffAttnIdeal.τ).loc Cert.DiffAttnIdeal.main_arg9) = m ((c.tc : Thread Cert.DiffAttnIdeal.nD Cert.DiffAttnIdeal.τ).loc Cert.DiffAttnIdeal.main_arg9)
          ∧ r.2.mem ((c.tc : Thread Cert.DiffAttnIdeal.nD Cert.DiffAttnIdeal.τ).loc Cert.DiffAttnIdeal.main_arg10) = m ((c.tc : Thread Cert.DiffAttnIdeal.nD Cert.DiffAttnIdeal.τ).loc Cert.DiffAttnIdeal.main_arg10))
      ∧ θ_run (Cert.DiffAttnReferenceIdeal.defs (F := Ideal)) (onTc (τ := Cert.DiffAttnReferenceIdeal.τ) (Cert.DiffAttnReferenceIdeal.main (F := Ideal))) ⟨m', fun _ => 0, g'⟩ (fun r => ∀ c : Dev Cert.DiffAttnReferenceIdeal.nD,
          r.2.mem ((c.tc : Thread Cert.DiffAttnReferenceIdeal.nD Cert.DiffAttnReferenceIdeal.τ).loc Cert.DiffAttnReferenceIdeal.main_v91) = v0 c
          ∧ r.2.mem ((c.tc : Thread Cert.DiffAttnReferenceIdeal.nD Cert.DiffAttnReferenceIdeal.τ).loc Cert.DiffAttnReferenceIdeal.main_arg0) = m' ((c.tc : Thread Cert.DiffAttnReferenceIdeal.nD Cert.DiffAttnReferenceIdeal.τ).loc Cert.DiffAttnReferenceIdeal.main_arg0)
          ∧ r.2.mem ((c.tc : Thread Cert.DiffAttnReferenceIdeal.nD Cert.DiffAttnReferenceIdeal.τ).loc Cert.DiffAttnReferenceIdeal.main_arg1) = m' ((c.tc : Thread Cert.DiffAttnReferenceIdeal.nD Cert.DiffAttnReferenceIdeal.τ).loc Cert.DiffAttnReferenceIdeal.main_arg1)
          ∧ r.2.mem ((c.tc : Thread Cert.DiffAttnReferenceIdeal.nD Cert.DiffAttnReferenceIdeal.τ).loc Cert.DiffAttnReferenceIdeal.main_arg2) = m' ((c.tc : Thread Cert.DiffAttnReferenceIdeal.nD Cert.DiffAttnReferenceIdeal.τ).loc Cert.DiffAttnReferenceIdeal.main_arg2)
          ∧ r.2.mem ((c.tc : Thread Cert.DiffAttnReferenceIdeal.nD Cert.DiffAttnReferenceIdeal.τ).loc Cert.DiffAttnReferenceIdeal.main_arg3) = m' ((c.tc : Thread Cert.DiffAttnReferenceIdeal.nD Cert.DiffAttnReferenceIdeal.τ).loc Cert.DiffAttnReferenceIdeal.main_arg3)
          ∧ r.2.mem ((c.tc : Thread Cert.DiffAttnReferenceIdeal.nD Cert.DiffAttnReferenceIdeal.τ).loc Cert.DiffAttnReferenceIdeal.main_arg4) = m' ((c.tc : Thread Cert.DiffAttnReferenceIdeal.nD Cert.DiffAttnReferenceIdeal.τ).loc Cert.DiffAttnReferenceIdeal.main_arg4)
          ∧ r.2.mem ((c.tc : Thread Cert.DiffAttnReferenceIdeal.nD Cert.DiffAttnReferenceIdeal.τ).loc Cert.DiffAttnReferenceIdeal.main_arg5) = m' ((c.tc : Thread Cert.DiffAttnReferenceIdeal.nD Cert.DiffAttnReferenceIdeal.τ).loc Cert.DiffAttnReferenceIdeal.main_arg5)
          ∧ r.2.mem ((c.tc : Thread Cert.DiffAttnReferenceIdeal.nD Cert.DiffAttnReferenceIdeal.τ).loc Cert.DiffAttnReferenceIdeal.main_arg6) = m' ((c.tc : Thread Cert.DiffAttnReferenceIdeal.nD Cert.DiffAttnReferenceIdeal.τ).loc Cert.DiffAttnReferenceIdeal.main_arg6)
          ∧ r.2.mem ((c.tc : Thread Cert.DiffAttnReferenceIdeal.nD Cert.DiffAttnReferenceIdeal.τ).loc Cert.DiffAttnReferenceIdeal.main_arg7) = m' ((c.tc : Thread Cert.DiffAttnReferenceIdeal.nD Cert.DiffAttnReferenceIdeal.τ).loc Cert.DiffAttnReferenceIdeal.main_arg7)
          ∧ r.2.mem ((c.tc : Thread Cert.DiffAttnReferenceIdeal.nD Cert.DiffAttnReferenceIdeal.τ).loc Cert.DiffAttnReferenceIdeal.main_arg8) = m' ((c.tc : Thread Cert.DiffAttnReferenceIdeal.nD Cert.DiffAttnReferenceIdeal.τ).loc Cert.DiffAttnReferenceIdeal.main_arg8)
          ∧ r.2.mem ((c.tc : Thread Cert.DiffAttnReferenceIdeal.nD Cert.DiffAttnReferenceIdeal.τ).loc Cert.DiffAttnReferenceIdeal.main_arg9) = m' ((c.tc : Thread Cert.DiffAttnReferenceIdeal.nD Cert.DiffAttnReferenceIdeal.τ).loc Cert.DiffAttnReferenceIdeal.main_arg9)
          ∧ r.2.mem ((c.tc : Thread Cert.DiffAttnReferenceIdeal.nD Cert.DiffAttnReferenceIdeal.τ).loc Cert.DiffAttnReferenceIdeal.main_arg10) = m' ((c.tc : Thread Cert.DiffAttnReferenceIdeal.nD Cert.DiffAttnReferenceIdeal.τ).loc Cert.DiffAttnReferenceIdeal.main_arg10))

def Claim : Prop :=
  ∃ (hKernel : Cert.Kernel.Facts) (hKernelIdeal : Cert.KernelIdeal.Facts) (hReferenceIdeal : Cert.ReferenceIdeal.Facts) (hOddOut : Cert.OddOut.Facts) (hOddOutIdeal : Cert.OddOutIdeal.Facts) (hOddOutReferenceIdeal : Cert.OddOutReferenceIdeal.Facts) (hEvenOut : Cert.EvenOut.Facts) (hEvenOutIdeal : Cert.EvenOutIdeal.Facts) (hEvenOutReferenceIdeal : Cert.EvenOutReferenceIdeal.Facts) (hOddProj : Cert.OddProj.Facts) (hOddProjIdeal : Cert.OddProjIdeal.Facts) (hOddProjReferenceIdeal : Cert.OddProjReferenceIdeal.Facts) (hEvenProj : Cert.EvenProj.Facts) (hEvenProjIdeal : Cert.EvenProjIdeal.Facts) (hEvenProjReferenceIdeal : Cert.EvenProjReferenceIdeal.Facts) (hDiffAttn : Cert.DiffAttn.Facts) (hDiffAttnIdeal : Cert.DiffAttnIdeal.Facts) (hDiffAttnReferenceIdeal : Cert.DiffAttnReferenceIdeal.Facts) (hPre_start_names_a_pair : Cert.Pre_start_names_a_pair.Facts) (hPre_start_in_range_scores_finite : Cert.Pre_start_in_range_scores_finite.Facts) (hPre_pairs_named : Cert.Pre_pairs_named.Facts) (hPre_pairs_named_all_finite : Cert.Pre_pairs_named_all_finite.Facts),
    quiescent_Kernel (hKernel := hKernel) (hPre_start_names_a_pair := hPre_start_names_a_pair)
    ∧ quiescent_KernelIdeal (hKernelIdeal := hKernelIdeal) (hPre_start_names_a_pair := hPre_start_names_a_pair)
    ∧ quiescent_KernelIdeal_pre_start_in_range_scores_finite (hKernelIdeal := hKernelIdeal) (hPre_start_in_range_scores_finite := hPre_start_in_range_scores_finite)
    ∧ quiescent_ReferenceIdeal (hReferenceIdeal := hReferenceIdeal)
    ∧ quiescent_ReferenceIdeal_pre_start_in_range_scores_finite (hReferenceIdeal := hReferenceIdeal) (hPre_start_in_range_scores_finite := hPre_start_in_range_scores_finite)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_DiffAttn (hDiffAttn := hDiffAttn) (hPre_pairs_named := hPre_pairs_named)
    ∧ quiescent_DiffAttnIdeal (hDiffAttnIdeal := hDiffAttnIdeal) (hPre_pairs_named := hPre_pairs_named)
    ∧ quiescent_DiffAttnIdeal_pre_pairs_named_all_finite (hDiffAttnIdeal := hDiffAttnIdeal) (hPre_pairs_named_all_finite := hPre_pairs_named_all_finite)
    ∧ quiescent_DiffAttnReferenceIdeal (hDiffAttnReferenceIdeal := hDiffAttnReferenceIdeal)
    ∧ quiescent_DiffAttnReferenceIdeal_pre_pairs_named_all_finite (hDiffAttnReferenceIdeal := hDiffAttnReferenceIdeal) (hPre_pairs_named_all_finite := hPre_pairs_named_all_finite)
    ∧ preserves_Kernel_KernelIdeal
    ∧ algebraic_KernelIdeal_ReferenceIdeal_pre_start_in_range_scores_finite (hKernelIdeal := hKernelIdeal) (hReferenceIdeal := hReferenceIdeal) (hPre_start_in_range_scores_finite := hPre_start_in_range_scores_finite)
    ∧ preserves_OddOut_OddOutIdeal
    ∧ algebraic_OddOutIdeal_OddOutReferenceIdeal (hOddOutIdeal := hOddOutIdeal) (hOddOutReferenceIdeal := hOddOutReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddProj_OddProjIdeal
    ∧ algebraic_OddProjIdeal_OddProjReferenceIdeal (hOddProjIdeal := hOddProjIdeal) (hOddProjReferenceIdeal := hOddProjReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_DiffAttn_DiffAttnIdeal
    ∧ algebraic_DiffAttnIdeal_DiffAttnReferenceIdeal_pre_pairs_named_all_finite (hDiffAttnIdeal := hDiffAttnIdeal) (hDiffAttnReferenceIdeal := hDiffAttnReferenceIdeal) (hPre_pairs_named_all_finite := hPre_pairs_named_all_finite)
-- ==== Pre_pairs_named.lean ====
abbrev S256 : Shape := ⟨1, ![256]⟩
abbrev S32768x1024 : Shape := ⟨2, ![32768, 1024]⟩
abbrev S32768x6144 : Shape := ⟨2, ![32768, 6144]⟩
abbrev S64 : Shape := ⟨1, ![64]⟩
abbrev S128 : Shape := ⟨1, ![128]⟩
abbrev S16 : Shape := ⟨1, ![16]⟩
abbrev S1x16 : Shape := ⟨2, ![1, 16]⟩
abbrev S16x16 : Shape := ⟨2, ![16, 16]⟩
abbrev S_ : Shape := ⟨0, ![]⟩

class Facts : Prop where
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S16x16_S256 : S16x16.ShapeCasts S256
  bcast_S_S256 : S_.BroadcastsInDim S256 (![] : Fin 0 → Fin S256.rank)

variable [Facts]

def fn {F : FTy → Type} [FloatOps F] (main_arg0 : IVec S256 32) (main_arg1 : FVec F S32768x1024 .bf16) (main_arg2 : FVec F S32768x1024 .bf16) (main_arg3 : FVec F S32768x1024 .bf16) (main_arg4 : FVec F S32768x1024 .bf16) (main_arg5 : FVec F S32768x6144 .bf16) (main_arg6 : FVec F S64 .f32) (main_arg7 : FVec F S64 .f32) (main_arg8 : FVec F S64 .f32) (main_arg9 : FVec F S64 .f32) (main_arg10 : FVec F S128 .f32) : IVec S256 1 :=
  let main_v0 : IVec S16 32 := iotaInDim S16 32 0
  let main_v1 : IVec S1x16 32 := broadcastInDim S1x16 ![1] bcast_S16_S1x16_1 main_v0
  let main_v2 : IVec S16x16 32 := broadcastInDim S16x16 ![0, 1] bcast_S1x16_S16x16_0_1 main_v1
  let main_v3 : IVec S256 32 := shapeCast S256 main_v2 shapeCasts_S16x16_S256
  let main_c : IVec S_ 32 := constantI S_ 32 0#32
  let main_v4 : IVec S256 32 := broadcastInDim S256 ![] bcast_S_S256 main_c
  let main_v5 : IVec S256 1 := cmpi .sge main_arg0 main_v4
  let main_v6 : IVec S256 1 := cmpi .sle main_arg0 main_v3
  let main_v7 : IVec S256 1 := andi main_v5 main_v6
  main_v7
-- ==== Pre_pairs_named_all_finite.lean ====
abbrev S256 : Shape := ⟨1, ![256]⟩
abbrev S32768x1024 : Shape := ⟨2, ![32768, 1024]⟩
abbrev S32768x6144 : Shape := ⟨2, ![32768, 6144]⟩
abbrev S64 : Shape := ⟨1, ![64]⟩
abbrev S128 : Shape := ⟨1, ![128]⟩
abbrev S16 : Shape := ⟨1, ![16]⟩
abbrev S1x16 : Shape := ⟨2, ![1, 16]⟩
abbrev S16x16 : Shape := ⟨2, ![16, 16]⟩
abbrev S_ : Shape := ⟨0, ![]⟩
abbrev S256x1x1 : Shape := ⟨3, ![256, 1, 1]⟩
abbrev S256x128x1024 : Shape := ⟨3, ![256, 128, 1024]⟩
abbrev S1x1x64 : Shape := ⟨3, ![1, 1, 64]⟩
abbrev S32768x16x64 : Shape := ⟨3, ![32768, 16, 64]⟩

class Facts : Prop where
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S16x16_S256 : S16x16.ShapeCasts S256
  bcast_S_S256 : S_.BroadcastsInDim S256 (![] : Fin 0 → Fin S256.rank)
  bcast_S256_S256x1x1_0 : S256.BroadcastsInDim S256x1x1 (![0] : Fin 1 → Fin S256x1x1.rank)
  bcast_S256x1x1_S256x128x1024_0_1_2 : S256x1x1.BroadcastsInDim S256x128x1024 (![0, 1, 2] : Fin 3 → Fin S256x128x1024.rank)
  shapeCasts_S256x128x1024_S32768x1024 : S256x128x1024.ShapeCasts S32768x1024
  bcast_S_S64 : S_.BroadcastsInDim S64 (![] : Fin 0 → Fin S64.rank)
  bcast_S64_S1x1x64_2 : S64.BroadcastsInDim S1x1x64 (![2] : Fin 1 → Fin S1x1x64.rank)
  bcast_S1x1x64_S32768x16x64_0_1_2 : S1x1x64.BroadcastsInDim S32768x16x64 (![0, 1, 2] : Fin 3 → Fin S32768x16x64.rank)
  shapeCasts_S32768x16x64_S32768x1024 : S32768x16x64.ShapeCasts S32768x1024
  bitsLt_bf16_f32 : FTy.bits .bf16 < FTy.bits .f32
  bcast_S_S32768x1024 : S_.BroadcastsInDim S32768x1024 (![] : Fin 0 → Fin S32768x1024.rank)
  slices_S32768x6144_S32768x1024_0_4096 : S32768x6144.Slices ![0, 4096] S32768x1024

variable [Facts]

def fn_part2 {F : FTy → Type} [FloatOps F] (main_arg4 : FVec F S32768x1024 .bf16) (main_arg5 : FVec F S32768x6144 .bf16) (main_v39 : IVec S32768x1024 1) (main_v40 : FVec F S32768x1024 .f32) : IVec S32768x1024 1 :=
  let main_v41 : FVec F S32768x1024 .f32 := Host.absf main_v40
  let main_cst_5 : FVec F S_ .f32 := constant S_ .f32 0x7F800000#32
  let main_v42 : FVec F S32768x1024 .f32 := broadcastInDim S32768x1024 ![] bcast_S_S32768x1024 main_cst_5
  let main_v43 : IVec S32768x1024 1 := cmpf .olt main_v41 main_v42
  let main_v44 : IVec S32768x1024 1 := andi main_v39 main_v43
  let main_v45 : FVec F S32768x1024 .f32 := (extf .f32 · bitsLt_bf16_f32) main_arg4
  let main_v46 : FVec F S32768x1024 .f32 := Host.absf main_v45
  let main_cst_6 : FVec F S_ .f32 := constant S_ .f32 0x7F800000#32
  let main_v47 : FVec F S32768x1024 .f32 := broadcastInDim S32768x1024 ![] bcast_S_S32768x1024 main_cst_6
  let main_v48 : IVec S32768x1024 1 := cmpf .olt main_v46 main_v47
  let main_v49 : IVec S32768x1024 1 := andi main_v44 main_v48
  let main_v50 : FVec F S32768x1024 .bf16 := (extractStridedSlice S32768x1024 ![0, 4096] · slices_S32768x6144_S32768x1024_0_4096) main_arg5
  let main_v51 : FVec F S32768x1024 .f32 := (extf .f32 · bitsLt_bf16_f32) main_v50
  let main_v52 : FVec F S32768x1024 .f32 := Host.absf main_v51
  let main_cst_7 : FVec F S_ .f32 := constant S_ .f32 0x7F800000#32
  let main_v53 : FVec F S32768x1024 .f32 := broadcastInDim S32768x1024 ![] bcast_S_S32768x1024 main_cst_7
  let main_v54 : IVec S32768x1024 1 := cmpf .olt main_v52 main_v53
  let main_v55 : IVec S32768x1024 1 := andi main_v49 main_v54
  main_v55

def fn_part1 {F : FTy → Type} [FloatOps F] (main_arg1 : FVec F S32768x1024 .bf16) (main_arg2 : FVec F S32768x1024 .bf16) (main_arg3 : FVec F S32768x1024 .bf16) (main_arg4 : FVec F S32768x1024 .bf16) (main_arg5 : FVec F S32768x6144 .bf16) (main_arg9 : FVec F S64 .f32) (main_v10 : IVec S32768x1024 1) (main_v17 : IVec S64 1) (main_v18 : FVec F S64 .f32) (main_v19 : FVec F S64 .f32) : IVec S32768x1024 1 :=
  let main_v20 : IVec S64 1 := cmpf .olt main_v18 main_v19
  let main_v21 : IVec S64 1 := andi main_v17 main_v20
  let main_v22 : FVec F S64 .f32 := Host.absf main_arg9
  let main_cst_2 : FVec F S_ .f32 := constant S_ .f32 0x7F800000#32
  let main_v23 : FVec F S64 .f32 := broadcastInDim S64 ![] bcast_S_S64 main_cst_2
  let main_v24 : IVec S64 1 := cmpf .olt main_v22 main_v23
  let main_v25 : IVec S64 1 := andi main_v21 main_v24
  let main_v26 : IVec S1x1x64 1 := broadcastInDim S1x1x64 ![2] bcast_S64_S1x1x64_2 main_v25
  let main_v27 : IVec S32768x16x64 1 := broadcastInDim S32768x16x64 ![0, 1, 2] bcast_S1x1x64_S32768x16x64_0_1_2 main_v26
  let main_v28 : IVec S32768x1024 1 := shapeCast S32768x1024 main_v27 shapeCasts_S32768x16x64_S32768x1024
  let main_v29 : IVec S32768x1024 1 := andi main_v10 main_v28
  let main_v30 : FVec F S32768x1024 .f32 := (extf .f32 · bitsLt_bf16_f32) main_arg1
  let main_v31 : FVec F S32768x1024 .f32 := Host.absf main_v30
  let main_cst_3 : FVec F S_ .f32 := constant S_ .f32 0x7F800000#32
  let main_v32 : FVec F S32768x1024 .f32 := broadcastInDim S32768x1024 ![] bcast_S_S32768x1024 main_cst_3
  let main_v33 : IVec S32768x1024 1 := cmpf .olt main_v31 main_v32
  let main_v34 : IVec S32768x1024 1 := andi main_v29 main_v33
  let main_v35 : FVec F S32768x1024 .f32 := (extf .f32 · bitsLt_bf16_f32) main_arg2
  let main_v36 : FVec F S32768x1024 .f32 := Host.absf main_v35
  let main_cst_4 : FVec F S_ .f32 := constant S_ .f32 0x7F800000#32
  let main_v37 : FVec F S32768x1024 .f32 := broadcastInDim S32768x1024 ![] bcast_S_S32768x1024 main_cst_4
  let main_v38 : IVec S32768x1024 1 := cmpf .olt main_v36 main_v37
  let main_v39 : IVec S32768x1024 1 := andi main_v34 main_v38
  let main_v40 : FVec F S32768x1024 .f32 := (extf .f32 · bitsLt_bf16_f32) main_arg3
  fn_part2 (F := F) main_arg4 main_arg5 main_v39 main_v40

def fn {F : FTy → Type} [FloatOps F] (main_arg0 : IVec S256 32) (main_arg1 : FVec F S32768x1024 .bf16) (main_arg2 : FVec F S32768x1024 .bf16) (main_arg3 : FVec F S32768x1024 .bf16) (main_arg4 : FVec F S32768x1024 .bf16) (main_arg5 : FVec F S32768x6144 .bf16) (main_arg6 : FVec F S64 .f32) (main_arg7 : FVec F S64 .f32) (main_arg8 : FVec F S64 .f32) (main_arg9 : FVec F S64 .f32) (main_arg10 : FVec F S128 .f32) : IVec S32768x1024 1 :=
  let main_v0 : IVec S16 32 := iotaInDim S16 32 0
  let main_v1 : IVec S1x16 32 := broadcastInDim S1x16 ![1] bcast_S16_S1x16_1 main_v0
  let main_v2 : IVec S16x16 32 := broadcastInDim S16x16 ![0, 1] bcast_S1x16_S16x16_0_1 main_v1
  let main_v3 : IVec S256 32 := shapeCast S256 main_v2 shapeCasts_S16x16_S256
  let main_c : IVec S_ 32 := constantI S_ 32 0#32
  let main_v4 : IVec S256 32 := broadcastInDim S256 ![] bcast_S_S256 main_c
  let main_v5 : IVec S256 1 := cmpi .sge main_arg0 main_v4
  let main_v6 : IVec S256 1 := cmpi .sle main_arg0 main_v3
  let main_v7 : IVec S256 1 := andi main_v5 main_v6
  let main_v8 : IVec S256x1x1 1 := broadcastInDim S256x1x1 ![0] bcast_S256_S256x1x1_0 main_v7
  let main_v9 : IVec S256x128x1024 1 := broadcastInDim S256x128x1024 ![0, 1, 2] bcast_S256x1x1_S256x128x1024_0_1_2 main_v8
  let main_v10 : IVec S32768x1024 1 := shapeCast S32768x1024 main_v9 shapeCasts_S256x128x1024_S32768x1024
  let main_v11 : FVec F S64 .f32 := Host.absf main_arg6
  let main_cst : FVec F S_ .f32 := constant S_ .f32 0x7F800000#32
  let main_v12 : FVec F S64 .f32 := broadcastInDim S64 ![] bcast_S_S64 main_cst
  let main_v13 : IVec S64 1 := cmpf .olt main_v11 main_v12
  let main_v14 : FVec F S64 .f32 := Host.absf main_arg7
  let main_cst_0 : FVec F S_ .f32 := constant S_ .f32 0x7F800000#32
  let main_v15 : FVec F S64 .f32 := broadcastInDim S64 ![] bcast_S_S64 main_cst_0
  let main_v16 : IVec S64 1 := cmpf .olt main_v14 main_v15
  let main_v17 : IVec S64 1 := andi main_v13 main_v16
  let main_v18 : FVec F S64 .f32 := Host.absf main_arg8
  let main_cst_1 : FVec F S_ .f32 := constant S_ .f32 0x7F800000#32
  let main_v19 : FVec F S64 .f32 := broadcastInDim S64 ![] bcast_S_S64 main_cst_1
  fn_part1 (F := F) main_arg1 main_arg2 main_arg3 main_arg4 main_arg5 main_arg9 main_v10 main_v17 main_v18 main_v19
-- ==== Pre_start_in_range_scores_finite.lean ====
abbrev S512 : Shape := ⟨1, ![512]⟩
abbrev S32768x4096 : Shape := ⟨2, ![32768, 4096]⟩
abbrev S32768x8192 : Shape := ⟨2, ![32768, 8192]⟩
abbrev S16 : Shape := ⟨1, ![16]⟩
abbrev S1x16 : Shape := ⟨2, ![1, 16]⟩
abbrev S32x16 : Shape := ⟨2, ![32, 16]⟩
abbrev S_ : Shape := ⟨0, ![]⟩
abbrev S512x1x1 : Shape := ⟨3, ![512, 1, 1]⟩
abbrev S512x64x4096 : Shape := ⟨3, ![512, 64, 4096]⟩

class Facts : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  shapeCasts_S32x16_S512 : S32x16.ShapeCasts S512
  bcast_S_S512 : S_.BroadcastsInDim S512 (![] : Fin 0 → Fin S512.rank)
  bcast_S512_S512x1x1_0 : S512.BroadcastsInDim S512x1x1 (![0] : Fin 1 → Fin S512x1x1.rank)
  bcast_S512x1x1_S512x64x4096_0_1_2 : S512x1x1.BroadcastsInDim S512x64x4096 (![0, 1, 2] : Fin 3 → Fin S512x64x4096.rank)
  shapeCasts_S512x64x4096_S32768x4096 : S512x64x4096.ShapeCasts S32768x4096
  bitsLt_bf16_f32 : FTy.bits .bf16 < FTy.bits .f32
  bcast_S_S32768x4096 : S_.BroadcastsInDim S32768x4096 (![] : Fin 0 → Fin S32768x4096.rank)

variable [Facts]

def fn {F : FTy → Type} [FloatOps F] (main_arg0 : IVec S512 32) (main_arg1 : FVec F S32768x4096 .bf16) (main_arg2 : FVec F S32768x4096 .bf16) (main_arg3 : FVec F S32768x8192 .bf16) : IVec S32768x4096 1 :=
  let main_v0 : IVec S16 32 := iotaInDim S16 32 0
  let main_v1 : IVec S1x16 32 := broadcastInDim S1x16 ![1] bcast_S16_S1x16_1 main_v0
  let main_v2 : IVec S32x16 32 := broadcastInDim S32x16 ![0, 1] bcast_S1x16_S32x16_0_1 main_v1
  let main_v3 : IVec S512 32 := shapeCast S512 main_v2 shapeCasts_S32x16_S512
  let main_c : IVec S_ 32 := constantI S_ 32 0#32
  let main_v4 : IVec S512 32 := broadcastInDim S512 ![] bcast_S_S512 main_c
  let main_v5 : IVec S512 1 := cmpi .sge main_arg0 main_v4
  let main_v6 : IVec S512 1 := cmpi .sle main_arg0 main_v3
  let main_v7 : IVec S512 1 := andi main_v5 main_v6
  let main_v8 : IVec S512x1x1 1 := broadcastInDim S512x1x1 ![0] bcast_S512_S512x1x1_0 main_v7
  let main_v9 : IVec S512x64x4096 1 := broadcastInDim S512x64x4096 ![0, 1, 2] bcast_S512x1x1_S512x64x4096_0_1_2 main_v8
  let main_v10 : IVec S32768x4096 1 := shapeCast S32768x4096 main_v9 shapeCasts_S512x64x4096_S32768x4096
  let main_v11 : FVec F S32768x4096 .f32 := (extf .f32 · bitsLt_bf16_f32) main_arg1
  let main_v12 : FVec F S32768x4096 .f32 := Host.absf main_v11
  let main_cst : FVec F S_ .f32 := constant S_ .f32 0x7F800000#32
  let main_v13 : FVec F S32768x4096 .f32 := broadcastInDim S32768x4096 ![] bcast_S_S32768x4096 main_cst
  let main_v14 : IVec S32768x4096 1 := cmpf .olt main_v12 main_v13
  let main_v15 : IVec S32768x4096 1 := andi main_v10 main_v14
  let main_v16 : FVec F S32768x4096 .f32 := (extf .f32 · bitsLt_bf16_f32) main_arg2
  let main_v17 : FVec F S32768x4096 .f32 := Host.absf main_v16
  let main_cst_0 : FVec F S_ .f32 := constant S_ .f32 0x7F800000#32
  let main_v18 : FVec F S32768x4096 .f32 := broadcastInDim S32768x4096 ![] bcast_S_S32768x4096 main_cst_0
  let main_v19 : IVec S32768x4096 1 := cmpf .olt main_v17 main_v18
  let main_v20 : IVec S32768x4096 1 := andi main_v15 main_v19
  main_v20
-- ==== Pre_start_names_a_pair.lean ====
abbrev S512 : Shape := ⟨1, ![512]⟩
abbrev S32768x4096 : Shape := ⟨2, ![32768, 4096]⟩
abbrev S32768x8192 : Shape := ⟨2, ![32768, 8192]⟩
abbrev S16 : Shape := ⟨1, ![16]⟩
abbrev S1x16 : Shape := ⟨2, ![1, 16]⟩
abbrev S32x16 : Shape := ⟨2, ![32, 16]⟩
abbrev S_ : Shape := ⟨0, ![]⟩

class Facts : Prop where
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  shapeCasts_S32x16_S512 : S32x16.ShapeCasts S512
  bcast_S_S512 : S_.BroadcastsInDim S512 (![] : Fin 0 → Fin S512.rank)

variable [Facts]

def fn {F : FTy → Type} [FloatOps F] (main_arg0 : IVec S512 32) (main_arg1 : FVec F S32768x4096 .bf16) (main_arg2 : FVec F S32768x4096 .bf16) (main_arg3 : FVec F S32768x8192 .bf16) : IVec S512 1 :=
  let main_v0 : IVec S16 32 := iotaInDim S16 32 0
  let main_v1 : IVec S1x16 32 := broadcastInDim S1x16 ![1] bcast_S16_S1x16_1 main_v0
  let main_v2 : IVec S32x16 32 := broadcastInDim S32x16 ![0, 1] bcast_S1x16_S32x16_0_1 main_v1
  let main_v3 : IVec S512 32 := shapeCast S512 main_v2 shapeCasts_S32x16_S512
  let main_c : IVec S_ 32 := constantI S_ 32 0#32
  let main_v4 : IVec S512 32 := broadcastInDim S512 ![] bcast_S_S512 main_c
  let main_v5 : IVec S512 1 := cmpi .sge main_arg0 main_v4
  let main_v6 : IVec S512 1 := cmpi .sle main_arg0 main_v3
  let main_v7 : IVec S512 1 := andi main_v5 main_v6
  main_v7
-- ==== Kernel.lean ====
abbrev S512 : Shape := ⟨1, ![512]⟩
abbrev S32768x4096 : Shape := ⟨2, ![32768, 4096]⟩
abbrev S32768x8192 : Shape := ⟨2, ![32768, 8192]⟩
abbrev S32768x2048 : Shape := ⟨2, ![32768, 2048]⟩
abbrev S1024x256 : Shape := ⟨2, ![1024, 256]⟩
abbrev S16384x256 : Shape := ⟨2, ![16384, 256]⟩
abbrev S16384x128 : Shape := ⟨2, ![16384, 128]⟩
abbrev S1024x128 : Shape := ⟨2, ![1024, 128]⟩
abbrev S2x512x128 : Shape := ⟨3, ![2, 512, 128]⟩
abbrev S2x512x256 : Shape := ⟨3, ![2, 512, 256]⟩
abbrev S2x512x512 : Shape := ⟨3, ![2, 512, 512]⟩
abbrev S1 : Shape := ⟨1, ![1]⟩
abbrev S512x512 : Shape := ⟨2, ![512, 512]⟩
abbrev S512x256 : Shape := ⟨2, ![512, 256]⟩
abbrev S1x512x512 : Shape := ⟨3, ![1, 512, 512]⟩
abbrev S512x128 : Shape := ⟨2, ![512, 128]⟩
abbrev S1x512x128 : Shape := ⟨3, ![1, 512, 128]⟩
abbrev S512x1 : Shape := ⟨2, ![512, 1]⟩
abbrev S1x512x256 : Shape := ⟨3, ![1, 512, 256]⟩

abbrev nBuf : Space → Nat
  | .hbm => 4
  | .vmem => 14
  | .smem => 1
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32768x8192, .bf16⟩
  | .hbm, ⟨3, _⟩ => ⟨S32768x2048, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S2x512x128, .f32⟩
  | .local _ .vmem, ⟨11, _⟩ => ⟨S2x512x256, .f32⟩
  | .local _ .vmem, ⟨12, _⟩ => ⟨S2x512x512, .f32⟩
  | .local _ .vmem, ⟨13, _⟩ => ⟨S2x512x512, .f32⟩
  | .local _ .smem, ⟨0, _⟩ => ⟨S512, .i32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let arg2 : BitVec 32 := BitVec.ofNat 32 (i 2).val
  let v3 : BitVec 32 := Scalar.addi v2 arg2
  let v4 : Index := Scalar.indexCast v3
  ![v4.toNat]
def k0_mult1 (v5 : BitVec 32) : BitVec 32 :=
  let c2_i32_7 : BitVec 32 := 2#32
  let v18 : BitVec 32 := Scalar.muli c2_i32_7 v5
  let c512_i32 : BitVec 32 := 512#32
  let v19 : BitVec 32 := Scalar.muli v18 c512_i32
  v19

def k0_off2 (v5 : BitVec 32) : Fin 2 → Nat :=
  let c2_i32_7 : BitVec 32 := 2#32
  let v18 : BitVec 32 := Scalar.muli c2_i32_7 v5
  let c512_i32 : BitVec 32 := 512#32
  let v19 : BitVec 32 := Scalar.muli v18 c512_i32
  let v20 : BitVec 32 := v19
  let v22 : Index := Scalar.indexCast v20
  let c0_10 : Index := 0#32
  ![v22.toNat, 0]
def k0_mult2 (v5 : BitVec 32) : BitVec 32 :=
  let c2_i32_7 : BitVec 32 := 2#32
  let v18 : BitVec 32 := Scalar.muli c2_i32_7 v5
  let c512_i32_15 : BitVec 32 := 512#32
  let v28 : BitVec 32 := Scalar.muli v18 c512_i32_15
  v28
@[reducible] def k0_t1_loop (i : grid0.Coords) (v5 : BitVec 32) : Scf.Loop 32 :=
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_25 : BitVec 32 := 1#32
  ⟨v5, v41, c1_i32_25⟩
def k0_mult3 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c1_i32_120 : BitVec 32 := 1#32
  let v229 : BitVec 32 := Scalar.addi v228 c1_i32_120
  let c512_i32_121 : BitVec 32 := 512#32
  let v230 : BitVec 32 := Scalar.muli v229 c512_i32_121
  v230
def k0_off3 (i : grid0.Coords) (v5 : BitVec 32) (k0_t1 : Fin (k0_t1_loop i v5).trips) (c1_i32_120 : BitVec 32) : Fin 2 → Nat :=
  let c2_i32_119 : BitVec 32 := 2#32
  let c1_i32_25 : BitVec 32 := 1#32
  let arg13 : BitVec 32 := Scf.iv v5 c1_i32_25 k0_t1
  let v228 : BitVec 32 := Scalar.muli c2_i32_119 arg13
  let v229 : BitVec 32 := Scalar.addi v228 c1_i32_120
  let c512_i32_121 : BitVec 32 := 512#32
  let v230 : BitVec 32 := Scalar.muli v229 c512_i32_121
  let v231 : BitVec 32 := v230
  let v233 : Index := Scalar.indexCast v231
  let c0_124 : Index := 0#32
  ![v233.toNat, 0]
def k0_mult4 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c1_i32_120 : BitVec 32 := 1#32
  let v229 : BitVec 32 := Scalar.addi v228 c1_i32_120
  let c512_i32_128 : BitVec 32 := 512#32
  let v240 : BitVec 32 := Scalar.muli v229 c512_i32_128
  v240
def k0_mult5 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c512_i32_137 : BitVec 32 := 512#32
  let v253 : BitVec 32 := Scalar.muli v228 c512_i32_137
  v253
def k0_off4 (i : grid0.Coords) (v5 : BitVec 32) (k0_t1 : Fin (k0_t1_loop i v5).trips) : Fin 2 → Nat :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c512_i32_137 : BitVec 32 := 512#32
  let v253 : BitVec 32 := Scalar.muli v228 c512_i32_137
  let v254 : BitVec 32 := v253
  let v255 : Index := Scalar.indexCast v254
  let c0_138 : Index := 0#32
  ![v255.toNat, 0]
def k0_mult6 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c512_i32_156 : BitVec 32 := 512#32
  let v299 : BitVec 32 := Scalar.muli v228 c512_i32_156
  v299
def k0_mult7 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c2_i32_173 : BitVec 32 := 2#32
  let v342 : BitVec 32 := Scalar.addi v228 c2_i32_173
  let c512_i32_174 : BitVec 32 := 512#32
  let v343 : BitVec 32 := Scalar.muli v342 c512_i32_174
  v343
def k0_mult8 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c2_i32_173 : BitVec 32 := 2#32
  let v342 : BitVec 32 := Scalar.addi v228 c2_i32_173
  let c512_i32_181 : BitVec 32 := 512#32
  let v353 : BitVec 32 := Scalar.muli v342 c512_i32_181
  v353
def k0_mult9 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c1_i32_188 : BitVec 32 := 1#32
  let v363 : BitVec 32 := Scalar.addi v228 c1_i32_188
  let c512_i32_191 : BitVec 32 := 512#32
  let v367 : BitVec 32 := Scalar.muli v363 c512_i32_191
  v367
def k0_off5 (i : grid0.Coords) (v5 : BitVec 32) (k0_t1 : Fin (k0_t1_loop i v5).trips) : Fin 2 → Nat :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c1_i32_188 : BitVec 32 := 1#32
  let v363 : BitVec 32 := Scalar.addi v228 c1_i32_188
  let c512_i32_191 : BitVec 32 := 512#32
  let v367 : BitVec 32 := Scalar.muli v363 c512_i32_191
  let v368 : BitVec 32 := v367
  let v369 : Index := Scalar.indexCast v368
  let c0_192 : Index := 0#32
  ![v369.toNat, 0]
def k0_mult10 (i : grid0.Coords) (v5 : BitVec 32) (k0_t1 : Fin (k0_t1_loop i v5).trips) : BitVec 32 :=
  let c2_i32_119 : BitVec 32 := 2#32
  let c1_i32_25 : BitVec 32 := 1#32
  let arg13 : BitVec 32 := Scf.iv v5 c1_i32_25 k0_t1
  let v228 : BitVec 32 := Scalar.muli c2_i32_119 arg13
  let c1_i32_188 : BitVec 32 := 1#32
  let v363 : BitVec 32 := Scalar.addi v228 c1_i32_188
  let c512_i32_210 : BitVec 32 := 512#32
  let v413 : BitVec 32 := Scalar.muli v363 c512_i32_210
  v413
@[reducible] def k0_t2_loop (i : grid0.Coords) (v5 : BitVec 32) : Scf.Loop 32 :=
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let v38 : BitVec 32 := Scalar.addi v5 v37
  let c1_i32_26 : BitVec 32 := 1#32
  ⟨v41, v38, c1_i32_26⟩
def k0_mult11 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c1_i32_120 : BitVec 32 := 1#32
  let v229 : BitVec 32 := Scalar.addi v228 c1_i32_120
  let c512_i32_121 : BitVec 32 := 512#32
  let v230 : BitVec 32 := Scalar.muli v229 c512_i32_121
  v230
def k0_off6 (i : grid0.Coords) (v5 : BitVec 32) (k0_t2 : Fin (k0_t2_loop i v5).trips) (c1_i32_120 : BitVec 32) : Fin 2 → Nat :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let v229 : BitVec 32 := Scalar.addi v228 c1_i32_120
  let c512_i32_121 : BitVec 32 := 512#32
  let v230 : BitVec 32 := Scalar.muli v229 c512_i32_121
  let v231 : BitVec 32 := v230
  let v233 : Index := Scalar.indexCast v231
  let c0_124 : Index := 0#32
  ![v233.toNat, 0]
def k0_mult12 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c1_i32_120 : BitVec 32 := 1#32
  let v229 : BitVec 32 := Scalar.addi v228 c1_i32_120
  let c512_i32_128 : BitVec 32 := 512#32
  let v240 : BitVec 32 := Scalar.muli v229 c512_i32_128
  v240
def k0_mult13 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c512_i32_137 : BitVec 32 := 512#32
  let v253 : BitVec 32 := Scalar.muli v228 c512_i32_137
  v253
def k0_off7 (i : grid0.Coords) (v5 : BitVec 32) (k0_t2 : Fin (k0_t2_loop i v5).trips) : Fin 2 → Nat :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c512_i32_137 : BitVec 32 := 512#32
  let v253 : BitVec 32 := Scalar.muli v228 c512_i32_137
  let v254 : BitVec 32 := v253
  let v255 : Index := Scalar.indexCast v254
  let c0_138 : Index := 0#32
  ![v255.toNat, 0]
def k0_mult14 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c512_i32_156 : BitVec 32 := 512#32
  let v299 : BitVec 32 := Scalar.muli v228 c512_i32_156
  v299
def k0_mult15 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c2_i32_173 : BitVec 32 := 2#32
  let v342 : BitVec 32 := Scalar.addi v228 c2_i32_173
  let c512_i32_174 : BitVec 32 := 512#32
  let v343 : BitVec 32 := Scalar.muli v342 c512_i32_174
  v343
def k0_mult16 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c2_i32_173 : BitVec 32 := 2#32
  let v342 : BitVec 32 := Scalar.addi v228 c2_i32_173
  let c512_i32_181 : BitVec 32 := 512#32
  let v353 : BitVec 32 := Scalar.muli v342 c512_i32_181
  v353
def k0_mult17 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c1_i32_188 : BitVec 32 := 1#32
  let v363 : BitVec 32 := Scalar.addi v228 c1_i32_188
  let c512_i32_191 : BitVec 32 := 512#32
  let v367 : BitVec 32 := Scalar.muli v363 c512_i32_191
  v367
def k0_off8 (i : grid0.Coords) (v5 : BitVec 32) (k0_t2 : Fin (k0_t2_loop i v5).trips) : Fin 2 → Nat :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c1_i32_188 : BitVec 32 := 1#32
  let v363 : BitVec 32 := Scalar.addi v228 c1_i32_188
  let c512_i32_191 : BitVec 32 := 512#32
  let v367 : BitVec 32 := Scalar.muli v363 c512_i32_191
  let v368 : BitVec 32 := v367
  let v369 : Index := Scalar.indexCast v368
  let c0_192 : Index := 0#32
  ![v369.toNat, 0]
def k0_mult18 (i : grid0.Coords) (v5 : BitVec 32) (k0_t2 : Fin (k0_t2_loop i v5).trips) : BitVec 32 :=
  let c2_i32_119 : BitVec 32 := 2#32
  let arg2 : BitVec 32 := BitVec.ofNat 32 (i 2).val
  let v37 : BitVec 32 := Scalar.subi arg2 v5
  let c1_i32_24 : BitVec 32 := 1#32
  let v39 : BitVec 32 := Scalar.divsi v37 c1_i32_24
  let v40 : BitVec 32 := Scalar.muli v39 c1_i32_24
  let v41 : BitVec 32 := Scalar.addi v5 v40
  let c1_i32_26 : BitVec 32 := 1#32
  let arg13 : BitVec 32 := Scf.iv v41 c1_i32_26 k0_t2
  let v228 : BitVec 32 := Scalar.muli c2_i32_119 arg13
  let c1_i32_188 : BitVec 32 := 1#32
  let v363 : BitVec 32 := Scalar.addi v228 c1_i32_188
  let c512_i32_210 : BitVec 32 := 512#32
  let v413 : BitVec 32 := Scalar.muli v363 c512_i32_210
  v413

def k0_chk1 (i : grid0.Coords) (v5 : BitVec 32) : Prop :=
  (512 ∣ (k0_mult1 v5).toNat) ∧
  (∀ a, (k0_off2 v5) a + S512x256.size a ≤ S16384x256.size a) ∧
  (512 ∣ (k0_mult2 v5).toNat) ∧
  ((k0_t1_loop i v5).OK) ∧
  (∀ k0_t1 : Fin (k0_t1_loop i v5).trips, 512 ∣ (k0_mult3 i v5 k0_t1).toNat) ∧
  (∀ k0_t1 : Fin (k0_t1_loop i v5).trips, ∀ (r : Fin 2), ∀ a, (k0_off3 i v5 k0_t1 (BitVec.ofNat 32 (1 + r.val))) a + S512x256.size a ≤ S16384x256.size a) ∧
  (∀ k0_t1 : Fin (k0_t1_loop i v5).trips, 512 ∣ (k0_mult4 i v5 k0_t1).toNat) ∧
  (∀ k0_t1 : Fin (k0_t1_loop i v5).trips, 512 ∣ (k0_mult5 i v5 k0_t1).toNat) ∧
  (∀ k0_t1 : Fin (k0_t1_loop i v5).trips, ∀ a, (k0_off4 i v5 k0_t1) a + S512x128.size a ≤ S16384x128.size a) ∧
  (∀ k0_t1 : Fin (k0_t1_loop i v5).trips, 512 ∣ (k0_mult6 i v5 k0_t1).toNat) ∧
  (∀ k0_t1 : Fin (k0_t1_loop i v5).trips, 512 ∣ (k0_mult7 i v5 k0_t1).toNat) ∧
  (∀ k0_t1 : Fin (k0_t1_loop i v5).trips, 512 ∣ (k0_mult8 i v5 k0_t1).toNat) ∧
  (∀ k0_t1 : Fin (k0_t1_loop i v5).trips, 512 ∣ (k0_mult9 i v5 k0_t1).toNat) ∧
  (∀ k0_t1 : Fin (k0_t1_loop i v5).trips, ∀ a, (k0_off5 i v5 k0_t1) a + S512x128.size a ≤ S16384x128.size a) ∧
  (∀ k0_t1 : Fin (k0_t1_loop i v5).trips, 512 ∣ (k0_mult10 i v5 k0_t1).toNat) ∧
  ((k0_t2_loop i v5).OK) ∧
  (∀ k0_t2 : Fin (k0_t2_loop i v5).trips, 512 ∣ (k0_mult11 i v5 k0_t2).toNat) ∧
  (∀ k0_t2 : Fin (k0_t2_loop i v5).trips, ∀ (r : Fin 2), ∀ a, (k0_off6 i v5 k0_t2 (BitVec.ofNat 32 (1 + r.val))) a + S512x256.size a ≤ S16384x256.size a) ∧
  (∀ k0_t2 : Fin (k0_t2_loop i v5).trips, 512 ∣ (k0_mult12 i v5 k0_t2).toNat) ∧
  (∀ k0_t2 : Fin (k0_t2_loop i v5).trips, 512 ∣ (k0_mult13 i v5 k0_t2).toNat) ∧
  (∀ k0_t2 : Fin (k0_t2_loop i v5).trips, ∀ a, (k0_off7 i v5 k0_t2) a + S512x128.size a ≤ S16384x128.size a) ∧
  (∀ k0_t2 : Fin (k0_t2_loop i v5).trips, 512 ∣ (k0_mult14 i v5 k0_t2).toNat) ∧
  (∀ k0_t2 : Fin (k0_t2_loop i v5).trips, 512 ∣ (k0_mult15 i v5 k0_t2).toNat) ∧
  (∀ k0_t2 : Fin (k0_t2_loop i v5).trips, 512 ∣ (k0_mult16 i v5 k0_t2).toNat) ∧
  (∀ k0_t2 : Fin (k0_t2_loop i v5).trips, 512 ∣ (k0_mult17 i v5 k0_t2).toNat) ∧
  (∀ k0_t2 : Fin (k0_t2_loop i v5).trips, ∀ a, (k0_off8 i v5 k0_t2) a + S512x128.size a ≤ S16384x128.size a) ∧
  (∀ k0_t2 : Fin (k0_t2_loop i v5).trips, 512 ∣ (k0_mult18 i v5 k0_t2).toNat)
theorem k0_mult1_dvd : ∀ (i : grid0.Coords) (v5 : BitVec 32) (k0_hw1 : k0_chk1 i v5), 512 ∣ (k0_mult1 v5).toNat := fun i v5 k0_hw1 => k0_hw1.1
theorem k0_off2_inb : ∀ (i : grid0.Coords) (v5 : BitVec 32) (k0_hw1 : k0_chk1 i v5), ∀ a, (k0_off2 v5) a + S512x256.size a ≤ S16384x256.size a := fun i v5 k0_hw1 => k0_hw1.2.1
theorem k0_mult2_dvd : ∀ (i : grid0.Coords) (v5 : BitVec 32) (k0_hw1 : k0_chk1 i v5), 512 ∣ (k0_mult2 v5).toNat := fun i v5 k0_hw1 => k0_hw1.2.2.1
theorem k0_t1_ok : ∀ (i : grid0.Coords) (v5 : BitVec 32) (k0_hw1 : k0_chk1 i v5), (k0_t1_loop i v5).OK := fun i v5 k0_hw1 => k0_hw1.2.2.2.1
theorem k0_mult3_dvd : ∀ (i : grid0.Coords) (v5 : BitVec 32) (k0_hw1 : k0_chk1 i v5) (k0_t1 : Fin (k0_t1_loop i v5).trips), 512 ∣ (k0_mult3 i v5 k0_t1).toNat := fun i v5 k0_hw1 k0_t1 => k0_hw1.2.2.2.2.1 k0_t1
theorem k0_off3_inb : ∀ (i : grid0.Coords) (v5 : BitVec 32) (k0_hw1 : k0_chk1 i v5) (k0_t1 : Fin (k0_t1_loop i v5).trips), ∀ (r : Fin 2), ∀ a, (k0_off3 i v5 k0_t1 (BitVec.ofNat 32 (1 + r.val))) a + S512x256.size a ≤ S16384x256.size a := fun i v5 k0_hw1 k0_t1 r => k0_hw1.2.2.2.2.2.1 k0_t1 r
theorem k0_mult4_dvd : ∀ (i : grid0.Coords) (v5 : BitVec 32) (k0_hw1 : k0_chk1 i v5) (k0_t1 : Fin (k0_t1_loop i v5).trips), 512 ∣ (k0_mult4 i v5 k0_t1).toNat := fun i v5 k0_hw1 k0_t1 => k0_hw1.2.2.2.2.2.2.1 k0_t1
theorem k0_mult5_dvd : ∀ (i : grid0.Coords) (v5 : BitVec 32) (k0_hw1 : k0_chk1 i v5) (k0_t1 : Fin (k0_t1_loop i v5).trips), 512 ∣ (k0_mult5 i v5 k0_t1).toNat := fun i v5 k0_hw1 k0_t1 => k0_hw1.2.2.2.2.2.2.2.1 k0_t1
theorem k0_off4_inb : ∀ (i : grid0.Coords) (v5 : BitVec 32) (k0_hw1 : k0_chk1 i v5) (k0_t1 : Fin (k0_t1_loop i v5).trips), ∀ a, (k0_off4 i v5 k0_t1) a + S512x128.size a ≤ S16384x128.size a := fun i v5 k0_hw1 k0_t1 => k0_hw1.2.2.2.2.2.2.2.2.1 k0_t1
theorem k0_mult6_dvd : ∀ (i : grid0.Coords) (v5 : BitVec 32) (k0_hw1 : k0_chk1 i v5) (k0_t1 : Fin (k0_t1_loop i v5).trips), 512 ∣ (k0_mult6 i v5 k0_t1).toNat := fun i v5 k0_hw1 k0_t1 => k0_hw1.2.2.2.2.2.2.2.2.2.1 k0_t1
theorem k0_mult7_dvd : ∀ (i : grid0.Coords) (v5 : BitVec 32) (k0_hw1 : k0_chk1 i v5) (k0_t1 : Fin (k0_t1_loop i v5).trips), 512 ∣ (k0_mult7 i v5 k0_t1).toNat := fun i v5 k0_hw1 k0_t1 => k0_hw1.2.2.2.2.2.2.2.2.2.2.1 k0_t1
theorem k0_mult8_dvd : ∀ (i : grid0.Coords) (v5 : BitVec 32) (k0_hw1 : k0_chk1 i v5) (k0_t1 : Fin (k0_t1_loop i v5).trips), 512 ∣ (k0_mult8 i v5 k0_t1).toNat := fun i v5 k0_hw1 k0_t1 => k0_hw1.2.2.2.2.2.2.2.2.2.2.2.1 k0_t1
theorem k0_mult9_dvd : ∀ (i : grid0.Coords) (v5 : BitVec 32) (k0_hw1 : k0_chk1 i v5) (k0_t1 : Fin (k0_t1_loop i v5).trips), 512 ∣ (k0_mult9 i v5 k0_t1).toNat := fun i v5 k0_hw1 k0_t1 => k0_hw1.2.2.2.2.2.2.2.2.2.2.2.2.1 k0_t1
theorem k0_off5_inb : ∀ (i : grid0.Coords) (v5 : BitVec 32) (k0_hw1 : k0_chk1 i v5) (k0_t1 : Fin (k0_t1_loop i v5).trips), ∀ a, (k0_off5 i v5 k0_t1) a + S512x128.size a ≤ S16384x128.size a := fun i v5 k0_hw1 k0_t1 => k0_hw1.2.2.2.2.2.2.2.2.2.2.2.2.2.1 k0_t1
theorem k0_mult10_dvd : ∀ (i : grid0.Coords) (v5 : BitVec 32) (k0_hw1 : k0_chk1 i v5) (k0_t1 : Fin (k0_t1_loop i v5).trips), 512 ∣ (k0_mult10 i v5 k0_t1).toNat := fun i v5 k0_hw1 k0_t1 => k0_hw1.2.2.2.2.2.2.2.2.2.2.2.2.2.2.1 k0_t1
theorem k0_t2_ok : ∀ (i : grid0.Coords) (v5 : BitVec 32) (k0_hw1 : k0_chk1 i v5), (k0_t2_loop i v5).OK := fun i v5 k0_hw1 => k0_hw1.2.2.2.2.2.2.2.2.2.2.2.2.2.2.2.1
theorem k0_mult11_dvd : ∀ (i : grid0.Coords) (v5 : BitVec 32) (k0_hw1 : k0_chk1 i v5) (k0_t2 : Fin (k0_t2_loop i v5).trips), 512 ∣ (k0_mult11 i v5 k0_t2).toNat := fun i v5 k0_hw1 k0_t2 => k0_hw1.2.2.2.2.2.2.2.2.2.2.2.2.2.2.2.2.1 k0_t2
theorem k0_off6_inb : ∀ (i : grid0.Coords) (v5 : BitVec 32) (k0_hw1 : k0_chk1 i v5) (k0_t2 : Fin (k0_t2_loop i v5).trips), ∀ (r : Fin 2), ∀ a, (k0_off6 i v5 k0_t2 (BitVec.ofNat 32 (1 + r.val))) a + S512x256.size a ≤ S16384x256.size a := fun i v5 k0_hw1 k0_t2 r => k0_hw1.2.2.2.2.2.2.2.2.2.2.2.2.2.2.2.2.2.1 k0_t2 r
theorem k0_mult12_dvd : ∀ (i : grid0.Coords) (v5 : BitVec 32) (k0_hw1 : k0_chk1 i v5) (k0_t2 : Fin (k0_t2_loop i v5).trips), 512 ∣ (k0_mult12 i v5 k0_t2).toNat := fun i v5 k0_hw1 k0_t2 => k0_hw1.2.2.2.2.2.2.2.2.2.2.2.2.2.2.2.2.2.2.1 k0_t2
theorem k0_mult13_dvd : ∀ (i : grid0.Coords) (v5 : BitVec 32) (k0_hw1 : k0_chk1 i v5) (k0_t2 : Fin (k0_t2_loop i v5).trips), 512 ∣ (k0_mult13 i v5 k0_t2).toNat := fun i v5 k0_hw1 k0_t2 => k0_hw1.2.2.2.2.2.2.2.2.2.2.2.2.2.2.2.2.2.2.2.1 k0_t2
theorem k0_off7_inb : ∀ (i : grid0.Coords) (v5 : BitVec 32) (k0_hw1 : k0_chk1 i v5) (k0_t2 : Fin (k0_t2_loop i v5).trips), ∀ a, (k0_off7 i v5 k0_t2) a + S512x128.size a ≤ S16384x128.size a := fun i v5 k0_hw1 k0_t2 => k0_hw1.2.2.2.2.2.2.2.2.2.2.2.2.2.2.2.2.2.2.2.2.1 k0_t2
theorem k0_mult14_dvd : ∀ (i : grid0.Coords) (v5 : BitVec 32) (k0_hw1 : k0_chk1 i v5) (k0_t2 : Fin (k0_t2_loop i v5).trips), 512 ∣ (k0_mult14 i v5 k0_t2).toNat := fun i v5 k0_hw1 k0_t2 => k0_hw1.2.2.2.2.2.2.2.2.2.2.2.2.2.2.2.2.2.2.2.2.2.1 k0_t2
theorem k0_mult15_dvd : ∀ (i : grid0.Coords) (v5 : BitVec 32) (k0_hw1 : k0_chk1 i v5) (k0_t2 : Fin (k0_t2_loop i v5).trips), 512 ∣ (k0_mult15 i v5 k0_t2).toNat := fun i v5 k0_hw1 k0_t2 => k0_hw1.2.2.2.2.2.2.2.2.2.2.2.2.2.2.2.2.2.2.2.2.2.2.1 k0_t2
theorem k0_mult16_dvd : ∀ (i : grid0.Coords) (v5 : BitVec 32) (k0_hw1 : k0_chk1 i v5) (k0_t2 : Fin (k0_t2_loop i v5).trips), 512 ∣ (k0_mult16 i v5 k0_t2).toNat := fun i v5 k0_hw1 k0_t2 => k0_hw1.2.2.2.2.2.2.2.2.2.2.2.2.2.2.2.2.2.2.2.2.2.2.2.1 k0_t2
theorem k0_mult17_dvd : ∀ (i : grid0.Coords) (v5 : BitVec 32) (k0_hw1 : k0_chk1 i v5) (k0_t2 : Fin (k0_t2_loop i v5).trips), 512 ∣ (k0_mult17 i v5 k0_t2).toNat := fun i v5 k0_hw1 k0_t2 => k0_hw1.2.2.2.2.2.2.2.2.2.2.2.2.2.2.2.2.2.2.2.2.2.2.2.2.1 k0_t2
theorem k0_off8_inb : ∀ (i : grid0.Coords) (v5 : BitVec 32) (k0_hw1 : k0_chk1 i v5) (k0_t2 : Fin (k0_t2_loop i v5).trips), ∀ a, (k0_off8 i v5 k0_t2) a + S512x128.size a ≤ S16384x128.size a := fun i v5 k0_hw1 k0_t2 => k0_hw1.2.2.2.2.2.2.2.2.2.2.2.2.2.2.2.2.2.2.2.2.2.2.2.2.2.1 k0_t2
theorem k0_mult18_dvd : ∀ (i : grid0.Coords) (v5 : BitVec 32) (k0_hw1 : k0_chk1 i v5) (k0_t2 : Fin (k0_t2_loop i v5).trips), 512 ∣ (k0_mult18 i v5 k0_t2).toNat := fun i v5 k0_hw1 k0_t2 => k0_hw1.2.2.2.2.2.2.2.2.2.2.2.2.2.2.2.2.2.2.2.2.2.2.2.2.2.2 k0_t2

def k0_mult19 (i : grid0.Coords) : BitVec 32 :=
  let c2_i32 : BitVec 32 := 2#32
  let arg2 : BitVec 32 := BitVec.ofNat 32 (i 2).val
  let v17 : BitVec 32 := Scalar.muli c2_i32 arg2
  let c1_i32_27 : BitVec 32 := 1#32
  let v42 : BitVec 32 := Scalar.addi v17 c1_i32_27
  let c512_i32_28 : BitVec 32 := 512#32
  let v43 : BitVec 32 := Scalar.muli v42 c512_i32_28
  v43
def k0_off9 (i : grid0.Coords) : Fin 2 → Nat :=
  let c2_i32 : BitVec 32 := 2#32
  let arg2 : BitVec 32 := BitVec.ofNat 32 (i 2).val
  let v17 : BitVec 32 := Scalar.muli c2_i32 arg2
  let c1_i32_27 : BitVec 32 := 1#32
  let v42 : BitVec 32 := Scalar.addi v17 c1_i32_27
  let c512_i32_28 : BitVec 32 := 512#32
  let v43 : BitVec 32 := Scalar.muli v42 c512_i32_28
  let v44 : BitVec 32 := v43
  let v46 : Index := Scalar.indexCast v44
  let c0_31 : Index := 0#32
  ![v46.toNat, 0]
def k0_mult20 (i : grid0.Coords) : BitVec 32 :=
  let c2_i32 : BitVec 32 := 2#32
  let arg2 : BitVec 32 := BitVec.ofNat 32 (i 2).val
  let v17 : BitVec 32 := Scalar.muli c2_i32 arg2
  let c512_i32_39 : BitVec 32 := 512#32
  let v54 : BitVec 32 := Scalar.muli v17 c512_i32_39
  v54
def k0_off10 (i : grid0.Coords) : Fin 2 → Nat :=
  let c2_i32 : BitVec 32 := 2#32
  let arg2 : BitVec 32 := BitVec.ofNat 32 (i 2).val
  let v17 : BitVec 32 := Scalar.muli c2_i32 arg2
  let c512_i32_39 : BitVec 32 := 512#32
  let v54 : BitVec 32 := Scalar.muli v17 c512_i32_39
  let v55 : BitVec 32 := v54
  let v56 : Index := Scalar.indexCast v55
  let c0_40 : Index := 0#32
  ![v56.toNat, 0]
def k0_mult21 (i : grid0.Coords) : BitVec 32 :=
  let c2_i32 : BitVec 32 := 2#32
  let arg2 : BitVec 32 := BitVec.ofNat 32 (i 2).val
  let v17 : BitVec 32 := Scalar.muli c2_i32 arg2
  let c512_i32_60 : BitVec 32 := 512#32
  let v101 : BitVec 32 := Scalar.muli v17 c512_i32_60
  v101
def k0_mult22 (i : grid0.Coords) : BitVec 32 :=
  let c2_i32 : BitVec 32 := 2#32
  let arg2 : BitVec 32 := BitVec.ofNat 32 (i 2).val
  let v17 : BitVec 32 := Scalar.muli c2_i32 arg2
  let c1_i32_77 : BitVec 32 := 1#32
  let v144 : BitVec 32 := Scalar.addi v17 c1_i32_77
  let c512_i32_81 : BitVec 32 := 512#32
  let v147 : BitVec 32 := Scalar.muli v144 c512_i32_81
  v147
def k0_off11 (i : grid0.Coords) : Fin 2 → Nat :=
  let c2_i32 : BitVec 32 := 2#32
  let arg2 : BitVec 32 := BitVec.ofNat 32 (i 2).val
  let v17 : BitVec 32 := Scalar.muli c2_i32 arg2
  let c1_i32_77 : BitVec 32 := 1#32
  let v144 : BitVec 32 := Scalar.addi v17 c1_i32_77
  let c512_i32_81 : BitVec 32 := 512#32
  let v147 : BitVec 32 := Scalar.muli v144 c512_i32_81
  let v148 : BitVec 32 := v147
  let v149 : Index := Scalar.indexCast v148
  let c0_82 : Index := 0#32
  ![v149.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S512 : Shape := ⟨1, ![512]⟩
abbrev S32768x4096 : Shape := ⟨2, ![32768, 4096]⟩
abbrev S32768x8192 : Shape := ⟨2, ![32768, 8192]⟩
abbrev S2x16384x16x256 : Shape := ⟨4, ![2, 16384, 16, 256]⟩
abbrev S2x16x16384x256 : Shape := ⟨4, ![2, 16, 16384, 256]⟩
abbrev S32768x2048 : Shape := ⟨2, ![32768, 2048]⟩
abbrev S2x16384x16x128 : Shape := ⟨4, ![2, 16384, 16, 128]⟩
abbrev S2x16x16384x128 : Shape := ⟨4, ![2, 16, 16384, 128]⟩
abbrev S2x16x16384x16384 : Shape := ⟨4, ![2, 16, 16384, 16384]⟩
abbrev S16384 : Shape := ⟨1, ![16384]⟩
abbrev S_ : Shape := ⟨0, ![]⟩
abbrev S2x16x16x1 : Shape := ⟨4, ![2, 16, 16, 1]⟩
abbrev S2x16x16x1024 : Shape := ⟨4, ![2, 16, 16, 1024]⟩
abbrev S2x16x16384x1 : Shape := ⟨4, ![2, 16, 16384, 1]⟩
abbrev S16384x1 : Shape := ⟨2, ![16384, 1]⟩
abbrev S1x16384 : Shape := ⟨2, ![1, 16384]⟩
abbrev S16384x16384 : Shape := ⟨2, ![16384, 16384]⟩
abbrev S1x1x1x16384 : Shape := ⟨4, ![1, 1, 1, 16384]⟩
abbrev S1x1x16384x16384 : Shape := ⟨4, ![1, 1, 16384, 16384]⟩
abbrev S2x16x16384 : Shape := ⟨3, ![2, 16, 16384]⟩

abbrev nBuf : Space → Nat
  | .hbm => 71
  | .vmem => 0
  | .smem => 0
  | _ => 0

abbrev bufTy : (tb : Table) → Fin (tcTables nBuf tb) → BufTy
  | .hbm, ⟨0, _⟩ => ⟨S512, .i32⟩
  | .hbm, ⟨1, _⟩ => ⟨S32768x4096, .bf16⟩
  | .hbm, ⟨2, _⟩ => ⟨S32768x4096, .bf16⟩
  | .hbm, ⟨3, _⟩ => ⟨S32768x8192, .bf16⟩
  | .hbm, ⟨4, _⟩ => ⟨S2x16384x16x256, .bf16⟩
  | .hbm, ⟨5, _⟩ => ⟨S2x16x16384x256, .bf16⟩
  | .hbm, ⟨6, _⟩ => ⟨S2x16x16384x256, .f32⟩
  | .hbm, ⟨7, _⟩ => ⟨S2x16384x16x256, .bf16⟩
  | .hbm, ⟨8, _⟩ => ⟨S2x16x16384x256, .bf16⟩
  | .hbm, ⟨9, _⟩ => ⟨S2x16x16384x256, .f32⟩
  | .hbm, ⟨10, _⟩ => ⟨S32768x2048, .bf16⟩
  | .hbm, ⟨11, _⟩ => ⟨S2x16384x16x128, .bf16⟩
  | .hbm, ⟨12, _⟩ => ⟨S2x16x16384x128, .bf16⟩
  | .hbm, ⟨13, _⟩ => ⟨S32768x2048, .bf16⟩
  | .hbm, ⟨14, _⟩ => ⟨S32768x2048, .f32⟩
  | .hbm, ⟨15, _⟩ => ⟨S2x16x16384x16384, .f32⟩
  | .hbm, ⟨16, _⟩ => ⟨S16384, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S2x16x16x1, .i32⟩
  | .hbm, ⟨21, _⟩ => ⟨S2x16x16x1024, .i32⟩
  | .hbm, ⟨22, _⟩ => ⟨S2x16x16384x1, .i32⟩
  | .hbm, ⟨23, _⟩ => ⟨S16384x1, .i32⟩
  | .hbm, ⟨24, _⟩ => ⟨S1x16384, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S1x1x1x16384, .i32⟩
  | .hbm, ⟨29, _⟩ => ⟨S2x16x16384x16384, .i32⟩
  | .hbm, ⟨30, _⟩ => ⟨S2x16x16384x16384, .i32⟩
  | .hbm, ⟨31, _⟩ => ⟨S2x16x16384x16384, .i1⟩
  | .hbm, ⟨32, _⟩ => ⟨S1x1x16384x16384, .i1⟩
  | .hbm, ⟨33, _⟩ => ⟨S2x16x16384x16384, .i1⟩
  | .hbm, ⟨34, _⟩ => ⟨S2x16x16384x16384, .i1⟩
  | .hbm, ⟨35, _⟩ => ⟨S_, .f32⟩
  | .hbm, ⟨36, _⟩ => ⟨S_, .f32⟩
  | .hbm, ⟨37, _⟩ => ⟨S2x16x16384x16384, .f32⟩
  | .hbm, ⟨38, _⟩ => ⟨S2x16x16384x16384, .f32⟩
  | .hbm, ⟨39, _⟩ => ⟨S_, .f32⟩
  | .hbm, ⟨40, _⟩ => ⟨S2x16x16384, .f32⟩
  | .hbm, ⟨41, _⟩ => ⟨S2x16x16384x1, .f32⟩
  | .hbm, ⟨42, _⟩ => ⟨S2x16x16384x16384, .f32⟩
  | .hbm, ⟨43, _⟩ => ⟨S2x16x16384x16384, .f32⟩
  | .hbm, ⟨44, _⟩ => ⟨S_, .f32⟩
  | .hbm, ⟨45, _⟩ => ⟨S2x16x16384x16384, .f32⟩
  | .hbm, ⟨46, _⟩ => ⟨S2x16x16384x16384, .f32⟩
  | .hbm, ⟨47, _⟩ => ⟨S_, .f32⟩
  | .hbm, ⟨48, _⟩ => ⟨S2x16x16384, .f32⟩
  | .hbm, ⟨49, _⟩ => ⟨S2x16x16384x1, .f32⟩
  | .hbm, ⟨50, _⟩ => ⟨S2x16x16384x16384, .f32⟩
  | .hbm, ⟨51, _⟩ => ⟨S2x16x16384x16384, .f32⟩
  | .hbm, ⟨52, _⟩ => ⟨S2x16x16384x16384, .bf16⟩
  | .hbm, ⟨53, _⟩ => ⟨S2x16x16384x16384, .f32⟩
  | .hbm, ⟨54, _⟩ => ⟨S2x16x16384x128, .f32⟩
  | .hbm, ⟨55, _⟩ => ⟨S2x16x16384x128, .f32⟩
  | .hbm, ⟨56, _⟩ => ⟨S2x16x16384x128, .bf16⟩
  | .hbm, ⟨57, _⟩ => ⟨S2x16384x16x128, .bf16⟩
  | .hbm, ⟨58, _⟩ => ⟨S32768x2048, .bf16⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768x2048, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S32768x2048, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== OddOut.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutReferenceIdeal.lean ====
abbrev S32768x2048 : Shape := ⟨2, ![32768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .f32⟩
  | .hbm, ⟨5, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvenOut.lean ====
abbrev S32768x1024 : Shape := ⟨2, ![32768, 1024]⟩
abbrev S2048x2048 : Shape := ⟨2, ![2048, 2048]⟩
abbrev S32768x2048 : Shape := ⟨2, ![32768, 2048]⟩
abbrev S1024x2048 : Shape := ⟨2, ![1024, 2048]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenOutReferenceIdeal.lean ====
abbrev S32768x1024 : Shape := ⟨2, ![32768, 1024]⟩
abbrev S2048x2048 : Shape := ⟨2, ![2048, 2048]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S32768x2048, .bf16⟩
  | .hbm, ⟨5, _⟩ => ⟨S32768x2048, .f32⟩
  | .hbm, ⟨6, _⟩ => ⟨S32768x2048, .f32⟩
  | .hbm, ⟨7, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OddProj.lean ====
abbrev S32768x2048 : Shape := ⟨2, ![32768, 2048]⟩
abbrev S2048 : Shape := ⟨1, ![2048]⟩
abbrev S2048x8208 : Shape := ⟨2, ![2048, 8208]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S2048x8192 : Shape := ⟨2, ![2048, 8192]⟩
abbrev S1x2048 : Shape := ⟨2, ![1, 2048]⟩
abbrev S32768x8192 : Shape := ⟨2, ![32768, 8192]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8208, .f32⟩
  | .hbm, ⟨3, _⟩ => ⟨S2048x8208, .bf16⟩
  | .hbm, ⟨4, _⟩ => ⟨S_, .bf16⟩
  | .hbm, ⟨5, _⟩ => ⟨S2048x128, .bf16⟩
  | .hbm, ⟨6, _⟩ => ⟨S2048x16, .bf16⟩
  | .hbm, ⟨7, _⟩ => ⟨S_, .i32⟩
  | .hbm, ⟨8, _⟩ => ⟨S1, .i32⟩
  | .hbm, ⟨9, _⟩ => ⟨S2048x128, .bf16⟩
  | .hbm, ⟨10, _⟩ => ⟨S2048x8192, .bf16⟩
  | .hbm, ⟨11, _⟩ => ⟨S1x2048, .f32⟩
  | .hbm, ⟨12, _⟩ => ⟨S32768x8192, .bf16⟩
  | .hbm, ⟨13, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OddProjReferenceIdeal.lean ====
abbrev S32768x2048 : Shape := ⟨2, ![32768, 2048]⟩
abbrev S2048 : Shape := ⟨1, ![2048]⟩
abbrev S2048x8208 : Shape := ⟨2, ![2048, 8208]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8208 : Shape := ⟨2, ![32768, 8208]⟩
abbrev S32768x8192 : Shape := ⟨2, ![32768, 8192]⟩
abbrev S32768x16 : Shape := ⟨2, ![32768, 16]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8208, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x8208, .f32⟩
  | .hbm, ⟨20, _⟩ => ⟨S32768x8192, .f32⟩
  | .hbm, ⟨21, _⟩ => ⟨S32768x8192, .bf16⟩
  | .hbm, ⟨22, _⟩ => ⟨S32768x16, .f32⟩
  | .hbm, ⟨23, _⟩ => ⟨S_, .i32⟩
  | .hbm, ⟨24, _⟩ => ⟨S_, .f32⟩
  | .hbm, ⟨25, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== EvenProj.lean ====
abbrev S32768x2048 : Shape := ⟨2, ![32768, 2048]⟩
abbrev S2048 : Shape := ⟨1, ![2048]⟩
abbrev S2048x6144 : Shape := ⟨2, ![2048, 6144]⟩
abbrev S1x2048 : Shape := ⟨2, ![1, 2048]⟩
abbrev S32768x6144 : Shape := ⟨2, ![32768, 6144]⟩
abbrev S32768x1024 : Shape := ⟨2, ![32768, 1024]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S1x2048, .f32⟩
  | .hbm, ⟨5, _⟩ => ⟨S32768x6144, .bf16⟩
  | .hbm, ⟨6, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== EvenProjReferenceIdeal.lean ====
abbrev S32768x2048 : Shape := ⟨2, ![32768, 2048]⟩
abbrev S2048 : Shape := ⟨1, ![2048]⟩
abbrev S2048x6144 : Shape := ⟨2, ![2048, 6144]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6144 : Shape := ⟨2, ![32768, 6144]⟩
abbrev S32768x1024 : Shape := ⟨2, ![32768, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x6144, .f32⟩
  | .hbm, ⟨20, _⟩ => ⟨S32768x6144, .bf16⟩
  | .hbm, ⟨21, _⟩ => ⟨S32768x1024, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DiffAttn.lean ====
abbrev S256 : Shape := ⟨1, ![256]⟩
abbrev S32768x1024 : Shape := ⟨2, ![32768, 1024]⟩
abbrev S32768x6144 : Shape := ⟨2, ![32768, 6144]⟩
abbrev S64 : Shape := ⟨1, ![64]⟩
abbrev S128 : Shape := ⟨1, ![128]⟩
abbrev S1x64 : Shape := ⟨2, ![1, 64]⟩
abbrev S1x128 : Shape := ⟨2, ![1, 128]⟩
abbrev S1024x128 : Shape := ⟨2, ![1024, 128]⟩
abbrev S16384x128 : Shape := ⟨2, ![16384, 128]⟩
abbrev S2x2x512x128 : Shape := ⟨4, ![2, 2, 512, 128]⟩
abbrev S2x2x512x256 : Shape := ⟨4, ![2, 2, 512, 256]⟩
abbrev S2x2x512x512 : Shape := ⟨4, ![2, 2, 512, 512]⟩
abbrev S1 : Shape := ⟨1, ![1]⟩
abbrev S512x512 : Shape := ⟨2, ![512, 512]⟩
abbrev S512x128 : Shape := ⟨2, ![512, 128]⟩
abbrev S1x1x512x512 : Shape := ⟨4, ![1, 1, 512, 512]⟩
abbrev S512x256 : Shape := ⟨2, ![512, 256]⟩
abbrev S1x1x512x128 : Shape := ⟨4, ![1, 1, 512, 128]⟩
abbrev S512 : Shape := ⟨1, ![512]⟩
abbrev S512x1 : Shape := ⟨2, ![512, 1]⟩
abbrev S1x1x512x256 : Shape := ⟨4, ![1, 1, 512, 256]⟩
abbrev S1x1 : Shape := ⟨2, ![1, 1]⟩

abbrev nBuf : Space → Nat
  | .hbm => 16
  | .vmem => 23
  | .smem => 1
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x6144, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x128, .f32⟩
  | .hbm, ⟨15, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S1024x128, .bf16⟩
  | .local _ .vmem, ⟨11, _⟩ => ⟨S1024x128, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x128, .f32⟩
  | .local _ .vmem, ⟨17, _⟩ => ⟨S1024x128, .bf16⟩
  | .local _ .vmem, ⟨18, _⟩ => ⟨S1024x128, .bf16⟩
  | .local _ .vmem, ⟨19, _⟩ => ⟨S2x2x512x128, .f32⟩
  | .local _ .vmem, ⟨20, _⟩ => ⟨S2x2x512x256, .f32⟩
  | .local _ .vmem, ⟨21, _⟩ => ⟨S2x2x512x512, .f32⟩
  | .local _ .vmem, ⟨22, _⟩ => ⟨S2x2x512x512, .f32⟩
  | .local _ .smem, ⟨0, _⟩ => ⟨S256, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![2, 8, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let v4 : Index := Scalar.indexCast v3
  ![v4.toNat]
def k0_mult1 (v5 : BitVec 32) : BitVec 32 :=
  let c2_i32_8 : BitVec 32 := 2#32
  let v18 : BitVec 32 := Scalar.muli c2_i32_8 v5
  let c512_i32 : BitVec 32 := 512#32
  let v19 : BitVec 32 := Scalar.muli v18 c512_i32
  v19

def k0_off2 (v5 : BitVec 32) : Fin 2 → Nat :=
  let c2_i32_8 : BitVec 32 := 2#32
  let v18 : BitVec 32 := Scalar.muli c2_i32_8 v5
  let c512_i32 : BitVec 32 := 512#32
  let v19 : BitVec 32 := Scalar.muli v18 c512_i32
  let v20 : BitVec 32 := v19
  let v22 : Index := Scalar.indexCast v20
  let c0_11 : Index := 0#32
  ![v22.toNat, 0]
def k0_mult2 (v5 : BitVec 32) : BitVec 32 :=
  let c2_i32_8 : BitVec 32 := 2#32
  let v18 : BitVec 32 := Scalar.muli c2_i32_8 v5
  let c512_i32_17 : BitVec 32 := 512#32
  let v28 : BitVec 32 := Scalar.muli v18 c512_i32_17
  v28
def k0_mult3 (v5 : BitVec 32) : BitVec 32 :=
  let c2_i32_8 : BitVec 32 := 2#32
  let v18 : BitVec 32 := Scalar.muli c2_i32_8 v5
  let c512_i32_25 : BitVec 32 := 512#32
  let v37 : BitVec 32 := Scalar.muli v18 c512_i32_25
  v37
def k0_mult4 (v5 : BitVec 32) : BitVec 32 :=
  let c2_i32_8 : BitVec 32 := 2#32
  let v18 : BitVec 32 := Scalar.muli c2_i32_8 v5
  let c512_i32_33 : BitVec 32 := 512#32
  let v46 : BitVec 32 := Scalar.muli v18 c512_i32_33
  v46
@[reducible] def k0_t1_loop (i : grid0.Coords) (v5 : BitVec 32) : Scf.Loop 32 :=
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_58 : BitVec 32 := 1#32
  ⟨v5, v59, c1_i32_58⟩
def k0_mult5 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_288 : BitVec 32 := 1#32
  let v462 : BitVec 32 := Scalar.addi v461 c1_i32_288
  let c512_i32_289 : BitVec 32 := 512#32
  let v463 : BitVec 32 := Scalar.muli v462 c512_i32_289
  v463
def k0_off3 (i : grid0.Coords) (v5 : BitVec 32) (k0_t1 : Fin (k0_t1_loop i v5).trips) (c1_i32_288 : BitVec 32) : Fin 2 → Nat :=
  let c2_i32_287 : BitVec 32 := 2#32
  let c1_i32_58 : BitVec 32 := 1#32
  let arg20 : BitVec 32 := Scf.iv v5 c1_i32_58 k0_t1
  let v461 : BitVec 32 := Scalar.muli c2_i32_287 arg20
  let v462 : BitVec 32 := Scalar.addi v461 c1_i32_288
  let c512_i32_289 : BitVec 32 := 512#32
  let v463 : BitVec 32 := Scalar.muli v462 c512_i32_289
  let v464 : BitVec 32 := v463
  let v466 : Index := Scalar.indexCast v464
  let c0_292 : Index := 0#32
  ![v466.toNat, 0]
def k0_mult6 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_288 : BitVec 32 := 1#32
  let v462 : BitVec 32 := Scalar.addi v461 c1_i32_288
  let c512_i32_296 : BitVec 32 := 512#32
  let v474 : BitVec 32 := Scalar.muli v462 c512_i32_296
  v474
def k0_mult7 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_288 : BitVec 32 := 1#32
  let v462 : BitVec 32 := Scalar.addi v461 c1_i32_288
  let c512_i32_303 : BitVec 32 := 512#32
  let v485 : BitVec 32 := Scalar.muli v462 c512_i32_303
  v485
def k0_mult8 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_288 : BitVec 32 := 1#32
  let v462 : BitVec 32 := Scalar.addi v461 c1_i32_288
  let c512_i32_310 : BitVec 32 := 512#32
  let v496 : BitVec 32 := Scalar.muli v462 c512_i32_310
  v496
def k0_mult9 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c512_i32_319 : BitVec 32 := 512#32
  let v511 : BitVec 32 := Scalar.muli v461 c512_i32_319
  v511
def k0_off4 (i : grid0.Coords) (v5 : BitVec 32) (k0_t1 : Fin (k0_t1_loop i v5).trips) : Fin 2 → Nat :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c512_i32_319 : BitVec 32 := 512#32
  let v511 : BitVec 32 := Scalar.muli v461 c512_i32_319
  let v512 : BitVec 32 := v511
  let v513 : Index := Scalar.indexCast v512
  let c0_320 : Index := 0#32
  ![v513.toNat, 0]
def k0_mult10 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c512_i32_342 : BitVec 32 := 512#32
  let v558 : BitVec 32 := Scalar.muli v461 c512_i32_342
  v558
def k0_mult11 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c512_i32_365 : BitVec 32 := 512#32
  let v605 : BitVec 32 := Scalar.muli v461 c512_i32_365
  v605
def k0_mult12 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c512_i32_388 : BitVec 32 := 512#32
  let v652 : BitVec 32 := Scalar.muli v461 c512_i32_388
  v652
def k0_mult13 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c2_i32_409 : BitVec 32 := 2#32
  let v695 : BitVec 32 := Scalar.addi v461 c2_i32_409
  let c512_i32_410 : BitVec 32 := 512#32
  let v696 : BitVec 32 := Scalar.muli v695 c512_i32_410
  v696
def k0_mult14 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c2_i32_409 : BitVec 32 := 2#32
  let v695 : BitVec 32 := Scalar.addi v461 c2_i32_409
  let c512_i32_417 : BitVec 32 := 512#32
  let v707 : BitVec 32 := Scalar.muli v695 c512_i32_417
  v707
def k0_mult15 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c2_i32_409 : BitVec 32 := 2#32
  let v695 : BitVec 32 := Scalar.addi v461 c2_i32_409
  let c512_i32_424 : BitVec 32 := 512#32
  let v718 : BitVec 32 := Scalar.muli v695 c512_i32_424
  v718
def k0_mult16 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c2_i32_409 : BitVec 32 := 2#32
  let v695 : BitVec 32 := Scalar.addi v461 c2_i32_409
  let c512_i32_431 : BitVec 32 := 512#32
  let v729 : BitVec 32 := Scalar.muli v695 c512_i32_431
  v729
def k0_mult17 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_438 : BitVec 32 := 1#32
  let v740 : BitVec 32 := Scalar.addi v461 c1_i32_438
  let c512_i32_441 : BitVec 32 := 512#32
  let v745 : BitVec 32 := Scalar.muli v740 c512_i32_441
  v745
def k0_mult18 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_438 : BitVec 32 := 1#32
  let v740 : BitVec 32 := Scalar.addi v461 c1_i32_438
  let c512_i32_464 : BitVec 32 := 512#32
  let v792 : BitVec 32 := Scalar.muli v740 c512_i32_464
  v792
def k0_mult19 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_438 : BitVec 32 := 1#32
  let v740 : BitVec 32 := Scalar.addi v461 c1_i32_438
  let c512_i32_487 : BitVec 32 := 512#32
  let v839 : BitVec 32 := Scalar.muli v740 c512_i32_487
  v839
def k0_mult20 (i : grid0.Coords) (v5 : BitVec 32) (k0_t1 : Fin (k0_t1_loop i v5).trips) : BitVec 32 :=
  let c2_i32_287 : BitVec 32 := 2#32
  let c1_i32_58 : BitVec 32 := 1#32
  let arg20 : BitVec 32 := Scf.iv v5 c1_i32_58 k0_t1
  let v461 : BitVec 32 := Scalar.muli c2_i32_287 arg20
  let c1_i32_438 : BitVec 32 := 1#32
  let v740 : BitVec 32 := Scalar.addi v461 c1_i32_438
  let c512_i32_510 : BitVec 32 := 512#32
  let v886 : BitVec 32 := Scalar.muli v740 c512_i32_510
  v886
@[reducible] def k0_t2_loop (i : grid0.Coords) (v5 : BitVec 32) : Scf.Loop 32 :=
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let v56 : BitVec 32 := Scalar.addi v5 v55
  let c1_i32_59 : BitVec 32 := 1#32
  ⟨v59, v56, c1_i32_59⟩
def k0_mult21 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_288 : BitVec 32 := 1#32
  let v462 : BitVec 32 := Scalar.addi v461 c1_i32_288
  let c512_i32_289 : BitVec 32 := 512#32
  let v463 : BitVec 32 := Scalar.muli v462 c512_i32_289
  v463
def k0_off5 (i : grid0.Coords) (v5 : BitVec 32) (k0_t2 : Fin (k0_t2_loop i v5).trips) (c1_i32_288 : BitVec 32) : Fin 2 → Nat :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let v462 : BitVec 32 := Scalar.addi v461 c1_i32_288
  let c512_i32_289 : BitVec 32 := 512#32
  let v463 : BitVec 32 := Scalar.muli v462 c512_i32_289
  let v464 : BitVec 32 := v463
  let v466 : Index := Scalar.indexCast v464
  let c0_292 : Index := 0#32
  ![v466.toNat, 0]
def k0_mult22 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_288 : BitVec 32 := 1#32
  let v462 : BitVec 32 := Scalar.addi v461 c1_i32_288
  let c512_i32_296 : BitVec 32 := 512#32
  let v474 : BitVec 32 := Scalar.muli v462 c512_i32_296
  v474
def k0_mult23 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_288 : BitVec 32 := 1#32
  let v462 : BitVec 32 := Scalar.addi v461 c1_i32_288
  let c512_i32_303 : BitVec 32 := 512#32
  let v485 : BitVec 32 := Scalar.muli v462 c512_i32_303
  v485
def k0_mult24 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_288 : BitVec 32 := 1#32
  let v462 : BitVec 32 := Scalar.addi v461 c1_i32_288
  let c512_i32_310 : BitVec 32 := 512#32
  let v496 : BitVec 32 := Scalar.muli v462 c512_i32_310
  v496
def k0_mult25 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c512_i32_319 : BitVec 32 := 512#32
  let v511 : BitVec 32 := Scalar.muli v461 c512_i32_319
  v511
def k0_off6 (i : grid0.Coords) (v5 : BitVec 32) (k0_t2 : Fin (k0_t2_loop i v5).trips) : Fin 2 → Nat :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c512_i32_319 : BitVec 32 := 512#32
  let v511 : BitVec 32 := Scalar.muli v461 c512_i32_319
  let v512 : BitVec 32 := v511
  let v513 : Index := Scalar.indexCast v512
  let c0_320 : Index := 0#32
  ![v513.toNat, 0]
def k0_mult26 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c512_i32_342 : BitVec 32 := 512#32
  let v558 : BitVec 32 := Scalar.muli v461 c512_i32_342
  v558
def k0_mult27 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c512_i32_365 : BitVec 32 := 512#32
  let v605 : BitVec 32 := Scalar.muli v461 c512_i32_365
  v605
def k0_mult28 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c512_i32_388 : BitVec 32 := 512#32
  let v652 : BitVec 32 := Scalar.muli v461 c512_i32_388
  v652
def k0_mult29 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c2_i32_409 : BitVec 32 := 2#32
  let v695 : BitVec 32 := Scalar.addi v461 c2_i32_409
  let c512_i32_410 : BitVec 32 := 512#32
  let v696 : BitVec 32 := Scalar.muli v695 c512_i32_410
  v696
def k0_mult30 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c2_i32_409 : BitVec 32 := 2#32
  let v695 : BitVec 32 := Scalar.addi v461 c2_i32_409
  let c512_i32_417 : BitVec 32 := 512#32
  let v707 : BitVec 32 := Scalar.muli v695 c512_i32_417
  v707
def k0_mult31 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c2_i32_409 : BitVec 32 := 2#32
  let v695 : BitVec 32 := Scalar.addi v461 c2_i32_409
  let c512_i32_424 : BitVec 32 := 512#32
  let v718 : BitVec 32 := Scalar.muli v695 c512_i32_424
  v718
def k0_mult32 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c2_i32_409 : BitVec 32 := 2#32
  let v695 : BitVec 32 := Scalar.addi v461 c2_i32_409
  let c512_i32_431 : BitVec 32 := 512#32
  let v729 : BitVec 32 := Scalar.muli v695 c512_i32_431
  v729
def k0_mult33 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_438 : BitVec 32 := 1#32
  let v740 : BitVec 32 := Scalar.addi v461 c1_i32_438
  let c512_i32_441 : BitVec 32 := 512#32
  let v745 : BitVec 32 := Scalar.muli v740 c512_i32_441
  v745
def k0_mult34 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_438 : BitVec 32 := 1#32
  let v740 : BitVec 32 := Scalar.addi v461 c1_i32_438
  let c512_i32_464 : BitVec 32 := 512#32
  let v792 : BitVec 32 := Scalar.muli v740 c512_i32_464
  v792
def k0_mult35 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_438 : BitVec 32 := 1#32
  let v740 : BitVec 32 := Scalar.addi v461 c1_i32_438
  let c512_i32_487 : BitVec 32 := 512#32
  let v839 : BitVec 32 := Scalar.muli v740 c512_i32_487
  v839
def k0_mult36 (i : grid0.Coords) (v5 : BitVec 32) (k0_t2 : Fin (k0_t2_loop i v5).trips) : BitVec 32 :=
  let c2_i32_287 : BitVec 32 := 2#32
  let arg2 : BitVec 32 := BitVec.ofNat 32 (i 2).val
  let v55 : BitVec 32 := Scalar.subi arg2 v5
  let c1_i32_57 : BitVec 32 := 1#32
  let v57 : BitVec 32 := Scalar.divsi v55 c1_i32_57
  let v58 : BitVec 32 := Scalar.muli v57 c1_i32_57
  let v59 : BitVec 32 := Scalar.addi v5 v58
  let c1_i32_59 : BitVec 32 := 1#32
  let arg20 : BitVec 32 := Scf.iv v59 c1_i32_59 k0_t2
  let v461 : BitVec 32 := Scalar.muli c2_i32_287 arg20
  let c1_i32_438 : BitVec 32 := 1#32
  let v740 : BitVec 32 := Scalar.addi v461 c1_i32_438
  let c512_i32_510 : BitVec 32 := 512#32
  let v886 : BitVec 32 := Scalar.muli v740 c512_i32_510
  v886

def k0_chk1_0 (i : grid0.Coords) (v5 : BitVec 32) : Prop :=
  (512 ∣ (k0_mult1 v5).toNat) ∧
  (∀ a, (k0_off2 v5) a + S512x128.size a ≤ S16384x128.size a) ∧
  (512 ∣ (k0_mult2 v5).toNat) ∧
  (512 ∣ (k0_mult3 v5).toNat) ∧
  (512 ∣ (k0_mult4 v5).toNat) ∧
  ((k0_t1_loop i v5).OK) ∧
  (∀ k0_t1 : Fin (k0_t1_loop i v5).trips, 512 ∣ (k0_mult5 i v5 k0_t1).toNat) ∧
  (∀ k0_t1 : Fin (k0_t1_loop i v5).trips, ∀ (r : Fin 2), ∀ a, (k0_off3 i v5 k0_t1 (BitVec.ofNat 32 (1 + r.val))) a + S512x128.size a ≤ S16384x128.size a) ∧
  (∀ k0_t1 : Fin (k0_t1_loop i v5).trips, 512 ∣ (k0_mult6 i v5 k0_t1).toNat) ∧
  (∀ k0_t1 : Fin (k0_t1_loop i v5).trips, 512 ∣ (k0_mult7 i v5 k0_t1).toNat) ∧
  (∀ k0_t1 : Fin (k0_t1_loop i v5).trips, 512 ∣ (k0_mult8 i v5 k0_t1).toNat) ∧
  (∀ k0_t1 : Fin (k0_t1_loop i v5).trips, 512 ∣ (k0_mult9 i v5 k0_t1).toNat) ∧
  (∀ k0_t1 : Fin (k0_t1_loop i v5).trips, ∀ a, (k0_off4 i v5 k0_t1) a + S512x128.size a ≤ S16384x128.size a) ∧
  (∀ k0_t1 : Fin (k0_t1_loop i v5).trips, 512 ∣ (k0_mult10 i v5 k0_t1).toNat) ∧
  (∀ k0_t1 : Fin (k0_t1_loop i v5).trips, 512 ∣ (k0_mult11 i v5 k0_t1).toNat) ∧
  (∀ k0_t1 : Fin (k0_t1_loop i v5).trips, 512 ∣ (k0_mult12 i v5 k0_t1).toNat) ∧
  (∀ k0_t1 : Fin (k0_t1_loop i v5).trips, 512 ∣ (k0_mult13 i v5 k0_t1).toNat) ∧
  (∀ k0_t1 : Fin (k0_t1_loop i v5).trips, 512 ∣ (k0_mult14 i v5 k0_t1).toNat) ∧
  (∀ k0_t1 : Fin (k0_t1_loop i v5).trips, 512 ∣ (k0_mult15 i v5 k0_t1).toNat) ∧
  (∀ k0_t1 : Fin (k0_t1_loop i v5).trips, 512 ∣ (k0_mult16 i v5 k0_t1).toNat) ∧
  (∀ k0_t1 : Fin (k0_t1_loop i v5).trips, 512 ∣ (k0_mult17 i v5 k0_t1).toNat) ∧
  (∀ k0_t1 : Fin (k0_t1_loop i v5).trips, 512 ∣ (k0_mult18 i v5 k0_t1).toNat) ∧
  (∀ k0_t1 : Fin (k0_t1_loop i v5).trips, 512 ∣ (k0_mult19 i v5 k0_t1).toNat) ∧
  (∀ k0_t1 : Fin (k0_t1_loop i v5).trips, 512 ∣ (k0_mult20 i v5 k0_t1).toNat) ∧
  ((k0_t2_loop i v5).OK) ∧
  (∀ k0_t2 : Fin (k0_t2_loop i v5).trips, 512 ∣ (k0_mult21 i v5 k0_t2).toNat) ∧
  (∀ k0_t2 : Fin (k0_t2_loop i v5).trips, ∀ (r : Fin 2), ∀ a, (k0_off5 i v5 k0_t2 (BitVec.ofNat 32 (1 + r.val))) a + S512x128.size a ≤ S16384x128.size a) ∧
  (∀ k0_t2 : Fin (k0_t2_loop i v5).trips, 512 ∣ (k0_mult22 i v5 k0_t2).toNat) ∧
  (∀ k0_t2 : Fin (k0_t2_loop i v5).trips, 512 ∣ (k0_mult23 i v5 k0_t2).toNat) ∧
  (∀ k0_t2 : Fin (k0_t2_loop i v5).trips, 512 ∣ (k0_mult24 i v5 k0_t2).toNat) ∧
  (∀ k0_t2 : Fin (k0_t2_loop i v5).trips, 512 ∣ (k0_mult25 i v5 k0_t2).toNat) ∧
  (∀ k0_t2 : Fin (k0_t2_loop i v5).trips, ∀ a, (k0_off6 i v5 k0_t2) a + S512x128.size a ≤ S16384x128.size a)
def k0_chk1_1 (i : grid0.Coords) (v5 : BitVec 32) : Prop :=
  (∀ k0_t2 : Fin (k0_t2_loop i v5).trips, 512 ∣ (k0_mult26 i v5 k0_t2).toNat) ∧
  (∀ k0_t2 : Fin (k0_t2_loop i v5).trips, 512 ∣ (k0_mult27 i v5 k0_t2).toNat) ∧
  (∀ k0_t2 : Fin (k0_t2_loop i v5).trips, 512 ∣ (k0_mult28 i v5 k0_t2).toNat) ∧
  (∀ k0_t2 : Fin (k0_t2_loop i v5).trips, 512 ∣ (k0_mult29 i v5 k0_t2).toNat) ∧
  (∀ k0_t2 : Fin (k0_t2_loop i v5).trips, 512 ∣ (k0_mult30 i v5 k0_t2).toNat) ∧
  (∀ k0_t2 : Fin (k0_t2_loop i v5).trips, 512 ∣ (k0_mult31 i v5 k0_t2).toNat) ∧
  (∀ k0_t2 : Fin (k0_t2_loop i v5).trips, 512 ∣ (k0_mult32 i v5 k0_t2).toNat) ∧
  (∀ k0_t2 : Fin (k0_t2_loop i v5).trips, 512 ∣ (k0_mult33 i v5 k0_t2).toNat) ∧
  (∀ k0_t2 : Fin (k0_t2_loop i v5).trips, 512 ∣ (k0_mult34 i v5 k0_t2).toNat) ∧
  (∀ k0_t2 : Fin (k0_t2_loop i v5).trips, 512 ∣ (k0_mult35 i v5 k0_t2).toNat) ∧
  (∀ k0_t2 : Fin (k0_t2_loop i v5).trips, 512 ∣ (k0_mult36 i v5 k0_t2).toNat)
def k0_chk1 (i : grid0.Coords) (v5 : BitVec 32) : Prop :=
  k0_chk1_0 i v5 ∧
  k0_chk1_1 i v5
theorem k0_mult1_dvd : ∀ (i : grid0.Coords) (v5 : BitVec 32) (k0_hw1 : k0_chk1 i v5), 512 ∣ (k0_mult1 v5).toNat := fun i v5 k0_hw1 => k0_hw1.1.1
theorem k0_off2_inb : ∀ (i : grid0.Coords) (v5 : BitVec 32) (k0_hw1 : k0_chk1 i v5), ∀ a, (k0_off2 v5) a + S512x128.size a ≤ S16384x128.size a := fun i v5 k0_hw1 => k0_hw1.1.2.1
theorem k0_mult2_dvd : ∀ (i : grid0.Coords) (v5 : BitVec 32) (k0_hw1 : k0_chk1 i v5), 512 ∣ (k0_mult2 v5).toNat := fun i v5 k0_hw1 => k0_hw1.1.2.2.1
theorem k0_mult3_dvd : ∀ (i : grid0.Coords) (v5 : BitVec 32) (k0_hw1 : k0_chk1 i v5), 512 ∣ (k0_mult3 v5).toNat := fun i v5 k0_hw1 => k0_hw1.1.2.2.2.1
theorem k0_mult4_dvd : ∀ (i : grid0.Coords) (v5 : BitVec 32) (k0_hw1 : k0_chk1 i v5), 512 ∣ (k0_mult4 v5).toNat := fun i v5 k0_hw1 => k0_hw1.1.2.2.2.2.1
theorem k0_t1_ok : ∀ (i : grid0.Coords) (v5 : BitVec 32) (k0_hw1 : k0_chk1 i v5), (k0_t1_loop i v5).OK := fun i v5 k0_hw1 => k0_hw1.1.2.2.2.2.2.1
theorem k0_mult5_dvd : ∀ (i : grid0.Coords) (v5 : BitVec 32) (k0_hw1 : k0_chk1 i v5) (k0_t1 : Fin (k0_t1_loop i v5).trips), 512 ∣ (k0_mult5 i v5 k0_t1).toNat := fun i v5 k0_hw1 k0_t1 => k0_hw1.1.2.2.2.2.2.2.1 k0_t1
theorem k0_off3_inb : ∀ (i : grid0.Coords) (v5 : BitVec 32) (k0_hw1 : k0_chk1 i v5) (k0_t1 : Fin (k0_t1_loop i v5).trips), ∀ (r : Fin 2), ∀ a, (k0_off3 i v5 k0_t1 (BitVec.ofNat 32 (1 + r.val))) a + S512x128.size a ≤ S16384x128.size a := fun i v5 k0_hw1 k0_t1 r => k0_hw1.1.2.2.2.2.2.2.2.1 k0_t1 r
theorem k0_mult6_dvd : ∀ (i : grid0.Coords) (v5 : BitVec 32) (k0_hw1 : k0_chk1 i v5) (k0_t1 : Fin (k0_t1_loop i v5).trips), 512 ∣ (k0_mult6 i v5 k0_t1).toNat := fun i v5 k0_hw1 k0_t1 => k0_hw1.1.2.2.2.2.2.2.2.2.1 k0_t1
theorem k0_mult7_dvd : ∀ (i : grid0.Coords) (v5 : BitVec 32) (k0_hw1 : k0_chk1 i v5) (k0_t1 : Fin (k0_t1_loop i v5).trips), 512 ∣ (k0_mult7 i v5 k0_t1).toNat := fun i v5 k0_hw1 k0_t1 => k0_hw1.1.2.2.2.2.2.2.2.2.2.1 k0_t1
theorem k0_mult8_dvd : ∀ (i : grid0.Coords) (v5 : BitVec 32) (k0_hw1 : k0_chk1 i v5) (k0_t1 : Fin (k0_t1_loop i v5).trips), 512 ∣ (k0_mult8 i v5 k0_t1).toNat := fun i v5 k0_hw1 k0_t1 => k0_hw1.1.2.2.2.2.2.2.2.2.2.2.1 k0_t1
theorem k0_mult9_dvd : ∀ (i : grid0.Coords) (v5 : BitVec 32) (k0_hw1 : k0_chk1 i v5) (k0_t1 : Fin (k0_t1_loop i v5).trips), 512 ∣ (k0_mult9 i v5 k0_t1).toNat := fun i v5 k0_hw1 k0_t1 => k0_hw1.1.2.2.2.2.2.2.2.2.2.2.2.1 k0_t1
theorem k0_off4_inb : ∀ (i : grid0.Coords) (v5 : BitVec 32) (k0_hw1 : k0_chk1 i v5) (k0_t1 : Fin (k0_t1_loop i v5).trips), ∀ a, (k0_off4 i v5 k0_t1) a + S512x128.size a ≤ S16384x128.size a := fun i v5 k0_hw1 k0_t1 => k0_hw1.1.2.2.2.2.2.2.2.2.2.2.2.2.1 k0_t1
theorem k0_mult10_dvd : ∀ (i : grid0.Coords) (v5 : BitVec 32) (k0_hw1 : k0_chk1 i v5) (k0_t1 : Fin (k0_t1_loop i v5).trips), 512 ∣ (k0_mult10 i v5 k0_t1).toNat := fun i v5 k0_hw1 k0_t1 => k0_hw1.1.2.2.2.2.2.2.2.2.2.2.2.2.2.1 k0_t1
theorem k0_mult11_dvd : ∀ (i : grid0.Coords) (v5 : BitVec 32) (k0_hw1 : k0_chk1 i v5) (k0_t1 : Fin (k0_t1_loop i v5).trips), 512 ∣ (k0_mult11 i v5 k0_t1).toNat := fun i v5 k0_hw1 k0_t1 => k0_hw1.1.2.2.2.2.2.2.2.2.2.2.2.2.2.2.1 k0_t1
theorem k0_mult12_dvd : ∀ (i : grid0.Coords) (v5 : BitVec 32) (k0_hw1 : k0_chk1 i v5) (k0_t1 : Fin (k0_t1_loop i v5).trips), 512 ∣ (k0_mult12 i v5 k0_t1).toNat := fun i v5 k0_hw1 k0_t1 => k0_hw1.1.2.2.2.2.2.2.2.2.2.2.2.2.2.2.2.1 k0_t1
theorem k0_mult13_dvd : ∀ (i : grid0.Coords) (v5 : BitVec 32) (k0_hw1 : k0_chk1 i v5) (k0_t1 : Fin (k0_t1_loop i v5).trips), 512 ∣ (k0_mult13 i v5 k0_t1).toNat := fun i v5 k0_hw1 k0_t1 => k0_hw1.1.2.2.2.2.2.2.2.2.2.2.2.2.2.2.2.2.1 k0_t1
theorem k0_mult14_dvd : ∀ (i : grid0.Coords) (v5 : BitVec 32) (k0_hw1 : k0_chk1 i v5) (k0_t1 : Fin (k0_t1_loop i v5).trips), 512 ∣ (k0_mult14 i v5 k0_t1).toNat := fun i v5 k0_hw1 k0_t1 => k0_hw1.1.2.2.2.2.2.2.2.2.2.2.2.2.2.2.2.2.2.1 k0_t1
theorem k0_mult15_dvd : ∀ (i : grid0.Coords) (v5 : BitVec 32) (k0_hw1 : k0_chk1 i v5) (k0_t1 : Fin (k0_t1_loop i v5).trips), 512 ∣ (k0_mult15 i v5 k0_t1).toNat := fun i v5 k0_hw1 k0_t1 => k0_hw1.1.2.2.2.2.2.2.2.2.2.2.2.2.2.2.2.2.2.2.1 k0_t1
theorem k0_mult16_dvd : ∀ (i : grid0.Coords) (v5 : BitVec 32) (k0_hw1 : k0_chk1 i v5) (k0_t1 : Fin (k0_t1_loop i v5).trips), 512 ∣ (k0_mult16 i v5 k0_t1).toNat := fun i v5 k0_hw1 k0_t1 => k0_hw1.1.2.2.2.2.2.2.2.2.2.2.2.2.2.2.2.2.2.2.2.1 k0_t1
theorem k0_mult17_dvd : ∀ (i : grid0.Coords) (v5 : BitVec 32) (k0_hw1 : k0_chk1 i v5) (k0_t1 : Fin (k0_t1_loop i v5).trips), 512 ∣ (k0_mult17 i v5 k0_t1).toNat := fun i v5 k0_hw1 k0_t1 => k0_hw1.1.2.2.2.2.2.2.2.2.2.2.2.2.2.2.2.2.2.2.2.2.1 k0_t1
theorem k0_mult18_dvd : ∀ (i : grid0.Coords) (v5 : BitVec 32) (k0_hw1 : k0_chk1 i v5) (k0_t1 : Fin (k0_t1_loop i v5).trips), 512 ∣ (k0_mult18 i v5 k0_t1).toNat := fun i v5 k0_hw1 k0_t1 => k0_hw1.1.2.2.2.2.2.2.2.2.2.2.2.2.2.2.2.2.2.2.2.2.2.1 k0_t1
theorem k0_mult19_dvd : ∀ (i : grid0.Coords) (v5 : BitVec 32) (k0_hw1 : k0_chk1 i v5) (k0_t1 : Fin (k0_t1_loop i v5).trips), 512 ∣ (k0_mult19 i v5 k0_t1).toNat := fun i v5 k0_hw1 k0_t1 => k0_hw1.1.2.2.2.2.2.2.2.2.2.2.2.2.2.2.2.2.2.2.2.2.2.2.1 k0_t1
theorem k0_mult20_dvd : ∀ (i : grid0.Coords) (v5 : BitVec 32) (k0_hw1 : k0_chk1 i v5) (k0_t1 : Fin (k0_t1_loop i v5).trips), 512 ∣ (k0_mult20 i v5 k0_t1).toNat := fun i v5 k0_hw1 k0_t1 => k0_hw1.1.2.2.2.2.2.2.2.2.2.2.2.2.2.2.2.2.2.2.2.2.2.2.2.1 k0_t1
theorem k0_t2_ok : ∀ (i : grid0.Coords) (v5 : BitVec 32) (k0_hw1 : k0_chk1 i v5), (k0_t2_loop i v5).OK := fun i v5 k0_hw1 => k0_hw1.1.2.2.2.2.2.2.2.2.2.2.2.2.2.2.2.2.2.2.2.2.2.2.2.2.1
theorem k0_mult21_dvd : ∀ (i : grid0.Coords) (v5 : BitVec 32) (k0_hw1 : k0_chk1 i v5) (k0_t2 : Fin (k0_t2_loop i v5).trips), 512 ∣ (k0_mult21 i v5 k0_t2).toNat := fun i v5 k0_hw1 k0_t2 => k0_hw1.1.2.2.2.2.2.2.2.2.2.2.2.2.2.2.2.2.2.2.2.2.2.2.2.2.2.1 k0_t2
theorem k0_off5_inb : ∀ (i : grid0.Coords) (v5 : BitVec 32) (k0_hw1 : k0_chk1 i v5) (k0_t2 : Fin (k0_t2_loop i v5).trips), ∀ (r : Fin 2), ∀ a, (k0_off5 i v5 k0_t2 (BitVec.ofNat 32 (1 + r.val))) a + S512x128.size a ≤ S16384x128.size a := fun i v5 k0_hw1 k0_t2 r => k0_hw1.1.2.2.2.2.2.2.2.2.2.2.2.2.2.2.2.2.2.2.2.2.2.2.2.2.2.2.1 k0_t2 r
theorem k0_mult22_dvd : ∀ (i : grid0.Coords) (v5 : BitVec 32) (k0_hw1 : k0_chk1 i v5) (k0_t2 : Fin (k0_t2_loop i v5).trips), 512 ∣ (k0_mult22 i v5 k0_t2).toNat := fun i v5 k0_hw1 k0_t2 => k0_hw1.1.2.2.2.2.2.2.2.2.2.2.2.2.2.2.2.2.2.2.2.2.2.2.2.2.2.2.2.1 k0_t2
theorem k0_mult23_dvd : ∀ (i : grid0.Coords) (v5 : BitVec 32) (k0_hw1 : k0_chk1 i v5) (k0_t2 : Fin (k0_t2_loop i v5).trips), 512 ∣ (k0_mult23 i v5 k0_t2).toNat := fun i v5 k0_hw1 k0_t2 => k0_hw1.1.2.2.2.2.2.2.2.2.2.2.2.2.2.2.2.2.2.2.2.2.2.2.2.2.2.2.2.2.1 k0_t2
theorem k0_mult24_dvd : ∀ (i : grid0.Coords) (v5 : BitVec 32) (k0_hw1 : k0_chk1 i v5) (k0_t2 : Fin (k0_t2_loop i v5).trips), 512 ∣ (k0_mult24 i v5 k0_t2).toNat := fun i v5 k0_hw1 k0_t2 => k0_hw1.1.2.2.2.2.2.2.2.2.2.2.2.2.2.2.2.2.2.2.2.2.2.2.2.2.2.2.2.2.2.1 k0_t2
theorem k0_mult25_dvd : ∀ (i : grid0.Coords) (v5 : BitVec 32) (k0_hw1 : k0_chk1 i v5) (k0_t2 : Fin (k0_t2_loop i v5).trips), 512 ∣ (k0_mult25 i v5 k0_t2).toNat := fun i v5 k0_hw1 k0_t2 => k0_hw1.1.2.2.2.2.2.2.2.2.2.2.2.2.2.2.2.2.2.2.2.2.2.2.2.2.2.2.2.2.2.2.1 k0_t2
theorem k0_off6_inb : ∀ (i : grid0.Coords) (v5 : BitVec 32) (k0_hw1 : k0_chk1 i v5) (k0_t2 : Fin (k0_t2_loop i v5).trips), ∀ a, (k0_off6 i v5 k0_t2) a + S512x128.size a ≤ S16384x128.size a := fun i v5 k0_hw1 k0_t2 => k0_hw1.1.2.2.2.2.2.2.2.2.2.2.2.2.2.2.2.2.2.2.2.2.2.2.2.2.2.2.2.2.2.2.2 k0_t2
theorem k0_mult26_dvd : ∀ (i : grid0.Coords) (v5 : BitVec 32) (k0_hw1 : k0_chk1 i v5) (k0_t2 : Fin (k0_t2_loop i v5).trips), 512 ∣ (k0_mult26 i v5 k0_t2).toNat := fun i v5 k0_hw1 k0_t2 => k0_hw1.2.1 k0_t2
theorem k0_mult27_dvd : ∀ (i : grid0.Coords) (v5 : BitVec 32) (k0_hw1 : k0_chk1 i v5) (k0_t2 : Fin (k0_t2_loop i v5).trips), 512 ∣ (k0_mult27 i v5 k0_t2).toNat := fun i v5 k0_hw1 k0_t2 => k0_hw1.2.2.1 k0_t2
theorem k0_mult28_dvd : ∀ (i : grid0.Coords) (v5 : BitVec 32) (k0_hw1 : k0_chk1 i v5) (k0_t2 : Fin (k0_t2_loop i v5).trips), 512 ∣ (k0_mult28 i v5 k0_t2).toNat := fun i v5 k0_hw1 k0_t2 => k0_hw1.2.2.2.1 k0_t2
theorem k0_mult29_dvd : ∀ (i : grid0.Coords) (v5 : BitVec 32) (k0_hw1 : k0_chk1 i v5) (k0_t2 : Fin (k0_t2_loop i v5).trips), 512 ∣ (k0_mult29 i v5 k0_t2).toNat := fun i v5 k0_hw1 k0_t2 => k0_hw1.2.2.2.2.1 k0_t2
theorem k0_mult30_dvd : ∀ (i : grid0.Coords) (v5 : BitVec 32) (k0_hw1 : k0_chk1 i v5) (k0_t2 : Fin (k0_t2_loop i v5).trips), 512 ∣ (k0_mult30 i v5 k0_t2).toNat := fun i v5 k0_hw1 k0_t2 => k0_hw1.2.2.2.2.2.1 k0_t2
theorem k0_mult31_dvd : ∀ (i : grid0.Coords) (v5 : BitVec 32) (k0_hw1 : k0_chk1 i v5) (k0_t2 : Fin (k0_t2_loop i v5).trips), 512 ∣ (k0_mult31 i v5 k0_t2).toNat := fun i v5 k0_hw1 k0_t2 => k0_hw1.2.2.2.2.2.2.1 k0_t2
theorem k0_mult32_dvd : ∀ (i : grid0.Coords) (v5 : BitVec 32) (k0_hw1 : k0_chk1 i v5) (k0_t2 : Fin (k0_t2_loop i v5).trips), 512 ∣ (k0_mult32 i v5 k0_t2).toNat := fun i v5 k0_hw1 k0_t2 => k0_hw1.2.2.2.2.2.2.2.1 k0_t2
theorem k0_mult33_dvd : ∀ (i : grid0.Coords) (v5 : BitVec 32) (k0_hw1 : k0_chk1 i v5) (k0_t2 : Fin (k0_t2_loop i v5).trips), 512 ∣ (k0_mult33 i v5 k0_t2).toNat := fun i v5 k0_hw1 k0_t2 => k0_hw1.2.2.2.2.2.2.2.2.1 k0_t2
theorem k0_mult34_dvd : ∀ (i : grid0.Coords) (v5 : BitVec 32) (k0_hw1 : k0_chk1 i v5) (k0_t2 : Fin (k0_t2_loop i v5).trips), 512 ∣ (k0_mult34 i v5 k0_t2).toNat := fun i v5 k0_hw1 k0_t2 => k0_hw1.2.2.2.2.2.2.2.2.2.1 k0_t2
theorem k0_mult35_dvd : ∀ (i : grid0.Coords) (v5 : BitVec 32) (k0_hw1 : k0_chk1 i v5) (k0_t2 : Fin (k0_t2_loop i v5).trips), 512 ∣ (k0_mult35 i v5 k0_t2).toNat := fun i v5 k0_hw1 k0_t2 => k0_hw1.2.2.2.2.2.2.2.2.2.2.1 k0_t2
theorem k0_mult36_dvd : ∀ (i : grid0.Coords) (v5 : BitVec 32) (k0_hw1 : k0_chk1 i v5) (k0_t2 : Fin (k0_t2_loop i v5).trips), 512 ∣ (k0_mult36 i v5 k0_t2).toNat := fun i v5 k0_hw1 k0_t2 => k0_hw1.2.2.2.2.2.2.2.2.2.2.2 k0_t2

def k0_mult37 (i : grid0.Coords) : BitVec 32 :=
  let c2_i32 : BitVec 32 := 2#32
  let arg2 : BitVec 32 := BitVec.ofNat 32 (i 2).val
  let v17 : BitVec 32 := Scalar.muli c2_i32 arg2
  let c1_i32_60 : BitVec 32 := 1#32
  let v60 : BitVec 32 := Scalar.addi v17 c1_i32_60
  let c512_i32_61 : BitVec 32 := 512#32
  let v61 : BitVec 32 := Scalar.muli v60 c512_i32_61
  v61
def k0_off7 (i : grid0.Coords) : Fin 2 → Nat :=
  let c2_i32 : BitVec 32 := 2#32
  let arg2 : BitVec 32 := BitVec.ofNat 32 (i 2).val
  let v17 : BitVec 32 := Scalar.muli c2_i32 arg2
  let c1_i32_60 : BitVec 32 := 1#32
  let v60 : BitVec 32 := Scalar.addi v17 c1_i32_60
  let c512_i32_61 : BitVec 32 := 512#32
  let v61 : BitVec 32 := Scalar.muli v60 c512_i32_61
  let v62 : BitVec 32 := v61
  let v64 : Index := Scalar.indexCast v62
  let c0_64 : Index := 0#32
  ![v64.toNat, 0]
def k0_mult38 (i : grid0.Coords) : BitVec 32 :=
  let c2_i32 : BitVec 32 := 2#32
  let arg2 : BitVec 32 := BitVec.ofNat 32 (i 2).val
  let v17 : BitVec 32 := Scalar.muli c2_i32 arg2
  let c1_i32_60 : BitVec 32 := 1#32
  let v60 : BitVec 32 := Scalar.addi v17 c1_i32_60
  let c512_i32_70 : BitVec 32 := 512#32
  let v70 : BitVec 32 := Scalar.muli v60 c512_i32_70
  v70
def k0_mult39 (i : grid0.Coords) : BitVec 32 :=
  let c2_i32 : BitVec 32 := 2#32
  let arg2 : BitVec 32 := BitVec.ofNat 32 (i 2).val
  let v17 : BitVec 32 := Scalar.muli c2_i32 arg2
  let c512_i32_83 : BitVec 32 := 512#32
  let v81 : BitVec 32 := Scalar.muli v17 c512_i32_83
  v81
def k0_off8 (i : grid0.Coords) : Fin 2 → Nat :=
  let c2_i32 : BitVec 32 := 2#32
  let arg2 : BitVec 32 := BitVec.ofNat 32 (i 2).val
  let v17 : BitVec 32 := Scalar.muli c2_i32 arg2
  let c512_i32_83 : BitVec 32 := 512#32
  let v81 : BitVec 32 := Scalar.muli v17 c512_i32_83
  let v82 : BitVec 32 := v81
  let v83 : Index := Scalar.indexCast v82
  let c0_84 : Index := 0#32
  ![v83.toNat, 0]
def k0_mult40 (i : grid0.Coords) : BitVec 32 :=
  let c2_i32 : BitVec 32 := 2#32
  let arg2 : BitVec 32 := BitVec.ofNat 32 (i 2).val
  let v17 : BitVec 32 := Scalar.muli c2_i32 arg2
  let c512_i32_109 : BitVec 32 := 512#32
  let v128 : BitVec 32 := Scalar.muli v17 c512_i32_109
  v128
def k0_mult41 (i : grid0.Coords) : BitVec 32 :=
  let c2_i32 : BitVec 32 := 2#32
  let arg2 : BitVec 32 := BitVec.ofNat 32 (i 2).val
  let v17 : BitVec 32 := Scalar.muli c2_i32 arg2
  let c512_i32_135 : BitVec 32 := 512#32
  let v175 : BitVec 32 := Scalar.muli v17 c512_i32_135
  v175
def k0_mult42 (i : grid0.Coords) : BitVec 32 :=
  let c2_i32 : BitVec 32 := 2#32
  let arg2 : BitVec 32 := BitVec.ofNat 32 (i 2).val
  let v17 : BitVec 32 := Scalar.muli c2_i32 arg2
  let c512_i32_160 : BitVec 32 := 512#32
  let v220 : BitVec 32 := Scalar.muli v17 c512_i32_160
  v220
def k0_mult43 (i : grid0.Coords) : BitVec 32 :=
  let c2_i32 : BitVec 32 := 2#32
  let arg2 : BitVec 32 := BitVec.ofNat 32 (i 2).val
  let v17 : BitVec 32 := Scalar.muli c2_i32 arg2
  let c1_i32_181 : BitVec 32 := 1#32
  let v263 : BitVec 32 := Scalar.addi v17 c1_i32_181
  let c512_i32_186 : BitVec 32 := 512#32
  let v266 : BitVec 32 := Scalar.muli v263 c512_i32_186
  v266
def k0_mult44 (i : grid0.Coords) : BitVec 32 :=
  let c2_i32 : BitVec 32 := 2#32
  let arg2 : BitVec 32 := BitVec.ofNat 32 (i 2).val
  let v17 : BitVec 32 := Scalar.muli c2_i32 arg2
  let c1_i32_181 : BitVec 32 := 1#32
  let v263 : BitVec 32 := Scalar.addi v17 c1_i32_181
  let c512_i32_212 : BitVec 32 := 512#32
  let v313 : BitVec 32 := Scalar.muli v263 c512_i32_212
  v313
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== DiffAttnReferenceIdeal.lean ====
abbrev S256 : Shape := ⟨1, ![256]⟩
abbrev S32768x1024 : Shape := ⟨2, ![32768, 1024]⟩
abbrev S32768x6144 : Shape := ⟨2, ![32768, 6144]⟩
abbrev S64 : Shape := ⟨1, ![64]⟩
abbrev S128 : Shape := ⟨1, ![128]⟩
abbrev S2x16384x8x128 : Shape := ⟨4, ![2, 16384, 8, 128]⟩
abbrev S2x8x16384x128 : Shape := ⟨4, ![2, 8, 16384, 128]⟩
abbrev S16384 : Shape := ⟨1, ![16384]⟩
abbrev S_ : Shape := ⟨0, ![]⟩
abbrev S2x8x16x1 : Shape := ⟨4, ![2, 8, 16, 1]⟩
abbrev S2x8x16x1024 : Shape := ⟨4, ![2, 8, 16, 1024]⟩
abbrev S2x8x16384x1 : Shape := ⟨4, ![2, 8, 16384, 1]⟩
abbrev S16384x1 : Shape := ⟨2, ![16384, 1]⟩
abbrev S1x16384 : Shape := ⟨2, ![1, 16384]⟩
abbrev S16384x16384 : Shape := ⟨2, ![16384, 16384]⟩
abbrev S1x1x1x16384 : Shape := ⟨4, ![1, 1, 1, 16384]⟩
abbrev S2x8x16384x16384 : Shape := ⟨4, ![2, 8, 16384, 16384]⟩
abbrev S1x1x16384x16384 : Shape := ⟨4, ![1, 1, 16384, 16384]⟩
abbrev S2x8x16384 : Shape := ⟨3, ![2, 8, 16384]⟩
abbrev S1x1x1x128 : Shape := ⟨4, ![1, 1, 1, 128]⟩

abbrev nBuf : Space → Nat
  | .hbm => 131
  | .vmem => 0
  | .smem => 0
  | _ => 0

abbrev hbmTy0_0 (i : Nat) : BufTy := match i % 128 with
  | 0 => ⟨S256, .i32⟩
  | 1 => ⟨S32768x1024, .bf16⟩
  | 2 => ⟨S32768x1024, .bf16⟩
  | 3 => ⟨S32768x1024, .bf16⟩
  | 4 => ⟨S32768x1024, .bf16⟩
  | 5 => ⟨S32768x6144, .bf16⟩
  | 6 => ⟨S64, .f32⟩
  | 7 => ⟨S64, .f32⟩
  | 8 => ⟨S64, .f32⟩
  | 9 => ⟨S64, .f32⟩
  | 10 => ⟨S128, .f32⟩
  | 11 => ⟨S32768x1024, .bf16⟩
  | 12 => ⟨S2x16384x8x128, .bf16⟩
  | 13 => ⟨S2x8x16384x128, .bf16⟩
  | 14 => ⟨S2x8x16384x128, .f32⟩
  | 15 => ⟨S32768x1024, .bf16⟩
  | 16 => ⟨S32768x1024, .f32⟩
  | 17 => ⟨S16384, .i32⟩
  | 18 => ⟨S_, .i32⟩
  | 19 => ⟨S256, .i32⟩
  | 20 => ⟨S256, .i32⟩
  | 21 => ⟨S2x8x16x1, .i32⟩
  | 22 => ⟨S2x8x16x1024, .i32⟩
  | 23 => ⟨S2x8x16384x1, .i32⟩
  | 24 => ⟨S16384x1, .i32⟩
  | 25 => ⟨S1x16384, .i32⟩
  | 26 => ⟨S16384x16384, .i32⟩
  | 27 => ⟨S16384x16384, .i32⟩
  | 28 => ⟨S16384x16384, .i1⟩
  | 29 => ⟨S1x1x1x16384, .i32⟩
  | 30 => ⟨S2x8x16384x16384, .i32⟩
  | 31 => ⟨S2x8x16384x16384, .i32⟩
  | 32 => ⟨S2x8x16384x16384, .i1⟩
  | 33 => ⟨S1x1x16384x16384, .i1⟩
  | 34 => ⟨S2x8x16384x16384, .i1⟩
  | 35 => ⟨S2x8x16384x16384, .i1⟩
  | 36 => ⟨S64, .f32⟩
  | 37 => ⟨S_, .f32⟩
  | 38 => ⟨S_, .f32⟩
  | 39 => ⟨S_, .f32⟩
  | 40 => ⟨S64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S2x16384x8x128, .bf16⟩
  | 48 => ⟨S2x8x16384x128, .bf16⟩
  | 49 => ⟨S2x8x16384x128, .f32⟩
  | 50 => ⟨S2x16384x8x128, .bf16⟩
  | 51 => ⟨S2x8x16384x128, .bf16⟩
  | 52 => ⟨S2x8x16384x128, .f32⟩
  | 53 => ⟨S2x8x16384x16384, .f32⟩
  | 54 => ⟨S_, .f32⟩
  | 55 => ⟨S_, .f32⟩
  | 56 => ⟨S2x8x16384x16384, .f32⟩
  | 57 => ⟨S2x8x16384x16384, .f32⟩
  | 58 => ⟨S_, .f32⟩
  | 59 => ⟨S2x8x16384, .f32⟩
  | 60 => ⟨S2x8x16384x1, .f32⟩
  | 61 => ⟨S2x8x16384x16384, .f32⟩
  | 62 => ⟨S2x8x16384x16384, .f32⟩
  | 63 => ⟨S_, .f32⟩
  | 64 => ⟨S2x8x16384x16384, .f32⟩
  | 65 => ⟨S2x8x16384x16384, .f32⟩
  | 66 => ⟨S_, .f32⟩
  | 67 => ⟨S2x8x16384, .f32⟩
  | 68 => ⟨S2x8x16384x1, .f32⟩
  | 69 => ⟨S2x8x16384x16384, .f32⟩
  | 70 => ⟨S2x8x16384x16384, .f32⟩
  | 71 => ⟨S2x16384x8x128, .bf16⟩
  | 72 => ⟨S2x8x16384x128, .bf16⟩
  | 73 => ⟨S2x8x16384x128, .f32⟩
  | 74 => ⟨S2x16384x8x128, .bf16⟩
  | 75 => ⟨S2x8x16384x128, .bf16⟩
  | 76 => ⟨S2x8x16384x128, .f32⟩
  | 77 => ⟨S2x8x16384x16384, .f32⟩
  | 78 => ⟨S_, .f32⟩
  | 79 => ⟨S_, .f32⟩
  | 80 => ⟨S2x8x16384x16384, .f32⟩
  | 81 => ⟨S2x8x16384x16384, .f32⟩
  | 82 => ⟨S_, .f32⟩
  | 83 => ⟨S2x8x16384, .f32⟩
  | 84 => ⟨S2x8x16384x1, .f32⟩
  | 85 => ⟨S2x8x16384x16384, .f32⟩
  | 86 => ⟨S2x8x16384x16384, .f32⟩
  | 87 => ⟨S_, .f32⟩
  | 88 => ⟨S2x8x16384x16384, .f32⟩
  | 89 => ⟨S2x8x16384x16384, .f32⟩
  | 90 => ⟨S_, .f32⟩
  | 91 => ⟨S2x8x16384, .f32⟩
  | 92 => ⟨S2x8x16384x1, .f32⟩
  | 93 => ⟨S2x8x16384x16384, .f32⟩
  | 94 => ⟨S2x8x16384x16384, .f32⟩
  | 95 => ⟨S2x8x16384x16384, .f32⟩
  | 96 => ⟨S2x8x16384x16384, .f32⟩
  | 97 => ⟨S2x8x16384x16384, .f32⟩
  | 98 => ⟨S2x8x16384x128, .f32⟩
  | 99 => ⟨S2x8x16384x128, .f32⟩
  | 100 => ⟨S_, .f32⟩
  | 101 => ⟨S2x8x16384, .f32⟩
  | 102 => ⟨S2x8x16384x1, .f32⟩
  | 103 => ⟨S_, .f32⟩
  | 104 => ⟨S2x8x16384x1, .f32⟩
  | 105 => ⟨S2x8x16384x1, .f32⟩
  | 106 => ⟨S_, .f32⟩
  | 107 => ⟨S2x8x16384x1, .f32⟩
  | 108 => ⟨S2x8x16384x1, .f32⟩
  | 109 => ⟨S2x8x16384x1, .f32⟩
  | 110 => ⟨S2x8x16384x128, .f32⟩
  | 111 => ⟨S2x8x16384x128, .f32⟩
  | 112 => ⟨S1x1x1x128, .f32⟩
  | 113 => ⟨S2x8x16384x128, .f32⟩
  | 114 => ⟨S2x8x16384x128, .f32⟩
  | 115 => ⟨S_, .f32⟩
  | 116 => ⟨S2x8x16384x128, .f32⟩
  | 117 => ⟨S2x8x16384x128, .f32⟩
  | 118 => ⟨S2x16384x8x128, .f32⟩
  | 119 => ⟨S32768x1024, .f32⟩
  | 120 => ⟨S32768x1024, .f32⟩
  | 121 => ⟨S32768x1024, .f32⟩
  | 122 => ⟨S_, .f32⟩
  | 123 => ⟨S32768x1024, .f32⟩
  | 124 => ⟨S32768x1024, .f32⟩
  | 125 => ⟨S_, .f32⟩
  | 126 => ⟨S32768x1024, .f32⟩
  | 127 => ⟨S32768x1024, .f32⟩
  | _ => ⟨S256, .i32⟩

abbrev hbmTy0_1 (i : Nat) : BufTy := match i % 128 with
  | 0 => ⟨S32768x1024, .f32⟩
  | 1 => ⟨S32768x1024, .f32⟩
  | 2 => ⟨S32768x1024, .bf16⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_call1_v0 : Ref sig .tc := ⟨.hbm, 79, rfl⟩
abbrev main_call1_v1 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Proof.Words.lean ====
/- The word arithmetic of the attention call: where a step of its loop reads the keys and the values, as natural numbers,
   for a start word `s ≤ a` at the pair of query blocks `a`. -/
module

public import proofs.«01_k».proof.Proof.Gen.KernelIdeal.Points

@[expose] public section

set_option maxRecDepth 16384

noncomputable section

namespace Cert.Fox

open Idealize.ShloMosaic Idealize.ShloMosaic.TcCoe
open Cert.KernelIdeal Cert.KernelIdeal.Gen

/-- Grid coordinates with the pair of query blocks `a` and the first batch and head. -/
def pairAt (a : Fin 16) : grid0.Coords := fun j => match j with
  | ⟨0, _⟩ => (0 : Fin 2)
  | ⟨1, _⟩ => (0 : Fin 16)
  | ⟨2, _⟩ => a

set_option maxHeartbeats 4000000 in
/-- The loads of the loop are in bounds, checked for every pair of query block and start. -/
theorem chk_pairAt : ∀ a s : Fin 16, s ≤ a → k0_chk1 (pairAt a) (BitVec.ofNat 32 s.val) := by
  decide +kernel

/-- The loads of the loop are in bounds at a grid point whose start is at or before its own pair. -/
theorem chk_of_le (i : grid0.Coords) (s : Fin 16) (h : s.val ≤ (i 2).val) : k0_chk1 i (BitVec.ofNat 32 s.val) :=
  chk_pairAt (i 2) s h

/-- The number of trips of the loop, checked for every pair of query block and start. -/
theorem trips_pairAt : ∀ a s : Fin 16, s ≤ a → (k0_t1_loop (pairAt a) (BitVec.ofNat 32 s.val)).trips = a.val - s.val := by
  decide +kernel

/-- The second loop has no trips, checked for every pair of query block and start. -/
theorem trips2_pairAt : ∀ a s : Fin 16, s ≤ a → (k0_t2_loop (pairAt a) (BitVec.ofNat 32 s.val)).trips = 0 := by
  decide +kernel

/-- The number of trips of the loop at a grid point. -/
theorem trips_eq (i : grid0.Coords) (s : Fin 16) (h : s.val ≤ (i 2).val) :
    (k0_t1_loop i (BitVec.ofNat 32 s.val)).trips = (i 2).val - s.val :=
  trips_pairAt (i 2) s h

/-- The second loop has no trips at a grid point. -/
theorem trips2_eq (i : grid0.Coords) (s : Fin 16) (h : s.val ≤ (i 2).val) :
    (k0_t2_loop i (BitVec.ofNat 32 s.val)).trips = 0 :=
  trips2_pairAt (i 2) s h

/-- The key blocks that a trip reads, checked for every pair of query block and start. -/
theorem off3_pairAt : ∀ a s : Fin 16, s ≤ a → ∀ k : Fin (k0_t1_loop (pairAt a) (BitVec.ofNat 32 s.val)).trips,
    k0_off3 (pairAt a) (BitVec.ofNat 32 s.val) k 1#32 = ![512 * (2 * (s.val + k.val) + 1), 0]
    ∧ k0_off3 (pairAt a) (BitVec.ofNat 32 s.val) k 2#32 = ![512 * (2 * (s.val + k.val) + 2), 0]
    ∧ k0_off4 (pairAt a) (BitVec.ofNat 32 s.val) k = ![512 * (2 * (s.val + k.val)), 0]
    ∧ k0_off5 (pairAt a) (BitVec.ofNat 32 s.val) k = ![512 * (2 * (s.val + k.val) + 1), 0] := by
  decide +kernel

/-- The key blocks that a trip reads, at a grid point. -/
theorem off_loop (i : grid0.Coords) (s : Fin 16) (h : s.val ≤ (i 2).val) (k : Fin (k0_t1_loop i (BitVec.ofNat 32 s.val)).trips) :
    k0_off3 i (BitVec.ofNat 32 s.val) k 1#32 = ![512 * (2 * (s.val + k.val) + 1), 0]
    ∧ k0_off3 i (BitVec.ofNat 32 s.val) k 2#32 = ![512 * (2 * (s.val + k.val) + 2), 0]
    ∧ k0_off4 i (BitVec.ofNat 32 s.val) k = ![512 * (2 * (s.val + k.val)), 0]
    ∧ k0_off5 i (BitVec.ofNat 32 s.val) k = ![512 * (2 * (s.val + k.val) + 1), 0] :=
  off3_pairAt (i 2) s h k

/-- The key block read before the loop. -/
theorem off2_eq : ∀ s : Fin 16, k0_off2 (BitVec.ofNat 32 s.val) = ![512 * (2 * s.val), 0] := by
  decide +kernel

/-- The key blocks read after the loop, checked for every query block. -/
theorem off_last_pairAt : ∀ a : Fin 16, k0_off9 (pairAt a) = ![512 * (2 * a.val + 1), 0]
    ∧ k0_off10 (pairAt a) = ![512 * (2 * a.val), 0] ∧ k0_off11 (pairAt a) = ![512 * (2 * a.val + 1), 0] := by
  decide +kernel

/-- The key blocks read after the loop, at a grid point. -/
theorem off_last (i : grid0.Coords) : k0_off9 i = ![512 * (2 * (i 2).val + 1), 0]
    ∧ k0_off10 i = ![512 * (2 * (i 2).val), 0] ∧ k0_off11 i = ![512 * (2 * (i 2).val + 1), 0] :=
  off_last_pairAt (i 2)

/-- The entry of the start table that a grid point reads. -/
theorem off1_eq (i : grid0.Coords) : k0_off1 i = ![((i 0).val * 16 + (i 1).val) * 16 + (i 2).val] := by
  have h : ∀ (a : Fin 2) (b c : Fin 16), k0_off1 (fun j => match j with
      | ⟨0, _⟩ => a | ⟨1, _⟩ => b | ⟨2, _⟩ => c) = ![(a.val * 16 + b.val) * 16 + c.val] := by
    decide +kernel
  exact h (i 0) (i 1) (i 2)

end Cert.Fox

end
-- ==== Proof.Steps.lean ====
/- The attention call's body as functions of whole blocks: the scores of a block of keys, one step of the running maximum
   and of the running numerator and denominator, and what one trip of its loop makes of its four scratch buffers. -/
module

public import proofs.«01_k».proof.Proof.Gen.KernelIdeal.Loops
public import proofs.«01_k».proof.Proof.Words
public import Idealize.ShloMosaic.Lib.WholeRead
public import Idealize.ShloMosaic.Lib.WritesUnit
public import Idealize.ShloMosaic.Lib.Pipeline.ReadBack
public import Idealize.ShloMosaic.Lib.ValueIdxCore

@[expose] public section

set_option maxRecDepth 16384

noncomputable section

namespace Cert.Fox

open Idealize.ShloMosaic Idealize.ShloMosaic.TcCoe
open Idealize.ShloMosaic.ValueIdx
open Cert.KernelIdeal Cert.KernelIdeal.Gen

variable {F : FTy → Type} [FloatOps F]

/-- Rows `512 n` to `512 n + 511` of a block of `R` rows. -/
def rows {R C : ℕ} [NeZero R] {e : EltTy} (x : Vec F (⟨2, ![R, C]⟩ : Shape) e) (n : ℕ) : Vec F (⟨2, ![512, C]⟩ : Shape) e :=
  fun j => x (ix2 (Fin.ofNat R (512 * n + (j 0).val)) (j 1))

/-- The scores of 512 queries against 512 keys. -/
def score (q k : Vec F S512x256 .bf16) : Vec F S1x512x512 .f32 := k0_pay85 q k

/-- A score block, flat. -/
def flat (s : Vec F S1x512x512 .f32) : FVec F S512x512 .f32 := shapeCast S512x512 s shapeCasts_S1x512x512_S512x512

/-- A score block, flat, with the keys after the query set to minus infinity. -/
def masked (s : Vec F S1x512x512 .f32) : FVec F S512x512 .f32 :=
  select k0_pay84 (flat s) (broadcast S512x512 (Scalar.ofBits .f32 0xFF800000#32))

/-- The four chunks of 128 columns of a score block. -/
def chunk0 (t : FVec F S512x512 .f32) : FVec F S512x128 .f32 := extractStridedSlice S512x128 ![0, 0] t slices_S512x512_o0_0_S512x128
@[inherit_doc chunk0] def chunk1 (t : FVec F S512x512 .f32) : FVec F S512x128 .f32 := extractStridedSlice S512x128 ![0, 128] t slices_S512x512_o0_128_S512x128
@[inherit_doc chunk0] def chunk2 (t : FVec F S512x512 .f32) : FVec F S512x128 .f32 := extractStridedSlice S512x128 ![0, 256] t slices_S512x512_o0_256_S512x128
@[inherit_doc chunk0] def chunk3 (t : FVec F S512x512 .f32) : FVec F S512x128 .f32 := extractStridedSlice S512x128 ![0, 384] t slices_S512x512_o0_384_S512x128

/-- The running maximum, without its leading axis of one. -/
def flatM (m : Vec F S1x512x128 .f32) : FVec F S512x128 .f32 := shapeCast S512x128 m shapeCasts_S1x512x128_S512x128

/-- The maximum of each row of a score block, over 128 equal columns. -/
def rowMax (t : FVec F S512x512 .f32) : FVec F S512x128 .f32 :=
  broadcastTo S512x128 (shapeCast S512x1 (multiReduction .maximumf [1] S512
    (maximumf (maximumf (maximumf (chunk0 t) (chunk1 t)) (chunk2 t)) (chunk3 t)) 0xFF800000#32 reduces_S512x128_S512 (.inl rfl) rfl)
    shapeCasts_S512_S512x1) broadcasts_S512x1_S512x128

/-- The running maximum after one more block. -/
def newMax (t : FVec F S512x512 .f32) (m : Vec F S1x512x128 .f32) : FVec F S512x128 .f32 := maximumf (flatM m) (rowMax t)

/-- The weights of a score block: powers of two of the score less the new maximum. -/
def weights (t : FVec F S512x512 .f32) (n : FVec F S512x128 .f32) : FVec F S512x512 .bf16 :=
  truncf .bf16 (concatenate S512x512 1 [⟨S512x128, exp2 (subf (chunk0 t) n)⟩, ⟨S512x128, exp2 (subf (chunk1 t) n)⟩,
    ⟨S512x128, exp2 (subf (chunk2 t) n)⟩, ⟨S512x128, exp2 (subf (chunk3 t) n)⟩]
    concatenates_S512x128_S512x128_S512x128_S512x128_S512x512_d1) bitsLt_bf16_f32

/-- The values with 128 columns of ones beside them. -/
def withOnes (v : Vec F S512x128 .bf16) : FVec F S512x256 .bf16 :=
  concatenate S512x256 1 [⟨S512x128, v⟩, ⟨S512x128, broadcast S512x128 (Scalar.ofBits .bf16 0x3F80#16 : F .bf16)⟩]
    concatenates_S512x128_S512x128_S512x256_d1

/-- The factor which takes the old numerator and denominator to the new maximum. -/
def rescale (m : Vec F S1x512x128 .f32) (n : FVec F S512x128 .f32) : FVec F S512x256 .f32 :=
  concatenate S512x256 1 [⟨S512x128, exp2 (subf (flatM m) n)⟩, ⟨S512x128, exp2 (subf (flatM m) n)⟩]
    concatenates_S512x128_S512x128_S512x256_d1

/-- The running numerator and denominator after one more block. -/
def newAcc (t : FVec F S512x512 .f32) (v : Vec F S512x128 .bf16) (m : Vec F S1x512x128 .f32) (a : Vec F S1x512x256 .f32) :
    Vec F S1x512x256 .f32 :=
  shapeCast S1x512x256 (addf (mulf (rescale m (newMax t m)) (shapeCast S512x256 a shapeCasts_S1x512x256_S512x256))
    (matmul dot_S512x512_S512x256_S512x256_1_0_0_1_n_n none (weights t (newMax t m)) (withOnes v) (constant S512x256 .f32 0x00000000#32)))
    shapeCasts_S512x256_S1x512x256

/-- The running maximum after one more block, with its leading axis of one. -/
def newM (t : FVec F S512x512 .f32) (m : Vec F S1x512x128 .f32) : Vec F S1x512x128 .f32 :=
  shapeCast S1x512x128 (newMax t m) shapeCasts_S512x128_S1x512x128

/-- The body's scratch buffers between two trips: the running maxima `m0`, `m1` and accumulators `a0`, `a1` of the two
    halves of the query block, and the scores `s0`, `s1` the next trip begins with. -/
structure St (F : FTy → Type) [FloatOps F] where
  m0 : Vec F S1x512x128 .f32
  m1 : Vec F S1x512x128 .f32
  a0 : Vec F S1x512x256 .f32
  a1 : Vec F S1x512x256 .f32
  s0 : Vec F S1x512x512 .f32
  s1 : Vec F S1x512x512 .f32

variable (x0 : Vec F S1024x256 .bf16) (x1 : Vec F S16384x256 .bf16) (x2 : Vec F S16384x128 .bf16)

/-- The scratch buffers before the first trip, from the block of keys `n`. -/
def st0 (n : ℕ) : St F where
  m0 := fun _ => Scalar.ofBits .f32 0xFF800000#32
  m1 := fun _ => Scalar.ofBits .f32 0xFF800000#32
  a0 := fun _ => Scalar.ofBits .f32 0x00000000#32
  a1 := fun _ => Scalar.ofBits .f32 0x00000000#32
  s0 := score (rows x0 0) (rows x1 n)
  s1 := score (rows x0 1) (rows x1 n)

/-- One trip: the scores it finds (block `n`) with the values of block `n`, then those of block `n + 1`; the scores of
    block `n + 2` are left for the next trip. -/
def stepSt (st : St F) (n : ℕ) : St F where
  m0 := newM (flat (score (rows x0 0) (rows x1 (n + 1)))) (newM (flat st.s0) st.m0)
  m1 := newM (flat (score (rows x0 1) (rows x1 (n + 1)))) (newM (flat st.s1) st.m1)
  a0 := newAcc (flat (score (rows x0 0) (rows x1 (n + 1)))) (rows x2 (n + 1)) (newM (flat st.s0) st.m0)
    (newAcc (flat st.s0) (rows x2 n) st.m0 st.a0)
  a1 := newAcc (flat (score (rows x0 1) (rows x1 (n + 1)))) (rows x2 (n + 1)) (newM (flat st.s1) st.m1)
    (newAcc (flat st.s1) (rows x2 n) st.m1 st.a1)
  s0 := score (rows x0 0) (rows x1 (n + 2))
  s1 := score (rows x0 1) (rows x1 (n + 2))

/-- `k` trips from the state `st`, the first at the block of keys `2 s`. -/
def stepK (s : ℕ) (st : St F) : ℕ → St F
  | 0 => st
  | k + 1 => stepSt x0 x1 x2 (stepK s st k) (2 * (s + k))

/-- The scratch buffers after `k` trips from the block of keys `2 s`. -/
def stAt (s k : ℕ) : St F := stepK x0 x1 x2 s (st0 x0 x1 (2 * s)) k

/-! ### Reading a buffer after a list of writes -/

section Reads

variable {sig : RefSig} {κ : Kind} {sp : Space} {s : Shape} {e : EltTy}

/-- A load of what was just stored reads what was stored. -/
theorem readAt_writes_same (v : View sig κ sp s e) (f : v.ty.Contents (Elt F)) (r : Rect s) (w : r.shape.Idx → Elt F e)
    (L : List (View.Piece (Elt F) s e)) : v.readAt (Elt F) r.toLoadRect (v.writes (Elt F) f (⟨r, w⟩ :: L)) = w := by
  rw [View.readAt_writes_of_cover v f _ _ (fun j => ⟨_, List.mem_cons_self, r.toLoadRect.idx_mem j⟩)]
  exact View.readCov_cons_toLoadRect v r w L

end Reads

/-- A load of 512 rows of a whole buffer. -/
theorem read_rows {R C : ℕ} [NeZero R] {e : EltTy} {sp : Space} (a : Memref sig .tc sp (⟨2, ![R, C]⟩ : Shape) e) (h : a.IsWhole)
    (x : Vec F (⟨2, ![R, C]⟩ : Shape) e) (n : ℕ) {off : Fin 2 → ℕ} (ho : off = ![512 * n, 0])
    (inb : ∀ b, off b + (![512, C] : Fin 2 → ℕ) b ≤ (![R, C] : Fin 2 → ℕ) b) :
    View.readAt (Elt F) a.view (Rect.unit (s := (⟨2, ![R, C]⟩ : Shape)) off ![512, C] inb).toLoadRect (h.unread x) = rows x n := by
  subst ho
  funext j
  rw [Memref.IsWhole.readAt_unread]
  unfold rows
  congr 1
  have h0 := inb 0
  have hj : (j 0).val < 512 := (j 0).isLt
  simp only [Matrix.cons_val_zero] at h0
  funext b
  apply Fin.ext
  fin_cases b
  · show 512 * n + 1 * (j 0).val = (512 * n + (j 0).val) % R
    rw [Nat.mod_eq_of_lt (by omega)]; omega
  · show 0 + 1 * (j 1).val = (j 1).val
    omega

end Cert.Fox
-- ==== Proof.Trip.lean ====
/- One trip of the attention call's loop, in the terms of Steps.lean. -/
module

public import proofs.«01_k».proof.Proof.Steps

@[expose] public section

set_option maxRecDepth 16384

noncomputable section

namespace Cert.Fox

open Idealize.ShloMosaic Idealize.ShloMosaic.TcCoe
open Idealize.ShloMosaic.ValueIdx
open Cert.KernelIdeal Cert.KernelIdeal.Gen

variable {F : FTy → Type} [FloatOps F]

/-- The two halves of a scratch buffer. -/
abbrev hm0 : Rect S2x512x128 := Rect.unit ![0, 0, 0] S1x512x128.size inb_S2x512x128_S1x512x128_0_0_0
@[inherit_doc hm0] abbrev hm1 : Rect S2x512x128 := Rect.unit ![1, 0, 0] S1x512x128.size inb_S2x512x128_S1x512x128_1_0_0
@[inherit_doc hm0] abbrev ha0 : Rect S2x512x256 := Rect.unit ![0, 0, 0] S1x512x256.size inb_S2x512x256_S1x512x256_0_0_0
@[inherit_doc hm0] abbrev ha1 : Rect S2x512x256 := Rect.unit ![1, 0, 0] S1x512x256.size inb_S2x512x256_S1x512x256_1_0_0
@[inherit_doc hm0] abbrev hs0 : Rect S2x512x512 := Rect.unit ![0, 0, 0] S1x512x512.size inb_S2x512x512_S1x512x512_0_0_0
@[inherit_doc hm0] abbrev hs1 : Rect S2x512x512 := Rect.unit ![1, 0, 0] S1x512x512.size inb_S2x512x512_S1x512x512_1_0_0

/-- The three scratch buffers a trip begins with hold the state `st`. -/
structure Holds (arg9 : Memref sig .tc .vmem S2x512x128 .f32) (arg10 : Memref sig .tc .vmem S2x512x256 .f32)
    (arg11 : Memref sig .tc .vmem S2x512x512 .f32) (st : St F) (f9 : BufTy.Contents (Elt F) arg9.view.ty)
    (f10 : BufTy.Contents (Elt F) arg10.view.ty) (f11 : BufTy.Contents (Elt F) arg11.view.ty) : Prop where
  m0 : arg9.view.readAt (Elt F) hm0.toLoadRect f9 = st.m0
  m1 : arg9.view.readAt (Elt F) hm1.toLoadRect f9 = st.m1
  a0 : arg10.view.readAt (Elt F) ha0.toLoadRect f10 = st.a0
  a1 : arg10.view.readAt (Elt F) ha1.toLoadRect f10 = st.a1
  s0 : arg11.view.readAt (Elt F) hs0.toLoadRect f11 = st.s0
  s1 : arg11.view.readAt (Elt F) hs1.toLoadRect f11 = st.s1

/-- A load of one half after a store to the other reads the earlier writes. -/
theorem readAt_writes_other {sig : RefSig} {κ : Kind} {sp : Space} {s : Shape} {e : EltTy} (v : View sig κ sp s e)
    (f : v.ty.Contents (Elt F)) (r : Rect s) (w : r.shape.Idx → Elt F e) (L : List (View.Piece (Elt F) s e)) (B : LoadRect s)
    (h : LoadRect.disj r B = true) :
    v.readAt (Elt F) B (v.writes (Elt F) f (⟨r, w⟩ :: L)) = v.readAt (Elt F) B (v.writes (Elt F) f L) := by
  funext j
  rw [View.readAt_apply, View.readAt_apply, View.writes_cons]
  exact View.read_slice_write_of_not_mem r _ _ _ (by rw [Rect.map_emb_univ]; exact LoadRect.idx_not_mem_of_disj h j)

/-- The two halves of a scratch buffer do not meet. -/
theorem disj_m10 : LoadRect.disj hm1 hm0.toLoadRect = true := by decide
theorem disj_m01 : LoadRect.disj hm0 hm1.toLoadRect = true := by decide
theorem disj_a10 : LoadRect.disj ha1 ha0.toLoadRect = true := by decide
theorem disj_a01 : LoadRect.disj ha0 ha1.toLoadRect = true := by decide
theorem disj_s10 : LoadRect.disj hs1 hs0.toLoadRect = true := by decide
theorem disj_s01 : LoadRect.disj hs0 hs1.toLoadRect = true := by decide

section

variable (x0 : Vec F S1024x256 .bf16) (x1 : Vec F S16384x256 .bf16) (x2 : Vec F S16384x128 .bf16)
variable (𝒱 : Variants) (c : Dev nD) (bd : Option 𝒱.V) (i : grid0.Coords) (arg3 : Memref sig .tc .smem S512 .i32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S2x512x128 .f32) (harg9 : arg9.IsWhole) (arg10 : Memref sig .tc .vmem S2x512x256 .f32) (harg10 : arg10.IsWhole) (arg11 : Memref sig .tc .vmem S2x512x512 .f32) (harg11 : arg11.IsWhole) (arg12 : Memref sig .tc .vmem S2x512x512 .f32) (harg12 : arg12.IsWhole)
  (arg2 : BitVec 32) (s : Fin 16) (hs : s.val ≤ (i 2).val) (hw : k0_chk1 i (BitVec.ofNat 32 s.val)) (v17 : BitVec 32) (v29 : BitVec 32)
  (k : Fin (k0_t1_loop i (BitVec.ofNat 32 s.val)).trips)

include hs in
/-- One trip takes the state `st` to `stepSt`. -/
theorem trip_holds (st : St F) (f9 : BufTy.Contents (Elt F) arg9.view.ty) (f10 : BufTy.Contents (Elt F) arg10.view.ty)
    (f11 : BufTy.Contents (Elt F) arg11.view.ty) (f12 : BufTy.Contents (Elt F) arg12.view.ty) (H : Holds arg9 arg10 arg11 st f9 f10 f11) :
    let T := trip_k0_t1 (F := F) 𝒱 c bd i arg3 harg3 arg4 harg4 arg5 harg5 arg6 harg6 arg7 harg7 arg8 harg8 arg9 harg9 arg10 harg10 arg11 harg11 arg12 harg12 arg2 (BitVec.ofNat 32 s.val) hw v17 v29 (harg4.unread x0) (harg5.unread x1) (harg6.unread x2) k
    Holds arg9 arg10 arg11 (stepSt x0 x1 x2 st (2 * (s.val + k.val)))
      (arg9.view.writes (Elt F) f9 (T.1 f9 f10 f11 f12)) (arg10.view.writes (Elt F) f10 (T.2.1 f9 f10 f11 f12))
      (arg11.view.writes (Elt F) f11 (T.2.2.1 f9 f10 f11 f12)) := by
  obtain ⟨o1, o2, o3, o4⟩ := off_loop i s hs k
  have q0 : View.readAt (Elt F) arg4.view (Rect.unit (s := S1024x256) ![0, 0] S512x256.size inb_S1024x256_S512x256_0_0).toLoadRect (harg4.unread x0) = rows x0 0 :=
    read_rows arg4 harg4 x0 0 rfl _
  have q1 : View.readAt (Elt F) arg4.view (Rect.unit (s := S1024x256) ![512, 0] S512x256.size inb_S1024x256_S512x256_512_0).toLoadRect (harg4.unread x0) = rows x0 1 :=
    read_rows arg4 harg4 x0 1 rfl _
  have k1 := fun inb => read_rows arg5 harg5 x1 (2 * (s.val + k.val) + 1) o1 inb
  have k2 := fun inb => read_rows arg5 harg5 x1 (2 * (s.val + k.val) + 2) o2 inb
  have w0 := fun inb => read_rows arg6 harg6 x2 (2 * (s.val + k.val)) o3 inb
  have w1 := fun inb => read_rows arg6 harg6 x2 (2 * (s.val + k.val) + 1) o4 inb
  intro T
  have hT : T = T := rfl
  unfold T trip_k0_t1
  dsimp only
  have e365 : trip_k0_t1.sl.v365 i arg4 arg5 arg12 (BitVec.ofNat 32 s.val) hw (harg4.unread x0) (harg5.unread x1) k
      = score (rows x0 0) (rows x1 (2 * (s.val + k.val) + 1)) := by
    unfold trip_k0_t1.sl.v365 trip_k0_t1.sl.HW_arg12_2
    rw [View.readCov_skip _ _ _ _ _ disj_s10, View.readCov_cons_toLoadRect, q0]
    erw [k1]
    rfl
  have e411 : trip_k0_t1.sl.v411 i arg4 arg5 arg12 (BitVec.ofNat 32 s.val) hw (harg4.unread x0) (harg5.unread x1) k
      = score (rows x0 1) (rows x1 (2 * (s.val + k.val) + 1)) := by
    unfold trip_k0_t1.sl.v411 trip_k0_t1.sl.HW_arg12_2
    rw [View.readCov_cons_toLoadRect, q1]
    erw [k1]
    rfl
  have e377 : trip_k0_t1.sl.v377 arg9 arg11 f9 f11 = newM (flat st.s0) st.m0 := by
    unfold trip_k0_t1.sl.v377 trip_k0_t1.sl.HW_arg9_2
    rw [View.readCov_skip _ _ _ _ _ disj_m10, View.readCov_cons_toLoadRect]
    unfold trip_k0_t1.sl.r_1 trip_k0_t1.sl.r_2 trip_k0_t1.sl.r_3 trip_k0_t1.sl.r_4
    rw [H.m0, H.s0]
    rfl
  have e400 : trip_k0_t1.sl.v400 i arg6 arg9 arg10 arg11 (BitVec.ofNat 32 s.val) hw (harg6.unread x2) k f9 f10 f11
      = newAcc (flat st.s0) (rows x2 (2 * (s.val + k.val))) st.m0 st.a0 := by
    unfold trip_k0_t1.sl.v400 trip_k0_t1.sl.HW_arg10_2
    rw [View.readCov_skip _ _ _ _ _ disj_a10, View.readCov_cons_toLoadRect]
    unfold trip_k0_t1.sl.r trip_k0_t1.sl.r_1 trip_k0_t1.sl.r_2 trip_k0_t1.sl.r_3 trip_k0_t1.sl.r_4
    rw [H.m0, H.s0, H.a0]
    erw [w0]
    rfl
  have e309 : trip_k0_t1.sl.v309 arg9 f9 = st.m1 := H.m1
  have e332 : trip_k0_t1.sl.v332 arg10 f10 = st.a1 := H.a1
  have e5 : trip_k0_t1.sl.r_5 arg11 f11 = k0_pay14 st.s1 := by
    unfold trip_k0_t1.sl.r_5; rw [H.s1]
  have e6 : trip_k0_t1.sl.r_6 i arg6 (BitVec.ofNat 32 s.val) hw (harg6.unread x2) k = rows x2 (2 * (s.val + k.val)) := w0 _
  have e423 : trip_k0_t1.sl.v423 i arg4 arg5 arg9 arg11 arg12 (BitVec.ofNat 32 s.val) hw (harg4.unread x0) (harg5.unread x1) k f9 f11
      = newM (flat st.s1) st.m1 := by
    unfold trip_k0_t1.sl.v423 trip_k0_t1.sl.HW_arg9_3 trip_k0_t1.sl.HW_arg9_2
    rw [View.readCov_skip _ _ _ _ _ disj_m01, View.readCov_cons_toLoadRect, e309, e5]
    rfl
  have e446 : trip_k0_t1.sl.v446 i arg4 arg5 arg6 arg9 arg10 arg11 arg12 (BitVec.ofNat 32 s.val) hw (harg4.unread x0) (harg5.unread x1) (harg6.unread x2) k f9 f10 f11
      = newAcc (flat st.s1) (rows x2 (2 * (s.val + k.val))) st.m1 st.a1 := by
    unfold trip_k0_t1.sl.v446 trip_k0_t1.sl.HW_arg10_3 trip_k0_t1.sl.HW_arg10_2
    rw [View.readCov_skip _ _ _ _ _ disj_a01, View.readCov_cons_toLoadRect, e309, e5, e332, e6]
    rfl
  constructor
  · rw [readAt_writes_other _ _ _ _ _ _ disj_m10]
    unfold trip_k0_t1.sl.HW_arg9_3
    rw [readAt_writes_same]
    unfold trip_k0_t1.sl.r_11 trip_k0_t1.sl.r_12 trip_k0_t1.sl.r_13
    rw [e365, e377]
    rfl
  · rw [readAt_writes_same]
    unfold trip_k0_t1.sl.r_15 trip_k0_t1.sl.r_16 trip_k0_t1.sl.r_17 trip_k0_t1.sl.r_18
    rw [e411, e423]
    rfl
  · rw [readAt_writes_other _ _ _ _ _ _ disj_a10]
    unfold trip_k0_t1.sl.HW_arg10_3
    rw [readAt_writes_same]
    unfold trip_k0_t1.sl.r_7 trip_k0_t1.sl.r_8 trip_k0_t1.sl.r_9 trip_k0_t1.sl.r_10 trip_k0_t1.sl.r_11 trip_k0_t1.sl.r_12 trip_k0_t1.sl.r_13
    rw [e365, e377, e400]
    erw [w1]
    rfl
  · rw [readAt_writes_same]
    unfold trip_k0_t1.sl.r_14 trip_k0_t1.sl.r_15 trip_k0_t1.sl.r_16 trip_k0_t1.sl.r_17 trip_k0_t1.sl.r_18
    rw [e411, e423, e446]
    erw [w1]
    rfl
  · rw [readAt_writes_other _ _ _ _ _ _ disj_s10, readAt_writes_same, q0]
    erw [k2]
    rfl
  · rw [readAt_writes_same, q1]
    erw [k2]
    rfl

end

/-- The state three scratch buffers hold. -/
def getSt (arg9 : Memref sig .tc .vmem S2x512x128 .f32) (arg10 : Memref sig .tc .vmem S2x512x256 .f32)
    (arg11 : Memref sig .tc .vmem S2x512x512 .f32) (f9 : BufTy.Contents (Elt F) arg9.view.ty)
    (f10 : BufTy.Contents (Elt F) arg10.view.ty) (f11 : BufTy.Contents (Elt F) arg11.view.ty) : St F where
  m0 := arg9.view.readAt (Elt F) hm0.toLoadRect f9
  m1 := arg9.view.readAt (Elt F) hm1.toLoadRect f9
  a0 := arg10.view.readAt (Elt F) ha0.toLoadRect f10
  a1 := arg10.view.readAt (Elt F) ha1.toLoadRect f10
  s0 := arg11.view.readAt (Elt F) hs0.toLoadRect f11
  s1 := arg11.view.readAt (Elt F) hs1.toLoadRect f11

/-- The state that the buffers hold is the one read off them. -/
theorem Holds.eq {arg9 : Memref sig .tc .vmem S2x512x128 .f32} {arg10 : Memref sig .tc .vmem S2x512x256 .f32}
    {arg11 : Memref sig .tc .vmem S2x512x512 .f32} {f9 : BufTy.Contents (Elt F) arg9.view.ty}
    {f10 : BufTy.Contents (Elt F) arg10.view.ty} {f11 : BufTy.Contents (Elt F) arg11.view.ty} {st : St F}
    (H : Holds arg9 arg10 arg11 st f9 f10 f11) : getSt arg9 arg10 arg11 f9 f10 f11 = st := by
  obtain ⟨h1, h2, h3, h4, h5, h6⟩ := H
  unfold getSt
  rw [h1, h2, h3, h4, h5, h6]

end Cert.Fox
-- ==== Proof.Body.lean ====
/- The attention call's body, run once at any block and any value type: its loop by the invariant that the scratch buffers
   hold the state of Steps.lean, and what it leaves in its output block. -/
module

public import proofs.«01_k».proof.Proof.Trip
public import proofs.«01_k».proof.Proof.Gen.KernelIdeal.Frame.Runs

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

section Loop

variable (x0 : Vec F S1024x256 .bf16) (x1 : Vec F S16384x256 .bf16) (x2 : Vec F S16384x128 .bf16)
variable (𝒱 : Variants) (c : Dev nD) (bd : Option 𝒱.V) (E : Set ℕ) (i : grid0.Coords) (arg3 : Memref sig .tc .smem S512 .i32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S2x512x128 .f32) (harg9 : arg9.IsWhole) (arg10 : Memref sig .tc .vmem S2x512x256 .f32) (harg10 : arg10.IsWhole) (arg11 : Memref sig .tc .vmem S2x512x512 .f32) (harg11 : arg11.IsWhole) (arg12 : Memref sig .tc .vmem S2x512x512 .f32) (harg12 : arg12.IsWhole)
  (arg2 : BitVec 32) (v5 : Elt F .i32) (hw : k0_chk1 i v5) (v17 : BitVec 32) (v29 : BitVec 32)

/-- What the loop holds before its trip `k`: the three blocks it reads, and in its scratch buffers the state `k` trips make of
    the one it began with. -/
abbrev loopHolds (s : ℕ) (G9 : BufTy.Contents (Elt F) arg9.view.ty) (G10 : BufTy.Contents (Elt F) arg10.view.ty)
    (G11 : BufTy.Contents (Elt F) arg11.view.ty) (k : ℕ) (_u : PUnit) : sProp 𝕄 :=
  iprop((arg4.view.loc (c : Thread nD τ) ↦[arg4.view.set]{fullShare} harg4.unread x0)
    ∗ (arg5.view.loc (c : Thread nD τ) ↦[arg5.view.set]{fullShare} harg5.unread x1)
    ∗ (arg6.view.loc (c : Thread nD τ) ↦[arg6.view.set]{fullShare} harg6.unread x2)
    ∗ (∃ f9 f10 f11, (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ ⌜getSt arg9 arg10 arg11 f9 f10 f11 = stepK x0 x1 x2 s (getSt arg9 arg10 arg11 G9 G10 G11) k⌝)
    ∗ (∃ f12, (arg12.view.loc (c : Thread nD τ) ↦[arg12.view.set]{fullShare} f12)))

set_option warn.classDefReducibility false in
/-- The loop by that invariant. -/
def foxLoop (s : Fin 16) (hs : s.val ≤ (i 2).val) (hv : v5 = BitVec.ofNat 32 s.val)
    (G9 : BufTy.Contents (Elt F) arg9.view.ty) (G10 : BufTy.Contents (Elt F) arg10.view.ty) (G11 : BufTy.Contents (Elt F) arg11.view.ty) :
    LoopInv (M := MT nD τ sig Unit (Elt F) ℕ (UR sig nD τ) ℕ) Idealize.ShloMosaic.frame (wpE (defs₀ (F := F)) 𝒱 (c : Thread nD τ) bd) E
      (k0_t1_loop i v5).lb (k0_t1_loop i v5).ub (k0_t1_loop i v5).st (k0_t1_ok i v5 hw) () (k0_t1_body (F := F) i arg3 harg3 arg4 harg4 arg5 harg5 arg6 harg6 arg7 harg7 arg8 harg8 arg9 harg9 arg10 harg10 arg11 harg11 arg12 harg12 arg2 v5 hw v17 v29) where
  inv := loopHolds x0 x1 x2 c arg4 harg4 arg5 harg5 arg6 harg6 arg9 arg10 arg11 arg12 s.val G9 G10 G11
  step k acc := by
    subst hv
    iintro ⟨H4, H5, H6, ⟨%f9, %f10, %f11, H9, H10, H11, %h⟩, ⟨%f12, H12⟩⟩
    iapply (wp_wand_r Idealize.ShloMosaic.frame (wpE (defs₀ (F := F)) 𝒱 (c : Thread nD τ) bd) E)
    isplitl [H4 H5 H6 H9 H10 H11 H12]
    · iapply ((trip_k0_t1 (F := F) 𝒱 c bd i arg3 harg3 arg4 harg4 arg5 harg5 arg6 harg6 arg7 harg7 arg8 harg8 arg9 harg9 arg10 harg10 arg11 harg11 arg12 harg12 arg2 (BitVec.ofNat 32 s.val) hw v17 v29 (harg4.unread x0) (harg5.unread x1) (harg6.unread x2) k).2.2.2.2 E f9 f10 f11 f12)
      isplitl [H4]; · iexact H4
      isplitl [H5]; · iexact H5
      isplitl [H6]; · iexact H6
      isplitl [H9]; · iexact H9
      isplitl [H10]; · iexact H10
      isplitl [H11]; · iexact H11
      iexact H12
    · iintro %_ ⟨H4, H5, H6, H9, H10, H11, H12⟩
      isplitl [H4]; · iexact H4
      isplitl [H5]; · iexact H5
      isplitl [H6]; · iexact H6
      isplitl [H9 H10 H11]
      · iexists _, _, _
        isplitl [H9]; · iexact H9
        isplitl [H10]; · iexact H10
        isplitl [H11]; · iexact H11
        ipureintro
        exact (trip_holds x0 x1 x2 𝒱 c bd i arg3 harg3 arg4 harg4 arg5 harg5 arg6 harg6 arg7 harg7 arg8 harg8 arg9 harg9 arg10 harg10 arg11 harg11 arg12 harg12 arg2 s hs hw v17 v29 k _ f9 f10 f11 f12 (by rw [← h]; exact ⟨rfl, rfl, rfl, rfl, rfl, rfl⟩)).eq
      iexists _; iexact H12

end Loop

/-! ### After the loop -/

section Tail

variable (x0 : Vec F S1024x256 .bf16) (x1 : Vec F S16384x256 .bf16) (x2 : Vec F S16384x128 .bf16) (x3 : Vec F S1024x128 .bf16)

/-- The first 512 rows' numerator and denominator at the end: the diagonal block of keys `2 a`, masked. -/
def fin0 (a : ℕ) (st : St F) : Vec F S1x512x256 .f32 := newAcc (masked st.s0) (rows x2 (2 * a)) st.m0 st.a0

/-- The last 512 rows' numerator and denominator at the end: the block of keys `2 a` whole, then `2 a + 1`, masked. -/
def fin1 (a : ℕ) (st : St F) : Vec F S1x512x256 .f32 :=
  newAcc (masked (score (rows x0 1) (rows x1 (2 * a + 1)))) (rows x2 (2 * a + 1)) (newM (flat st.s1) st.m1)
    (newAcc (flat st.s1) (rows x2 (2 * a)) st.m1 st.a1)

/-- The quotient of numerator and denominator, times `z` times the logistic function of `z`. -/
def gate (a : Vec F S1x512x256 .f32) (z : Vec F S512x128 .bf16) : FVec F S512x128 .bf16 := k0_pay126 a z

/-- What the body leaves in its output block, from the state its loop ends in. -/
def outOf (a : ℕ) (st : St F) : Vec F S1024x128 .bf16 := fun j =>
  if (j 0).val < 512 then gate (fin0 x2 a st) (rows x3 0) (ix2 (Fin.ofNat 512 (j 0).val) (j 1))
  else gate (fin1 x0 x1 x2 a st) (rows x3 1) (ix2 (Fin.ofNat 512 ((j 0).val - 512)) (j 1))

/-- What the body leaves in its output block at the pair of query blocks `a`, from the start word `s`. -/
def outBlk (a s : ℕ) : Vec F S1024x128 .bf16 := outOf x0 x1 x2 x3 a (stAt x0 x1 x2 s (a - s))

end Tail

/-- The start word the body reads at grid point `i`. -/
abbrev word (c : Dev nD) (i : grid0.Coords) (xt0 : TbBuf0 (F := F) c tbM0_0) : Elt F .i32 :=
  tbM0_0.view.readAt (Elt F) (Rect.unit (s := S512) (k0_off1 i) S1.size (k0_off1_inb i)).toLoadRect xt0 (Shape.Idx.first (numel1_S1.symm ▸ Nat.one_pos))

/-- What the scratch buffers hold before the loop. -/
theorem init_st (c : Dev nD) (i : grid0.Coords) (arg4 : Memref sig .tc .vmem S1024x256 .bf16) (harg4 : arg4.IsWhole) (arg5 : Memref sig .tc .vmem S16384x256 .bf16) (harg5 : arg5.IsWhole) (arg9 : Memref sig .tc .vmem S2x512x128 .f32) (arg10 : Memref sig .tc .vmem S2x512x256 .f32) (arg11 : Memref sig .tc .vmem S2x512x512 .f32)
    (x0 : Vec F S1024x256 .bf16) (x1 : Vec F S16384x256 .bf16) (w : BitVec 32) (s : Fin 16) (hv : w = BitVec.ofNat 32 s.val) (hw : k0_chk1 i w) :
    getSt arg9 arg10 arg11
    (arg9.view.writes (Elt F) arg9.view.junk [⟨Rect.unit (s := S2x512x128) ![0, 0, 0] S2x512x128.size inb_S2x512x128_S2x512x128_0_0_0, k0_pay82 (F := F)⟩])
    (arg10.view.writes (Elt F) arg10.view.junk [⟨Rect.unit (s := S2x512x256) ![0, 0, 0] S2x512x256.size inb_S2x512x256_S2x512x256_0_0_0, k0_pay83 (F := F)⟩])
    (arg11.view.writes (Elt F) arg11.view.junk
      [⟨hs1, k0_pay86 (View.readAt (Elt F) arg4.view (Rect.unit (s := S1024x256) ![512, 0] S512x256.size inb_S1024x256_S512x256_512_0).toLoadRect (harg4.unread x0))
          (View.readAt (Elt F) arg5.view (Rect.unit (s := S16384x256) (k0_off2 w) S512x256.size (k0_off2_inb i _ hw)).toLoadRect (harg5.unread x1))⟩,
       ⟨hs0, k0_pay85 (View.readAt (Elt F) arg4.view (Rect.unit (s := S1024x256) ![0, 0] S512x256.size inb_S1024x256_S512x256_0_0).toLoadRect (harg4.unread x0))
          (View.readAt (Elt F) arg5.view (Rect.unit (s := S16384x256) (k0_off2 w) S512x256.size (k0_off2_inb i _ hw)).toLoadRect (harg5.unread x1))⟩])
    = st0 x0 x1 (2 * s.val) := by
  subst hv
  have q0 : View.readAt (Elt F) arg4.view (Rect.unit (s := S1024x256) ![0, 0] S512x256.size inb_S1024x256_S512x256_0_0).toLoadRect (harg4.unread x0) = rows x0 0 :=
    read_rows arg4 harg4 x0 0 rfl _
  have q1 : View.readAt (Elt F) arg4.view (Rect.unit (s := S1024x256) ![512, 0] S512x256.size inb_S1024x256_S512x256_512_0).toLoadRect (harg4.unread x0) = rows x0 1 :=
    read_rows arg4 harg4 x0 1 rfl _
  have k1 := fun inb => read_rows arg5 harg5 x1 (2 * s.val) (off2_eq s) inb
  apply Holds.eq
  constructor
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · rw [readAt_writes_other _ _ _ _ _ _ disj_s10, readAt_writes_same, q0]
    erw [k1]
    rfl
  · rw [readAt_writes_same, q1]
    erw [k1]
    rfl

set_option maxHeartbeats 4000000 in
/-- The body on whole memrefs, its inputs' at their contents and everything else at anything: it ends with its inputs as
    they were and `outBlk` in its output block. -/
theorem body_run (c : Dev nD) (i : grid0.Coords) (arg4 : Memref sig .tc .vmem S1024x256 .bf16) (harg4 : arg4.IsWhole) (arg5 : Memref sig .tc .vmem S16384x256 .bf16) (harg5 : arg5.IsWhole) (arg6 : Memref sig .tc .vmem S16384x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S2x512x128 .f32) (harg9 : arg9.IsWhole) (arg10 : Memref sig .tc .vmem S2x512x256 .f32) (harg10 : arg10.IsWhole) (arg11 : Memref sig .tc .vmem S2x512x512 .f32) (harg11 : arg11.IsWhole) (arg12 : Memref sig .tc .vmem S2x512x512 .f32) (harg12 : arg12.IsWhole)
    (x0 : Vec F S1024x256 .bf16) (x1 : Vec F S16384x256 .bf16) (x2 : Vec F S16384x128 .bf16) (x3 : Vec F S1024x128 .bf16) (xt0 : TbBuf0 (F := F) c tbM0_0)
    (s : Fin 16) (hs : s.val ≤ (i 2).val)
    (hv : word c i xt0 = BitVec.ofNat 32 s.val)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outBlk x0 x1 x2 x3 (i 2).val s.val) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_fox_attn i tbM0_0 htbM0_0 arg4 harg4 arg5 harg5 arg6 harg6 arg7 harg7 arg8 harg8 arg9 harg9 arg10 harg10 arg11 harg11 arg12 harg12) K := by
  have hw : k0_chk1 i (word c i xt0) := by
    rw [hv]; exact chk_of_le i s hs
  have htr : (k0_t2_loop i (word c i xt0)).trips = 0 := by
    rw [hv]; exact trips2_eq i s hs
  simp only [cc0_fox_attn_eq_skeleton]; unfold cc0_fox_attn_skel
  simp only [k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, HT0, Hk⟩
  obtain rfl := harg4.eq_unread hf0; obtain rfl := harg5.eq_unread hf1; obtain rfl := harg6.eq_unread hf2; obtain rfl := harg7.eq_unread hf3
  let L := foxLoop x0 x1 x2 Variants.none c none E i tbM0_0 htbM0_0 arg4 harg4 arg5 harg5 arg6 harg6 arg7 harg7 arg8 harg8 arg9 harg9 arg10 harg10 arg11 harg11 arg12 harg12 (BitVec.ofNat 32 (i 2).val)
    (word c i xt0) hw
    (Scalar.muli 2#32 (BitVec.ofNat 32 (i 2).val))
    (Scalar.muli (Scalar.muli 2#32 (word c i xt0)) 512#32)
    s hs hv
    (arg9.view.writes (Elt F) arg9.view.junk [⟨Rect.unit (s := S2x512x128) ![0, 0, 0] S2x512x128.size inb_S2x512x128_S2x512x128_0_0_0, k0_pay82 (F := F)⟩])
    (arg10.view.writes (Elt F) arg10.view.junk [⟨Rect.unit (s := S2x512x256) ![0, 0, 0] S2x512x256.size inb_S2x512x256_S2x512x256_0_0_0, k0_pay83 (F := F)⟩])
    (arg11.view.writes (Elt F) arg11.view.junk
      [⟨hs1, k0_pay86 (View.readAt (Elt F) arg4.view (Rect.unit (s := S1024x256) ![512, 0] S512x256.size inb_S1024x256_S512x256_512_0).toLoadRect (harg4.unread x0))
          (View.readAt (Elt F) arg5.view (Rect.unit (s := S16384x256) (k0_off2 (word c i xt0)) S512x256.size (k0_off2_inb i _ hw)).toLoadRect (harg5.unread x1))⟩,
       ⟨hs0, k0_pay85 (View.readAt (Elt F) arg4.view (Rect.unit (s := S1024x256) ![0, 0] S512x256.size inb_S1024x256_S512x256_0_0).toLoadRect (harg4.unread x0))
          (View.readAt (Elt F) arg5.view (Rect.unit (s := S16384x256) (k0_off2 (word c i xt0)) S512x256.size (k0_off2_inb i _ hw)).toLoadRect (harg5.unread x1))⟩])
  let L2 : LoopInvTy_k0_t2 (F := F) Unit ℕ (UR sig nD τ) ℕ Variants.none c none E i tbM0_0 htbM0_0 arg4 harg4 arg5 harg5 arg6 harg6 arg7 harg7 arg8 harg8 arg9 harg9 arg10 harg10 arg11 harg11 arg12 harg12 (BitVec.ofNat 32 (i 2).val)
      (word c i xt0) hw (Scalar.muli 2#32 (BitVec.ofNat 32 (i 2).val)) (Scalar.muli (Scalar.muli 2#32 (word c i xt0)) 512#32)
      (Scalar.addi (word c i xt0) (Scalar.muli (Scalar.divsi (Scalar.subi (BitVec.ofNat 32 (i 2).val) (word c i xt0)) 1#32) 1#32)) :=
    LoopInv.ofNoTrips _ _ _ _ _ _ _ _ _ htr
  sl_exec (disch := first | sl_exact hw)
  sl_step
  have hst : getSt arg9 arg10 arg11 f9L0 f10L1 f11L2 = stAt x0 x1 x2 s.val ((i 2).val - s.val) := by
    rw [hL6]
    have ht : Scf.trips (k0_t1_loop i (word c i xt0)).lb (k0_t1_loop i (word c i xt0)).ub (k0_t1_loop i (word c i xt0)).st = (i 2).val - s.val := by
      rw [hv]; exact trips_eq i s hs
    rw [ht]
    unfold stAt
    congr 1
    exact init_st c i arg4 harg4 arg5 harg5 arg9 arg10 arg11 x0 x1 _ s hv hw
  have e8 : View.read (Elt F) arg8.view (arg8.view.writes (Elt F) f4
      [⟨Rect.unit (s := S1024x128) ![512, 0] ![512, 128] inb_S1024x128_S512x128_512_0,
          k0_pay1 (body_run.sl.r_7 c arg7 harg7 x3)
            (body_run.sl.r_8 c i arg4 harg4 arg5 harg5 arg6 harg6 arg9 arg10 arg11 arg12 x0 x1 x2 f9L0 f10L1 f11L2)
            k0_pay129⟩,
        ⟨Rect.unit (s := S1024x128) ![0, 0] S512x128.size inb_S1024x128_S512x128_0_0,
          k0_pay126
            (body_run.sl.v192 c i arg4 harg4 arg5 harg5 arg6 harg6 arg9 arg10 arg11 arg12 x0 x1 x2 f9L0 f10L1 f11L2)
            (View.readAt (Elt F) arg7.view (Rect.unit (s := S1024x128) ![0, 0] S512x128.size inb_S1024x128_S512x128_0_0).toLoadRect
              (harg7.unread x3))⟩]) = outBlk x0 x1 x2 x3 (i 2).val s.val := by
    obtain ⟨o9, o10, o11⟩ := off_last i
    unfold outBlk
    rw [← hst]
    have q1 : View.readAt (Elt F) arg4.view (Rect.unit (s := S1024x256) ![512, 0] S512x256.size inb_S1024x256_S512x256_512_0).toLoadRect (harg4.unread x0) = rows x0 1 :=
      read_rows arg4 harg4 x0 1 rfl _
    have z0 : View.readAt (Elt F) arg7.view (Rect.unit (s := S1024x128) ![0, 0] S512x128.size inb_S1024x128_S512x128_0_0).toLoadRect (harg7.unread x3) = rows x3 0 :=
      read_rows arg7 harg7 x3 0 rfl _
    have z1 : View.readAt (Elt F) arg7.view (Rect.unit (s := S1024x128) ![512, 0] S512x128.size inb_S1024x128_S512x128_512_0).toLoadRect (harg7.unread x3) = rows x3 1 :=
      read_rows arg7 harg7 x3 1 rfl _
    have k1 := fun inb => read_rows arg5 harg5 x1 (2 * (i 2).val + 1) o9 inb
    have w0 := fun inb => read_rows arg6 harg6 x2 (2 * (i 2).val) o10 inb
    have w1 := fun inb => read_rows arg6 harg6 x2 (2 * (i 2).val + 1) o11 inb
    have e192 : body_run.sl.v192 c i arg4 harg4 arg5 harg5 arg6 harg6 arg9 arg10 arg11 arg12 x0 x1 x2 f9L0 f10L1 f11L2
        = fin0 x2 (i 2).val (getSt arg9 arg10 arg11 f9L0 f10L1 f11L2) := by
      unfold body_run.sl.v192 body_run.sl.HS1_3 body_run.sl.HS1_2
      rw [View.readCov_skip _ _ _ _ _ disj_a10, View.readCov_skip _ _ _ _ _ disj_a10, View.readCov_cons_toLoadRect]
      unfold body_run.sl.r_1 body_run.sl.r_2
      erw [w0]
      rfl
    have e145 : body_run.sl.v145 i arg4 harg4 arg5 harg5 arg12 x0 x1 = score (rows x0 1) (rows x1 (2 * (i 2).val + 1)) := by
      unfold body_run.sl.v145 body_run.sl.HS3_1
      rw [View.readCov_cons_toLoadRect, q1]
      erw [k1]
      rfl
    have e159 : body_run.sl.v159 c arg9 arg11 f9L0 f11L2
        = newM (flat (getSt arg9 arg10 arg11 f9L0 f10L1 f11L2).s1) (getSt arg9 arg10 arg11 f9L0 f10L1 f11L2).m1 := by
      unfold body_run.sl.v159 body_run.sl.HS0_2
      rw [View.readCov_cons_toLoadRect]
      rfl
    have e182 : body_run.sl.v182 c i arg6 harg6 arg9 arg10 arg11 x2 f9L0 f10L1 f11L2
        = newAcc (flat (getSt arg9 arg10 arg11 f9L0 f10L1 f11L2).s1) (rows x2 (2 * (i 2).val)) (getSt arg9 arg10 arg11 f9L0 f10L1 f11L2).m1
          (getSt arg9 arg10 arg11 f9L0 f10L1 f11L2).a1 := by
      unfold body_run.sl.v182 body_run.sl.HS1_2
      rw [View.readCov_cons_toLoadRect]
      erw [w0]
      rfl
    have e210 : body_run.sl.v210 c i arg4 harg4 arg5 harg5 arg6 harg6 arg9 arg10 arg11 arg12 x0 x1 x2 f9L0 f10L1 f11L2
        = fin1 x0 x1 x2 (i 2).val (getSt arg9 arg10 arg11 f9L0 f10L1 f11L2) := by
      unfold body_run.sl.v210 body_run.sl.HS1_3
      rw [View.readCov_cons_toLoadRect]
      unfold body_run.sl.r_5 body_run.sl.r_6
      rw [e145, e159, e182]
      erw [w1]
      rfl
    generalize getSt arg9 arg10 arg11 f9L0 f10L1 f11L2 = st at *
    rw [e192, z0]
    unfold body_run.sl.r_7 body_run.sl.r_8
    rw [z1, e210]
    funext y
    have hy : (y 0).val < 1024 := (y 0).isLt
    unfold outOf
    by_cases h : (y 0).val < 512
    · rw [if_pos h, View.read_writes_cons_unit_of_not_mem _ _ _ _ _ y rfl 0 (.inl h)]
      refine (View.read_writes_cons_unit_of_mem _ _ _ _ _ y
        (ix2 (Fin.ofNat 512 (y 0).val) (y 1)) rfl ?_).trans rfl
      intro b; fin_cases b
      · show (y 0).val = 0 + (y 0).val % 512
        rw [Nat.mod_eq_of_lt h]; omega
      · show (y 1).val = 0 + (y 1).val
        omega
    · rw [if_neg h]
      refine (View.read_writes_cons_unit_of_mem _ _ _ _ _ y
        (ix2 (Fin.ofNat 512 ((y 0).val - 512)) (y 1)) rfl ?_).trans rfl
      intro b; fin_cases b
      · show (y 0).val = 512 + ((y 0).val - 512) % 512
        rw [Nat.mod_eq_of_lt (by omega)]; omega
      · show (y 1).val = 0 + (y 1).val
        omega
  iapply Hk
  isplitl [H0]; · iexists _; isplitr; swap; · iexact H0
                  ipureintro; exact harg4.read_unread _
  isplitl [H1]; · iexists _; isplitr; swap; · iexact H1
                  ipureintro; exact harg5.read_unread _
  isplitl [H2]; · iexists _; isplitr; swap; · iexact H2
                  ipureintro; exact harg6.read_unread _
  isplitl [H3]; · iexists _; isplitr; swap; · iexact H3
                  ipureintro; exact harg7.read_unread _
  isplitl [H4]; · iexists _; isplitr; swap; · iexact H4
                  ipureintro; exact e8
  isplitl [HS0]; · iexists _, _; isplitr; swap; · iexact HS0
                   ipureintro; rfl
  isplitl [HS1]; · iexists _, _; isplitr; swap; · iexact HS1
                   ipureintro; rfl
  isplitl [HS2]; · iexists _, _; isplitr; swap; · iexact HS2
                   ipureintro; rfl
  isplitl [HS3]; · iexists _, _; isplitr; swap; · iexact HS3
                   ipureintro; rfl
  iexact HT0

end Cert.Fox
-- ==== Proof.Run.lean ====
/- The attention call's run at any value type: what each grid point leaves in the output block, the run of the whole grid,
   and the frame, where every start word names a pair of key blocks at or before the query block's. -/
module

public import proofs.«01_k».proof.Proof.Body
public import Idealize.ShloMosaic.Lib.Claim

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every start word names a pair of key blocks at or before the query block's own. -/
def Starts (hO : Ok m) : Prop := ∀ (c : Dev nD) (t : Fin (cfgM m hO).N),
  ∃ s : Fin 16, s.val ≤ (grid0.coords t 2).val ∧ word c (grid0.coords t) (tbl m 0) = BitVec.ofNat 32 s.val

/-- The pair the start word of grid point `t` names. -/
def startOf {m : (ℓ : Loc nD τ sig) → Buf (Elt F) ℓ} {hO : Ok m} (hH : Starts m hO) (c : Dev nD) (t : Fin (cfgM m hO).N) : Fin 16 :=
  (hH c t).choose

/-- What the output's staging buffer holds after grid point `t`. -/
def outsAt (hO : Ok m) (hH : Starts m hO) (c : Dev nD) (t : Fin (cfgM m hO).N) : Vec F S1024x128 .bf16 :=
  outBlk (iblk m hO c 0 t) (iblk m hO c 1 t) (iblk m hO c 2 t) (iblk m hO c 3 t) (grid0.coords t 2).val (startOf hH c t).val

/-! ## The pipeline's proof data -/

/-- The pipeline's data: every input's buffer holds its block after the body, the output's what `outsAt` says. -/
def dats (hO : Ok m) (hH : Starts m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt m hO hH c t)
  Φ _ := iprop(Pipeline.ΦA spec0 c ∗ Pipeline.ΦT pre0 (tbl m) c)
  q w := Pipeline.shareOf spec0 w
  owed _ := 0

/-- The arrays are as the pipeline finds them. -/
theorem A_eq (hO : Ok m) (hH : Starts m hO) (c : Dev nD) (w : Fin (cfgM m hO).W) : (dats m hO hH 0 c).A w = V m c (Pipeline.arrRef spec0 w) := by
  dsimp only [dats]

/-- What the body leaves, window by window. -/
theorem after0_0 (hO : Ok m) (hH : Starts m hO) (c : Dev nD) (t : Fin (cfgM m hO).N) : (dats m hO hH 0 c).after 0 t = iblk m hO c 0 t := by dsimp only [dats]; try rfl
theorem after0_1 (hO : Ok m) (hH : Starts m hO) (c : Dev nD) (t : Fin (cfgM m hO).N) : (dats m hO hH 0 c).after 1 t = iblk m hO c 1 t := by dsimp only [dats]; try rfl
theorem after0_2 (hO : Ok m) (hH : Starts m hO) (c : Dev nD) (t : Fin (cfgM m hO).N) : (dats m hO hH 0 c).after 2 t = iblk m hO c 2 t := by dsimp only [dats]; try rfl
theorem after0_3 (hO : Ok m) (hH : Starts m hO) (c : Dev nD) (t : Fin (cfgM m hO).N) : (dats m hO hH 0 c).after 3 t = iblk m hO c 3 t := by dsimp only [dats]; try rfl
theorem after0_4 (hO : Ok m) (hH : Starts m hO) (c : Dev nD) (t : Fin (cfgM m hO).N) : (dats m hO hH 0 c).after 4 t = (outsAt m hO hH c t) := by dsimp only [dats]; try rfl

/-- Each input's buffer holds its block before the body. -/
theorem before0_0 (hO : Ok m) (hH : Starts m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Starts m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Starts m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Starts m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body obligation, at a generic point -/

/-- What the body is called with at point `t`, -/
def bodyPre (hO : Ok m) (hH : Starts m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d)))

/-- and what it returns. -/
def bodyPost (hO : Ok m) (hH : Starts m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t))

set_option maxHeartbeats 800000 in
/-- The body at any point, by `body_run`. -/
theorem sound_body (hO : Ok m) (hH : Starts m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ _ _ (iblk m hO c 0 t) (iblk m hO c 1 t) (iblk m hO c 2 t) (iblk m hO c 3 t) (tbl m 0)
    (startOf hH c t) (hH c t).choose_spec.1 (hH c t).choose_spec.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HT0]; · iexact HT0
  iintro ⟨H0, H1, H2, H3, H4, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  iexact H4

/-- The body at point `t`, as the run calls it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (hH : Starts m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

set_option backward.isDefEq.respectTransparency.types false in
/-- The run of the whole grid, ending with every semaphore at zero. -/
theorem run_main_quiescent (hO : Ok m) (hH : Starts m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_shared (Q' := _) pcfgs (fun _ => adm m hO) (dats m hO hH) (0 : Fin 1) launch₀0 defs₀ Variants.none m ρ main
    (hbody := fun c => (body_obligation m hO hH c).loose) (hq := fun _ _ _ => rfl)
    (howed := fun _ _ => rfl) (V := V m) (hmain := hmain m Variants.none) (hA := A_eq m hO hH) (hpf := V_pre m)
    (hΦ := fun _ _ => rfl)

/-- The run of the whole grid: every array of the pipeline ends at what `dats` says. -/
theorem run_main (hO : Ok m) (hH : Starts m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The argument arrays end unchanged. -/
theorem unchanged (hO : Ok m) (hH : Starts m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-- The frame: the argument arrays end unchanged and every semaphore at zero. -/
theorem frame (hO : Ok m) (hH : Starts m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.Fox

end
-- ==== Proof.Pre.lean ====
/- What the preconditions say of the start table, and that the table then names, at every grid point, a pair of key blocks at
   or before the query block's own. -/
module

public import proofs.«01_k».proof.Defs
public import proofs.«01_k».proof.Proof.Run
public import proofs.«01_k».proof.Proof.Gen.Pre_start_names_a_pair
public import Idealize.ShloMosaic.Lib.ValueIdx
public import Idealize.ShloMosaic.Lib.Pointwise.Tactic
public import Idealize.ShloMosaic.Lib.Pointwise

@[expose] public section

set_option maxRecDepth 16384

noncomputable section

namespace Cert.Fox

open Idealize.ShloMosaic Idealize.ShloMosaic.TcCoe
open Cert.KernelIdeal Cert.KernelIdeal.Gen

/-- The second precondition's shape facts. -/
instance finiteFacts : Cert.Pre_start_in_range_scores_finite.Facts where
  bcast_S16_S1x16_1 := by decide
  bcast_S1x16_S32x16_0_1 := by decide
  shapeCasts_S32x16_S512 := by decide
  bcast_S_S512 := by decide
  bcast_S512_S512x1x1_0 := by decide
  bcast_S512x1x1_S512x64x4096_0_1_2 := by decide
  shapeCasts_S512x64x4096_S32768x4096 := by decide
  bitsLt_bf16_f32 := by decide
  bcast_S_S32768x4096 := by decide

/-- Every entry of the start table names a pair of key blocks at or before the query block it belongs to. -/
def StartTable (a : IVec S512 32) : Prop := ∀ y : S512.Idx, ∃ s : Fin 16, s.val ≤ (y 0).val % 16 ∧ a y = BitVec.ofNat 32 s.val

/-- The conjunction of two truth values as words. -/
theorem andi_ofBool (p q : Bool) : IntOp.andi (BitVec.ofBool p) (BitVec.ofBool q) = BitVec.ofBool (p && q) := by
  cases p <;> cases q <;> decide

/-- A truth value as a word is one if it is true. -/
theorem ofBool_eq_one (p : Bool) : (BitVec.ofBool p = 1#1) ↔ p = true := by cases p <;> decide

/-- A conjunction of words of one bit is one if both are. -/
theorem andi_eq_one (p q : BitVec 1) : (IntOp.andi p q = 1#1) ↔ p = 1#1 ∧ q = 1#1 := by
  revert p q; decide

/-- The bound a word is compared with, as a number. -/
theorem pair_bound (h : (⟨2, ![32, 16]⟩ : Shape).ShapeCasts ⟨1, ![512]⟩) (h1 : (⟨1, ![16]⟩ : Shape).BroadcastsInDim ⟨2, ![1, 16]⟩ (![1] : Fin 1 → Fin 2))
    (h2 : (⟨2, ![1, 16]⟩ : Shape).BroadcastsInDim ⟨2, ![32, 16]⟩ (![0, 1] : Fin 2 → Fin 2)) (y : S512.Idx) :
    shapeCast (⟨1, ![512]⟩ : Shape) (broadcastInDim (⟨2, ![32, 16]⟩ : Shape) ![0, 1] h2 (broadcastInDim (⟨2, ![1, 16]⟩ : Shape) ![1] h1 (iotaInDim (⟨1, ![16]⟩ : Shape) 32 0))) h y
      = BitVec.ofNat 32 ((y 0).val % 16) := by
  pointwise

/-- A word between zero and a small number is a small number. -/
theorem word_of_bounds (w : BitVec 32) (n : ℕ) (hn : n < 16) (h1 : (0#32).sle w = true) (h2 : w.sle (BitVec.ofNat 32 n) = true) :
    ∃ s : Fin 16, s.val ≤ n ∧ w = BitVec.ofNat 32 s.val := by
  simp only [BitVec.sle, decide_eq_true_eq, BitVec.toInt, BitVec.toNat_ofNat] at h1 h2
  have hw := w.isLt
  have : w.toNat ≤ n := by
    rw [Nat.mod_eq_of_lt (by omega)] at h2
    split at h2 <;> split at h2 <;> split at h1 <;> omega
  refine ⟨⟨w.toNat, by omega⟩, this, ?_⟩
  simp

/-- The precondition, read off the start table: every word is a pair at or before its own. -/
theorem table_of_names {F : FTy → Type} [FloatOps F] (a : IVec S512 32) (x y : FVec F S32768x4096 .bf16) (z : FVec F S32768x8192 .bf16)
    (h : Cert.Pre_start_names_a_pair.fn (F := F) a x y z = fun _ => 1#1) : StartTable a := by
  intro p
  have e := congrFun h p
  simp only [Cert.Pre_start_names_a_pair.fn, andi, cmpi] at e
  rw [andi_eq_one, pair_bound] at e
  simp only [IntOp.cmpi, ofBool_eq_one] at e
  exact word_of_bounds _ _ (Nat.mod_lt _ (by decide)) e.1 e.2

/-- The second precondition: the same of the start table, and every augmented query and key finite. -/
theorem of_finite (a : IVec S512 32) (x y : FVec Ideal S32768x4096 .bf16) (z : FVec Ideal S32768x8192 .bf16)
    (h : Cert.Pre_start_in_range_scores_finite.fn (F := Ideal) a x y z = fun _ => 1#1) :
    StartTable a ∧ (∀ j, ∃ r : ℝ, x j = (r : EReal)) ∧ (∀ j, ∃ r : ℝ, y j = (r : EReal)) := by
  have hfin : ∀ v : EReal, Ideal.cmp .olt (max v (-v)) (Ideal.ofBits .f32 0x7F800000#32) = 1#1 → ∃ r : ℝ, v = (r : EReal) := by
    intro v hv
    have htop : (Ideal.ofBits .f32 0x7F800000#32 : EReal) = ⊤ := by simp [Ideal.ofBits, Ideal.ieee]
    rw [htop] at hv
    simp only [Ideal.cmp, ofBool_eq_one, decide_eq_true_eq] at hv
    induction v with
    | bot => simp at hv
    | top => simp at hv
    | coe r => exact ⟨r, rfl⟩
  refine ⟨fun p => ?_, fun j => ?_, fun j => ?_⟩
  · have e := congrFun h (ix2 (⟨64 * (p 0).val, by have := (p 0).isLt; simp at this; omega⟩ : Fin 32768) (0 : Fin 4096))
    simp only [Cert.Pre_start_in_range_scores_finite.fn, andi, cmpi] at e
    rw [andi_eq_one, andi_eq_one] at e
    have e := e.1.1
    pointwise at e
    rw [andi_eq_one] at e
    simp only [IntOp.cmpi, ofBool_eq_one] at e
    exact word_of_bounds _ _ (Nat.mod_lt _ (by decide)) e.1 e.2
  · have e := congrFun h j
    simp only [Cert.Pre_start_in_range_scores_finite.fn, andi] at e
    rw [andi_eq_one, andi_eq_one] at e
    exact hfin _ e.1.2
  · have e := congrFun h j
    simp only [Cert.Pre_start_in_range_scores_finite.fn, andi] at e
    rw [andi_eq_one, andi_eq_one] at e
    exact hfin _ e.2

section

variable {F : FTy → Type} [FloatOps F] (m : (ℓ : Loc nD τ sig) → Buf (Elt F) ℓ)

/-- The launch asks nothing of the prefetched table. -/
theorem ok_all : Ok m := trivial

/-- The word grid point `i` reads. -/
theorem word_eq (c : Dev nD) (i : grid0.Coords) (xt : TbBuf0 (F := F) c tbM0_0) (h : ((i 0).val * 16 + (i 1).val) * 16 + (i 2).val < 512) :
    word c i xt = xt (ix1 (⟨((i 0).val * 16 + (i 1).val) * 16 + (i 2).val, h⟩ : Fin 512)) := by
  unfold word
  rw [View.readAt_apply, View.read_apply, cast_eq]
  congr 1
  refine (eq_ix1 (n0 := 512) _).trans (congrArg ix1 (Fin.ext ?_))
  have := congrFun (off1_eq i) 0
  show k0_off1 i 0 + 1 * 0 = _
  rw [this]
  rfl

/-- Every grid point's word names a pair of key blocks at or before the query block's, where the table does. -/
theorem starts_of (h : ∀ c : Dev nD, StartTable (m ((c.tc : Thread nD τ).loc main_arg0))) : Starts m (ok_all m) := by
  intro c t
  have h0 : (grid0.coords t 0).val < 2 := (grid0.coords t 0).isLt
  have h1 : (grid0.coords t 1).val < 16 := (grid0.coords t 1).isLt
  have h2 : (grid0.coords t 2).val < 16 := (grid0.coords t 2).isLt
  have hb : ((grid0.coords t 0).val * 16 + (grid0.coords t 1).val) * 16 + (grid0.coords t 2).val < 512 := by omega
  obtain ⟨s, hs, hw⟩ := h 0 (ix1 (⟨_, hb⟩ : Fin 512))
  refine ⟨s, ?_, ?_⟩
  · have : ((ix1 (⟨_, hb⟩ : Fin 512) : S512.Idx) 0).val = ((grid0.coords t 0).val * 16 + (grid0.coords t 1).val) * 16 + (grid0.coords t 2).val := rfl
    rw [this] at hs
    omega
  · exact (word_eq c _ (tbl m 0) hb).trans hw

end

end Cert.Fox
-- ==== Proof.Frames.lean ====
/- The frames: the kernel's, from its one run at any value type, and the reference's, from its straight line of operations. -/
module

public import proofs.«01_k».proof.Proof.Pre
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Fox

open Idealize.ShloMosaic Idealize.ShloMosaic.TcCoe Idealize.SL.Sem

/-- The two printed texts of the kernel's body are one, at the hardware's values. -/
theorem body_eq : @Cert.Kernel.cc0_fox_attn Bits _ _ = @Cert.KernelIdeal.cc0_fox_attn Bits _ _ := rfl

/-- The two printed tables of bodies are one, at the hardware's values. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    rw [body_eq]
    rfl

/-- So are the two tables with the pipelines added. -/
theorem defs_eq : Cert.Kernel.defs (F := Bits) = Cert.KernelIdeal.defs (F := Bits) :=
  congrArg (Pipeline.defs (Cert.KernelIdeal.pcfgs (F := Bits))) defs₀_eq

/-- The kernel's frame at the hardware's values: its text is the idealized kernel's, run at those values. -/
theorem frame_kernel : Cert.quiescent_Kernel := by
  intro m ρ h
  have e := frame (F := Bits) m ρ (ok_all m) (starts_of m fun c => table_of_names _ _ _ _ (h c))
  rw [← defs_eq] at e
  exact e

/-- The idealized kernel runs and leaves its arguments as they were. -/
theorem frame_kernelIdeal : Cert.quiescent_KernelIdeal := fun m ρ h =>
  frame (F := Ideal) m ρ (ok_all m) (starts_of m fun c => table_of_names _ _ _ _ (h c))

/-- The same, under the precondition of the value claim. -/
theorem frame_kernelIdeal_finite : Cert.quiescent_KernelIdeal_pre_start_in_range_scores_finite := fun m ρ h =>
  frame (F := Ideal) m ρ (ok_all m) (starts_of m fun c => (of_finite _ _ _ _ (h c)).1)

/-- The reference runs and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition of the value claim. -/
theorem frame_reference_finite : Cert.quiescent_ReferenceIdeal_pre_start_in_range_scores_finite := fun m ρ _ => frame_reference m ρ trivial

end Cert.Fox
-- ==== Proof.Online.lean ====
/- The softmax of a row taken block by block: the running maximum, the sums weighed by powers of two of the scores less that
   maximum, what one more block makes of them, and the row's softmax from the last of them. -/
module

public import Idealize.ShloMosaic.PureOps.Ideal

@[expose] public section

noncomputable section

namespace Cert.Fox

open Idealize.ShloMosaic

/-- Two raised to minus infinity is zero. -/
theorem exp2_bot : Ideal.exp2 ⊥ = 0 := rfl
/-- Two raised to a real is the real power. -/
theorem exp2_coe (r : ℝ) : Ideal.exp2 (r : EReal) = ((Real.rpow 2 r : ℝ) : EReal) := rfl

/-- Two raised to any number is not negative. -/
theorem exp2_nonneg (x : EReal) : 0 ≤ Ideal.exp2 x := by
  induction x with
  | bot => exact le_rfl
  | top => exact le_top
  | coe r => rw [exp2_coe]; exact EReal.coe_nonneg.2 (Real.rpow_nonneg (by norm_num) r)

/-- Two raised to a number that is not plus infinity is not plus infinity. -/
theorem exp2_ne_top {x : EReal} (h : x ≠ ⊤) : Ideal.exp2 x ≠ ⊤ := by
  induction x with
  | bot => exact EReal.zero_ne_top
  | top => exact absurd rfl h
  | coe r => rw [exp2_coe]; exact EReal.coe_ne_top _

/-- Two raised to `y`, by the power operation. -/
theorem pow_two (y : EReal) : Ideal.pow ((2 : ℝ) : EReal) y = Ideal.exp2 y := by
  induction y with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-- Going from the maximum `m` to the maximum `m'`. -/
theorem exp2_shift {a m : EReal} (r : ℝ) (ha : a ≤ m) (hm : m ≠ ⊤) :
    Ideal.exp2 (m - r) * Ideal.exp2 (a - m) = Ideal.exp2 (a - r) := by
  induction m with
  | top => exact absurd rfl hm
  | bot =>
    obtain rfl := le_bot_iff.1 ha
    rw [EReal.bot_sub, EReal.bot_sub, exp2_bot, zero_mul]
  | coe m =>
    induction a with
    | top => exact absurd (top_le_iff.1 ha) (EReal.coe_ne_top m)
    | bot => rw [EReal.bot_sub, EReal.bot_sub, exp2_bot, mul_zero]
    | coe a =>
      rw [← EReal.coe_sub, ← EReal.coe_sub, ← EReal.coe_sub, exp2_coe, exp2_coe, exp2_coe, ← EReal.coe_mul]
      congr 1
      show (2 : ℝ) ^ (m - r) * (2 : ℝ) ^ (a - m) = (2 : ℝ) ^ (a - r)
      rw [← Real.rpow_add (by norm_num)]
      congr 1; ring

/-- A factor that is not negative and not infinite goes into a sum. -/
theorem mul_sum_nonneg {ι : Type} {c : EReal} (h0 : 0 ≤ c) (h1 : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- The largest score of the keys from `lo` up to `hi`. -/
def top (σ : ℕ → EReal) (lo hi : ℕ) : EReal := (Finset.Ico lo hi).sup σ

/-- The values of those keys, weighed by powers of two of the scores less the largest. -/
def mass (σ v : ℕ → EReal) (lo hi : ℕ) : EReal := ∑ j ∈ Finset.Ico lo hi, Ideal.exp2 (σ j - top σ lo hi) * v j

variable {σ v : ℕ → EReal} {lo hi n : ℕ}

/-- Of no keys, the largest score is minus infinity. -/
theorem top_self : top σ lo lo = ⊥ := by simp [top]
/-- Of no keys, the sum is zero. -/
theorem mass_self : mass σ v lo lo = 0 := by simp [mass]

/-- The largest score is not plus infinity if no score is. -/
theorem top_ne_top (hσ : ∀ j, σ j ≠ ⊤) : top σ lo hi ≠ ⊤ :=
  ((Finset.sup_lt_iff bot_lt_top).2 fun j _ => lt_top_iff_ne_top.2 (hσ j)).ne

/-- A score is at most the largest. -/
theorem le_top_of {j : ℕ} (h0 : lo ≤ j) (h1 : j < hi) : σ j ≤ top σ lo hi := Finset.le_sup (f := σ) (Finset.mem_Ico.2 ⟨h0, h1⟩)

/-- The largest score is real if some score is. -/
theorem top_real (hσ : ∀ j, σ j ≠ ⊤) {j : ℕ} (h0 : lo ≤ j) (h1 : j < hi) (hj : σ j ≠ ⊥) : ∃ r : ℝ, top σ lo hi = r := by
  have hb : top σ lo hi ≠ ⊥ := fun h => hj (le_bot_iff.1 (h ▸ le_top_of h0 h1))
  exact ⟨(top σ lo hi).toReal, (EReal.coe_toReal (top_ne_top hσ) hb).symm⟩

/-- The largest score after one more block. -/
theorem top_step (h : lo ≤ hi) (n : ℕ) :
    top σ lo (hi + n) = max (top σ lo hi) (Finset.univ.sup fun j : Fin n => σ (hi + j.val)) := by
  apply le_antisymm
  · refine Finset.sup_le fun j hj => ?_
    rw [Finset.mem_Ico] at hj
    by_cases hlt : j < hi
    · exact le_max_of_le_left (le_top_of hj.1 hlt)
    · refine le_max_of_le_right ?_
      have := Finset.le_sup (f := fun j : Fin n => σ (hi + j.val)) (Finset.mem_univ (⟨j - hi, by omega⟩ : Fin n))
      simpa [show hi + (j - hi) = j by omega] using this
  · refine max_le (Finset.sup_mono (Finset.Ico_subset_Ico_right (by omega))) (Finset.sup_le fun j _ => ?_)
    exact le_top_of (by omega) (by omega)

/-- The weighed values after one more block, some key of which is seen. -/
theorem mass_step (hσ : ∀ j, σ j ≠ ⊤) (h : lo ≤ hi) (n : ℕ) {j0 : ℕ} (h0 : lo ≤ j0) (h1 : j0 < hi + n) (hj : σ j0 ≠ ⊥) :
    mass σ v lo (hi + n) = Ideal.exp2 (top σ lo hi - top σ lo (hi + n)) * mass σ v lo hi
      + ∑ j : Fin n, Ideal.exp2 (σ (hi + j.val) - top σ lo (hi + n)) * v (hi + j.val) := by
  obtain ⟨r, hr⟩ := top_real hσ h0 h1 hj
  unfold mass
  rw [← Finset.sum_Ico_consecutive _ h (Nat.le_add_right hi n), hr]
  congr 1
  · rw [mul_sum_nonneg (exp2_nonneg _)]
    · refine Finset.sum_congr rfl fun j hj => ?_
      rw [Finset.mem_Ico] at hj
      rw [← mul_assoc, exp2_shift r (le_top_of hj.1 hj.2) (top_ne_top hσ)]
    · refine exp2_ne_top ?_
      have := top_ne_top (σ := σ) (lo := lo) (hi := hi) hσ
      generalize top σ lo hi = m at this
      induction m with
      | top => exact absurd rfl this
      | bot => rw [EReal.bot_sub]; exact bot_ne_top
      | coe m => rw [← EReal.coe_sub]; exact EReal.coe_ne_top _
  · rw [Finset.sum_Ico_eq_sum_range, Nat.add_sub_cancel_left, Finset.sum_range]

/-- The softmax of a whole row of `N` keys, of which those from `lo` up to `hi` are seen, times the values. -/
theorem softmax_eq {N : ℕ} (τ : Fin N → EReal) (w : Fin N → EReal) (hσ : ∀ j, σ j ≠ ⊤) {j0 : ℕ} (h0 : lo ≤ j0) (h1 : j0 < hi) (hj : σ j0 ≠ ⊥)
    (hN : hi ≤ N) (hin : ∀ j : Fin N, lo ≤ j.val → j.val < hi → τ j = σ j.val) (hout : ∀ j : Fin N, ¬ (lo ≤ j.val ∧ j.val < hi) → τ j = ⊥)
    (hw : ∀ j : Fin N, lo ≤ j.val → j.val < hi → w j = v j.val) :
    ∑ j, Ideal.div (Ideal.exp2 (τ j - Finset.univ.fold max ⊥ τ)) (∑ j, Ideal.exp2 (τ j - Finset.univ.fold max ⊥ τ)) * w j
      = Ideal.div (mass σ v lo hi) (mass σ (fun _ => 1) lo hi) := by
  have hT : Finset.univ.fold max ⊥ τ = top σ lo hi := by
    show Finset.univ.sup τ = _
    apply le_antisymm
    · refine Finset.sup_le fun j _ => ?_
      by_cases h : lo ≤ j.val ∧ j.val < hi
      · rw [hin j h.1 h.2]; exact le_top_of h.1 h.2
      · rw [hout j h]; exact bot_le
    · refine Finset.sup_le fun j hj => ?_
      rw [Finset.mem_Ico] at hj
      rw [← hin ⟨j, by omega⟩ hj.1 hj.2]
      exact Finset.le_sup (f := τ) (Finset.mem_univ _)
  rw [hT]
  obtain ⟨r, hr⟩ := top_real hσ h0 h1 hj
  have key : ∀ f : EReal → ℕ → EReal, (∀ j, f 0 j = 0) →
      ∑ j : Fin N, f (Ideal.exp2 (τ j - top σ lo hi)) j.val = ∑ j ∈ Finset.Ico lo hi, f (Ideal.exp2 (σ j - top σ lo hi)) j := by
    intro f hf
    rw [Finset.sum_congr rfl (g := fun j : Fin N => (fun j : ℕ => if lo ≤ j ∧ j < hi then f (Ideal.exp2 (σ j - top σ lo hi)) j else 0) j.val) ?_]
    · rw [← Finset.sum_range (fun j : ℕ => if lo ≤ j ∧ j < hi then f (Ideal.exp2 (σ j - top σ lo hi)) j else 0), ← Finset.sum_filter]
      refine Finset.sum_congr ?_ fun _ _ => rfl
      ext j; simp only [Finset.mem_filter, Finset.mem_range, Finset.mem_Ico]; omega
    · intro j _
      dsimp only
      split
      · rename_i h; rw [hin j h.1 h.2]
      · rename_i h; rw [hout j h, EReal.bot_sub, exp2_bot, hf]
  set L := mass σ (fun _ => 1) lo hi with hL
  have hden : ∑ j, Ideal.exp2 (τ j - top σ lo hi) = L := by
    rw [key (fun e _ => e) (fun _ => rfl), hL]
    exact Finset.sum_congr rfl fun j _ => (mul_one _).symm
  rw [hden]
  -- the denominator is positive and finite
  have hLpos : 0 < L := by
    refine lt_of_lt_of_le ?_ (Finset.single_le_sum (f := fun j => Ideal.exp2 (σ j - top σ lo hi) * 1)
      (fun j _ => by rw [mul_one]; exact exp2_nonneg _) (Finset.mem_Ico.2 ⟨h0, h1⟩))
    rw [mul_one, hr]
    have ht := hσ j0
    generalize σ j0 = s at ht hj
    induction s with
    | top => exact absurd rfl ht
    | bot => exact absurd rfl hj
    | coe s => rw [← EReal.coe_sub, exp2_coe]; exact EReal.coe_pos.2 (Real.rpow_pos_of_pos (by norm_num) _)
  have hinv0 : 0 ≤ L⁻¹ := EReal.inv_nonneg_of_nonneg hLpos.le
  have hinvT : L⁻¹ ≠ ⊤ := by
    clear_value L
    induction L with
    | top => rw [EReal.inv_top]; exact EReal.zero_ne_top
    | bot => exact absurd hLpos (not_lt_bot (a := (0 : EReal)))
    | coe l => rw [← EReal.coe_inv]; exact EReal.coe_ne_top _
  have hdiv : ∀ x, Ideal.div x L = L⁻¹ * x := fun x => by
    unfold Ideal.div; rw [if_neg hLpos.ne', mul_comm]
  rw [hdiv]
  unfold mass
  rw [mul_sum_nonneg hinv0 hinvT, Finset.sum_congr rfl (g := fun j : Fin N =>
    (fun (e : EReal) (j : ℕ) => L⁻¹ * (e * v j)) (Ideal.exp2 (τ j - top σ lo hi)) j.val)]
  · exact key (fun e j => L⁻¹ * (e * v j)) (fun j => by simp)
  · intro j _
    rw [hdiv, mul_assoc]
    dsimp only
    by_cases h : lo ≤ j.val ∧ j.val < hi
    · rw [hw j h.1 h.2]
    · rw [hout j h, EReal.bot_sub, exp2_bot, zero_mul, zero_mul]

end Cert.Fox
-- ==== Proof.Row.lean ====
/- The body's functions of whole blocks at one row: scores as sums over the 256 columns of a query and a key, the masked
   block, one step of the running maximum, numerator and denominator, and the gate. -/
module

public import proofs.«01_k».proof.Proof.Body
public import proofs.«01_k».proof.Proof.Online
public import Idealize.ShloMosaic.Lib.Pointwise.Tactic
public import Idealize.ShloMosaic.Lib.Pointwise
public import Idealize.ShloMosaic.Lib.Pointwise.IndexBridge

@[expose] public section

set_option maxRecDepth 16384

noncomputable section

namespace Cert.Fox

open Idealize.ShloMosaic Idealize.ShloMosaic.TcCoe
open Cert.KernelIdeal Cert.KernelIdeal.Gen

/-- The word of minus infinity is minus infinity. -/
theorem ofBits_ninf : Ideal.ofBits .f32 0xFF800000#32 = ⊥ := by simp [Ideal.ofBits, Ideal.ieee]

/-- The rows of one block of a buffer, at an index. -/
theorem rows_apply {R C : ℕ} [NeZero R] (x : Vec Ideal (⟨2, ![R, C]⟩ : Shape) .bf16) (n : ℕ) (r : Fin 512) (c : Fin C) :
    rows x n (ix2 r c) = x (ix2 (Fin.ofNat R (512 * n + r.val)) c) := by
  rw [ix2_eq_valueIdx (Fin.ofNat R _)]; rfl

/-- A score at an index of its block: the product of a query row and a key row. -/
theorem flat_score_apply (q k : Vec Ideal S512x256 .bf16) (r j : Fin 512) :
    flat (score q k) (ix2 r j) = ∑ d : Fin 256, q (ix2 r d) * k (ix2 j d) := by
  unfold flat score
  unfold_payloads
  pointwise

/-- The block on the diagonal at an index: a key after the query gives minus infinity. -/
theorem masked_apply (s : Vec Ideal S1x512x512 .f32) (r j : Fin 512) :
    masked s (ix2 r j) = if j.val ≤ r.val then flat s (ix2 r j) else ⊥ := by
  unfold masked
  unfold_payloads
  pointwise [flat]
  rw [ofBits_ninf]
  unfold Scalar.select IntOp.cmpi
  have hr := r.isLt
  have hj := j.isLt
  have e : (BitVec.ofNat 32 j.val).sle (BitVec.ofNat 32 r.val) = decide (j.val ≤ r.val) := by
    rw [BitVec.sle_eq_decide, BitVec.toInt_eq_toNat_of_lt, BitVec.toInt_eq_toNat_of_lt, BitVec.toNat_ofNat, BitVec.toNat_ofNat,
      Nat.mod_eq_of_lt, Nat.mod_eq_of_lt] <;> simp <;> omega
  simp only [e]
  by_cases h : j.val ≤ r.val <;> simp [h]

/-- The running maximum without its axes of one, at an index. -/
theorem flatM_apply (m : Vec Ideal S1x512x128 .f32) (r : Fin 512) (c : Fin 128) : flatM m (ix2 r c) = m (ix3 0 r c) := by
  unfold flatM
  pointwise

/-- The maximum of a row of scores, at an index. -/
theorem rowMax_apply (t : FVec Ideal S512x512 .f32) (r : Fin 512) (c : Fin 128) :
    rowMax t (ix2 r c) = Finset.univ.sup fun j : Fin 512 => t (ix2 r j) := by
  unfold rowMax chunk0 chunk1 chunk2 chunk3
  pointwise
  rw [ofBits_ninf]
  apply le_antisymm
  · refine Finset.sup_le fun x _ => ?_
    refine max_le (max_le (max_le ?_ ?_) ?_) ?_ <;> exact Finset.le_sup (f := fun j : Fin 512 => t (ix2 r j)) (Finset.mem_univ _)
  · refine Finset.sup_le fun j _ => ?_
    refine le_trans ?_ (Finset.le_sup (Finset.mem_univ (Fin.ofNat 128 j.val)))
    have hj := j.isLt
    have h : j.val % 128 = j.val ∨ 128 + j.val % 128 = j.val ∨ 256 + j.val % 128 = j.val ∨ 384 + j.val % 128 = j.val := by omega
    rcases h with h | h | h | h
    · exact le_max_of_le_left (le_max_of_le_left (le_max_of_le_left (le_of_eq (congrArg (fun j => t (ix2 r j)) (Fin.ext h.symm)))))
    · exact le_max_of_le_left (le_max_of_le_left (le_max_of_le_right (le_of_eq (congrArg (fun j => t (ix2 r j)) (Fin.ext h.symm)))))
    · exact le_max_of_le_left (le_max_of_le_right (le_of_eq (congrArg (fun j => t (ix2 r j)) (Fin.ext h.symm))))
    · exact le_max_of_le_right (le_of_eq (congrArg (fun j => t (ix2 r j)) (Fin.ext h.symm)))

/-- The new maximum at an index: the larger of the old one and the largest score of the row. -/
theorem newMax_apply (t : FVec Ideal S512x512 .f32) (m : Vec Ideal S1x512x128 .f32) (r : Fin 512) (c : Fin 128) :
    newMax t m (ix2 r c) = max (m (ix3 0 r c)) (Finset.univ.sup fun j : Fin 512 => t (ix2 r j)) := by
  rw [← flatM_apply m, ← rowMax_apply t r c]; rfl

/-- The new maximum with its axes of one, at an index. -/
theorem newM_apply (t : FVec Ideal S512x512 .f32) (m : Vec Ideal S1x512x128 .f32) (r : Fin 512) (c : Fin 128) :
    newM t m (ix3 0 r c) = newMax t m (ix2 r c) := by
  unfold newM
  pointwise

/-- The weight of a key: two raised to its score less the maximum. -/
theorem weights_apply (t : FVec Ideal S512x512 .f32) (n : FVec Ideal S512x128 .f32) (r j : Fin 512) :
    weights t n (ix2 r j) = Ideal.exp2 (t (ix2 r j) - n (ix2 r (Fin.ofNat 128 j.val))) := by
  unfold weights chunk0 chunk1 chunk2 chunk3
  pointwise
  have hj := j.isLt
  have key : ∀ (k : Fin 512) (l : Fin 128), k.val = j.val → l.val = j.val % 128 →
      (FloatOps.exp2 (t (ix2 r k) - n (ix2 r l)) : Ideal .f32) = Ideal.exp2 (t (ix2 r j) - n (ix2 r (Fin.ofNat 128 j.val))) := by
    intro k l hk hl
    obtain rfl : k = j := Fin.ext hk
    obtain rfl : l = Fin.ofNat 128 k.val := Fin.ext hl
    rfl
  split
  · exact key _ _ rfl (by dsimp only; omega)
  · split
    · exact key _ _ (by dsimp only; omega) (by dsimp only; omega)
    · split
      · exact key _ _ (by dsimp only; omega) (by dsimp only; omega)
      · exact key _ _ (by dsimp only; omega) (by dsimp only; omega)

/-- The values with 128 columns of ones beside them, at an index. -/
theorem withOnes_apply (v : Vec Ideal S512x128 .bf16) (j : Fin 512) (c : Fin 256) :
    withOnes v (ix2 j c) = if h : c.val < 128 then v (ix2 j ⟨c.val, h⟩) else 1 := by
  unfold withOnes
  pointwise

/-- The factor that brings the old sums to the new maximum, at an index. -/
theorem rescale_apply (m : Vec Ideal S1x512x128 .f32) (n : FVec Ideal S512x128 .f32) (r : Fin 512) (c : Fin 256) :
    rescale m n (ix2 r c) = Ideal.exp2 (m (ix3 0 r (Fin.ofNat 128 c.val)) - n (ix2 r (Fin.ofNat 128 c.val))) := by
  unfold rescale flatM
  pointwise
  have hc := c.isLt
  have key : ∀ l : Fin 128, l.val = c.val % 128 → (FloatOps.exp2 (m (ix3 0 r l) - n (ix2 r l)) : Ideal .f32)
      = Ideal.exp2 (m (ix3 0 r (Fin.ofNat 128 c.val)) - n (ix2 r (Fin.ofNat 128 c.val))) := by
    intro l hl
    obtain rfl : l = Fin.ofNat 128 c.val := Fin.ext hl
    rfl
  split
  · exact key _ (by dsimp only; omega)
  · exact key _ (by dsimp only; omega)

/-- The new sums at an index: the old ones rescaled, and those of the block of keys added. -/
theorem newAcc_apply (t : FVec Ideal S512x512 .f32) (v : Vec Ideal S512x128 .bf16) (m : Vec Ideal S1x512x128 .f32) (a : Vec Ideal S1x512x256 .f32)
    (r : Fin 512) (c : Fin 256) :
    newAcc t v m a (ix3 0 r c) = rescale m (newMax t m) (ix2 r c) * a (ix3 0 r c)
      + ∑ j : Fin 512, weights t (newMax t m) (ix2 r j) * withOnes v (ix2 j c) := by
  unfold newAcc
  pointwise

/-- What is written out at an index, from the sums and the gate. -/
theorem gate_apply (a : Vec Ideal S1x512x256 .f32) (z : Vec Ideal S512x128 .bf16) (r : Fin 512) (c : Fin 128) :
    gate a z (ix2 r c) = Ideal.div (a (ix3 0 r ⟨c.val, by omega⟩)) (a (ix3 0 r ⟨128 + c.val, by omega⟩))
      * (z (ix2 r c) * Ideal.div 1 (1 + Ideal.exp (0 - z (ix2 r c)))) := by
  unfold gate
  unfold_payloads
  pointwise

end Cert.Fox
-- ==== Proof.Block.lean ====
/- The attention call's output block at the extended reals: each row is the softmax of its scores over the keys it sees,
   times the values, times the gate. -/
module

public import proofs.«01_k».proof.Proof.Row

@[expose] public section

set_option maxRecDepth 16384

noncomputable section

namespace Cert.Fox

open Idealize.ShloMosaic Idealize.ShloMosaic.TcCoe
open Cert.KernelIdeal Cert.KernelIdeal.Gen

/-- The softmax, to base two, of a row of scores, times a column of values. -/
def softRow {N : ℕ} (τ w : Fin N → EReal) : EReal :=
  ∑ j, Ideal.div (Ideal.exp2 (τ j - Finset.univ.fold max ⊥ τ)) (∑ j, Ideal.exp2 (τ j - Finset.univ.fold max ⊥ τ)) * w j

/-- `z` times the logistic function of `z`. -/
def silu (z : EReal) : EReal := z * Ideal.div 1 (1 + Ideal.exp (0 - z))

/-- The values' column `c`, a column of ones from 128 on. -/
def colOf (v : Fin 128 → ℕ → EReal) (c : Fin 256) : ℕ → EReal := if h : c.val < 128 then v ⟨c.val, h⟩ else fun _ => 1

/-- Row `r` of the scratch buffers holds the running maximum and the weighed values of the keys from `lo` up to `hi`. -/
structure Seen (σ : ℕ → EReal) (v : Fin 128 → ℕ → EReal) (lo hi : ℕ) (r : Fin 512) (m : Vec Ideal S1x512x128 .f32) (a : Vec Ideal S1x512x256 .f32) : Prop where
  max : ∀ c : Fin 128, m (ix3 0 r c) = top σ lo hi
  acc : ∀ c : Fin 256, a (ix3 0 r c) = mass σ (colOf v c) lo hi

variable {σ : ℕ → EReal} {v : Fin 128 → ℕ → EReal} {lo hi : ℕ} {r : Fin 512}

/-- From the keys up to `hi` to the keys of one more block. -/
theorem Seen.step {m : Vec Ideal S1x512x128 .f32} {a : Vec Ideal S1x512x256 .f32} (H : Seen σ v lo hi r m a) (t : FVec Ideal S512x512 .f32) (w : Vec Ideal S512x128 .bf16)
    (ht : ∀ j : Fin 512, t (ix2 r j) = σ (hi + j.val)) (hw : ∀ (j : Fin 512) (c : Fin 128), w (ix2 j c) = v c (hi + j.val))
    (hσ : ∀ j, σ j ≠ ⊤) (h : lo ≤ hi) (hs : σ hi ≠ ⊥) : Seen σ v lo (hi + 512) r (newM t m) (newAcc t w m a) := by
  have hn : ∀ c : Fin 128, newMax t m (ix2 r c) = top σ lo (hi + 512) := fun c => by
    rw [newMax_apply, H.max, top_step h]
    simp only [ht]
  refine ⟨fun c => by rw [newM_apply, hn], fun c => ?_⟩
  rw [newAcc_apply, rescale_apply, hn, H.max, H.acc, mass_step hσ h 512 h (Nat.lt_add_of_pos_right (by norm_num)) hs]
  congr 1
  refine Finset.sum_congr rfl fun j _ => ?_
  rw [weights_apply, withOnes_apply, hn, ht]
  congr 1
  unfold colOf
  split
  · exact hw _ _
  · rfl

section Block

variable (x0 : Vec Ideal S1024x256 .bf16) (x1 : Vec Ideal S16384x256 .bf16) (x2 : Vec Ideal S16384x128 .bf16) (x3 : Vec Ideal S1024x128 .bf16)

/-- The score of query row `R` and key `j`. -/
def dotRow (R : Fin 1024) (j : ℕ) : EReal := ∑ d : Fin 256, x0 (ix2 R d) * x1 (ix2 (Fin.ofNat 16384 j) d)

/-- That score, minus infinity for a key after position `p`. -/
def seenRow (p : ℕ) (R : Fin 1024) (j : ℕ) : EReal := if j ≤ p then dotRow x0 x1 R j else ⊥

/-- The values' columns. -/
def valCol (c : Fin 128) (j : ℕ) : EReal := x2 (ix2 (Fin.ofNat 16384 j) c)

/-- A block of scores, as the products of the rows of queries and keys it is made of. -/
theorem flat_score_rows (h n : ℕ) (r j : Fin 512) :
    flat (score (rows x0 h) (rows x1 n)) (ix2 r j) = dotRow x0 x1 (Fin.ofNat 1024 (512 * h + r.val)) (512 * n + j.val) := by
  rw [flat_score_apply]
  exact Finset.sum_congr rfl fun d _ => by rw [rows_apply, rows_apply]

variable {x0 x1}

/-- All scores are real. -/
def RealScores (x0 : Vec Ideal S1024x256 .bf16) (x1 : Vec Ideal S16384x256 .bf16) : Prop := ∀ R j, ∃ r : ℝ, dotRow x0 x1 R j = r

/-- No score of a row is plus infinity. -/
theorem seenRow_ne_top (hr : RealScores x0 x1) (p : ℕ) (R : Fin 1024) (j : ℕ) : seenRow x0 x1 p R j ≠ ⊤ := by
  unfold seenRow
  split
  · obtain ⟨r, h⟩ := hr R j; rw [h]; exact EReal.coe_ne_top r
  · exact bot_ne_top

/-- The score of a key that is not after the query is not minus infinity. -/
theorem seenRow_ne_bot (hr : RealScores x0 x1) {p : ℕ} (R : Fin 1024) {j : ℕ} (hj : j ≤ p) : seenRow x0 x1 p R j ≠ ⊥ := by
  unfold seenRow
  rw [if_pos hj]
  obtain ⟨r, h⟩ := hr R j; rw [h]; exact EReal.coe_ne_bot r

/-- One whole block of keys, none after the query. -/
theorem Seen.full (hr : RealScores x0 x1) {h n p lo : ℕ} {r : Fin 512} {m : Vec Ideal S1x512x128 .f32} {a : Vec Ideal S1x512x256 .f32}
    (H : Seen (seenRow x0 x1 p (Fin.ofNat 1024 (512 * h + r.val))) (valCol x2) lo (512 * n) r m a) (hlo : lo ≤ 512 * n) (hp : 512 * n + 511 ≤ p) :
    Seen (seenRow x0 x1 p (Fin.ofNat 1024 (512 * h + r.val))) (valCol x2) lo (512 * (n + 1)) r (newM (flat (score (rows x0 h) (rows x1 n))) m)
      (newAcc (flat (score (rows x0 h) (rows x1 n))) (rows x2 n) m a) := by
  refine H.step _ _ (fun j => ?_) (fun j c => ?_) (seenRow_ne_top hr _ _) hlo (seenRow_ne_bot hr _ (by omega))
  · rw [flat_score_rows]; unfold seenRow; rw [if_pos (by have := j.isLt; omega)]
  · rw [rows_apply]; rfl

/-- The block of keys the query itself is in. -/
theorem Seen.last (hr : RealScores x0 x1) {h n p lo : ℕ} {r : Fin 512} {m : Vec Ideal S1x512x128 .f32} {a : Vec Ideal S1x512x256 .f32}
    (H : Seen (seenRow x0 x1 p (Fin.ofNat 1024 (512 * h + r.val))) (valCol x2) lo (512 * n) r m a) (hlo : lo ≤ 512 * n) (hp : p = 512 * n + r.val) :
    Seen (seenRow x0 x1 p (Fin.ofNat 1024 (512 * h + r.val))) (valCol x2) lo (512 * (n + 1)) r (newM (masked (score (rows x0 h) (rows x1 n))) m)
      (newAcc (masked (score (rows x0 h) (rows x1 n))) (rows x2 n) m a) := by
  refine H.step _ _ (fun j => ?_) (fun j c => ?_) (seenRow_ne_top hr _ _) hlo (seenRow_ne_bot hr _ (by omega))
  · rw [masked_apply, flat_score_rows]; unfold seenRow
    by_cases hj : j.val ≤ r.val
    · rw [if_pos hj, if_pos (by omega)]
    · rw [if_neg hj, if_neg (by omega)]
  · rw [rows_apply]; rfl

/-- What the scratch buffers hold between trips, for the pair of query blocks `a`. -/
structure LoopInv' (a s k : ℕ) (st : St Ideal) : Prop where
  s0 : st.s0 = score (rows x0 0) (rows x1 (2 * (s + k)))
  s1 : st.s1 = score (rows x0 1) (rows x1 (2 * (s + k)))
  h0 : ∀ r : Fin 512, Seen (seenRow x0 x1 (1024 * a + r.val) (Fin.ofNat 1024 (512 * 0 + r.val))) (valCol x2) (1024 * s) (512 * (2 * (s + k))) r st.m0 st.a0
  h1 : ∀ r : Fin 512, Seen (seenRow x0 x1 (1024 * a + 512 + r.val) (Fin.ofNat 1024 (512 * 1 + r.val))) (valCol x2) (1024 * s) (512 * (2 * (s + k))) r st.m1 st.a1

/-- The word of zeros is zero. -/
theorem ofBits_zero' : (Scalar.ofBits .f32 0x00000000#32 : Ideal .f32) = 0 := Ideal.ofBits_zero_f32

/-- The state after `k` trips holds the maximum and the sums of the key blocks taken so far. -/
theorem loop_inv (hr : RealScores x0 x1) (a s : ℕ) : ∀ k, s + k ≤ a → LoopInv' (x0 := x0) (x1 := x1) x2 a s k (stAt x0 x1 x2 s k)
  | 0, _ => by
    have e : 512 * (2 * (s + 0)) = 1024 * s := by omega
    refine ⟨rfl, rfl, fun r => ?_, fun r => ?_⟩ <;> rw [e] <;>
      exact ⟨fun c => ofBits_ninf.trans top_self.symm, fun c => ofBits_zero'.trans mass_self.symm⟩
  | k + 1, hk => by
    obtain ⟨s0, s1, h0, h1⟩ := loop_inv hr a s k (by omega)
    have e : 2 * (s + (k + 1)) = 2 * (s + k) + 1 + 1 := by omega
    rw [show stAt x0 x1 x2 s (k + 1) = stepSt x0 x1 x2 (stAt x0 x1 x2 s k) (2 * (s + k)) from rfl]
    generalize stAt x0 x1 x2 s k = st at s0 s1 h0 h1
    refine ⟨?_, ?_, fun r => ?_, fun r => ?_⟩
    · rw [e]; rfl
    · rw [e]; rfl
    · rw [e]
      have h := Seen.full x2 hr (Seen.full x2 hr (h0 r) (by omega) (by omega)) (by omega) (by omega)
      unfold stepSt; rw [s0]; exact h
    · rw [e]
      have h := Seen.full x2 hr (Seen.full x2 hr (h1 r) (by omega) (by omega)) (by omega) (by omega)
      unfold stepSt; rw [s1]; exact h

/-- A half block's rows from its last numerator and denominator. -/
theorem gate_of_seen (hr : RealScores x0 x1) {p lo hi : ℕ} {R : Fin 1024} {r : Fin 512} {m : Vec Ideal S1x512x128 .f32} {A : Vec Ideal S1x512x256 .f32}
    (H : Seen (seenRow x0 x1 p R) (valCol x2) lo hi r m A) (hlo : lo ≤ p) (hp : p < hi) (hhi : hi ≤ 16384) (z : Vec Ideal S512x128 .bf16) (c : Fin 128) :
    gate A z (ix2 r c) = softRow (fun j : Fin 16384 => if lo ≤ j.val ∧ j.val ≤ p then dotRow x0 x1 R j.val else ⊥) (fun j => x2 (ix2 j c))
      * silu (z (ix2 r c)) := by
  rw [gate_apply, H.acc, H.acc]
  refine Ideal.mul_congr ?_ rfl
  unfold softRow
  have e1 : colOf (valCol x2) ⟨c.val, by omega⟩ = valCol x2 c := dif_pos c.isLt
  have e2 : colOf (valCol x2) ⟨128 + c.val, by omega⟩ = fun _ => 1 := dif_neg (by simp)
  rw [e1, e2]
  symm
  refine softmax_eq (σ := seenRow x0 x1 p R) (v := valCol x2 c) (lo := lo) (hi := hi) (N := 16384) (j0 := lo) _ _ (seenRow_ne_top hr _ _) le_rfl (by omega) (seenRow_ne_bot hr _ hlo) hhi ?_ ?_ ?_
  · intro j h0 h1
    unfold seenRow
    by_cases h : j.val ≤ p
    · rw [if_pos ⟨h0, h⟩, if_pos h]
    · rw [if_neg (fun h' => h h'.2), if_neg h]
  · intro j h
    rw [if_neg (by omega)]
  · intro j _ _
    unfold valCol
    rw [show Fin.ofNat 16384 j.val = j from Fin.ext (Nat.mod_eq_of_lt j.isLt)]

/-- The output block of the pair of query blocks `a`, the first pair of key blocks `s`. -/
theorem outBlk_apply (hr : RealScores x0 x1) {a s : ℕ} (hs : s ≤ a) (ha : a < 16) (R : Fin 1024) (c : Fin 128) :
    outBlk x0 x1 x2 x3 a s (ix2 R c)
      = softRow (fun j : Fin 16384 => if 1024 * s ≤ j.val ∧ j.val ≤ 1024 * a + R.val then dotRow x0 x1 R j.val else ⊥) (fun j => x2 (ix2 j c))
        * silu (x3 (ix2 R c)) := by
  obtain ⟨s0, s1, h0, h1⟩ := loop_inv (x0 := x0) (x1 := x1) x2 hr a s (a - s) (by omega)
  unfold outBlk outOf
  generalize stAt x0 x1 x2 s (a - s) = st at s0 s1 h0 h1
  rw [show s + (a - s) = a by omega] at s0 s1 h0 h1
  have hR := R.isLt
  by_cases h : R.val < 512
  · have H := Seen.last x2 hr (h0 ⟨R.val, h⟩) (by omega) (by dsimp only; omega)
    rw [show (Fin.ofNat 1024 (512 * 0 + (⟨R.val, h⟩ : Fin 512).val)) = R from Fin.ext (by show (512 * 0 + R.val) % 1024 = R.val; omega), ← s0] at H
    have g := gate_of_seen x2 hr H (by dsimp only; omega) (by dsimp only; omega) (by omega) (rows x3 0) c
    rw [rows_apply, show (Fin.ofNat 1024 (512 * 0 + (⟨R.val, h⟩ : Fin 512).val)) = R from Fin.ext (by show (512 * 0 + R.val) % 1024 = R.val; omega)] at g
    refine (if_pos h).trans (Eq.trans ?_ g)
    rw [ix2_eq_valueIdx]
    refine congrArg (gate (fin0 x2 a st) (rows x3 0)) (congrArg (fun q => ValueIdx.ix2 q c) (Fin.ext ?_))
    show R.val % 512 = R.val
    omega
  · have hlt : R.val - 512 < 512 := by omega
    have e1 : (Fin.ofNat 1024 (512 * 1 + (⟨R.val - 512, hlt⟩ : Fin 512).val)) = R := Fin.ext (by show (512 * 1 + (R.val - 512)) % 1024 = R.val; omega)
    have H := Seen.last x2 hr (Seen.full x2 hr (h1 ⟨R.val - 512, hlt⟩) (by omega) (by dsimp only; omega)) (by omega) (by dsimp only; omega)
    rw [e1, ← s1] at H
    have g := gate_of_seen x2 hr H (by dsimp only; omega) (by dsimp only; omega) (by omega) (rows x3 1) c
    rw [rows_apply, e1, show 1024 * a + 512 + (⟨R.val - 512, hlt⟩ : Fin 512).val = 1024 * a + R.val by dsimp only; omega] at g
    refine (if_neg h).trans (Eq.trans ?_ g)
    rw [ix2_eq_valueIdx]
    refine congrArg (gate (fin1 x0 x1 x2 a st) (rows x3 1)) (congrArg (fun q => ValueIdx.ix2 q c) (Fin.ext ?_))
    show (R.val - 512) % 512 = R.val - 512
    omega

end Block

end Cert.Fox
-- ==== Proof.Array.lean ====
/- The attention call's output array at the extended reals, from its output blocks. -/
module

public import proofs.«01_k».proof.Proof.Block
public import proofs.«01_k».proof.Proof.Pre
public import Idealize.ShloMosaic.Lib.Pipeline.Value

@[expose] public section

set_option maxRecDepth 16384

noncomputable section

namespace Cert.Fox

open Idealize.ShloMosaic Idealize.ShloMosaic.TcCoe Idealize.SL.Sem
open Idealize.ShloMosaic.Pipeline (Dat)
open Cert.KernelIdeal Cert.KernelIdeal.Gen

/-! ## The windows' blocks -/

/-- The block of each window at a grid point. -/
theorem index0 (i : grid0.Coords) : cc0_transform_0 i = ![(i 0).val * 16 + (i 2).val, (i 1).val] := by
  revert i; decide +kernel
theorem index1 (i : grid0.Coords) : cc0_transform_1 i = ![(i 0).val, (i 1).val] := by
  revert i; decide +kernel
theorem index2 (i : grid0.Coords) : cc0_transform_2 i = ![(i 0).val, 32 + (i 1).val] := by
  revert i; decide +kernel
theorem index3 (i : grid0.Coords) : cc0_transform_3 i = ![(i 0).val * 16 + (i 2).val, 48 + (i 1).val] := by
  revert i; decide +kernel
theorem index4 (i : grid0.Coords) : cc0_transform_4 i = ![(i 0).val * 16 + (i 2).val, (i 1).val] := by
  revert i; decide +kernel

/-- The grid coordinates are in range. -/
theorem coord0 (i : grid0.Coords) : (i 0).val < 2 := (i 0).isLt
theorem coord1 (i : grid0.Coords) : (i 1).val < 16 := (i 1).isLt
theorem coord2 (i : grid0.Coords) : (i 2).val < 16 := (i 2).isLt

section Blocks

variable {F : FTy → Type} [FloatOps F]
variable (m : (ℓ : Loc nD τ sig) → Buf (Elt F) ℓ)

/-- The queries' block: the rows of the point's query block, the columns of its head. -/
theorem iblk0_apply (hO : Ok m) (c : Dev nD) (t : Fin (cfgM m hO).N) (r : Fin 1024) (d : Fin 256) :
    (iblk m hO c 0 t : Vec F S1024x256 .bf16) (ix2 r d)
      = (m ((c.tc : Thread nD τ).loc main_arg1) : Vec F S32768x4096 .bf16)
        (ix2 (Fin.ofNat 32768 (((grid0.coords t 0).val * 16 + (grid0.coords t 2).val) * 1024 + r.val))
          (Fin.ofNat 4096 ((grid0.coords t 1).val * 256 + d.val))) := by
  have b0 := coord0 (grid0.coords t); have b1 := coord1 (grid0.coords t); have b2 := coord2 (grid0.coords t)
  unfold iblk
  refine (View.read_apply _ _).trans ?_
  show (m ((c.tc : Thread nD τ).loc main_arg1) : Vec F S32768x4096 .bf16) _ = _
  refine congrArg (m ((c.tc : Thread nD τ).loc main_arg1) : Vec F S32768x4096 .bf16) ?_
  funext a
  apply Fin.ext
  fin_cases a
  · show cc0_transform_0 (grid0.coords t) 0 * 1024 + 1 * r.val = (((grid0.coords t 0).val * 16 + (grid0.coords t 2).val) * 1024 + r.val) % 32768
    rw [index0]
    show ((grid0.coords t 0).val * 16 + (grid0.coords t 2).val) * 1024 + 1 * r.val = _
    omega
  · show cc0_transform_0 (grid0.coords t) 1 * 256 + 1 * d.val = ((grid0.coords t 1).val * 256 + d.val) % 4096
    rw [index0]
    show (grid0.coords t 1).val * 256 + 1 * d.val = _
    omega

/-- The keys' block: all rows of the batch, the columns of the head. -/
theorem iblk1_apply (hO : Ok m) (c : Dev nD) (t : Fin (cfgM m hO).N) (r : Fin 16384) (d : Fin 256) :
    (iblk m hO c 1 t : Vec F S16384x256 .bf16) (ix2 r d)
      = (m ((c.tc : Thread nD τ).loc main_arg2) : Vec F S32768x4096 .bf16)
        (ix2 (Fin.ofNat 32768 ((grid0.coords t 0).val * 16384 + r.val)) (Fin.ofNat 4096 ((grid0.coords t 1).val * 256 + d.val))) := by
  have b0 := coord0 (grid0.coords t); have b1 := coord1 (grid0.coords t)
  unfold iblk
  refine (View.read_apply _ _).trans ?_
  show (m ((c.tc : Thread nD τ).loc main_arg2) : Vec F S32768x4096 .bf16) _ = _
  refine congrArg (m ((c.tc : Thread nD τ).loc main_arg2) : Vec F S32768x4096 .bf16) ?_
  funext a
  apply Fin.ext
  fin_cases a
  · show cc0_transform_1 (grid0.coords t) 0 * 16384 + 1 * r.val = ((grid0.coords t 0).val * 16384 + r.val) % 32768
    rw [index1]
    show (grid0.coords t 0).val * 16384 + 1 * r.val = _
    omega
  · show cc0_transform_1 (grid0.coords t) 1 * 256 + 1 * d.val = ((grid0.coords t 1).val * 256 + d.val) % 4096
    rw [index1]
    show (grid0.coords t 1).val * 256 + 1 * d.val = _
    omega

/-- The values' block: all rows of the batch, the head's columns of the values. -/
theorem iblk2_apply (hO : Ok m) (c : Dev nD) (t : Fin (cfgM m hO).N) (r : Fin 16384) (d : Fin 128) :
    (iblk m hO c 2 t : Vec F S16384x128 .bf16) (ix2 r d)
      = (m ((c.tc : Thread nD τ).loc main_arg3) : Vec F S32768x8192 .bf16)
        (ix2 (Fin.ofNat 32768 ((grid0.coords t 0).val * 16384 + r.val)) (Fin.ofNat 8192 (4096 + ((grid0.coords t 1).val * 128 + d.val)))) := by
  have b0 := coord0 (grid0.coords t); have b1 := coord1 (grid0.coords t)
  unfold iblk
  refine (View.read_apply _ _).trans ?_
  show (m ((c.tc : Thread nD τ).loc main_arg3) : Vec F S32768x8192 .bf16) _ = _
  refine congrArg (m ((c.tc : Thread nD τ).loc main_arg3) : Vec F S32768x8192 .bf16) ?_
  funext a
  apply Fin.ext
  fin_cases a
  · show cc0_transform_2 (grid0.coords t) 0 * 16384 + 1 * r.val = ((grid0.coords t 0).val * 16384 + r.val) % 32768
    rw [index2]
    show (grid0.coords t 0).val * 16384 + 1 * r.val = _
    omega
  · show cc0_transform_2 (grid0.coords t) 1 * 128 + 1 * d.val = (4096 + ((grid0.coords t 1).val * 128 + d.val)) % 8192
    rw [index2]
    show (32 + (grid0.coords t 1).val) * 128 + 1 * d.val = _
    omega

/-- The gate's block: the rows of the query block, the head's columns of the gate. -/
theorem iblk3_apply (hO : Ok m) (c : Dev nD) (t : Fin (cfgM m hO).N) (r : Fin 1024) (d : Fin 128) :
    (iblk m hO c 3 t : Vec F S1024x128 .bf16) (ix2 r d)
      = (m ((c.tc : Thread nD τ).loc main_arg3) : Vec F S32768x8192 .bf16)
        (ix2 (Fin.ofNat 32768 (((grid0.coords t 0).val * 16 + (grid0.coords t 2).val) * 1024 + r.val))
          (Fin.ofNat 8192 (6144 + ((grid0.coords t 1).val * 128 + d.val)))) := by
  have b0 := coord0 (grid0.coords t); have b1 := coord1 (grid0.coords t); have b2 := coord2 (grid0.coords t)
  unfold iblk
  refine (View.read_apply _ _).trans ?_
  show (m ((c.tc : Thread nD τ).loc main_arg3) : Vec F S32768x8192 .bf16) _ = _
  refine congrArg (m ((c.tc : Thread nD τ).loc main_arg3) : Vec F S32768x8192 .bf16) ?_
  funext a
  apply Fin.ext
  fin_cases a
  · show cc0_transform_3 (grid0.coords t) 0 * 1024 + 1 * r.val = (((grid0.coords t 0).val * 16 + (grid0.coords t 2).val) * 1024 + r.val) % 32768
    rw [index3]
    show ((grid0.coords t 0).val * 16 + (grid0.coords t 2).val) * 1024 + 1 * r.val = _
    omega
  · show cc0_transform_3 (grid0.coords t) 1 * 128 + 1 * d.val = (6144 + ((grid0.coords t 1).val * 128 + d.val)) % 8192
    rw [index3]
    show (48 + (grid0.coords t 1).val) * 128 + 1 * d.val = _
    omega

/-- An index of the output is in a point's block exactly when its row and column are. -/
theorem mem_blk (hO : Ok m) (t : Fin (cfgM m hO).N) (i : S32768x2048.Idx) :
    i ∈ (((cfgM m hO).win 4).blk t).view.set ↔ (i 0).val / 1024 = (grid0.coords t 0).val * 16 + (grid0.coords t 2).val ∧ (i 1).val / 128 = (grid0.coords t 1).val := by
  have e : (((cfgM m hO).win 4).blk t).view.set = (((cfgM m hO).win 4).rect t).set := View.set_slice_whole main_v0 _
  have hmem : i ∈ (((cfgM m hO).win 4).rect t).set ↔ ∀ a : Fin 2, cc0_transform_4 (grid0.coords t) a * S1024x128.size a ≤ (i a).val
      ∧ (i a).val < cc0_transform_4 (grid0.coords t) a * S1024x128.size a + S1024x128.size a := Rect.mem_set_unit
  refine (iff_of_eq (congrArg (i ∈ ·) e)).trans (hmem.trans ?_)
  constructor
  · intro h
    have h0 : cc0_transform_4 (grid0.coords t) 0 * 1024 ≤ (i 0).val ∧ (i 0).val < cc0_transform_4 (grid0.coords t) 0 * 1024 + 1024 := h 0
    have h1 : cc0_transform_4 (grid0.coords t) 1 * 128 ≤ (i 1).val ∧ (i 1).val < cc0_transform_4 (grid0.coords t) 1 * 128 + 128 := h 1
    rw [index4] at h0 h1
    change ((grid0.coords t 0).val * 16 + (grid0.coords t 2).val) * 1024 ≤ _ ∧ _ < ((grid0.coords t 0).val * 16 + (grid0.coords t 2).val) * 1024 + 1024 at h0
    change (grid0.coords t 1).val * 128 ≤ _ ∧ _ < (grid0.coords t 1).val * 128 + 128 at h1
    omega
  · intro h a
    match a with
    | ⟨0, _⟩ =>
      show cc0_transform_4 (grid0.coords t) 0 * 1024 ≤ (i 0).val ∧ (i 0).val < cc0_transform_4 (grid0.coords t) 0 * 1024 + 1024
      rw [index4]
      show ((grid0.coords t 0).val * 16 + (grid0.coords t 2).val) * 1024 ≤ _ ∧ _ < ((grid0.coords t 0).val * 16 + (grid0.coords t 2).val) * 1024 + 1024
      omega
    | ⟨1, _⟩ =>
      show cc0_transform_4 (grid0.coords t) 1 * 128 ≤ (i 1).val ∧ (i 1).val < cc0_transform_4 (grid0.coords t) 1 * 128 + 128
      rw [index4]
      show (grid0.coords t 1).val * 128 ≤ _ ∧ _ < (grid0.coords t 1).val * 128 + 128
      omega

/-- The coordinates of the grid's points, in order. -/
theorem coords_eq : ∀ t : Fin grid0.N, (grid0.coords t 0).val = t.val / 256 ∧ (grid0.coords t 1).val = t.val / 16 % 16 ∧ (grid0.coords t 2).val = t.val % 16 := by
  decide +kernel

/-- Every index of the output is in some point's tile. -/
theorem cover (hO : Ok m) (i : S32768x2048.Idx) :
    ∃ t : Fin (cfgM m hO).N, ((cfgM m hO).win 4).flush t = true ∧ i ∈ (((cfgM m hO).win 4).blk t).view.set := by
  have h0 : (i 0).val < 32768 := (i 0).isLt
  have h1 : (i 1).val < 2048 := (i 1).isLt
  have hN := N_0
  have hn : (i 0).val / 16384 * 256 + (i 1).val / 128 * 16 + (i 0).val / 1024 % 16 < grid0.N := by omega
  obtain ⟨t, ht⟩ : ∃ t : Fin grid0.N, t.val = (i 0).val / 16384 * 256 + (i 1).val / 128 * 16 + (i 0).val / 1024 % 16 := ⟨⟨_, hn⟩, rfl⟩
  obtain ⟨k0, k1, k2⟩ := coords_eq t
  refine ⟨t, flush0_4 _ _, (mem_blk m hO t i).mpr ⟨?_, ?_⟩⟩
  · refine Eq.trans ?_ (congrArg₂ (fun x y => x * 16 + y) k0 k2).symm
    dsimp only
    omega
  · refine Eq.trans ?_ k1.symm
    omega

end Blocks

/-! ## The output array -/

/-- Forgetting attention of batch `b`, position `p`, head `h`, column `e`: the softmax of the scores of the keys seen, times
    the values' column, gated. -/
def attentionAt (a0 : IVec S512 32) (a1 a2 : FVec Ideal S32768x4096 .bf16) (a3 : FVec Ideal S32768x8192 .bf16) (b p h e : ℕ) : EReal :=
  softRow (fun j : Fin 16384 =>
      if 1024 * (a0 (ix1 (Fin.ofNat 512 ((b * 16 + h) * 16 + p / 1024)))).toNat ≤ j.val ∧ j.val ≤ p then
        ∑ d : Fin 256, a1 (ix2 (Fin.ofNat 32768 (b * 16384 + p)) (Fin.ofNat 4096 (h * 256 + d.val)))
          * a2 (ix2 (Fin.ofNat 32768 (b * 16384 + j.val)) (Fin.ofNat 4096 (h * 256 + d.val)))
      else ⊥)
    (fun j => a3 (ix2 (Fin.ofNat 32768 (b * 16384 + j.val)) (Fin.ofNat 8192 (4096 + (h * 128 + e)))))
  * silu (a3 (ix2 (Fin.ofNat 32768 (b * 16384 + p)) (Fin.ofNat 8192 (6144 + (h * 128 + e)))))

/-- The whole array of it. -/
def attention (a0 : IVec S512 32) (a1 a2 : FVec Ideal S32768x4096 .bf16) (a3 : FVec Ideal S32768x8192 .bf16) : FVec Ideal S32768x2048 .bf16 :=
  fun i => attentionAt a0 a1 a2 a3 ((i 0).val / 16384) ((i 0).val % 16384) ((i 1).val / 128) ((i 1).val % 128)

variable (m : (ℓ : Loc nD τ sig) → Buf (Elt Ideal) ℓ) (ρ : Dev nD → PrngReg)

/-- The attention of the arguments device `c` holds. -/
def result (c : Dev nD) : FVec Ideal S32768x2048 .bf16 :=
  attention (m ((c.tc : Thread nD τ).loc main_arg0)) (m ((c.tc : Thread nD τ).loc main_arg1)) (m ((c.tc : Thread nD τ).loc main_arg2))
    (m ((c.tc : Thread nD τ).loc main_arg3))

/-- A sum of products of reals is a real. -/
theorem real_sum {n : ℕ} (f g : Fin n → EReal) (hf : ∀ j, ∃ r : ℝ, f j = r) (hg : ∀ j, ∃ r : ℝ, g j = r) : ∃ r : ℝ, ∑ j, f j * g j = r := by
  induction n with
  | zero => exact ⟨0, by simp⟩
  | succ n ih =>
    obtain ⟨a, ha⟩ := ih (fun j => f j.succ) (fun j => g j.succ) (fun j => hf _) (fun j => hg _)
    obtain ⟨u, hu⟩ := hf 0
    obtain ⟨v, hv⟩ := hg 0
    exact ⟨u * v + a, by rw [Fin.sum_univ_succ, ha, hu, hv, EReal.coe_add, EReal.coe_mul]⟩

variable {m}

/-- An index of two axes is a pair. -/
theorem exists_ix2 (j : S1024x128.Idx) : ∃ (R : Fin 1024) (C : Fin 128), j = ix2 R C :=
  ⟨j 0, j 1, by funext a; fin_cases a <;> rfl⟩

/-- What a grid point writes out is its tile of the result. -/
theorem flushed_eq (hO : Ok m) (hH : Starts m hO) (c : Dev nD)
    (h1 : ∀ j, ∃ r : ℝ, (m ((c.tc : Thread nD τ).loc main_arg1) : Vec Ideal S32768x4096 .bf16) j = (r : EReal))
    (h2 : ∀ j, ∃ r : ℝ, (m ((c.tc : Thread nD τ).loc main_arg2) : Vec Ideal S32768x4096 .bf16) j = (r : EReal))
    (t : Fin (cfgM m hO).N) : (dats m hO hH 0 c).flushed 4 t = (((cfgM m hO).win 4).blk t).view.read (Elt Ideal) (result m c) := by
  have b0 := coord0 (grid0.coords t); have b1 := coord1 (grid0.coords t); have b2 := coord2 (grid0.coords t)
  show ((cfgM m hO).win 4).cut (grid0.coords t) ((dats m hO hH 0 c).after 4 t) = _
  rw [after0_4]
  funext j
  obtain ⟨R, C, rfl⟩ : ∃ (R : Fin 1024) (C : Fin 128), j = (ix2 R C : S1024x128.Idx) := exists_ix2 (j : S1024x128.Idx)
  show outsAt m hO hH c t (ix2 R C) = _
  refine Eq.trans ?_ (View.read_apply _ _).symm
  show _ = result m c _
  have hs := (hH c t).choose_spec
  have hr : RealScores (iblk m hO c 0 t : Vec Ideal S1024x256 .bf16) (iblk m hO c 1 t : Vec Ideal S16384x256 .bf16) := by
    intro R j
    refine real_sum _ _ (fun d => ?_) (fun d => ?_)
    · rw [iblk0_apply]; exact h1 _
    · rw [iblk1_apply]; exact h2 _
  refine (outBlk_apply _ _ hr hs.1 b2 R C).trans ?_
  have hi : (((cfgM m hO).win 4).blk t).view.emb (ix2 R C) = (ix2 (Fin.ofNat 32768 (((grid0.coords t 0).val * 16 + (grid0.coords t 2).val) * 1024 + R.val)) (Fin.ofNat 2048 ((grid0.coords t 1).val * 128 + C.val)) : S32768x2048.Idx) := by
    funext a
    apply Fin.ext
    fin_cases a
    · show cc0_transform_4 (grid0.coords t) 0 * 1024 + 1 * R.val = (((grid0.coords t 0).val * 16 + (grid0.coords t 2).val) * 1024 + R.val) % 32768
      rw [index4]
      show ((grid0.coords t 0).val * 16 + (grid0.coords t 2).val) * 1024 + 1 * R.val = _
      omega
    · show cc0_transform_4 (grid0.coords t) 1 * 128 + 1 * C.val = ((grid0.coords t 1).val * 128 + C.val) % 2048
      rw [index4]
      show (grid0.coords t 1).val * 128 + 1 * C.val = _
      omega
  refine Eq.trans ?_ (congrArg (result m c) hi.symm)
  have e0 : ((grid0.coords t 0).val * 16 + (grid0.coords t 2).val) * 1024 + R.val = (grid0.coords t 0).val * 16384 + (1024 * (grid0.coords t 2).val + R.val) := by omega
  have hat : result m c (ix2 (Fin.ofNat 32768 (((grid0.coords t 0).val * 16 + (grid0.coords t 2).val) * 1024 + R.val)) (Fin.ofNat 2048 ((grid0.coords t 1).val * 128 + C.val)))
      = attentionAt (m ((c.tc : Thread nD τ).loc main_arg0)) (m ((c.tc : Thread nD τ).loc main_arg1)) (m ((c.tc : Thread nD τ).loc main_arg2))
        (m ((c.tc : Thread nD τ).loc main_arg3)) (grid0.coords t 0).val (1024 * (grid0.coords t 2).val + R.val) (grid0.coords t 1).val C.val := by
    have hR := R.isLt; have hC := C.isLt
    show attentionAt _ _ _ _ ((((grid0.coords t 0).val * 16 + (grid0.coords t 2).val) * 1024 + R.val) % 32768 / 16384)
      ((((grid0.coords t 0).val * 16 + (grid0.coords t 2).val) * 1024 + R.val) % 32768 % 16384)
      (((grid0.coords t 1).val * 128 + C.val) % 2048 / 128) (((grid0.coords t 1).val * 128 + C.val) % 2048 % 128) = _
    congr 1 <;> omega
  rw [hat]
  unfold attentionAt
  refine Ideal.mul_congr (congrArg₂ softRow ?_ ?_) (congrArg silu ?_)
  · funext j
    have hw : (((m ((c.tc : Thread nD τ).loc main_arg0) : IVec S512 32) (ix1 (Fin.ofNat 512 (((grid0.coords t 0).val * 16 + (grid0.coords t 1).val) * 16 + (1024 * (grid0.coords t 2).val + R.val) / 1024)))).toNat)
        = (startOf hH c t).val := by
      have hR := R.isLt
      have hn : ((grid0.coords t 0).val * 16 + (grid0.coords t 1).val) * 16 + (grid0.coords t 2).val < 512 := by omega
      have ei : (Fin.ofNat 512 (((grid0.coords t 0).val * 16 + (grid0.coords t 1).val) * 16 + (1024 * (grid0.coords t 2).val + R.val) / 1024)) = ⟨_, hn⟩ := by
        apply Fin.ext
        show ((((grid0.coords t 0).val * 16 + (grid0.coords t 1).val) * 16 + (1024 * (grid0.coords t 2).val + R.val) / 1024) % 512) = ((grid0.coords t 0).val * 16 + (grid0.coords t 1).val) * 16 + (grid0.coords t 2).val
        omega
      rw [ei]
      have e := (word_eq c (grid0.coords t) (tbl m 0) hn).symm.trans hs.2
      refine (congrArg BitVec.toNat ((congrFun (V_pre m c 0) _).trans e)).trans ?_
      have := (startOf hH c t).isLt
      show (startOf hH c t).val % 2 ^ 32 = _
      omega
    rw [hw]
    refine if_congr Iff.rfl ?_ rfl
    unfold dotRow
    refine Finset.sum_congr rfl fun d _ => ?_
    rw [← e0]
    refine Ideal.mul_congr (iblk0_apply m hO c t R d) ((iblk1_apply m hO c t _ d).trans ?_)
    have : (Fin.ofNat 16384 j.val).val = j.val := Nat.mod_eq_of_lt j.isLt
    rw [this]
  · funext j
    exact iblk2_apply m hO c t j C
  · rw [← e0]
    exact iblk3_apply m hO c t R C

/-- The output array, whole. -/
theorem final_eq (hO : Ok m) (hH : Starts m hO) (c : Dev nD)
    (h1 : ∀ j, ∃ r : ℝ, (m ((c.tc : Thread nD τ).loc main_arg1) : Vec Ideal S32768x4096 .bf16) j = (r : EReal))
    (h2 : ∀ j, ∃ r : ℝ, (m ((c.tc : Thread nD τ).loc main_arg2) : Vec Ideal S32768x4096 .bf16) j = (r : EReal)) :
    (dats m hO hH 0 c).arrAt 4 (cfgM m hO).N = result m c :=
  (dats m hO hH 0 c).arrAt_eq_of_cover 4 (result m c) (fun t _ => flushed_eq hO hH c h1 h2 t) (cover m hO)

variable (m)

/-- The run, with the output array named. -/
theorem run (hO : Ok m) (hH : Starts m hO)
    (h1 : ∀ (c : Dev nD) j, ∃ r : ℝ, (m ((c.tc : Thread nD τ).loc main_arg1) : Vec Ideal S32768x4096 .bf16) j = (r : EReal))
    (h2 : ∀ (c : Dev nD) j, ∃ r : ℝ, (m ((c.tc : Thread nD τ).loc main_arg2) : Vec Ideal S32768x4096 .bf16) j = (r : EReal)) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_eq hO hH c (h1 c) (h2 c)), h.2 c⟩)
    (θ_run_and (run_main m ρ hO hH) (unchanged m ρ hO hH))

end Cert.Fox
-- ==== Proof.Ref.lean ====
/- The reference at an index: the mask of the keys seen, the scores, their powers of two, the softmax, its product with the
   values and the gate. -/
module

public import proofs.«01_k».proof.Proof.Gen.ReferenceIdeal.Run
public import proofs.«01_k».proof.Proof.Array
public import Idealize.ShloMosaic.Lib.Pointwise.Tactic
public import Idealize.ShloMosaic.Lib.Pointwise

@[expose] public section

set_option maxRecDepth 16384

noncomputable section

namespace Cert.Fox.Ref

open Idealize.ShloMosaic Idealize.ShloMosaic.TcCoe Idealize.SL.Sem
open Cert.ReferenceIdeal Cert.ReferenceIdeal.Gen

/-- Which keys a query sees: those not after it and not before its first pair of key blocks. -/
def seen (a0 : IVec S512 32) : IVec S2x16x16384x16384 1 :=
  andi (broadcastInDim S2x16x16384x16384 ![0, 1, 2, 3] bcast_S1x1x16384x16384_S2x16x16384x16384_0_1_2_3 (broadcastInDim S1x1x16384x16384 ![2, 3] bcast_S16384x16384_S1x1x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))))
    (cmpi .sge (broadcastInDim S2x16x16384x16384 ![0, 1, 2, 3] bcast_S1x1x1x16384_S2x16x16384x16384_0_1_2_3 (broadcastInDim S1x1x1x16384 ![3] bcast_S16384_S1x1x1x16384_3 (iotaInDim S16384 32 0))) (broadcastInDim S2x16x16384x16384 ![0, 1, 2, 3] bcast_S2x16x16384x1_S2x16x16384x16384_0_1_2_3 (shapeCast S2x16x16384x1 (broadcastInDim S2x16x16x1024 ![0, 1, 2, 3] bcast_S2x16x16x1_S2x16x16x1024_0_1_2_3 (shapeCast S2x16x16x1 (muli (broadcastInDim S512 ![] bcast_S_S512 (constantI S_ 32 1024#32)) a0) shapeCasts_S512_S2x16x16x1)) shapeCasts_S2x16x16x1024_S2x16x16384x1)))

/-- All scores. -/
def scores (a1 a2 : FVec Ideal S32768x4096 .bf16) : FVec Ideal S2x16x16384x16384 .f32 :=
  Host.dotGeneral dot_S2x16x16384x256_S2x16x16384x256_S2x16x16384x16384_3_3_2_2_01_01 none (extf .f32 (transpose S2x16x16384x256 [0, 2, 1, 3] (shapeCast S2x16384x16x256 a1 shapeCasts_S32768x4096_S2x16384x16x256) transposes_S2x16384x16x256_S2x16x16384x256_0_2_1_3) bitsLt_bf16_f32) (extf .f32 (transpose S2x16x16384x256 [0, 2, 1, 3] (shapeCast S2x16384x16x256 a2 shapeCasts_S32768x4096_S2x16384x16x256) transposes_S2x16384x16x256_S2x16x16384x256_0_2_1_3) bitsLt_bf16_f32)

/-- The scores of the keys seen, minus infinity for the others. -/
def maskedScores (a0 : IVec S512 32) (a1 a2 : FVec Ideal S32768x4096 .bf16) : FVec Ideal S2x16x16384x16384 .f32 :=
  select (seen a0) (scores a1 a2) (broadcastInDim S2x16x16384x16384 ![] bcast_S_S2x16x16384x16384 (id (constant S_ .f32 0xFF800000#32)))

/-- Powers of two of the scores less the largest of their row. -/
def powers (M : FVec Ideal S2x16x16384x16384 .f32) : FVec Ideal S2x16x16384x16384 .f32 :=
  Host.powf (broadcastInDim S2x16x16384x16384 ![] bcast_S_S2x16x16384x16384 (constant S_ .f32 0x40000000#32)) (subf M (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduce FloatOps.maximumf M (constant S_ .f32 0xFF800000#32) reducesTo_S2x16x16384x16384_S2x16x16384_d3 h_S_))))

/-- Each divided by the sum of its row. -/
def shares (E : FVec Ideal S2x16x16384x16384 .f32) : FVec Ideal S2x16x16384x16384 .f32 :=
  Host.divf E (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd E (constant S_ .f32 0x00000000#32) reducesTo_S2x16x16384x16384_S2x16x16384_d3 h_S_)))

/-- The shares times the values. -/
def weighed (P : FVec Ideal S2x16x16384x16384 .f32) (a3 : FVec Ideal S32768x8192 .bf16) : FVec Ideal S2x16x16384x128 .f32 :=
  Host.dotGeneral dot_S2x16x16384x16384_S2x16x16384x128_S2x16x16384x128_3_2_2_3_01_01 none (extf .f32 (truncf .bf16 P bitsLt_bf16_f32) bitsLt_bf16_f32) (extf .f32 (transpose S2x16x16384x128 [0, 2, 1, 3] (shapeCast S2x16384x16x128 (extractStridedSlice S32768x2048 ![0, 4096] a3 slices_S32768x8192_S32768x2048_0_4096) shapeCasts_S32768x2048_S2x16384x16x128) transposes_S2x16384x16x128_S2x16x16384x128_0_2_1_3) bitsLt_bf16_f32)

/-- The heads side by side again, times the gate. -/
def gated (O : FVec Ideal S2x16x16384x128 .f32) (a3 : FVec Ideal S32768x8192 .bf16) : FVec Ideal S32768x2048 .bf16 :=
  truncf .bf16 (mulf (extf .f32 (shapeCast S32768x2048 (transpose S2x16384x16x128 [0, 2, 1, 3] (truncf .bf16 O bitsLt_bf16_f32) transposes_S2x16x16384x128_S2x16384x16x128_0_2_1_3) shapeCasts_S2x16384x16x128_S32768x2048) bitsLt_bf16_f32) (mulf (extf .f32 (extractStridedSlice S32768x2048 ![0, 6144] a3 slices_S32768x8192_S32768x2048_0_6144) bitsLt_bf16_f32) (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 (extractStridedSlice S32768x2048 ![0, 6144] a3 slices_S32768x8192_S32768x2048_0_6144) bitsLt_bf16_f32))))))) bitsLt_bf16_f32

/-- The reference's printed result is the array built from the parts above. -/
theorem res_eq (m : (ℓ : Loc nD τ sig) → Buf (Elt Ideal) ℓ) (c : Dev nD) :
    Cert.ReferenceIdeal.Value.res_main_v51 m c
      = gated (weighed (shares (powers (maskedScores (m ((c.tc : Thread nD τ).loc main_arg0)) (m ((c.tc : Thread nD τ).loc main_arg1)) (m ((c.tc : Thread nD τ).loc main_arg2)))))
          (m ((c.tc : Thread nD τ).loc main_arg3))) (m ((c.tc : Thread nD τ).loc main_arg3)) := rfl

/-- A number in range is itself. -/
theorem ofNat_mk {n : ℕ} [NeZero n] (k : ℕ) (h : k < n) : Fin.ofNat n k = ⟨k, h⟩ := Fin.ext (Nat.mod_eq_of_lt h)

/-- The word of two is two. -/
theorem ofBits_two : Ideal.ofBits .f32 1073741824#32 = ((2 : ℝ) : EReal) := by
  simp [Ideal.ofBits, Ideal.ieee, -EReal.coe_mul]; norm_num

/-- The signed comparison of two small numbers' words. -/
theorem sge_iff {x y : ℕ} (hx : x < 16384) (hy : y < 16384) : IntOp.cmpi .sge (BitVec.ofNat 32 x) (BitVec.ofNat 32 y) = 1#1 ↔ y ≤ x := by
  show BitVec.ofBool ((BitVec.ofNat 32 y).sle (BitVec.ofNat 32 x)) = 1#1 ↔ _
  rw [ofBool_eq_one]
  simp only [BitVec.sle, decide_eq_true_eq, BitVec.toInt, BitVec.toNat_ofNat]
  rw [Nat.mod_eq_of_lt (by omega), Nat.mod_eq_of_lt (by omega), if_pos (by omega), if_pos (by omega)]
  omega

/-- A score at an index: the product of a query and a key. -/
theorem scores_apply (a1 a2 : FVec Ideal S32768x4096 .bf16) (b : Fin 2) (h : Fin 16) (p j : Fin 16384) :
    scores a1 a2 (ix4 b h p j) = ∑ d : Fin 256, a1 (ix2 (Fin.ofNat 32768 (b.val * 16384 + p.val)) (Fin.ofNat 4096 (h.val * 256 + d.val)))
      * a2 (ix2 (Fin.ofNat 32768 (b.val * 16384 + j.val)) (Fin.ofNat 4096 (h.val * 256 + d.val))) := by
  unfold scores
  pointwise
  have hb := b.isLt; have hh := h.isLt; have hp := p.isLt; have hj := j.isLt
  refine Finset.sum_congr rfl fun d _ => ?_
  have hd := d.isLt
  rw [ofNat_mk (b.val * 16384 + p.val) (by omega), ofNat_mk (b.val * 16384 + j.val) (by omega), ofNat_mk (h.val * 256 + d.val) (by omega)]

/-- The mask's word: set exactly when the key is at or after the start and not after the query. -/
theorem seen_apply (a0 : IVec S512 32) (b : Fin 2) (h : Fin 16) (p j : Fin 16384)
    (hs : (a0 (ix1 (Fin.ofNat 512 ((b.val * 16 + h.val) * 16 + p.val / 1024)))).toNat < 16) :
    seen a0 (ix4 b h p j) = 1#1 ↔ 1024 * (a0 (ix1 (Fin.ofNat 512 ((b.val * 16 + h.val) * 16 + p.val / 1024)))).toNat ≤ j.val ∧ j.val ≤ p.val := by
  have hb := b.isLt; have hh := h.isLt; have hp := p.isLt; have hj := j.isLt
  have e : seen a0 (ix4 b h p j) = IntOp.andi (IntOp.cmpi .sge (BitVec.ofNat 32 p.val) (BitVec.ofNat 32 j.val))
      (IntOp.cmpi .sge (BitVec.ofNat 32 j.val) (IntOp.muli 1024#32 (a0 (ix1 (Fin.ofNat 512 ((b.val * 16 + h.val) * 16 + p.val / 1024)))))) := by
    unfold seen
    pointwise
    have ei : (b.val * 16 + h.val) * 16 + p.val / 1024 = b.val * 256 + h.val * 16 + p.val / 1024 := by omega
    rw [ei, ofNat_mk (b.val * 256 + h.val * 16 + p.val / 1024) (by omega)]
  rw [e, andi_eq_one]
  generalize a0 _ = w at hs ⊢
  have hw : IntOp.muli 1024#32 w = BitVec.ofNat 32 (1024 * w.toNat) := by
    apply BitVec.eq_of_toNat_eq
    show (1024#32 * w).toNat = _
    rw [BitVec.toNat_mul, BitVec.toNat_ofNat, BitVec.toNat_ofNat]
  rw [hw, sge_iff hp hj, sge_iff hj (by omega), and_comm]

/-- A masked score at an index: the score of a key that is seen, else minus infinity. -/
theorem maskedScores_apply (a0 : IVec S512 32) (a1 a2 : FVec Ideal S32768x4096 .bf16) (b : Fin 2) (h : Fin 16) (p j : Fin 16384)
    (hs : (a0 (ix1 (Fin.ofNat 512 ((b.val * 16 + h.val) * 16 + p.val / 1024)))).toNat < 16) :
    maskedScores a0 a1 a2 (ix4 b h p j)
      = if 1024 * (a0 (ix1 (Fin.ofNat 512 ((b.val * 16 + h.val) * 16 + p.val / 1024)))).toNat ≤ j.val ∧ j.val ≤ p.val then
          ∑ d : Fin 256, a1 (ix2 (Fin.ofNat 32768 (b.val * 16384 + p.val)) (Fin.ofNat 4096 (h.val * 256 + d.val)))
            * a2 (ix2 (Fin.ofNat 32768 (b.val * 16384 + j.val)) (Fin.ofNat 4096 (h.val * 256 + d.val)))
        else ⊥ := by
  rw [← scores_apply]
  show (if seen a0 (ix4 b h p j) = 1#1 then scores a1 a2 (ix4 b h p j) else Ideal.ofBits .f32 4286578688#32) = _
  rw [ofBits_ninf]
  exact if_congr (seen_apply a0 b h p j hs) rfl rfl

/-- A power at an index: two raised to the score less the row's largest. -/
theorem powers_apply (M : FVec Ideal S2x16x16384x16384 .f32) (b : Fin 2) (h : Fin 16) (p j : Fin 16384) :
    powers M (ix4 b h p j) = Ideal.exp2 (M (ix4 b h p j) - Finset.univ.fold max ⊥ fun x => M (ix4 b h p x)) := by
  unfold powers
  pointwise
  rw [ofBits_two, ofBits_ninf, pow_two]

/-- A share at an index: the power over the sum of the row's powers. -/
theorem shares_apply (E : FVec Ideal S2x16x16384x16384 .f32) (b : Fin 2) (h : Fin 16) (p j : Fin 16384) :
    shares E (ix4 b h p j) = Ideal.div (E (ix4 b h p j)) (∑ x, E (ix4 b h p x)) := by
  unfold shares
  pointwise

/-- The product with the values at an index: the sum over the keys. -/
theorem weighed_apply (P : FVec Ideal S2x16x16384x16384 .f32) (a3 : FVec Ideal S32768x8192 .bf16) (b : Fin 2) (h : Fin 16) (p : Fin 16384) (e : Fin 128) :
    weighed P a3 (ix4 b h p e)
      = ∑ x : Fin 16384, P (ix4 b h p x) * a3 (ix2 (Fin.ofNat 32768 (b.val * 16384 + x.val)) (Fin.ofNat 8192 (4096 + (h.val * 128 + e.val)))) := by
  unfold weighed
  pointwise
  have hb := b.isLt; have hh := h.isLt; have he := e.isLt
  refine Finset.sum_congr rfl fun x _ => ?_
  have hx := x.isLt
  rw [ofNat_mk (b.val * 16384 + x.val) (by omega), ofNat_mk (4096 + (h.val * 128 + e.val)) (by omega)]

/-- The gated array at an index. -/
theorem gated_apply (O : FVec Ideal S2x16x16384x128 .f32) (a3 : FVec Ideal S32768x8192 .bf16) (r : Fin 32768) (c : Fin 2048) :
    gated O a3 (ix2 r c) = O (ix4 (⟨r.val / 16384, by omega⟩ : Fin 2) (⟨c.val / 128, by omega⟩ : Fin 16) (⟨r.val % 16384, by omega⟩ : Fin 16384) (⟨c.val % 128, by omega⟩ : Fin 128))
      * silu (a3 (ix2 r (⟨6144 + c.val, by omega⟩ : Fin 8192))) := by
  unfold gated silu
  pointwise
  rw [zero_sub]

/-- The reference's array is the attention's. -/
theorem out_eq (a0 : IVec S512 32) (a1 a2 : FVec Ideal S32768x4096 .bf16) (a3 : FVec Ideal S32768x8192 .bf16) (hs : ∀ y, (a0 y).toNat < 16) :
    gated (weighed (shares (powers (maskedScores a0 a1 a2))) a3) a3 = attention a0 a1 a2 a3 := by
  funext i
  obtain ⟨r, c, rfl⟩ : ∃ (r : Fin 32768) (c : Fin 2048), i = ix2 r c := ⟨i 0, i 1, by funext a; fin_cases a <;> rfl⟩
  have hr := r.isLt; have hc := c.isLt
  rw [gated_apply, weighed_apply]
  show _ = attentionAt a0 a1 a2 a3 (r.val / 16384) (r.val % 16384) (c.val / 128) (c.val % 128)
  unfold attentionAt softRow
  have e1 : r.val / 16384 * 16384 + r.val % 16384 = r.val := by omega
  have e2 : 6144 + (c.val / 128 * 128 + c.val % 128) = 6144 + c.val := by omega
  refine Ideal.mul_congr (Finset.sum_congr rfl fun j _ => Ideal.mul_congr ?_ rfl) (congrArg silu ?_)
  · have hM : ∀ x : Fin 16384, maskedScores a0 a1 a2 (ix4 (⟨r.val / 16384, by omega⟩ : Fin 2) (⟨c.val / 128, by omega⟩ : Fin 16) (⟨r.val % 16384, by omega⟩ : Fin 16384) x) = _ :=
      fun x => maskedScores_apply a0 a1 a2 _ _ _ x (hs _)
    rw [shares_apply]
    simp only [powers_apply, hM]
  · rw [e1, e2, ofNat_mk r.val hr, ofNat_mk (6144 + c.val) (by omega)]

end Cert.Fox.Ref

end
-- ==== Proof.Value.lean ====
/- The kernel's result is the reference's, at the extended reals. -/
module

public import proofs.«01_k».proof.Proof.Ref

@[expose] public section

set_option maxRecDepth 16384

noncomputable section

namespace Cert.Fox

open Idealize.ShloMosaic Idealize.ShloMosaic.TcCoe Idealize.SL.Sem

/-- From equal arguments that the precondition allows, the idealized call and its reference end with the same arrays. -/
theorem algebraic : Cert.algebraic_KernelIdeal_ReferenceIdeal_pre_start_in_range_scores_finite := by
  intro m ρ m' ρ' hpre hagree
  have hf := fun c => of_finite _ _ _ _ (hpre c)
  refine ⟨fun c => result m c, run m ρ (ok_all m) (starts_of m fun c => (hf c).1) (fun c => (hf c).2.1) (fun c => (hf c).2.2), ?_⟩
  refine (θ_run Cert.ReferenceIdeal.defs _ _).mono (fun _ h c => ⟨((h c).1.trans (Ref.res_eq m' c)).trans ?_, (h c).2⟩)
    (Cert.ReferenceIdeal.Value.run (F := Ideal) m' ρ')
  rw [(hagree c).1, (hagree c).2.1, (hagree c).2.2.1, (hagree c).2.2.2]
  refine Ref.out_eq _ _ _ _ fun y => ?_
  obtain ⟨s, _, e⟩ := (hf c).1 y
  refine (congrArg BitVec.toNat e).trans_lt ?_
  have hs := s.isLt
  show s.val % 2 ^ 32 < 16
  omega

end Cert.Fox

end
-- ==== Proof.OddOut.lean ====
/- The second layer's output projection: what the tiles of its product and sum make together is `x + y @ w`. -/
module

public import proofs.«01_k».proof.Defs
public import proofs.«01_k».proof.Proof.Gen.OddOut
public import proofs.«01_k».proof.Proof.Gen.OddOut.Frame
public import proofs.«01_k».proof.Proof.Gen.OddOutIdeal.Value
public import proofs.«01_k».proof.Proof.Gen.OddOutReferenceIdeal
public import proofs.«01_k».proof.Proof.Gen.OddOutReferenceIdeal.Run
public import Idealize.ShloMosaic.Lib.Pointwise.Tactic
public import Idealize.ShloMosaic.Lib.Pointwise

@[expose] public section

set_option maxRecDepth 16384

noncomputable section

namespace Cert.OddOutProof

open Idealize.ShloMosaic Idealize.ShloMosaic.TcCoe Idealize.SL.Sem
open Idealize.ShloMosaic.Pipeline (Dat)
open Cert.OddOutIdeal Cert.OddOutIdeal.Gen

/-- The block of each window at a grid point. -/
theorem index0 (i : grid0.Coords) : cc0_transform_0 i = ![(i 0).val, 0] := by revert i; decide +kernel
theorem index1 (i : grid0.Coords) : cc0_transform_1 i = ![0, (i 1).val] := by revert i; decide +kernel
theorem index2 (i : grid0.Coords) : cc0_transform_2 i = ![(i 0).val, (i 1).val] := by revert i; decide +kernel
theorem index3 (i : grid0.Coords) : cc0_transform_3 i = ![(i 0).val, (i 1).val] := by revert i; decide +kernel
/-- The grid coordinates are in range. -/
theorem coord0 (i : grid0.Coords) : (i 0).val < 32 := (i 0).isLt
theorem coord1 (i : grid0.Coords) : (i 1).val < 2 := (i 1).isLt

/-- The coordinates of the grid's points, in order. -/
theorem coords_eq : ∀ t : Fin grid0.N, (grid0.coords t 0).val = t.val / 2 ∧ (grid0.coords t 1).val = t.val % 2 := by
  decide +kernel

variable (m : (ℓ : Loc nD τ sig) → Buf (Elt Ideal) ℓ) (ρ : Dev nD → PrngReg)

/-- The weights the region finds: the argument's, cast. -/
theorem weights_eq (c : Dev nD) : V m c main_v0 = (truncf .bf16 (m ((c.tc : Thread nD τ).loc main_arg1) : FVec Ideal S2048x2048 .f32) bitsLt_bf16_f32 : FVec Ideal S2048x2048 .bf16) := by
  show StableHlo.after hostOps0 _ (Proc.devRef .tc main_v0) = _
  after_results

/-- A block of `y`'s rows. -/
theorem iblk0_apply (c : Dev nD) (t : Fin cfg0.N) (r : Fin 1024) (d : Fin 2048) :
    (iblk m c 0 t : Vec Ideal S1024x2048 .bf16) (ix2 r d)
      = (m ((c.tc : Thread nD τ).loc main_arg0) : Vec Ideal S32768x2048 .bf16) (ix2 (Fin.ofNat 32768 ((grid0.coords t 0).val * 1024 + r.val)) d) := by
  have b0 := coord0 (grid0.coords t)
  unfold iblk
  refine (View.read_apply _ _).trans ?_
  show (V m c main_arg0 : Vec Ideal S32768x2048 .bf16) _ = _
  rw [V_main_arg0]
  refine congrArg (m ((c.tc : Thread nD τ).loc main_arg0) : Vec Ideal S32768x2048 .bf16) ?_
  funext a
  apply Fin.ext
  fin_cases a
  · show cc0_transform_0 (grid0.coords t) 0 * 1024 + 1 * r.val = ((grid0.coords t 0).val * 1024 + r.val) % 32768
    rw [index0]
    show (grid0.coords t 0).val * 1024 + 1 * r.val = _
    omega
  · show cc0_transform_0 (grid0.coords t) 1 * 2048 + 1 * d.val = d.val
    rw [index0]
    show 0 * 2048 + 1 * d.val = _
    omega

/-- A block of the weights' columns. -/
theorem iblk1_apply (c : Dev nD) (t : Fin cfg0.N) (d : Fin 2048) (k : Fin 1024) :
    (iblk m c 1 t : Vec Ideal S2048x1024 .bf16) (ix2 d k)
      = (m ((c.tc : Thread nD τ).loc main_arg1) : Vec Ideal S2048x2048 .f32) (ix2 d (Fin.ofNat 2048 ((grid0.coords t 1).val * 1024 + k.val))) := by
  have b1 := coord1 (grid0.coords t)
  unfold iblk
  refine (View.read_apply _ _).trans ?_
  show (V m c main_v0 : Vec Ideal S2048x2048 .bf16) _ = _
  rw [weights_eq]
  refine congrArg (m ((c.tc : Thread nD τ).loc main_arg1) : Vec Ideal S2048x2048 .f32) ?_
  funext a
  apply Fin.ext
  fin_cases a
  · show cc0_transform_1 (grid0.coords t) 0 * 2048 + 1 * d.val = d.val
    rw [index1]
    show 0 * 2048 + 1 * d.val = _
    omega
  · show cc0_transform_1 (grid0.coords t) 1 * 1024 + 1 * k.val = ((grid0.coords t 1).val * 1024 + k.val) % 2048
    rw [index1]
    show (grid0.coords t 1).val * 1024 + 1 * k.val = _
    omega

/-- A tile of the residual. -/
theorem iblk2_apply (c : Dev nD) (t : Fin cfg0.N) (r : Fin 1024) (k : Fin 1024) :
    (iblk m c 2 t : Vec Ideal S1024x1024 .f32) (ix2 r k)
      = (m ((c.tc : Thread nD τ).loc main_arg2) : Vec Ideal S32768x2048 .f32)
        (ix2 (Fin.ofNat 32768 ((grid0.coords t 0).val * 1024 + r.val)) (Fin.ofNat 2048 ((grid0.coords t 1).val * 1024 + k.val))) := by
  have b0 := coord0 (grid0.coords t); have b1 := coord1 (grid0.coords t)
  unfold iblk
  refine (View.read_apply _ _).trans ?_
  show (V m c main_arg2 : Vec Ideal S32768x2048 .f32) _ = _
  rw [V_main_arg2]
  refine congrArg (m ((c.tc : Thread nD τ).loc main_arg2) : Vec Ideal S32768x2048 .f32) ?_
  funext a
  apply Fin.ext
  fin_cases a
  · show cc0_transform_2 (grid0.coords t) 0 * 1024 + 1 * r.val = ((grid0.coords t 0).val * 1024 + r.val) % 32768
    rw [index2]
    show (grid0.coords t 0).val * 1024 + 1 * r.val = _
    omega
  · show cc0_transform_2 (grid0.coords t) 1 * 1024 + 1 * k.val = ((grid0.coords t 1).val * 1024 + k.val) % 2048
    rw [index2]
    show (grid0.coords t 1).val * 1024 + 1 * k.val = _
    omega

/-- The residual and the product, index by index. -/
def projected (y : FVec Ideal S32768x2048 .bf16) (w : FVec Ideal S2048x2048 .f32) (x : FVec Ideal S32768x2048 .f32) : FVec Ideal S32768x2048 .f32 :=
  fun i => x i + ∑ d : Fin 2048, y (ix2 (i 0) d) * w (ix2 d (i 1))

/-- The output array. -/
def result (c : Dev nD) : FVec Ideal S32768x2048 .f32 :=
  projected (m ((c.tc : Thread nD τ).loc main_arg0)) (m ((c.tc : Thread nD τ).loc main_arg1)) (m ((c.tc : Thread nD τ).loc main_arg2))

/-- The offset of a whole buffer is zero on both axes. -/
theorem zero_off : (![0, 0] : Fin 2 → ℕ) = fun _ => 0 := funext fun a => by fin_cases a <;> rfl

/-- An index of two axes is a pair. -/
theorem exists_ix2 {A B : ℕ} (j : (⟨2, ![A, B]⟩ : Shape).Idx) : ∃ (R : Fin A) (C : Fin B), j = ix2 R C :=
  ⟨j 0, j 1, by funext a; fin_cases a <;> rfl⟩

/-- One tile: the residual's and the product's. -/
theorem tile_apply (x0 : Vec Ideal S1024x2048 .bf16) (x1 : Vec Ideal S2048x1024 .bf16) (x2 : Vec Ideal S1024x1024 .f32) (r k : Fin 1024) :
    out0_3 x0 x1 x2 (ix2 r k) = x2 (ix2 r k) + ∑ d : Fin 2048, x0 (ix2 r d) * x1 (ix2 d k) := by
  unfold out0_3
  rw [View.canon_unit_zero zero_off, View.ld_unit_zero zero_off, View.ld_unit_zero zero_off, View.ld_unit_zero zero_off]
  unfold k0_pay1
  pointwise

/-- What a grid point writes out is its tile of the result. -/
theorem flushed_eq (c : Dev nD) (t : Fin cfg0.N) :
    (dats m 0 c).flushed 3 t = ((cfg0.win 3).blk t).view.read (Elt Ideal) (result m c) := by
  have b0 := coord0 (grid0.coords t); have b1 := coord1 (grid0.coords t)
  rw [Value.flushed3]
  funext j
  obtain ⟨R, C, rfl⟩ : ∃ (R : Fin 1024) (C : Fin 1024), j = (ix2 R C : S1024x1024.Idx) := exists_ix2 (j : S1024x1024.Idx)
  show out0_3 (iblk m c 0 t) (iblk m c 1 t) (iblk m c 2 t) (ix2 R C) = _
  refine Eq.trans ?_ (View.read_apply _ _).symm
  show _ = result m c _
  have hi : ((cfg0.win 3).blk t).view.emb (ix2 R C)
      = (ix2 (Fin.ofNat 32768 ((grid0.coords t 0).val * 1024 + R.val)) (Fin.ofNat 2048 ((grid0.coords t 1).val * 1024 + C.val)) : S32768x2048.Idx) := by
    funext a
    apply Fin.ext
    fin_cases a
    · show cc0_transform_3 (grid0.coords t) 0 * 1024 + 1 * R.val = ((grid0.coords t 0).val * 1024 + R.val) % 32768
      rw [index3]
      show (grid0.coords t 0).val * 1024 + 1 * R.val = _
      omega
    · show cc0_transform_3 (grid0.coords t) 1 * 1024 + 1 * C.val = ((grid0.coords t 1).val * 1024 + C.val) % 2048
      rw [index3]
      show (grid0.coords t 1).val * 1024 + 1 * C.val = _
      omega
  refine Eq.trans ?_ (congrArg (result m c) hi.symm)
  refine (tile_apply _ _ _ R C).trans ?_
  refine Ideal.add_congr (iblk2_apply m c t R C) (Finset.sum_congr rfl fun d _ => ?_)
  exact Ideal.mul_congr (iblk0_apply m c t R d) (iblk1_apply m c t d C)

/-- Every index of the output is in some point's tile. -/
theorem cover (i : S32768x2048.Idx) : ∃ t : Fin cfg0.N, (cfg0.win 3).flush t = true ∧ i ∈ ((cfg0.win 3).blk t).view.set := by
  have h0 : (i 0).val < 32768 := (i 0).isLt
  have h1 : (i 1).val < 2048 := (i 1).isLt
  have hN : grid0.N = 64 := N_0
  have hn : (i 0).val / 1024 * 2 + (i 1).val / 1024 < grid0.N := by omega
  obtain ⟨t, ht⟩ : ∃ t : Fin grid0.N, t.val = (i 0).val / 1024 * 2 + (i 1).val / 1024 := ⟨⟨_, hn⟩, rfl⟩
  obtain ⟨k0, k1⟩ := coords_eq t
  have e : ((cfg0.win 3).blk t).view.set = ((cfg0.win 3).rect t).set := View.set_slice_whole main_v1 _
  have hmem : i ∈ ((cfg0.win 3).rect t).set ↔ ∀ a : Fin 2, cc0_transform_3 (grid0.coords t) a * S1024x1024.size a ≤ (i a).val
      ∧ (i a).val < cc0_transform_3 (grid0.coords t) a * S1024x1024.size a + S1024x1024.size a := Rect.mem_set_unit
  refine ⟨t, flush0_3 _, (iff_of_eq (congrArg (i ∈ ·) e)).mpr (hmem.mpr fun a => ?_)⟩
  rw [index3]
  match a with
  | ⟨0, _⟩ =>
    show (grid0.coords t 0).val * 1024 ≤ (i 0).val ∧ (i 0).val < (grid0.coords t 0).val * 1024 + 1024
    omega
  | ⟨1, _⟩ =>
    show (grid0.coords t 1).val * 1024 ≤ (i 1).val ∧ (i 1).val < (grid0.coords t 1).val * 1024 + 1024
    omega

/-- After the last grid point the output array is the result. -/
theorem final_eq (c : Dev nD) : (dats m 0 c).arrAt 3 cfg0.N = result m c :=
  (dats m 0 c).arrAt_eq_of_cover 3 (result m c) (fun t _ => flushed_eq m c t) cover

/-! ## The claims -/

/-- The call runs and leaves its arguments as they were. -/
theorem frame_kernel : Cert.quiescent_OddOut := fun m ρ _ => Cert.OddOut.Gen.frame m ρ
/-- The idealized call runs and leaves its arguments as they were. -/
theorem frame_ideal : Cert.quiescent_OddOutIdeal := fun m ρ _ => Cert.OddOutIdeal.Gen.frame m ρ
/-- The reference runs and leaves its arguments as they were. -/
theorem frame_reference : Cert.quiescent_OddOutReferenceIdeal := fun m ρ _ =>
  (θ_run Cert.OddOutReferenceIdeal.defs _ _).mono (fun r h => ⟨fun c => (h c).2, sem_eq_zero_of_no_sems (by decide) r.2⟩)
    (Cert.OddOutReferenceIdeal.Value.run (F := Ideal) m ρ)

/-- From equal arguments the idealized call and its reference end with the same arrays. -/
theorem algebraic : Cert.algebraic_OddOutIdeal_OddOutReferenceIdeal := by
  intro m ρ m' ρ' _ hagree
  refine ⟨fun c => result m c, (θ_run defs _ _).mono (fun _ h c => ⟨(h c).1.trans (final_eq m c), (h c).2⟩) (Value.run_blocks m ρ), ?_⟩
  refine (θ_run Cert.OddOutReferenceIdeal.defs _ _).mono (fun _ h c => ⟨(h c).1.trans ?_, (h c).2⟩)
    (Cert.OddOutReferenceIdeal.Value.run (F := Ideal) m' ρ')
  rw [(hagree c).1, (hagree c).2.1, (hagree c).2.2]
  funext i
  obtain ⟨R, C, rfl⟩ := exists_ix2 (i : S32768x2048.Idx)
  unfold result projected
  pointwise

end Cert.OddOutProof

end
-- ==== Proof.EvenOut.lean ====
/- The first layer's output projection: what the tiles of its two products and their sum make together is `x` plus the
   product of the two halves, side by side, and the weights. -/
module

public import proofs.«01_k».proof.Defs
public import proofs.«01_k».proof.Proof.Gen.EvenOut
public import proofs.«01_k».proof.Proof.Gen.EvenOut.Frame
public import proofs.«01_k».proof.Proof.Gen.EvenOutIdeal.Value
public import proofs.«01_k».proof.Proof.Gen.EvenOutReferenceIdeal
public import proofs.«01_k».proof.Proof.Gen.EvenOutReferenceIdeal.Run
public import Idealize.ShloMosaic.Lib.Pointwise.Tactic
public import Idealize.ShloMosaic.Lib.Pointwise

@[expose] public section

set_option maxRecDepth 16384

noncomputable section

namespace Cert.EvenOutProof

open Idealize.ShloMosaic Idealize.ShloMosaic.TcCoe Idealize.SL.Sem
open Idealize.ShloMosaic.Pipeline (Dat)
open Cert.EvenOutIdeal Cert.EvenOutIdeal.Gen

/-- The block of each window at a grid point. -/
theorem index0 (i : grid0.Coords) : cc0_transform_0 i = ![(i 0).val, 0] := by revert i; decide +kernel
theorem index1 (i : grid0.Coords) : cc0_transform_1 i = ![(i 0).val, 0] := by revert i; decide +kernel
theorem index2 (i : grid0.Coords) : cc0_transform_2 i = ![0, (i 1).val] := by revert i; decide +kernel
theorem index3 (i : grid0.Coords) : cc0_transform_3 i = ![0, (i 1).val] := by revert i; decide +kernel
theorem index4 (i : grid0.Coords) : cc0_transform_4 i = ![(i 0).val, (i 1).val] := by revert i; decide +kernel
theorem index5 (i : grid0.Coords) : cc0_transform_5 i = ![(i 0).val, (i 1).val] := by revert i; decide +kernel
/-- The grid coordinates are in range. -/
theorem coord0 (i : grid0.Coords) : (i 0).val < 32 := (i 0).isLt
theorem coord1 (i : grid0.Coords) : (i 1).val < 2 := (i 1).isLt

/-- The coordinates of the grid's points, in order. -/
theorem coords_eq : ∀ t : Fin grid0.N, (grid0.coords t 0).val = t.val / 2 ∧ (grid0.coords t 1).val = t.val % 2 := by
  decide +kernel

variable (m : (ℓ : Loc nD τ sig) → Buf (Elt Ideal) ℓ) (ρ : Dev nD → PrngReg)

/-- The weights' first half of rows, as the region finds it. -/
theorem weights1_eq (c : Dev nD) : V m c main_v1 = (extractStridedSlice S1024x2048 ![0, 0] (truncf .bf16 (m ((c.tc : Thread nD τ).loc main_arg2) : FVec Ideal S2048x2048 .f32) bitsLt_bf16_f32 : FVec Ideal S2048x2048 .bf16) slices_S2048x2048_S1024x2048_0_0 : FVec Ideal S1024x2048 .bf16) := by
  show StableHlo.after hostOps0 _ (Proc.devRef .tc main_v1) = _
  after_results

/-- Their second half. -/
theorem weights2_eq (c : Dev nD) : V m c main_v2 = (extractStridedSlice S1024x2048 ![1024, 0] (truncf .bf16 (m ((c.tc : Thread nD τ).loc main_arg2) : FVec Ideal S2048x2048 .f32) bitsLt_bf16_f32 : FVec Ideal S2048x2048 .bf16) slices_S2048x2048_S1024x2048_1024_0 : FVec Ideal S1024x2048 .bf16) := by
  show StableHlo.after hostOps0 _ (Proc.devRef .tc main_v2) = _
  after_results

/-- A block of the first half's rows. -/
theorem iblk0_apply (c : Dev nD) (t : Fin cfg0.N) (r d : Fin 1024) :
    (iblk m c 0 t : Vec Ideal S1024x1024 .bf16) (ix2 r d)
      = (m ((c.tc : Thread nD τ).loc main_arg0) : Vec Ideal S32768x1024 .bf16) (ix2 (Fin.ofNat 32768 ((grid0.coords t 0).val * 1024 + r.val)) d) := by
  have b0 := coord0 (grid0.coords t); have b1 := coord1 (grid0.coords t)
  unfold iblk
  refine (View.read_apply _ _).trans ?_
  show (V m c main_arg0 : Vec Ideal S32768x1024 .bf16) _ = _
  rw [V_main_arg0]
  refine congrArg (m ((c.tc : Thread nD τ).loc main_arg0) : Vec Ideal S32768x1024 .bf16) ?_
  funext a
  apply Fin.ext
  fin_cases a
  · show cc0_transform_0 (grid0.coords t) 0 * 1024 + 1 * r.val = ((grid0.coords t 0).val * 1024 + r.val) % 32768
    rw [index0]
    show (grid0.coords t 0).val * 1024 + 1 * r.val = _
    omega
  · show cc0_transform_0 (grid0.coords t) 1 * 1024 + 1 * d.val = d.val
    rw [index0]
    show 0 * 1024 + 1 * d.val = _
    omega

/-- A block of the second half's rows. -/
theorem iblk1_apply (c : Dev nD) (t : Fin cfg0.N) (r d : Fin 1024) :
    (iblk m c 1 t : Vec Ideal S1024x1024 .bf16) (ix2 r d)
      = (m ((c.tc : Thread nD τ).loc main_arg1) : Vec Ideal S32768x1024 .bf16) (ix2 (Fin.ofNat 32768 ((grid0.coords t 0).val * 1024 + r.val)) d) := by
  have b0 := coord0 (grid0.coords t); have b1 := coord1 (grid0.coords t)
  unfold iblk
  refine (View.read_apply _ _).trans ?_
  show (V m c main_arg1 : Vec Ideal S32768x1024 .bf16) _ = _
  rw [V_main_arg1]
  refine congrArg (m ((c.tc : Thread nD τ).loc main_arg1) : Vec Ideal S32768x1024 .bf16) ?_
  funext a
  apply Fin.ext
  fin_cases a
  · show cc0_transform_1 (grid0.coords t) 0 * 1024 + 1 * r.val = ((grid0.coords t 0).val * 1024 + r.val) % 32768
    rw [index1]
    show (grid0.coords t 0).val * 1024 + 1 * r.val = _
    omega
  · show cc0_transform_1 (grid0.coords t) 1 * 1024 + 1 * d.val = d.val
    rw [index1]
    show 0 * 1024 + 1 * d.val = _
    omega

/-- A block of the columns of the weights' first half. -/
theorem iblk2_apply (c : Dev nD) (t : Fin cfg0.N) (r d : Fin 1024) :
    (iblk m c 2 t : Vec Ideal S1024x1024 .bf16) (ix2 r d)
      = (m ((c.tc : Thread nD τ).loc main_arg2) : Vec Ideal S2048x2048 .f32) (ix2 (Fin.ofNat 2048 (0 + r.val)) (Fin.ofNat 2048 ((grid0.coords t 1).val * 1024 + d.val))) := by
  have b0 := coord0 (grid0.coords t); have b1 := coord1 (grid0.coords t)
  unfold iblk
  refine (View.read_apply _ _).trans ?_
  show (V m c main_v1 : Vec Ideal S1024x2048 .bf16) _ = _
  rw [weights1_eq]
  show (m ((c.tc : Thread nD τ).loc main_arg2) : Vec Ideal S2048x2048 .f32) _ = _
  refine congrArg (m ((c.tc : Thread nD τ).loc main_arg2) : Vec Ideal S2048x2048 .f32) ?_
  funext a
  apply Fin.ext
  fin_cases a
  · show 0 + (cc0_transform_2 (grid0.coords t) 0 * 1024 + 1 * r.val) = (0 + r.val) % 2048
    rw [index2]
    show 0 + (0 * 1024 + 1 * r.val) = _
    omega
  · show 0 + (cc0_transform_2 (grid0.coords t) 1 * 1024 + 1 * d.val) = ((grid0.coords t 1).val * 1024 + d.val) % 2048
    rw [index2]
    show 0 + ((grid0.coords t 1).val * 1024 + 1 * d.val) = _
    omega

/-- A block of the columns of the weights' second half. -/
theorem iblk3_apply (c : Dev nD) (t : Fin cfg0.N) (r d : Fin 1024) :
    (iblk m c 3 t : Vec Ideal S1024x1024 .bf16) (ix2 r d)
      = (m ((c.tc : Thread nD τ).loc main_arg2) : Vec Ideal S2048x2048 .f32) (ix2 (Fin.ofNat 2048 (1024 + r.val)) (Fin.ofNat 2048 ((grid0.coords t 1).val * 1024 + d.val))) := by
  have b0 := coord0 (grid0.coords t); have b1 := coord1 (grid0.coords t)
  unfold iblk
  refine (View.read_apply _ _).trans ?_
  show (V m c main_v2 : Vec Ideal S1024x2048 .bf16) _ = _
  rw [weights2_eq]
  show (m ((c.tc : Thread nD τ).loc main_arg2) : Vec Ideal S2048x2048 .f32) _ = _
  refine congrArg (m ((c.tc : Thread nD τ).loc main_arg2) : Vec Ideal S2048x2048 .f32) ?_
  funext a
  apply Fin.ext
  fin_cases a
  · show 1024 + (cc0_transform_3 (grid0.coords t) 0 * 1024 + 1 * r.val) = (1024 + r.val) % 2048
    rw [index3]
    show 1024 + (0 * 1024 + 1 * r.val) = _
    omega
  · show 0 + (cc0_transform_3 (grid0.coords t) 1 * 1024 + 1 * d.val) = ((grid0.coords t 1).val * 1024 + d.val) % 2048
    rw [index3]
    show 0 + ((grid0.coords t 1).val * 1024 + 1 * d.val) = _
    omega

/-- A tile of the residual. -/
theorem iblk4_apply (c : Dev nD) (t : Fin cfg0.N) (r d : Fin 1024) :
    (iblk m c 4 t : Vec Ideal S1024x1024 .f32) (ix2 r d)
      = (m ((c.tc : Thread nD τ).loc main_arg3) : Vec Ideal S32768x2048 .f32) (ix2 (Fin.ofNat 32768 ((grid0.coords t 0).val * 1024 + r.val)) (Fin.ofNat 2048 ((grid0.coords t 1).val * 1024 + d.val))) := by
  have b0 := coord0 (grid0.coords t); have b1 := coord1 (grid0.coords t)
  unfold iblk
  refine (View.read_apply _ _).trans ?_
  show (V m c main_arg3 : Vec Ideal S32768x2048 .f32) _ = _
  rw [V_main_arg3]
  refine congrArg (m ((c.tc : Thread nD τ).loc main_arg3) : Vec Ideal S32768x2048 .f32) ?_
  funext a
  apply Fin.ext
  fin_cases a
  · show cc0_transform_4 (grid0.coords t) 0 * 1024 + 1 * r.val = ((grid0.coords t 0).val * 1024 + r.val) % 32768
    rw [index4]
    show (grid0.coords t 0).val * 1024 + 1 * r.val = _
    omega
  · show cc0_transform_4 (grid0.coords t) 1 * 1024 + 1 * d.val = ((grid0.coords t 1).val * 1024 + d.val) % 2048
    rw [index4]
    show (grid0.coords t 1).val * 1024 + 1 * d.val = _
    omega

/-- The residual and the two products, index by index. -/
def projected (y z : FVec Ideal S32768x1024 .bf16) (w : FVec Ideal S2048x2048 .f32) (x : FVec Ideal S32768x2048 .f32) : FVec Ideal S32768x2048 .f32 :=
  fun i => x i + (∑ d : Fin 1024, y (ix2 (i 0) d) * w (ix2 (Fin.ofNat 2048 (0 + d.val)) (i 1))
    + ∑ d : Fin 1024, z (ix2 (i 0) d) * w (ix2 (Fin.ofNat 2048 (1024 + d.val)) (i 1)))

/-- The output array. -/
def result (c : Dev nD) : FVec Ideal S32768x2048 .f32 :=
  projected (m ((c.tc : Thread nD τ).loc main_arg0)) (m ((c.tc : Thread nD τ).loc main_arg1)) (m ((c.tc : Thread nD τ).loc main_arg2)) (m ((c.tc : Thread nD τ).loc main_arg3))

/-- The offset of a whole buffer is zero on both axes. -/
theorem zero_off : (![0, 0] : Fin 2 → ℕ) = fun _ => 0 := funext fun a => by fin_cases a <;> rfl

/-- An index of two axes is a pair. -/
theorem exists_ix2 {A B : ℕ} (j : (⟨2, ![A, B]⟩ : Shape).Idx) : ∃ (R : Fin A) (C : Fin B), j = ix2 R C :=
  ⟨j 0, j 1, by funext a; fin_cases a <;> rfl⟩

/-- One tile: the residual's and the two products'. -/
theorem tile_apply (x0 x1 x2 x3 : Vec Ideal S1024x1024 .bf16) (x4 : Vec Ideal S1024x1024 .f32) (r k : Fin 1024) :
    out0_5 x0 x1 x2 x3 x4 (ix2 r k) = x4 (ix2 r k) + (∑ d : Fin 1024, x0 (ix2 r d) * x2 (ix2 d k) + ∑ d : Fin 1024, x1 (ix2 r d) * x3 (ix2 d k)) := by
  unfold out0_5
  rw [View.canon_unit_zero zero_off, View.ld_unit_zero zero_off, View.ld_unit_zero zero_off, View.ld_unit_zero zero_off, View.ld_unit_zero zero_off, View.ld_unit_zero zero_off]
  unfold k0_pay1
  pointwise
  exact add_assoc _ _ _

/-- What a grid point writes out is its tile of the result. -/
theorem flushed_eq (c : Dev nD) (t : Fin cfg0.N) :
    (dats m 0 c).flushed 5 t = ((cfg0.win 5).blk t).view.read (Elt Ideal) (result m c) := by
  have b0 := coord0 (grid0.coords t); have b1 := coord1 (grid0.coords t)
  rw [Value.flushed5]
  funext j
  obtain ⟨R, C, rfl⟩ : ∃ (R : Fin 1024) (C : Fin 1024), j = (ix2 R C : S1024x1024.Idx) := exists_ix2 (j : S1024x1024.Idx)
  show out0_5 (iblk m c 0 t) (iblk m c 1 t) (iblk m c 2 t) (iblk m c 3 t) (iblk m c 4 t) (ix2 R C) = _
  refine Eq.trans ?_ (View.read_apply _ _).symm
  show _ = result m c _
  have hi : ((cfg0.win 5).blk t).view.emb (ix2 R C)
      = (ix2 (Fin.ofNat 32768 ((grid0.coords t 0).val * 1024 + R.val)) (Fin.ofNat 2048 ((grid0.coords t 1).val * 1024 + C.val)) : S32768x2048.Idx) := by
    funext a
    apply Fin.ext
    fin_cases a
    · show cc0_transform_5 (grid0.coords t) 0 * 1024 + 1 * R.val = ((grid0.coords t 0).val * 1024 + R.val) % 32768
      rw [index5]
      show (grid0.coords t 0).val * 1024 + 1 * R.val = _
      omega
    · show cc0_transform_5 (grid0.coords t) 1 * 1024 + 1 * C.val = ((grid0.coords t 1).val * 1024 + C.val) % 2048
      rw [index5]
      show (grid0.coords t 1).val * 1024 + 1 * C.val = _
      omega
  refine Eq.trans ?_ (congrArg (result m c) hi.symm)
  refine (tile_apply _ _ _ _ _ R C).trans ?_
  refine Ideal.add_congr (iblk4_apply m c t R C) (Ideal.add_congr (Finset.sum_congr rfl fun d _ => ?_) (Finset.sum_congr rfl fun d _ => ?_))
  · exact Ideal.mul_congr (iblk0_apply m c t R d) (iblk2_apply m c t d C)
  · exact Ideal.mul_congr (iblk1_apply m c t R d) (iblk3_apply m c t d C)

/-- Every index of the output is in some point's tile. -/
theorem cover (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  have hN : grid0.N = 64 := N_0
  have hn : (i 0).val / 1024 * 2 + (i 1).val / 1024 < grid0.N := by omega
  obtain ⟨t, ht⟩ : ∃ t : Fin grid0.N, t.val = (i 0).val / 1024 * 2 + (i 1).val / 1024 := ⟨⟨_, hn⟩, rfl⟩
  obtain ⟨k0, k1⟩ := coords_eq t
  have e : ((cfg0.win 5).blk t).view.set = ((cfg0.win 5).rect t).set := View.set_slice_whole main_v3 _
  have hmem : i ∈ ((cfg0.win 5).rect t).set ↔ ∀ a : Fin 2, cc0_transform_5 (grid0.coords t) a * S1024x1024.size a ≤ (i a).val
      ∧ (i a).val < cc0_transform_5 (grid0.coords t) a * S1024x1024.size a + S1024x1024.size a := Rect.mem_set_unit
  refine ⟨t, flush0_5 _, (iff_of_eq (congrArg (i ∈ ·) e)).mpr (hmem.mpr fun a => ?_)⟩
  rw [index5]
  match a with
  | ⟨0, _⟩ =>
    show (grid0.coords t 0).val * 1024 ≤ (i 0).val ∧ (i 0).val < (grid0.coords t 0).val * 1024 + 1024
    omega
  | ⟨1, _⟩ =>
    show (grid0.coords t 1).val * 1024 ≤ (i 1).val ∧ (i 1).val < (grid0.coords t 1).val * 1024 + 1024
    omega

/-- After the last grid point the output array is the result. -/
theorem final_eq (c : Dev nD) : (dats m 0 c).arrAt 5 cfg0.N = result m c :=
  (dats m 0 c).arrAt_eq_of_cover 5 (result m c) (fun t _ => flushed_eq m c t) cover

/-- The reference's product with the two halves side by side is the sum of the halves' products. -/
theorem reference_eq (y z : FVec Ideal S32768x1024 .bf16) (w : FVec Ideal S2048x2048 .f32) (x : FVec Ideal S32768x2048 .f32) :
    addf x (Host.dotGeneral Cert.EvenOutReferenceIdeal.dot_S32768x2048_S2048x2048_S32768x2048_1_0_0_1_n_n none
      (extf .f32 (concatenate S32768x2048 1 [⟨S32768x1024, y⟩, ⟨S32768x1024, z⟩] Cert.EvenOutReferenceIdeal.Facts₀.concatenates_S32768x1024_S32768x1024_S32768x2048_d1 : FVec Ideal S32768x2048 .bf16) Cert.EvenOutReferenceIdeal.Facts₀.bitsLt_bf16_f32) w)
      = projected y z w x := by
  funext i
  obtain ⟨R, C, rfl⟩ := exists_ix2 (i : S32768x2048.Idx)
  unfold projected
  pointwise
  refine Ideal.add_congr rfl (Ideal.add_congr (Finset.sum_congr rfl fun d _ => ?_) (Finset.sum_congr rfl fun d _ => ?_))
  · refine Ideal.mul_congr rfl (congrArg (fun n : Fin 2048 => w (ix2 n C)) (Fin.ext ?_))
    show d.val = d.val % 2048
    omega
  · refine Ideal.mul_congr rfl (congrArg (fun n : Fin 2048 => w (ix2 n C)) (Fin.ext ?_))
    show 1024 + d.val = (1024 + d.val) % 2048
    omega

/-! ## The claims -/

/-- The call runs and leaves its arguments as they were. -/
theorem frame_kernel : Cert.quiescent_EvenOut := fun m ρ _ => Cert.EvenOut.Gen.frame m ρ
/-- The idealized call runs and leaves its arguments as they were. -/
theorem frame_ideal : Cert.quiescent_EvenOutIdeal := fun m ρ _ => Cert.EvenOutIdeal.Gen.frame m ρ
/-- The reference runs and leaves its arguments as they were. -/
theorem frame_reference : Cert.quiescent_EvenOutReferenceIdeal := fun m ρ _ =>
  (θ_run Cert.EvenOutReferenceIdeal.defs _ _).mono (fun r h => ⟨fun c => (h c).2, sem_eq_zero_of_no_sems (by decide) r.2⟩)
    (Cert.EvenOutReferenceIdeal.Value.run (F := Ideal) m ρ)

/-- From equal arguments the idealized call and its reference end with the same arrays. -/
theorem algebraic : Cert.algebraic_EvenOutIdeal_EvenOutReferenceIdeal := by
  intro m ρ m' ρ' _ hagree
  refine ⟨fun c => result m c, (θ_run defs _ _).mono (fun _ h c => ⟨(h c).1.trans (final_eq m c), (h c).2⟩) (Value.run_blocks m ρ), ?_⟩
  refine (θ_run Cert.EvenOutReferenceIdeal.defs _ _).mono (fun _ h c => ⟨(h c).1.trans ?_, (h c).2⟩)
    (Cert.EvenOutReferenceIdeal.Value.run (F := Ideal) m' ρ')
  rw [(hagree c).1, (hagree c).2.1, (hagree c).2.2.1, (hagree c).2.2.2]
  exact reference_eq _ _ _ _

end Cert.EvenOutProof

end
-- ==== Proof.OddProjRun.lean ====
/- The second layer's norm and input projection, run at any value type: the normed rows are made at a row block's first
   column block and kept in the scratch buffer for the seven others. -/
module

public import proofs.«01_k».proof.Defs
public import proofs.«01_k».proof.Proof.Gen.OddProj
public import proofs.«01_k».proof.Proof.Gen.OddProjIdeal.Skeleton
public import proofs.«01_k».proof.Proof.Gen.OddProjIdeal.Frame
public import Idealize.ShloMosaic.Lib.Pipeline.Value
public import Idealize.ShloMosaic.Lib.Pipeline.TableIdle
public import Idealize.ShloMosaic.Lib.VecWindow
public import Idealize.ShloMosaic.Lib.Claim

@[expose] public section

set_option maxRecDepth 16384

noncomputable section

namespace Cert.OddProjProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddProjIdeal Cert.OddProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first column block. -/
theorem cond_iff (i : grid0.Coords) : k0_cond1 i = 1#1 ↔ (i 1).val = 0 := by revert i; decide +kernel

/-- The offset of a whole buffer is nought. -/
theorem zero_off : (![0, 0] : Fin 2 → ℕ) = fun _ => 0 := by
  funext a; fin_cases a <;> rfl

/-- Reading a whole buffer of given contents gives those contents. -/
theorem read_whole {s : Shape} {e : EltTy} {sp : Space} (a : Memref sig .tc sp s e) (h : a.IsWhole) (x : Vec F s e)
    {off : Fin s.rank → ℕ} (inb : ∀ b, off b + s.size b ≤ s.size b) :
    View.readAt (Elt F) a.view (Rect.unit off s.size inb).toLoadRect (h.unread x) = x := by
  rw [View.readAt_full, h.read_unread]

set_option maxHeartbeats 1000000 in
/-- The body at a row block's first column block: it makes the normed rows and both products. -/
theorem body_first (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
  (x0 : Vec F S1024x2048 .f32) (x1 : Vec F S1x2048 .f32) (x2 : Vec F S2048x1024 .bf16) (x3 : Vec F S2048x128 .bf16) (K : PUnit → sProp 𝕄)
    (hc : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay1 x0 x1) x2) ∗ owns (c : Thread nD τ) arg7 fullShare (k0_pay2 (k0_pay1 x0 x1) x3) ∗ owns (c : Thread nD τ) arg8 fullShare (k0_pay1 x0 x1)) -∗ K ⟨⟩))
      ⊢ wp frame (wpE (defs₀ (F := F)) Variants.none c none) E (cc0_odd_proj i arg2 harg2 arg3 harg3 arg4 harg4 arg5 harg5 arg6 harg6 arg7 harg7 arg8 harg8) K := by
  simp only [cc0_odd_proj_eq_skeleton]; unfold cc0_odd_proj_skel
  rw [dif_pos hc]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec
  sl_step
  iapply Hk
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro
                  exact (View.read_writes_full _ _ _ _ _).trans (congrArg₂ k0_pay3 ((View.readCov_full arg8.view _ _ _ _).trans (congrArg₂ k0_pay1 (read_whole arg2 harg2 x0 _) (read_whole arg3 harg3 x1 _))) (read_whole arg4 harg4 x2 _))
  isplitl [H5]; · iexists _; isplitr; swap; · iexact H5
                  ipureintro
                  exact (View.read_writes_full _ _ _ _ _).trans (congrArg₂ k0_pay2 ((View.readCov_full arg8.view _ _ _ _).trans (congrArg₂ k0_pay1 (read_whole arg2 harg2 x0 _) (read_whole arg3 harg3 x1 _))) (read_whole arg5 harg5 x3 _))
  iexists _; isplitr; swap; · iexact H6
  ipureintro
  exact (View.read_writes_full _ _ _ _ _).trans (congrArg₂ k0_pay1 (read_whole arg2 harg2 x0 _) (read_whole arg3 harg3 x1 _))

set_option maxHeartbeats 1000000 in
/-- The body at a later column block: it reads the normed rows that the first one left. -/
theorem body_later (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
  (x0 : Vec F S1024x2048 .f32) (x1 : Vec F S1x2048 .f32) (x2 : Vec F S2048x1024 .bf16) (x3 : Vec F S2048x128 .bf16) (K : PUnit → sProp 𝕄)
    (hc : ¬ k0_cond1 i = 1#1) (h : Vec F S1024x2048 .bf16) (d5 : Vec F S1024x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 h x2) ∗ owns (c : Thread nD τ) arg7 fullShare d5 ∗ owns (c : Thread nD τ) arg8 fullShare h) -∗ K ⟨⟩))
      ⊢ wp frame (wpE (defs₀ (F := F)) Variants.none c none) E (cc0_odd_proj i arg2 harg2 arg3 harg3 arg4 harg4 arg5 harg5 arg6 harg6 arg7 harg7 arg8 harg8) K := by
  simp only [cc0_odd_proj_eq_skeleton]; unfold cc0_odd_proj_skel
  rw [dif_neg hc]
  unfold owns
  iintro ⟨H0, H1, ⟨%f2, %hf2, H2⟩, H3, ⟨%d4, %f4, -, H4⟩, H5, ⟨%f6, %hf6, H6⟩, Hk⟩
  obtain rfl := harg4.eq_unread hf2; obtain rfl := harg8.eq_unread hf6
  sl_exec
  sl_step
  iapply Hk
  isplitl [H0]; · iexact H0
  isplitl [H1]; · iexact H1
  isplitl [H2]; · iexists _; isplitr; swap; · iexact H2
                  ipureintro; exact harg4.read_unread _
  isplitl [H3]; · iexact H3
  isplitl [H4]; · iexists _; isplitr; swap; · iexact H4
                  ipureintro
                  exact (View.read_writes_full _ _ _ _ _).trans (congrArg₂ k0_pay3 (read_whole arg8 harg8 h _) (read_whole arg4 harg4 x2 _))
  isplitl [H5]; · iexact H5
  iexists _; isplitr; swap; · iexact H6
  ipureintro; exact harg8.read_unread _

/-! ## The proof data -/

/-- The first grid point of the row block that grid point `n` works on. -/
def start (n : ℕ) : Fin cfg0.N := ⟨8 * (n / 8 % 32), by have e : cfg0.N = 256 := N_0; omega⟩

/-- Grid points of one row block have one start. -/
theorem start_eq {n k : ℕ} (h : n / 8 = k / 8) : start n = start k :=
  Fin.ext (by show 8 * (n / 8 % 32) = 8 * (k / 8 % 32); rw [h])

/-- A row block's first grid point is its own start. -/
theorem start_self (t : Fin cfg0.N) (h : t.val % 8 = 0) : start t.val = t :=
  Fin.ext (by have := t.isLt; have e : cfg0.N = 256 := N_0; show 8 * (t.val / 8 % 32) = t.val; omega)

/-- The normed rows that grid point `n` multiplies. -/
def hid (c : Dev nD) (n : ℕ) : Vec F S1024x2048 .bf16 := k0_pay1 (iblk m c 0 (start n)) (iblk m c 1 (start n))

/-- The scratch buffer between two grid points: at a row block's start anything, within it the block's normed rows. -/
def between (c : Dev nD) (n : ℕ) : sProp 𝕄 :=
  if n % 8 = 0 then Pipeline.ΦA spec0 c
  else iprop(owns (c : Thread nD τ) (Memref.whole cc0_scratch0) fullShare (hid m c n) ∗ ∃ r, prngReg c r)

/-- What each buffer holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (hid m c t.val) (iblk m c 2 t)
    | ⟨5, _⟩ => k0_pay2 (hid m c t.val) (iblk m c 3 (start t.val))
  Φ t := between m c t.val
  q _ := fullShare
  owed _ := 0

/-- The arrays are the ones the region finds. -/
theorem A_eq (c : Dev nD) (w : Fin cfg0.W) : (dats m 0 c).A w = V m c (Pipeline.arrRef spec0 w) := by dsimp only [dats]

/-- What each buffer holds after a grid point, one by one. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (hid m c t.val) (iblk m c 2 t) := by dsimp only [dats]
theorem after0_5 (c : Dev nD) (t : Fin cfg0.N) :
    (dats m 0 c).after 5 t = k0_pay2 (hid m c t.val) (iblk m c 3 (start t.val)) := by dsimp only [dats]

/-- What each input buffer holds before a grid point: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The column block of a grid point. -/
theorem cond_at (t : Fin cfg0.N) : k0_cond1 (grid0.coords t) = 1#1 ↔ t.val % 8 = 0 :=
  (by decide +kernel : ∀ t : Fin grid0.N, k0_cond1 (grid0.coords t) = 1#1 ↔ t.val % 8 = 0) t

/-- The points at which the logits' buffer is left alone. -/
theorem idle5 (t : Fin cfg0.N) : cfg0.idle 5 (grid0.coords t) = !decide (t.val % 8 = 0) :=
  (by decide +kernel : ∀ t : Fin grid0.N, (!(k0_cond1 (grid0.coords t) == 1#1)) = !decide (t.val % 8 = 0)) t

/-- The logits' buffer holds what the row block's first point left, at the block's later points. -/
theorem fresh5 (n : ℕ) (h : n ≤ cfg0.N) : cfg0.fresh 5 n = decide (n % 8 = 0) := by
  refine Pipeline.Cfg.fresh_tab cfg0 5 (fun n => decide (n % 8 = 0)) rfl (fun t => ?_) n h
  rw [idle5]
  have e : (cfg0.win 5).flush t = decide (t.val % 8 = 7) := by
    rw [Bool.eq_iff_iff, flush0_5, decide_eq_true_iff]
  rw [e, Bool.eq_iff_iff]
  simp only [decide_eq_true_iff, Bool.or_eq_true, Bool.and_eq_true, Bool.not_eq_true', decide_eq_false_iff_not]
  omega

/-- A row block's later points keep the logits that the first one made. -/
theorem carry5 (c : Dev nD) (t : Fin cfg0.N) (h : t.val % 8 ≠ 0) :
    (dats m 0 c).after 5 t = (dats m 0 c).after 5 ⟨t.val - 1, by omega⟩ := by
  rw [after0_5, after0_5]
  unfold hid
  rw [start_eq (show t.val / 8 = (t.val - 1) / 8 by omega)]

/-- The logits' buffer before a later point holds what it holds after it. -/
theorem before5 (c : Dev nD) (t : Fin cfg0.N) (h : t.val % 8 ≠ 0) (d) : (dats m 0 c).before 5 t d = (dats m 0 c).after 5 t := by
  rw [(dats m 0 c).before_out_traj 5 rfl (fun _ _ => rfl) (fun t _ hi _ => carry5 m c t (by
    rw [idle5] at hi; simpa using hi)) t.val t rfl d, fresh5 _ (le_of_lt t.isLt), decide_eq_false h, carry5 m c t h]
  rfl

/-- The logits' buffer as a grid point has to leave it. -/
theorem leaves5 (c : Dev nD) (t : Fin cfg0.N) :
    owns (c : Thread nD τ) (st0_5 t) fullShare ((dats m 0 c).after 5 t) ⊢ (dats m 0 c).leavesExact 5 t := by
  unfold Dat.leavesExact
  cases hi : cfg0.idle 5 (cfg0.grid.coords t)
  · exact .rfl
  · cases (cfg0.win 5).flush t
    · iintro H
      iexists ((dats m 0 c).after 5 t)
      rw [before5 m c t (by have := (idle5 t).symm.trans hi; simpa using this)]
      iexact H
    · exact .rfl

/-- The scratch buffer and the random state, as the run holds them between grid points. -/
theorem PhiA0_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]
  try rfl

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 800000 in
/-- The body at a row block's first grid point. -/
theorem sound_first (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = Pipeline.ΦA spec0 c from if_pos h, PhiA0_eq,
    show (dats m 0 c).Φ t.succ = iprop(owns (c : Thread nD τ) (Memref.whole cc0_scratch0) fullShare (hid m c (t.val + 1)) ∗ ∃ r, prngReg c r)
      from if_neg (show ¬ (t.val + 1) % 8 = 0 by omega)]
  have e1 : hid m c (t.val + 1) = k0_pay1 (iblk m c 0 t) (iblk m c 1 t) := by
    unfold hid; rw [start_eq (show (t.val + 1) / 8 = t.val / 8 by omega), start_self t h]
  have e0 : hid m c t.val = k0_pay1 (iblk m c 0 t) (iblk m c 1 t) := by
    unfold hid; rw [start_self t h]
  have l5 := leaves5 m c t
  rw [after0_5, e0, start_self t h] at l5
  rw [e1, e0]
  iintro ⟨⟨HS, Hg⟩, Ho, ⟨%d0, H0⟩, ⟨%d1, H1⟩, ⟨%d2, H2⟩, ⟨%d3, H3⟩, ⟨%d4, H4⟩, ⟨%d5, H5⟩⟩
  iapply (body_first c Set.univ (grid0.coords t) _ _ _ _ _ _ _ _ _ _ _ _ _ _ (iblk m c 0 t) (iblk m c 1 t) (iblk m c 2 t) (iblk m c 3 t) _
    ((cond_at t).mpr h))
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iapply l5
  iexact H5

set_option maxHeartbeats 800000 in
/-- The body at a row block's later grid points. -/
theorem sound_later (c : Dev nD) (t : Fin cfg0.N) (h : t.val % 8 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before5 m c t h]
  rw [show (dats m 0 c).owesAt () t.succ = (dats m 0 c).owesAt () t.castSucc from rfl,
    after0_0, after0_1, after0_2, after0_3, after0_4]
  rw [show (dats m 0 c).Φ t.castSucc = iprop(owns (c : Thread nD τ) (Memref.whole cc0_scratch0) fullShare (hid m c t.val) ∗ ∃ r, prngReg c r)
      from if_neg h]
  have hs : iprop(owns (c : Thread nD τ) (Memref.whole cc0_scratch0) fullShare (hid m c t.val) ∗ ∃ r, prngReg c r) ⊢ (dats m 0 c).Φ t.succ := by
    show _ ⊢ between m c (t.val + 1)
    unfold between
    split
    · rw [PhiA0_eq]
      iintro ⟨HS, Hg⟩
      isplitl [HS]
      · iexists _; iexact HS
      iexact Hg
    · have e1 : hid m c (t.val + 1) = hid m c t.val := by
        unfold hid; rw [start_eq (show (t.val + 1) / 8 = t.val / 8 by omega)]
      rw [e1]
  have l5 := leaves5 m c t
  iintro ⟨⟨HS, Hg⟩, Ho, ⟨%d0, H0⟩, ⟨%d1, H1⟩, ⟨%d2, H2⟩, ⟨%d3, H3⟩, ⟨%d4, H4⟩, ⟨%d5, H5⟩⟩
  iapply (body_later c Set.univ (grid0.coords t) _ _ _ _ _ _ _ _ _ _ _ _ _ _ (iblk m c 0 t) (iblk m c 1 t) (iblk m c 2 t) (iblk m c 3 t) _
    (fun hc => h ((cond_at t).mp hc)) (hid m c t.val) ((dats m 0 c).after 5 t))
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · iapply hs
    isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iapply l5
  iexact H5

/-- The body at point `t`, as the run calls it. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  by_cases h : t.val % 8 = 0
  · exact triple_restated (sound_first m c t h) rfl .rfl fun _ => .rfl
  · exact triple_restated (sound_later m c t h) rfl .rfl fun _ => .rfl

/-! ## The run and the frames -/

set_option backward.isDefEq.respectTransparency.types false in
/-- The run of the whole grid: the arrays end at what `dats` says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

/-- The same run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two printed texts of the kernel's body are one, at the hardware's values. -/
theorem body_eq : @Cert.OddProj.cc0_odd_proj Bits _ _ = @Cert.OddProjIdeal.cc0_odd_proj Bits _ _ := rfl

/-- So the two tables of bodies are one, -/
theorem defs₀_eq : Cert.OddProj.defs₀ (F := Bits) = Cert.OddProjIdeal.defs₀ (F := Bits) := by
  unfold Cert.OddProj.defs₀ Cert.OddProjIdeal.defs₀
  refine congrArg Defs.onTc ?_
  funext l x
  match l, x with
  | 0, (t, s) =>
    dsimp only
    rw [body_eq]
    rfl

/-- with the pipelines' own entries too. -/
theorem defs_eq : Cert.OddProj.defs (F := Bits) = Cert.OddProjIdeal.defs (F := Bits) :=
  congrArg (Pipeline.defs (Cert.OddProjIdeal.pcfgs (F := Bits))) defs₀_eq

/-- The frame at the hardware's values: the printed text is the idealized one's, run at those values. -/
theorem frame_kernel : Cert.quiescent_OddProj := by
  intro m ρ h
  have e := frame (F := Bits) m ρ
  rw [← defs_eq] at e
  exact e

/-- The frame of the idealized call. -/
theorem frame_ideal : Cert.quiescent_OddProjIdeal := fun m ρ _ => frame (F := Ideal) m ρ

end Cert.OddProjProof

end
-- ==== Proof.OddProj.lean ====
/- The second layer's norm and input projection: what the tiles make together is the normed rows' product with the weights. -/
module

public import proofs.«01_k».proof.Defs
public import proofs.«01_k».proof.Proof.OddProjRun
public import proofs.«01_k».proof.Proof.Gen.OddProjReferenceIdeal
public import proofs.«01_k».proof.Proof.Gen.OddProjReferenceIdeal.Run
public import Idealize.ShloMosaic.Lib.Pointwise.Tactic
public import Idealize.ShloMosaic.Lib.Pointwise
public import Idealize.ShloMosaic.Lib.Routing.OpsPair
public import Idealize.ShloMosaic.Lib.Routing.OpsSet

@[expose] public section

set_option maxRecDepth 16384

noncomputable section

namespace Cert.OddProjProof

open Idealize.ShloMosaic Idealize.ShloMosaic.TcCoe Idealize.SL.Sem
open Idealize.ShloMosaic.Pipeline (Dat)
open Cert.OddProjIdeal Cert.OddProjIdeal.Gen

/-- The blocks' indices at each grid point. -/
theorem index0 (i : grid0.Coords) : cc0_transform_0 i = ![(i 0).val, 0] := by revert i; decide +kernel
theorem index1 (i : grid0.Coords) : cc0_transform_1 i = ![0, 0] := by revert i; decide +kernel
theorem index2 (i : grid0.Coords) : cc0_transform_2 i = ![0, (i 1).val] := by revert i; decide +kernel
theorem index3 (i : grid0.Coords) : cc0_transform_3 i = ![0, 0] := by revert i; decide +kernel
theorem index4 (i : grid0.Coords) : cc0_transform_4 i = ![(i 0).val, (i 1).val] := by revert i; decide +kernel
theorem index5 (i : grid0.Coords) : cc0_transform_5 i = ![(i 0).val, 0] := by revert i; decide +kernel
/-- The grid coordinates are in range. -/
theorem coord0 (i : grid0.Coords) : (i 0).val < 32 := (i 0).isLt
theorem coord1 (i : grid0.Coords) : (i 1).val < 8 := (i 1).isLt

/-- The coordinates of the grid's points, in order. -/
theorem coords_eq : ∀ t : Fin grid0.N, (grid0.coords t 0).val = t.val / 8 ∧ (grid0.coords t 1).val = t.val % 8 := by
  decide +kernel

/-- An index of a matrix is a row and a column. -/
theorem exists_ix2 {A B : ℕ} (j : (⟨2, ![A, B]⟩ : Shape).Idx) : ∃ (R : Fin A) (C : Fin B), j = ix2 R C :=
  ⟨j 0, j 1, by funext a; fin_cases a <;> rfl⟩

/-- A row's entry, scaled by the row's inverse root mean square and by the gain. -/
def scaled (row : Fin 2048 → Ideal .f32) (g : Fin 2048 → Ideal .f32) (d : Fin 2048) : Ideal .f32 :=
  row d * Ideal.rsqrt (Ideal.div (∑ k, row k * row k) (Ideal.ofBits FTy.f32 1157627904#32) + Ideal.ofBits FTy.f32 897988541#32) * g d

/-- One entry of a normed row. -/
theorem pay1_apply (x0 : Vec Ideal S1024x2048 .f32) (x1 : Vec Ideal S1x2048 .f32) (r : Fin 1024) (d : Fin 2048) :
    k0_pay1 x0 x1 (ix2 r d) = scaled (fun k => x0 (ix2 r k)) (fun k => x1 (ix2 0 k)) d := by
  unfold k0_pay1 scaled
  pointwise

/-- One entry of a tile of products, in full. -/
theorem pay2_apply (h : Vec Ideal S1024x2048 .bf16) (w : Vec Ideal S2048x128 .bf16) (r : Fin 1024) (k : Fin 128) :
    k0_pay2 h w (ix2 r k) = ∑ d : Fin 2048, h (ix2 r d) * w (ix2 d k) := by
  unfold k0_pay2
  pointwise

/-- One entry of a tile of products. -/
theorem pay3_apply (h : Vec Ideal S1024x2048 .bf16) (w : Vec Ideal S2048x1024 .bf16) (r : Fin 1024) (k : Fin 1024) :
    k0_pay3 h w (ix2 r k) = ∑ d : Fin 2048, h (ix2 r d) * w (ix2 d k) := by
  unfold k0_pay3
  pointwise

variable (m : (ℓ : Loc nD τ sig) → Buf (Elt Ideal) ℓ) (ρ : Dev nD → PrngReg)

/-- The gain that the call takes is the argument, as a row. -/
theorem gain_apply (c : Dev nD) (d : Fin 2048) : (V m c main_v6 : Vec Ideal S1x2048 .f32) (ix2 0 d)
    = (m ((c.tc : Thread nD τ).loc main_arg1) : Vec Ideal S2048 .f32) (ix1 d) := by
  have e : V m c main_v6 = shapeCast S1x2048 (m ((c.tc : Thread nD τ).loc main_arg1) : Vec Ideal S2048 .f32) shapeCasts_S2048_S1x2048 := by
    show StableHlo.after hostOps0 _ (Proc.devRef .tc main_v6) = _
    after_results
    rfl
  rw [e]
  pointwise

/-- The weights that the call takes are the argument's first columns. -/
theorem weights_apply (c : Dev nD) (d : Fin 2048) (k : Fin 8192) : (V m c main_v5 : Vec Ideal S2048x8192 .bf16) (ix2 d k)
    = (m ((c.tc : Thread nD τ).loc main_arg2) : Vec Ideal S2048x8208 .f32) (ix2 d (Fin.ofNat 8208 k.val)) := by
  have e : V m c main_v5 = (extractStridedSlice S2048x8192 ![0, 0]
      (truncf .bf16 (m ((c.tc : Thread nD τ).loc main_arg2) : FVec Ideal S2048x8208 .f32) bitsLt_bf16_f32) slices_S2048x8208_S2048x8192_0_0 : FVec Ideal S2048x8192 .bf16) := by
    show StableHlo.after hostOps0 _ (Proc.devRef .tc main_v5) = _
    after_results
  rw [e]
  pointwise
  refine congrArg (fun a => (m ((c.tc : Thread nD τ).loc main_arg2) : Vec Ideal S2048x8208 .f32) (ix2 d a)) (Fin.ext ?_)
  show k.val = k.val % 8208
  omega

/-- Update `j` of the logits' weights lands at the index with its own coordinates. -/
theorem lands (idx : IVec S1 32) (h : ∀ i, (idx i).toInt = 0) (j : S2048x16.Idx) (i : S2048x128.Idx) :
    scatter_S2048x128_S1_S2048x16_01_n_1_0.resultIdx? j idx = some i ↔ (j 0).val = (i 0).val ∧ (j 1).val = (i 1).val := by
  have w0 : scatter_S2048x128_S1_S2048x16_01_n_1_0.window j 0 = (j 0).val := rfl
  have w1 : scatter_S2048x128_S1_S2048x16_01_n_1_0.window j 1 = (j 1).val := rfl
  have s0 : scatter_S2048x128_S1_S2048x16_01_n_1_0.start j idx 0 = 0 := rfl
  have s1 : scatter_S2048x128_S1_S2048x16_01_n_1_0.start j idx 1 = 0 := h _
  rw [Routing.resultIdx?_eq_some]
  constructor
  · intro q
    have q0 := q 0; have q1 := q 1
    rw [w0, s0] at q0; rw [w1, s1] at q1
    constructor <;> omega
  · rintro ⟨q0, q1⟩ a
    match a with
    | ⟨0, _⟩ => show scatter_S2048x128_S1_S2048x16_01_n_1_0.start j idx 0 + (scatter_S2048x128_S1_S2048x16_01_n_1_0.window j 0 : ℤ) = ((i 0).val : ℤ); rw [w0, s0]; omega
    | ⟨1, _⟩ => show scatter_S2048x128_S1_S2048x16_01_n_1_0.start j idx 1 + (scatter_S2048x128_S1_S2048x16_01_n_1_0.window j 1 : ℤ) = ((i 1).val : ℤ); rw [w1, s1]; omega

/-- The logits' weights: the argument's last sixteen columns, then zeros. -/
theorem logitWeights_apply (c : Dev nD) (d : Fin 2048) (k : Fin 128) : (V m c main_v4 : Vec Ideal S2048x128 .bf16) (ix2 d k)
    = if k.val < 16 then (m ((c.tc : Thread nD τ).loc main_arg2) : Vec Ideal S2048x8208 .f32) (ix2 d (Fin.ofNat 8208 (8192 + k.val))) else (0 : EReal) := by
  have e : V m c main_v4 = (Host.scatter scatter_S2048x128_S1_S2048x16_01_n_1_0 (fun _ b => b)
      (broadcastInDim S2048x128 ![] bcast_S_S2048x128 (constant S_ FTy.bf16 0#16))
      (broadcastInDim S1 ![] bcast_S_S1 (constantI S_ 32 0#32))
      (extractStridedSlice S2048x16 ![0, 8192] (truncf .bf16 (m ((c.tc : Thread nD τ).loc main_arg2) : FVec Ideal S2048x8208 .f32) bitsLt_bf16_f32)
        slices_S2048x8208_S2048x16_0_8192) : FVec Ideal S2048x128 .bf16) := by
    show StableHlo.after hostOps0 _ (Proc.devRef .tc main_v4) = _
    after_results
  rw [e]
  have hl := lands (broadcastInDim S1 ![] bcast_S_S1 (constantI S_ 32 0#32)) (fun _ => rfl)
  split
  · next h =>
    have hv : (extractStridedSlice S2048x16 ![0, 8192] (truncf .bf16 (m ((c.tc : Thread nD τ).loc main_arg2) : FVec Ideal S2048x8208 .f32) bitsLt_bf16_f32)
        slices_S2048x8208_S2048x16_0_8192 : FVec Ideal S2048x16 .bf16) (ix2 d ⟨k.val, h⟩)
        = (m ((c.tc : Thread nD τ).loc main_arg2) : Vec Ideal S2048x8208 .f32) (ix2 d (Fin.ofNat 8208 (8192 + k.val))) := by
      pointwise
      refine congrArg (fun a => (m ((c.tc : Thread nD τ).loc main_arg2) : Vec Ideal S2048x8208 .f32) (ix2 d a)) (Fin.ext ?_)
      show 8192 + k.val = (8192 + k.val) % 8208
      omega
    rw [← hv]
    refine Routing.scatter_set_hit _ _ _ _ _ _ (fun j hj => ?_) (ix2 d ⟨k.val, h⟩) ((hl _ _).mpr ⟨rfl, rfl⟩)
    obtain ⟨q0, q1⟩ := (hl _ _).mp hj
    refine congrArg _ ?_
    funext a
    apply Fin.ext
    match a with
    | ⟨0, _⟩ => exact q0
    | ⟨1, _⟩ => exact q1
  · next h =>
    refine (Routing.scatter_set_miss _ _ _ _ _ (fun j hj => ?_)).trans ?_
    · obtain ⟨q0, q1⟩ := (hl _ _).mp hj
      have : (j 1).val < 16 := (j 1).isLt
      have q : (j 1).val = k.val := q1
      omega
    · pointwise

/-! ## The blocks -/

/-- A block of the rows. -/
theorem iblk0_apply (c : Dev nD) (t : Fin cfg0.N) (r : Fin 1024) (d : Fin 2048) :
    (iblk m c 0 t : Vec Ideal S1024x2048 .f32) (ix2 r d)
      = (m ((c.tc : Thread nD τ).loc main_arg0) : Vec Ideal S32768x2048 .f32) (ix2 (Fin.ofNat 32768 ((grid0.coords t 0).val * 1024 + r.val)) d) := by
  have b0 := coord0 (grid0.coords t)
  unfold iblk
  refine (View.read_apply _ _).trans ?_
  show (V m c main_arg0 : Vec Ideal S32768x2048 .f32) _ = _
  rw [V_main_arg0]
  refine congrArg (m ((c.tc : Thread nD τ).loc main_arg0) : Vec Ideal S32768x2048 .f32) ?_
  funext a
  apply Fin.ext
  fin_cases a
  · show cc0_transform_0 (grid0.coords t) 0 * 1024 + 1 * r.val = ((grid0.coords t 0).val * 1024 + r.val) % 32768
    rw [index0]
    show (grid0.coords t 0).val * 1024 + 1 * r.val = _
    omega
  · show cc0_transform_0 (grid0.coords t) 1 * 2048 + 1 * d.val = d.val
    rw [index0]
    show 0 * 2048 + 1 * d.val = _
    omega

/-- The gain. -/
theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  unfold iblk
  refine (View.read_apply _ _).trans ?_
  show (V m c main_v6 : Vec Ideal S1x2048 .f32) _ = _
  refine Eq.trans ?_ (gain_apply m c d)
  refine congrArg (V m c main_v6 : Vec Ideal S1x2048 .f32) ?_
  funext a
  apply Fin.ext
  fin_cases a
  · show cc0_transform_1 (grid0.coords t) 0 * 1 + 1 * 0 = 0
    rw [index1]
    rfl
  · show cc0_transform_1 (grid0.coords t) 1 * 2048 + 1 * d.val = d.val
    rw [index1]
    show 0 * 2048 + 1 * d.val = _
    omega

/-- A block of the weights' columns. -/
theorem iblk2_apply (c : Dev nD) (t : Fin cfg0.N) (d : Fin 2048) (k : Fin 1024) :
    (iblk m c 2 t : Vec Ideal S2048x1024 .bf16) (ix2 d k)
      = (m ((c.tc : Thread nD τ).loc main_arg2) : Vec Ideal S2048x8208 .f32) (ix2 d (Fin.ofNat 8208 ((grid0.coords t 1).val * 1024 + k.val))) := by
  have b1 := coord1 (grid0.coords t)
  unfold iblk
  refine (View.read_apply _ _).trans ?_
  show (V m c main_v5 : Vec Ideal S2048x8192 .bf16) _ = _
  refine Eq.trans ?_ (weights_apply m c d ⟨(grid0.coords t 1).val * 1024 + k.val, by omega⟩)
  refine congrArg (V m c main_v5 : Vec Ideal S2048x8192 .bf16) ?_
  funext a
  apply Fin.ext
  fin_cases a
  · show cc0_transform_2 (grid0.coords t) 0 * 2048 + 1 * d.val = d.val
    rw [index2]
    show 0 * 2048 + 1 * d.val = _
    omega
  · show cc0_transform_2 (grid0.coords t) 1 * 1024 + 1 * k.val = (grid0.coords t 1).val * 1024 + k.val
    rw [index2]
    show (grid0.coords t 1).val * 1024 + 1 * k.val = _
    omega

/-- The logits' weights. -/
theorem iblk3_apply (c : Dev nD) (t : Fin cfg0.N) (d : Fin 2048) (k : Fin 128) :
    (iblk m c 3 t : Vec Ideal S2048x128 .bf16) (ix2 d k)
      = if k.val < 16 then (m ((c.tc : Thread nD τ).loc main_arg2) : Vec Ideal S2048x8208 .f32) (ix2 d (Fin.ofNat 8208 (8192 + k.val))) else (0 : EReal) := by
  unfold iblk
  refine (View.read_apply _ _).trans ?_
  show (V m c main_v4 : Vec Ideal S2048x128 .bf16) _ = _
  refine Eq.trans ?_ (logitWeights_apply m c d k)
  refine congrArg (V m c main_v4 : Vec Ideal S2048x128 .bf16) ?_
  funext a
  apply Fin.ext
  fin_cases a
  · show cc0_transform_3 (grid0.coords t) 0 * 2048 + 1 * d.val = d.val
    rw [index3]
    show 0 * 2048 + 1 * d.val = _
    omega
  · show cc0_transform_3 (grid0.coords t) 1 * 128 + 1 * k.val = k.val
    rw [index3]
    show 0 * 128 + 1 * k.val = _
    omega

/-! ## The two results -/

/-- A normed row of the whole array. -/
def normed (x : FVec Ideal S32768x2048 .f32) (g : FVec Ideal S2048 .f32) (R : Fin 32768) (d : Fin 2048) : Ideal .f32 :=
  scaled (fun k => x (ix2 R k)) (fun k => g (ix1 k)) d

/-- The projections, index by index. -/
def projected (x : FVec Ideal S32768x2048 .f32) (g : FVec Ideal S2048 .f32) (w : FVec Ideal S2048x8208 .f32) : FVec Ideal S32768x8192 .bf16 :=
  fun i => ∑ d : Fin 2048, normed x g (i 0) d * w (ix2 d (Fin.ofNat 8208 (i 1).val))

/-- The forget logits, index by index: sixteen columns and zeros. -/
def logits (x : FVec Ideal S32768x2048 .f32) (g : FVec Ideal S2048 .f32) (w : FVec Ideal S2048x8208 .f32) : FVec Ideal S32768x128 .f32 :=
  fun i => ∑ d : Fin 2048, normed x g (i 0) d * (if (i 1).val < 16 then w (ix2 d (Fin.ofNat 8208 (8192 + (i 1).val))) else (0 : EReal))

/-- The claimed projections, of the arguments. -/
def result4 (c : Dev nD) : FVec Ideal S32768x8192 .bf16 :=
  projected (m ((c.tc : Thread nD τ).loc main_arg0)) (m ((c.tc : Thread nD τ).loc main_arg1)) (m ((c.tc : Thread nD τ).loc main_arg2))

/-- The claimed logits, of the arguments. -/
def result5 (c : Dev nD) : FVec Ideal S32768x128 .f32 :=
  logits (m ((c.tc : Thread nD τ).loc main_arg0)) (m ((c.tc : Thread nD τ).loc main_arg1)) (m ((c.tc : Thread nD τ).loc main_arg2))

/-- The first point of a row block has the block's own row coordinate. -/
theorem start_coord (t : Fin cfg0.N) : (grid0.coords (start t.val) 0).val = (grid0.coords t 0).val := by
  have hN : grid0.N = 256 := N_0
  have ht : t.val < grid0.N := t.isLt
  rw [(coords_eq t).1, (coords_eq (start t.val)).1]
  show 8 * (t.val / 8 % 32) / 8 = t.val / 8
  omega

/-- The rows that a grid point multiplies are its row block's, normed. -/
theorem hid_apply (c : Dev nD) (t : Fin cfg0.N) (r : Fin 1024) (d : Fin 2048) :
    hid m c t.val (ix2 r d) = normed (m ((c.tc : Thread nD τ).loc main_arg0)) (m ((c.tc : Thread nD τ).loc main_arg1))
      (Fin.ofNat 32768 ((grid0.coords t 0).val * 1024 + r.val)) d := by
  unfold hid normed
  refine (pay1_apply _ _ r d).trans ?_
  rw [← start_coord t]
  refine congrArg₂ (fun a b => scaled a b d) (funext fun k => iblk0_apply m c _ r k) (funext fun k => iblk1_apply m c _ k)

/-- What a grid point writes back is its tile of the projections. -/
theorem flushed4_eq (c : Dev nD) (t : Fin cfg0.N) :
    (dats m 0 c).flushed 4 t = ((cfg0.win 4).blk t).view.read (Elt Ideal) (result4 m c) := by
  have b0 := coord0 (grid0.coords t); have b1 := coord1 (grid0.coords t)
  have e : (dats m 0 c).flushed 4 t = (dats m 0 c).after 4 t := rfl
  rw [e, after0_4]
  funext j
  obtain ⟨R, C, rfl⟩ : ∃ (R : Fin 1024) (C : Fin 1024), j = (ix2 R C : S1024x1024.Idx) := exists_ix2 (j : S1024x1024.Idx)
  show k0_pay3 (hid m c t.val) (iblk m c 2 t) (ix2 R C) = _
  show _ = result4 m c (((cfg0.win 4).blk t).view.emb (ix2 R C))
  have hi : ((cfg0.win 4).blk t).view.emb (ix2 R C)
      = (ix2 (Fin.ofNat 32768 ((grid0.coords t 0).val * 1024 + R.val)) (Fin.ofNat 8192 ((grid0.coords t 1).val * 1024 + C.val)) : S32768x8192.Idx) := by
    funext a
    apply Fin.ext
    fin_cases a
    · show cc0_transform_4 (grid0.coords t) 0 * 1024 + 1 * R.val = ((grid0.coords t 0).val * 1024 + R.val) % 32768
      rw [index4]
      show (grid0.coords t 0).val * 1024 + 1 * R.val = _
      omega
    · show cc0_transform_4 (grid0.coords t) 1 * 1024 + 1 * C.val = ((grid0.coords t 1).val * 1024 + C.val) % 8192
      rw [index4]
      show (grid0.coords t 1).val * 1024 + 1 * C.val = _
      omega
  refine Eq.trans ?_ (congrArg (result4 m c) hi.symm)
  refine (pay3_apply _ _ R C).trans ?_
  refine (Finset.sum_congr rfl fun d _ => Ideal.mul_congr (hid_apply m c t R d) (iblk2_apply m c t d C)).trans ?_
  unfold result4 projected
  refine Finset.sum_congr rfl fun d _ => Ideal.mul_congr rfl ?_
  refine congrArg (fun k => (m ((c.tc : Thread nD τ).loc main_arg2) : Vec Ideal S2048x8208 .f32) (ix2 d k)) (Fin.ext ?_)
  show ((grid0.coords t 1).val * 1024 + C.val) % 8208 = ((grid0.coords t 1).val * 1024 + C.val) % 8192 % 8208
  have hC := C.isLt
  rw [Nat.mod_eq_of_lt (show (grid0.coords t 1).val * 1024 + C.val < 8192 by omega)]

/-- What a row block's last grid point writes back is the block's logits. -/
theorem flushed5_eq (c : Dev nD) (t : Fin cfg0.N) :
    (dats m 0 c).flushed 5 t = ((cfg0.win 5).blk t).view.read (Elt Ideal) (result5 m c) := by
  have b0 := coord0 (grid0.coords t)
  have e : (dats m 0 c).flushed 5 t = (dats m 0 c).after 5 t := rfl
  rw [e, after0_5]
  funext j
  obtain ⟨R, C, rfl⟩ : ∃ (R : Fin 1024) (C : Fin 128), j = (ix2 R C : S1024x128.Idx) := exists_ix2 (j : S1024x128.Idx)
  show k0_pay2 (hid m c t.val) (iblk m c 3 (start t.val)) (ix2 R C) = _
  show _ = result5 m c (((cfg0.win 5).blk t).view.emb (ix2 R C))
  have hi : ((cfg0.win 5).blk t).view.emb (ix2 R C)
      = (ix2 (Fin.ofNat 32768 ((grid0.coords t 0).val * 1024 + R.val)) C : S32768x128.Idx) := by
    funext a
    apply Fin.ext
    fin_cases a
    · show cc0_transform_5 (grid0.coords t) 0 * 1024 + 1 * R.val = ((grid0.coords t 0).val * 1024 + R.val) % 32768
      rw [index5]
      show (grid0.coords t 0).val * 1024 + 1 * R.val = _
      omega
    · show cc0_transform_5 (grid0.coords t) 1 * 128 + 1 * C.val = C.val
      rw [index5]
      show 0 * 128 + 1 * C.val = _
      omega
  refine Eq.trans ?_ (congrArg (result5 m c) hi.symm)
  refine (pay2_apply _ _ R C).trans ?_
  exact Finset.sum_congr rfl fun d _ => Ideal.mul_congr (hid_apply m c t R d) (iblk3_apply m c _ d C)

/-- Every index of the projections is in some point's tile. -/
theorem cover4 (i : S32768x8192.Idx) : ∃ t : Fin cfg0.N, (cfg0.win 4).flush t = true ∧ i ∈ ((cfg0.win 4).blk t).view.set := by
  have h0 : (i 0).val < 32768 := (i 0).isLt
  have h1 : (i 1).val < 8192 := (i 1).isLt
  have hN : grid0.N = 256 := N_0
  have hn : (i 0).val / 1024 * 8 + (i 1).val / 1024 < grid0.N := by omega
  obtain ⟨t, ht⟩ : ∃ t : Fin grid0.N, t.val = (i 0).val / 1024 * 8 + (i 1).val / 1024 := ⟨⟨_, hn⟩, rfl⟩
  obtain ⟨k0, k1⟩ := coords_eq t
  have e : ((cfg0.win 4).blk t).view.set = ((cfg0.win 4).rect t).set := View.set_slice_whole main_v7_0 _
  have hmem : i ∈ ((cfg0.win 4).rect t).set ↔ ∀ a : Fin 2, cc0_transform_4 (grid0.coords t) a * S1024x1024.size a ≤ (i a).val
      ∧ (i a).val < cc0_transform_4 (grid0.coords t) a * S1024x1024.size a + S1024x1024.size a := Rect.mem_set_unit
  refine ⟨t, flush0_4 _, (iff_of_eq (congrArg (i ∈ ·) e)).mpr (hmem.mpr fun a => ?_)⟩
  rw [index4]
  match a with
  | ⟨0, _⟩ =>
    show (grid0.coords t 0).val * 1024 ≤ (i 0).val ∧ (i 0).val < (grid0.coords t 0).val * 1024 + 1024
    omega
  | ⟨1, _⟩ =>
    show (grid0.coords t 1).val * 1024 ≤ (i 1).val ∧ (i 1).val < (grid0.coords t 1).val * 1024 + 1024
    omega

/-- Every index of the logits is in the block that some row block's last point writes back. -/
theorem cover5 (i : S32768x128.Idx) : ∃ t : Fin cfg0.N, (cfg0.win 5).flush t = true ∧ i ∈ ((cfg0.win 5).blk t).view.set := by
  have h0 : (i 0).val < 32768 := (i 0).isLt
  have h1 : (i 1).val < 128 := (i 1).isLt
  have hN : grid0.N = 256 := N_0
  have hn : (i 0).val / 1024 * 8 + 7 < grid0.N := by omega
  obtain ⟨t, ht⟩ : ∃ t : Fin grid0.N, t.val = (i 0).val / 1024 * 8 + 7 := ⟨⟨_, hn⟩, rfl⟩
  obtain ⟨k0, k1⟩ := coords_eq t
  have e : ((cfg0.win 5).blk t).view.set = ((cfg0.win 5).rect t).set := View.set_slice_whole main_v7_1 _
  have hmem : i ∈ ((cfg0.win 5).rect t).set ↔ ∀ a : Fin 2, cc0_transform_5 (grid0.coords t) a * S1024x128.size a ≤ (i a).val
      ∧ (i a).val < cc0_transform_5 (grid0.coords t) a * S1024x128.size a + S1024x128.size a := Rect.mem_set_unit
  refine ⟨t, (flush0_5 t).mpr (by omega), (iff_of_eq (congrArg (i ∈ ·) e)).mpr (hmem.mpr fun a => ?_)⟩
  rw [index5]
  match a with
  | ⟨0, _⟩ =>
    show (grid0.coords t 0).val * 1024 ≤ (i 0).val ∧ (i 0).val < (grid0.coords t 0).val * 1024 + 1024
    omega
  | ⟨1, _⟩ =>
    show 0 * 128 ≤ (i 1).val ∧ (i 1).val < 0 * 128 + 128
    omega

/-- The projections' array ends at the claimed one. -/
theorem final4_eq (c : Dev nD) : (dats m 0 c).arrAt 4 cfg0.N = result4 m c :=
  (dats m 0 c).arrAt_eq_of_cover 4 (result4 m c) (fun t _ => flushed4_eq m c t) cover4

/-- The logits' array ends at the claimed one. -/
theorem final5_eq (c : Dev nD) : (dats m 0 c).arrAt 5 cfg0.N = result5 m c :=
  (dats m 0 c).arrAt_eq_of_cover 5 (result5 m c) (fun t _ => flushed5_eq m c t) cover5

/-! ## The claims -/

/-- The reference leaves its arguments unchanged. -/
theorem frame_reference : Cert.quiescent_OddProjReferenceIdeal := fun m ρ _ =>
  (θ_run Cert.OddProjReferenceIdeal.defs _ _).mono (fun r h => ⟨fun c => (h c).2.2, sem_eq_zero_of_no_sems (by decide) r.2⟩)
    (Cert.OddProjReferenceIdeal.Value.run (F := Ideal) m ρ)

/-- The call and its reference give the same two arrays over the extended reals. -/
theorem algebraic : Cert.algebraic_OddProjIdeal_OddProjReferenceIdeal := by
  intro m ρ m' ρ' _ hagree
  refine ⟨fun c => result4 m c, fun c => result5 m c, (θ_run defs _ _).mono (fun _ h c => ?_)
    (θ_run_and (frame_of m ρ (dats m) (A_eq m) (run_main m ρ)) (run_main m ρ)), ?_⟩
  · exact ⟨((h.2 c).1 4).trans (final4_eq m c), ((h.2 c).1 5).trans (final5_eq m c), h.1 c⟩
  refine (θ_run Cert.OddProjReferenceIdeal.defs _ _).mono (fun _ h c => ⟨(h c).1.trans ?_, (h c).2.1.trans ?_, (h c).2.2⟩)
    (Cert.OddProjReferenceIdeal.Value.run (F := Ideal) m' ρ')
  · rw [(hagree c).1, (hagree c).2.1, (hagree c).2.2]
    funext i
    obtain ⟨R, C, rfl⟩ := exists_ix2 (i : S32768x8192.Idx)
    unfold result4 projected normed scaled
    pointwise
    refine Finset.sum_congr rfl fun x _ => ?_
    refine Ideal.mul_congr rfl (congrArg (fun k => (m ((c.tc : Thread nD τ).loc main_arg2) : Vec Ideal S2048x8208 .f32) (ix2 x k)) (Fin.ext ?_))
    show C.val = C.val % 8208
    omega
  · rw [(hagree c).1, (hagree c).2.1, (hagree c).2.2]
    funext i
    obtain ⟨R, C, rfl⟩ := exists_ix2 (i : S32768x128.Idx)
    unfold result5 logits normed scaled
    pointwise
    show _ = ∑ x : Fin 2048, _ * (if C.val < 16 then _ else (0 : EReal))
    by_cases hC : C.val < 16
    · rw [dif_pos hC]
      refine Finset.sum_congr rfl fun x _ => ?_
      rw [if_pos hC]
      refine Ideal.mul_congr rfl (congrArg (fun k => (m ((c.tc : Thread nD τ).loc main_arg2) : Vec Ideal S2048x8208 .f32) (ix2 x k)) (Fin.ext ?_))
      show 8192 + C.val = (8192 + C.val) % 8208
      omega
    · rw [dif_neg hC]
      refine (show (FloatOps.sitofp FTy.f32 0#32 : Ideal .f32) = (0 : EReal) by simp [FloatOps.sitofp]).trans ?_
      refine (Finset.sum_eq_zero fun x _ => ?_).symm
      rw [if_neg hC]
      exact mul_zero (M₀ := EReal) _

end Cert.OddProjProof

end
-- ==== Proof.EvenProjRun.lean ====
/- The first layer's norm and input projection, run at any value type: the normed rows are made at a row block's first
   column block and kept in the scratch buffer for the five others. -/
module

public import proofs.«01_k».proof.Defs
public import proofs.«01_k».proof.Proof.Gen.EvenProj
public import proofs.«01_k».proof.Proof.Gen.EvenProjIdeal.Skeleton
public import proofs.«01_k».proof.Proof.Gen.EvenProjIdeal.Frame
public import Idealize.ShloMosaic.Lib.Pipeline.Value
public import Idealize.ShloMosaic.Lib.Pipeline.TableIdle
public import Idealize.ShloMosaic.Lib.VecWindow
public import Idealize.ShloMosaic.Lib.Claim

@[expose] public section

set_option maxRecDepth 16384

noncomputable section

namespace Cert.EvenProjProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenProjIdeal Cert.EvenProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first column block. -/
theorem cond_iff (i : grid0.Coords) : k0_cond2 i = 1#1 ↔ (i 1).val = 0 := by revert i; decide +kernel

/-- The offset of a whole buffer is nought. -/
theorem zero_off : (![0, 0] : Fin 2 → ℕ) = fun _ => 0 := by
  funext a; fin_cases a <;> rfl

/-- Reading a whole buffer of given contents gives those contents. -/
theorem read_whole {s : Shape} {e : EltTy} {sp : Space} (a : Memref sig .tc sp s e) (h : a.IsWhole) (x : Vec F s e)
    {off : Fin s.rank → ℕ} (inb : ∀ b, off b + s.size b ≤ s.size b) :
    View.readAt (Elt F) a.view (Rect.unit off s.size inb).toLoadRect (h.unread x) = x := by
  rw [View.readAt_full, h.read_unread]

set_option maxHeartbeats 1000000 in
/-- The body at a row block's first column block: it makes the normed rows and both products. -/
theorem body_first (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x2048 .f32) (x2 : Vec F S2048x1024 .bf16) (K : PUnit → sProp 𝕄)
    (hc : k0_cond2 i = 1#1) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay1 x0 x1) x2) ∗ owns (c : Thread nD τ) arg6 fullShare (k0_pay2 (k0_pay1 x0 x1) x2) ∗ owns (c : Thread nD τ) arg7 fullShare (k0_pay1 x0 x1)) -∗ K ⟨⟩))
      ⊢ wp frame (wpE (defs₀ (F := F)) Variants.none c none) E (cc0_even_proj i arg2 harg2 arg3 harg3 arg4 harg4 arg5 harg5 arg6 harg6 arg7 harg7) K := by
  simp only [cc0_even_proj_eq_skeleton]; unfold cc0_even_proj_skel
  have hc' : Scalar.cmpi .ne (Scalar.extui (Scalar.cmpi .eq (BitVec.ofNat 32 (i 1).val) 0#32) : BitVec 32) 0#32 = 1#1 := hc
  simp only [dif_pos hc, dif_pos hc']
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2
  sl_exec
  sl_step
  iapply Hk
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H4]; · iexists _; isplitr; swap; · iexact H4
                  ipureintro
                  exact (View.read_writes_full _ _ _ _ _).trans (congrArg₂ k0_pay3 ((View.readCov_full arg7.view _ _ _ _).trans (congrArg₂ k0_pay1 (read_whole arg2 harg2 x0 _) (read_whole arg3 harg3 x1 _))) (read_whole arg4 harg4 x2 _))
  isplitl [H5]; · iexists _; isplitr; swap; · iexact H5
                  ipureintro
                  exact (View.read_writes_full _ _ _ _ _).trans (congrArg₂ k0_pay2 ((View.readCov_full arg7.view _ _ _ _).trans (congrArg₂ k0_pay1 (read_whole arg2 harg2 x0 _) (read_whole arg3 harg3 x1 _))) (read_whole arg4 harg4 x2 _))
  iexists _; isplitr; swap; · iexact H6
  ipureintro
  exact (View.read_writes_full _ _ _ _ _).trans (congrArg₂ k0_pay1 (read_whole arg2 harg2 x0 _) (read_whole arg3 harg3 x1 _))

set_option maxHeartbeats 1000000 in
/-- The body at a later column block: it reads the normed rows that the first one left. -/
theorem body_later (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x2048 .f32) (x2 : Vec F S2048x1024 .bf16) (K : PUnit → sProp 𝕄)
    (hc : ¬ k0_cond2 i = 1#1) (h : Vec F S1024x2048 .bf16) (d5 : Vec F S1024x1024 .f32) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare d5 ∗ owns (c : Thread nD τ) arg7 fullShare h
        ∗ (iprop(owns (c : Thread nD τ) arg2 fullShare x0 ∗ owns (c : Thread nD τ) arg3 fullShare x1 ∗ owns (c : Thread nD τ) arg4 fullShare x2 ∗ owns (c : Thread nD τ) arg5 fullShare (k0_pay3 h x2) ∗ owns (c : Thread nD τ) arg6 fullShare d5 ∗ owns (c : Thread nD τ) arg7 fullShare h) -∗ K ⟨⟩))
      ⊢ wp frame (wpE (defs₀ (F := F)) Variants.none c none) E (cc0_even_proj i arg2 harg2 arg3 harg3 arg4 harg4 arg5 harg5 arg6 harg6 arg7 harg7) K := by
  simp only [cc0_even_proj_eq_skeleton]; unfold cc0_even_proj_skel
  have hc' : ¬ Scalar.cmpi .ne (Scalar.extui (Scalar.cmpi .eq (BitVec.ofNat 32 (i 1).val) 0#32) : BitVec 32) 0#32 = 1#1 := hc
  simp only [dif_neg hc, dif_neg hc']
  unfold owns
  iintro ⟨H0, H1, ⟨%f2, %hf2, H2⟩, ⟨%d4, %f4, -, H4⟩, H5, ⟨%f6, %hf6, H6⟩, Hk⟩
  obtain rfl := harg4.eq_unread hf2; obtain rfl := harg7.eq_unread hf6
  sl_exec
  sl_step
  iapply Hk
  isplitl [H0]; · iexact H0
  isplitl [H1]; · iexact H1
  isplitl [H2]; · iexists _; isplitr; swap; · iexact H2
                  ipureintro; exact harg4.read_unread _
  isplitl [H4]; · iexists _; isplitr; swap; · iexact H4
                  ipureintro
                  exact (View.read_writes_full _ _ _ _ _).trans (congrArg₂ k0_pay3 (read_whole arg7 harg7 h _) (read_whole arg4 harg4 x2 _))
  isplitl [H5]; · iexact H5
  iexists _; isplitr; swap; · iexact H6
  ipureintro; exact harg7.read_unread _

/-! ## The proof data -/

/-- The first grid point of the row block that grid point `n` works on. -/
def start (n : ℕ) : Fin cfg0.N := ⟨6 * (n / 6 % 32), by have e : cfg0.N = 192 := N_0; omega⟩

/-- Grid points of one row block have one start. -/
theorem start_eq {n k : ℕ} (h : n / 6 = k / 6) : start n = start k :=
  Fin.ext (by show 6 * (n / 6 % 32) = 6 * (k / 6 % 32); rw [h])

/-- A row block's first grid point is its own start. -/
theorem start_self (t : Fin cfg0.N) (h : t.val % 6 = 0) : start t.val = t :=
  Fin.ext (by have := t.isLt; have e : cfg0.N = 192 := N_0; show 6 * (t.val / 6 % 32) = t.val; omega)

/-- The normed rows that grid point `n` multiplies. -/
def hid (c : Dev nD) (n : ℕ) : Vec F S1024x2048 .bf16 := k0_pay1 (iblk m c 0 (start n)) (iblk m c 1 (start n))

/-- The scratch buffer between two grid points: at a row block's start anything, within it the block's normed rows. -/
def between (c : Dev nD) (n : ℕ) : sProp 𝕄 :=
  if n % 6 = 0 then Pipeline.ΦA spec0 c
  else iprop(owns (c : Thread nD τ) (Memref.whole cc0_scratch0) fullShare (hid m c n) ∗ ∃ r, prngReg c r)

/-- What each buffer holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (hid m c t.val) (iblk m c 2 t)
    | ⟨4, _⟩ => k0_pay2 (hid m c t.val) (iblk m c 2 (start t.val))
  Φ t := between m c t.val
  q _ := fullShare
  owed _ := 0

/-- The arrays are the ones the region finds. -/
theorem A_eq (c : Dev nD) (w : Fin cfg0.W) : (dats m 0 c).A w = V m c (Pipeline.arrRef spec0 w) := by dsimp only [dats]

/-- What each buffer holds after a grid point, one by one. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (hid m c t.val) (iblk m c 2 t) := by dsimp only [dats]
theorem after0_4 (c : Dev nD) (t : Fin cfg0.N) :
    (dats m 0 c).after 4 t = k0_pay2 (hid m c t.val) (iblk m c 2 (start t.val)) := by dsimp only [dats]

/-- What each input buffer holds before a grid point: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The column block of a grid point. -/
theorem cond_at (t : Fin cfg0.N) : k0_cond2 (grid0.coords t) = 1#1 ↔ t.val % 6 = 0 :=
  (by decide +kernel : ∀ t : Fin grid0.N, k0_cond2 (grid0.coords t) = 1#1 ↔ t.val % 6 = 0) t

/-- The points at which the second result's buffer is left alone. -/
theorem idle4 (t : Fin cfg0.N) : cfg0.idle 4 (grid0.coords t) = !decide (t.val % 6 = 0) :=
  (by decide +kernel : ∀ t : Fin grid0.N, (!(k0_cond2 (grid0.coords t) == 1#1)) = !decide (t.val % 6 = 0)) t

/-- The second result's buffer holds what the row block's first point left, at the block's later points. -/
theorem fresh4 (n : ℕ) (h : n ≤ cfg0.N) : cfg0.fresh 4 n = decide (n % 6 = 0) := by
  refine Pipeline.Cfg.fresh_tab cfg0 4 (fun n => decide (n % 6 = 0)) rfl (fun t => ?_) n h
  rw [idle4]
  have e : (cfg0.win 4).flush t = decide (t.val % 6 = 5) := by
    rw [Bool.eq_iff_iff, flush0_4, decide_eq_true_iff]
  rw [e, Bool.eq_iff_iff]
  simp only [decide_eq_true_iff, Bool.or_eq_true, Bool.and_eq_true, Bool.not_eq_true', decide_eq_false_iff_not]
  omega

/-- A row block's later points keep the second result that the first one made. -/
theorem carry4 (c : Dev nD) (t : Fin cfg0.N) (h : t.val % 6 ≠ 0) :
    (dats m 0 c).after 4 t = (dats m 0 c).after 4 ⟨t.val - 1, by omega⟩ := by
  rw [after0_4, after0_4]
  unfold hid
  rw [start_eq (show t.val / 6 = (t.val - 1) / 6 by omega)]

/-- The second result's buffer before a later point holds what it holds after it. -/
theorem before4 (c : Dev nD) (t : Fin cfg0.N) (h : t.val % 6 ≠ 0) (d) : (dats m 0 c).before 4 t d = (dats m 0 c).after 4 t := by
  rw [(dats m 0 c).before_out_traj 4 rfl (fun _ _ => rfl) (fun t _ hi _ => carry4 m c t (by
    rw [idle4] at hi; simpa using hi)) t.val t rfl d, fresh4 _ (le_of_lt t.isLt), decide_eq_false h, carry4 m c t h]
  rfl

/-- The second result's buffer as a grid point has to leave it. -/
theorem leaves4 (c : Dev nD) (t : Fin cfg0.N) :
    owns (c : Thread nD τ) (st0_4 t) fullShare ((dats m 0 c).after 4 t) ⊢ (dats m 0 c).leavesExact 4 t := by
  unfold Dat.leavesExact
  cases hi : cfg0.idle 4 (cfg0.grid.coords t)
  · exact .rfl
  · cases (cfg0.win 4).flush t
    · iintro H
      iexists ((dats m 0 c).after 4 t)
      rw [before4 m c t (by have := (idle4 t).symm.trans hi; simpa using this)]
      iexact H
    · exact .rfl

/-- The scratch buffer and the random state, as the run holds them between grid points. -/
theorem PhiA0_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]
  try rfl

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 800000 in
/-- The body at a row block's first grid point. -/
theorem sound_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.castSucc = Pipeline.ΦA spec0 c from if_pos h, PhiA0_eq,
    show (dats m 0 c).Φ t.succ = iprop(owns (c : Thread nD τ) (Memref.whole cc0_scratch0) fullShare (hid m c (t.val + 1)) ∗ ∃ r, prngReg c r)
      from if_neg (show ¬ (t.val + 1) % 6 = 0 by omega)]
  have e1 : hid m c (t.val + 1) = k0_pay1 (iblk m c 0 t) (iblk m c 1 t) := by
    unfold hid; rw [start_eq (show (t.val + 1) / 6 = t.val / 6 by omega), start_self t h]
  have e0 : hid m c t.val = k0_pay1 (iblk m c 0 t) (iblk m c 1 t) := by
    unfold hid; rw [start_self t h]
  have l4 := leaves4 m c t
  rw [after0_4, e0, start_self t h] at l4
  rw [e1, e0]
  iintro ⟨⟨HS, Hg⟩, Ho, ⟨%d0, H0⟩, ⟨%d1, H1⟩, ⟨%d2, H2⟩, ⟨%d4, H4⟩, ⟨%d5, H5⟩⟩
  iapply (body_first c Set.univ (grid0.coords t) _ _ _ _ _ _ _ _ _ _ _ _ (iblk m c 0 t) (iblk m c 1 t) (iblk m c 2 t) _
    ((cond_at t).mpr h))
  isplitl [H0]; · iexact H0
  isplitl [H1]; · iexact H1
  isplitl [H2]; · iexact H2
  isplitl [H4]; · iexists _; iexact H4
  isplitl [H5]; · iexists _; iexact H5
  isplitl [HS]; · iexact HS
  iintro ⟨H0, H1, H2, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H4]; · iexact H4
  iapply l4
  iexact H5

set_option maxHeartbeats 800000 in
/-- The body at a row block's later grid points. -/
theorem sound_later (c : Dev nD) (t : Fin cfg0.N) (h : t.val % 6 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before4 m c t h]
  rw [show (dats m 0 c).owesAt () t.succ = (dats m 0 c).owesAt () t.castSucc from rfl,
    after0_0, after0_1, after0_2, after0_3]
  rw [show (dats m 0 c).Φ t.castSucc = iprop(owns (c : Thread nD τ) (Memref.whole cc0_scratch0) fullShare (hid m c t.val) ∗ ∃ r, prngReg c r)
      from if_neg h]
  have hs : iprop(owns (c : Thread nD τ) (Memref.whole cc0_scratch0) fullShare (hid m c t.val) ∗ ∃ r, prngReg c r) ⊢ (dats m 0 c).Φ t.succ := by
    show _ ⊢ between m c (t.val + 1)
    unfold between
    split
    · rw [PhiA0_eq]
      iintro ⟨HS, Hg⟩
      isplitl [HS]
      · iexists _; iexact HS
      iexact Hg
    · have e1 : hid m c (t.val + 1) = hid m c t.val := by
        unfold hid; rw [start_eq (show (t.val + 1) / 6 = t.val / 6 by omega)]
      rw [e1]
  have l4 := leaves4 m c t
  iintro ⟨⟨HS, Hg⟩, Ho, ⟨%d0, H0⟩, ⟨%d1, H1⟩, ⟨%d2, H2⟩, ⟨%d4, H4⟩, ⟨%d5, H5⟩⟩
  iapply (body_later c Set.univ (grid0.coords t) _ _ _ _ _ _ _ _ _ _ _ _ (iblk m c 0 t) (iblk m c 1 t) (iblk m c 2 t) _
    (fun hc => h ((cond_at t).mp hc)) (hid m c t.val) ((dats m 0 c).after 4 t))
  isplitl [H0]; · iexact H0
  isplitl [H1]; · iexact H1
  isplitl [H2]; · iexact H2
  isplitl [H4]; · iexists _; iexact H4
  isplitl [H5]; · iexact H5
  isplitl [HS]; · iexact HS
  iintro ⟨H0, H1, H2, H4, H5, HS⟩
  isplitl [HS Hg]
  · iapply hs
    isplitl [HS]
    · iexact HS
    iexact Hg
  isplitl [Ho]; · iexact Ho
  isplitl [H0]; · iexact H0
  isplitl [H1]; · iexact H1
  isplitl [H2]; · iexact H2
  isplitl [H4]; · iexact H4
  iapply l4
  iexact H5

/-- The body at point `t`, as the run calls it. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  by_cases h : t.val % 6 = 0
  · exact triple_restated (sound_first m c t h) rfl .rfl fun _ => .rfl
  · exact triple_restated (sound_later m c t h) rfl .rfl fun _ => .rfl

/-! ## The run and the frames -/

set_option backward.isDefEq.respectTransparency.types false in
/-- The run of the whole grid: the arrays end at what `dats` says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

/-- The same run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two printed texts of the kernel's body are one, at the hardware's values. -/
theorem body_eq : @Cert.EvenProj.cc0_even_proj Bits _ _ = @Cert.EvenProjIdeal.cc0_even_proj Bits _ _ := rfl

/-- So the two tables of bodies are one, -/
theorem defs₀_eq : Cert.EvenProj.defs₀ (F := Bits) = Cert.EvenProjIdeal.defs₀ (F := Bits) := by
  unfold Cert.EvenProj.defs₀ Cert.EvenProjIdeal.defs₀
  refine congrArg Defs.onTc ?_
  funext l x
  match l, x with
  | 0, (t, s) =>
    dsimp only
    rw [body_eq]
    rfl

/-- with the pipelines' own entries too. -/
theorem defs_eq : Cert.EvenProj.defs (F := Bits) = Cert.EvenProjIdeal.defs (F := Bits) :=
  congrArg (Pipeline.defs (Cert.EvenProjIdeal.pcfgs (F := Bits))) defs₀_eq

/-- The frame at the hardware's values: the printed text is the idealized one's, run at those values. -/
theorem frame_kernel : Cert.quiescent_EvenProj := by
  intro m ρ h
  have e := frame (F := Bits) m ρ
  rw [← defs_eq] at e
  exact e

/-- The frame of the idealized call. -/
theorem frame_ideal : Cert.quiescent_EvenProjIdeal := fun m ρ _ => frame (F := Ideal) m ρ

end Cert.EvenProjProof

end
-- ==== Proof.EvenProj.lean ====
/- The first layer's norm and input projection: what the tiles make together is the normed rows' product with the weights. -/
module

public import proofs.«01_k».proof.Defs
public import proofs.«01_k».proof.Proof.EvenProjRun
public import proofs.«01_k».proof.Proof.Gen.EvenProjReferenceIdeal
public import proofs.«01_k».proof.Proof.Gen.EvenProjReferenceIdeal.Run
public import Idealize.ShloMosaic.Lib.Pointwise.Tactic
public import Idealize.ShloMosaic.Lib.Pointwise

@[expose] public section

set_option maxRecDepth 16384

noncomputable section

namespace Cert.EvenProjProof

open Idealize.ShloMosaic Idealize.ShloMosaic.TcCoe Idealize.SL.Sem
open Idealize.ShloMosaic.Pipeline (Dat)
open Cert.EvenProjIdeal Cert.EvenProjIdeal.Gen

/-- The blocks' indices at each grid point. -/
theorem index0 (i : grid0.Coords) : cc0_transform_0 i = ![(i 0).val, 0] := by revert i; decide +kernel
theorem index1 (i : grid0.Coords) : cc0_transform_1 i = ![0, 0] := by revert i; decide +kernel
theorem index2 (i : grid0.Coords) : cc0_transform_2 i = ![0, (i 1).val] := by revert i; decide +kernel
theorem index3 (i : grid0.Coords) : cc0_transform_3 i = ![(i 0).val, (i 1).val] := by revert i; decide +kernel
theorem index4 (i : grid0.Coords) : cc0_transform_4 i = ![(i 0).val, 0] := by revert i; decide +kernel
/-- The grid coordinates are in range. -/
theorem coord0 (i : grid0.Coords) : (i 0).val < 32 := (i 0).isLt
theorem coord1 (i : grid0.Coords) : (i 1).val < 6 := (i 1).isLt

/-- The coordinates of the grid's points, in order. -/
theorem coords_eq : ∀ t : Fin grid0.N, (grid0.coords t 0).val = t.val / 6 ∧ (grid0.coords t 1).val = t.val % 6 := by
  decide +kernel

/-- An index of a matrix is a row and a column. -/
theorem exists_ix2 {A B : ℕ} (j : (⟨2, ![A, B]⟩ : Shape).Idx) : ∃ (R : Fin A) (C : Fin B), j = ix2 R C :=
  ⟨j 0, j 1, by funext a; fin_cases a <;> rfl⟩

/-- A row's entry, scaled by the row's inverse root mean square and by the gain. -/
def scaled (row : Fin 2048 → Ideal .f32) (g : Fin 2048 → Ideal .f32) (d : Fin 2048) : Ideal .f32 :=
  row d * Ideal.rsqrt (Ideal.div (∑ k, row k * row k) (Ideal.ofBits FTy.f32 1157627904#32) + Ideal.ofBits FTy.f32 897988541#32) * g d

/-- One entry of a normed row. -/
theorem pay1_apply (x0 : Vec Ideal S1024x2048 .f32) (x1 : Vec Ideal S1x2048 .f32) (r : Fin 1024) (d : Fin 2048) :
    k0_pay1 x0 x1 (ix2 r d) = scaled (fun k => x0 (ix2 r k)) (fun k => x1 (ix2 0 k)) d := by
  unfold k0_pay1 scaled
  pointwise

/-- One entry of a tile of products, in full. -/
theorem pay2_apply (h : Vec Ideal S1024x2048 .bf16) (w : Vec Ideal S2048x1024 .bf16) (r : Fin 1024) (k : Fin 1024) :
    k0_pay2 h w (ix2 r k) = ∑ d : Fin 2048, h (ix2 r d) * w (ix2 d k) := by
  unfold k0_pay2
  pointwise

/-- One entry of a tile of products. -/
theorem pay3_apply (h : Vec Ideal S1024x2048 .bf16) (w : Vec Ideal S2048x1024 .bf16) (r : Fin 1024) (k : Fin 1024) :
    k0_pay3 h w (ix2 r k) = ∑ d : Fin 2048, h (ix2 r d) * w (ix2 d k) := by
  unfold k0_pay3 k0_pay2
  pointwise

variable (m : (ℓ : Loc nD τ sig) → Buf (Elt Ideal) ℓ) (ρ : Dev nD → PrngReg)

/-- The gain that the call takes is the argument, as a row. -/
theorem gain_apply (c : Dev nD) (d : Fin 2048) : (V m c main_v1 : Vec Ideal S1x2048 .f32) (ix2 0 d)
    = (m ((c.tc : Thread nD τ).loc main_arg1) : Vec Ideal S2048 .f32) (ix1 d) := by
  have e : V m c main_v1 = shapeCast S1x2048 (m ((c.tc : Thread nD τ).loc main_arg1) : Vec Ideal S2048 .f32) shapeCasts_S2048_S1x2048 := by
    show StableHlo.after hostOps0 _ (Proc.devRef .tc main_v1) = _
    after_results
    rfl
  rw [e]
  pointwise

/-- The weights that the call takes are the argument. -/
theorem weights_apply (c : Dev nD) (d : Fin 2048) (k : Fin 6144) : (V m c main_v0 : Vec Ideal S2048x6144 .bf16) (ix2 d k)
    = (m ((c.tc : Thread nD τ).loc main_arg2) : Vec Ideal S2048x6144 .f32) (ix2 d k) := by
  have e : V m c main_v0 = (truncf .bf16 (m ((c.tc : Thread nD τ).loc main_arg2) : FVec Ideal S2048x6144 .f32) bitsLt_bf16_f32 : FVec Ideal S2048x6144 .bf16) := by
    show StableHlo.after hostOps0 _ (Proc.devRef .tc main_v0) = _
    after_results
  rw [e]
  pointwise

/-! ## The blocks -/

/-- A block of the rows. -/
theorem iblk0_apply (c : Dev nD) (t : Fin cfg0.N) (r : Fin 1024) (d : Fin 2048) :
    (iblk m c 0 t : Vec Ideal S1024x2048 .f32) (ix2 r d)
      = (m ((c.tc : Thread nD τ).loc main_arg0) : Vec Ideal S32768x2048 .f32) (ix2 (Fin.ofNat 32768 ((grid0.coords t 0).val * 1024 + r.val)) d) := by
  have b0 := coord0 (grid0.coords t)
  unfold iblk
  refine (View.read_apply _ _).trans ?_
  show (V m c main_arg0 : Vec Ideal S32768x2048 .f32) _ = _
  rw [V_main_arg0]
  refine congrArg (m ((c.tc : Thread nD τ).loc main_arg0) : Vec Ideal S32768x2048 .f32) ?_
  funext a
  apply Fin.ext
  fin_cases a
  · show cc0_transform_0 (grid0.coords t) 0 * 1024 + 1 * r.val = ((grid0.coords t 0).val * 1024 + r.val) % 32768
    rw [index0]
    show (grid0.coords t 0).val * 1024 + 1 * r.val = _
    omega
  · show cc0_transform_0 (grid0.coords t) 1 * 2048 + 1 * d.val = d.val
    rw [index0]
    show 0 * 2048 + 1 * d.val = _
    omega

/-- The gain. -/
theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  unfold iblk
  refine (View.read_apply _ _).trans ?_
  show (V m c main_v1 : Vec Ideal S1x2048 .f32) _ = _
  refine Eq.trans ?_ (gain_apply m c d)
  refine congrArg (V m c main_v1 : Vec Ideal S1x2048 .f32) ?_
  funext a
  apply Fin.ext
  fin_cases a
  · show cc0_transform_1 (grid0.coords t) 0 * 1 + 1 * 0 = 0
    rw [index1]
    rfl
  · show cc0_transform_1 (grid0.coords t) 1 * 2048 + 1 * d.val = d.val
    rw [index1]
    show 0 * 2048 + 1 * d.val = _
    omega

/-- A block of the weights' columns. -/
theorem iblk2_apply (c : Dev nD) (t : Fin cfg0.N) (d : Fin 2048) (k : Fin 1024) :
    (iblk m c 2 t : Vec Ideal S2048x1024 .bf16) (ix2 d k)
      = (m ((c.tc : Thread nD τ).loc main_arg2) : Vec Ideal S2048x6144 .f32) (ix2 d (Fin.ofNat 6144 ((grid0.coords t 1).val * 1024 + k.val))) := by
  have b1 := coord1 (grid0.coords t)
  unfold iblk
  refine (View.read_apply _ _).trans ?_
  show (V m c main_v0 : Vec Ideal S2048x6144 .bf16) _ = _
  refine Eq.trans ?_ (weights_apply m c d (Fin.ofNat 6144 ((grid0.coords t 1).val * 1024 + k.val)))
  refine congrArg (V m c main_v0 : Vec Ideal S2048x6144 .bf16) ?_
  funext a
  apply Fin.ext
  fin_cases a
  · show cc0_transform_2 (grid0.coords t) 0 * 2048 + 1 * d.val = d.val
    rw [index2]
    show 0 * 2048 + 1 * d.val = _
    omega
  · show cc0_transform_2 (grid0.coords t) 1 * 1024 + 1 * k.val = ((grid0.coords t 1).val * 1024 + k.val) % 6144
    rw [index2]
    show (grid0.coords t 1).val * 1024 + 1 * k.val = _
    omega

/-! ## The two results -/

/-- A normed row of the whole array. -/
def normed (x : FVec Ideal S32768x2048 .f32) (g : FVec Ideal S2048 .f32) (R : Fin 32768) (d : Fin 2048) : Ideal .f32 :=
  scaled (fun k => x (ix2 R k)) (fun k => g (ix1 k)) d

/-- A row of the projections. -/
def projected (x : FVec Ideal S32768x2048 .f32) (g : FVec Ideal S2048 .f32) (w : FVec Ideal S2048x6144 .f32) (R : Fin 32768) (C : Fin 6144) : EReal :=
  ∑ d : Fin 2048, normed x g R d * w (ix2 d C)

/-- The projections, index by index. -/
def result3 (c : Dev nD) : FVec Ideal S32768x6144 .bf16 := fun i =>
  projected (m ((c.tc : Thread nD τ).loc main_arg0)) (m ((c.tc : Thread nD τ).loc main_arg1)) (m ((c.tc : Thread nD τ).loc main_arg2)) (i 0) (i 1)

/-- The first 1024 columns once more. -/
def result4 (c : Dev nD) : FVec Ideal S32768x1024 .f32 := fun i =>
  projected (m ((c.tc : Thread nD τ).loc main_arg0)) (m ((c.tc : Thread nD τ).loc main_arg1)) (m ((c.tc : Thread nD τ).loc main_arg2)) (i 0)
    (Fin.ofNat 6144 (i 1).val)

/-- The first point of a row block has the block's own row coordinate. -/
theorem start_coord (t : Fin cfg0.N) : (grid0.coords (start t.val) 0).val = (grid0.coords t 0).val := by
  have hN : grid0.N = 192 := N_0
  have ht : t.val < grid0.N := t.isLt
  rw [(coords_eq t).1, (coords_eq (start t.val)).1]
  show 6 * (t.val / 6 % 32) / 6 = t.val / 6
  omega

/-- The first point of a row block is at its first column block. -/
theorem start_column (t : Fin cfg0.N) : (grid0.coords (start t.val) 1).val = 0 := by
  rw [(coords_eq (start t.val)).2]
  show 6 * (t.val / 6 % 32) % 6 = 0
  omega

/-- The rows that a grid point multiplies are its row block's, normed. -/
theorem hid_apply (c : Dev nD) (t : Fin cfg0.N) (r : Fin 1024) (d : Fin 2048) :
    hid m c t.val (ix2 r d) = normed (m ((c.tc : Thread nD τ).loc main_arg0)) (m ((c.tc : Thread nD τ).loc main_arg1))
      (Fin.ofNat 32768 ((grid0.coords t 0).val * 1024 + r.val)) d := by
  unfold hid normed
  refine (pay1_apply _ _ r d).trans ?_
  rw [← start_coord t]
  refine congrArg₂ (fun a b => scaled a b d) (funext fun k => iblk0_apply m c _ r k) (funext fun k => iblk1_apply m c _ k)

/-- What a grid point writes back is its tile of the projections. -/
theorem flushed3_eq (c : Dev nD) (t : Fin cfg0.N) :
    (dats m 0 c).flushed 3 t = ((cfg0.win 3).blk t).view.read (Elt Ideal) (result3 m c) := by
  have b0 := coord0 (grid0.coords t); have b1 := coord1 (grid0.coords t)
  have e : (dats m 0 c).flushed 3 t = (dats m 0 c).after 3 t := rfl
  rw [e, after0_3]
  funext j
  obtain ⟨R, C, rfl⟩ : ∃ (R : Fin 1024) (C : Fin 1024), j = (ix2 R C : S1024x1024.Idx) := exists_ix2 (j : S1024x1024.Idx)
  show k0_pay3 (hid m c t.val) (iblk m c 2 t) (ix2 R C) = _
  show _ = result3 m c (((cfg0.win 3).blk t).view.emb (ix2 R C))
  have hi : ((cfg0.win 3).blk t).view.emb (ix2 R C)
      = (ix2 (Fin.ofNat 32768 ((grid0.coords t 0).val * 1024 + R.val)) (Fin.ofNat 6144 ((grid0.coords t 1).val * 1024 + C.val)) : S32768x6144.Idx) := by
    funext a
    apply Fin.ext
    fin_cases a
    · show cc0_transform_3 (grid0.coords t) 0 * 1024 + 1 * R.val = ((grid0.coords t 0).val * 1024 + R.val) % 32768
      rw [index3]
      show (grid0.coords t 0).val * 1024 + 1 * R.val = _
      omega
    · show cc0_transform_3 (grid0.coords t) 1 * 1024 + 1 * C.val = ((grid0.coords t 1).val * 1024 + C.val) % 6144
      rw [index3]
      show (grid0.coords t 1).val * 1024 + 1 * C.val = _
      omega
  refine Eq.trans ?_ (congrArg (result3 m c) hi.symm)
  refine (pay3_apply _ _ R C).trans ?_
  exact Finset.sum_congr rfl fun d _ => Ideal.mul_congr (hid_apply m c t R d) (iblk2_apply m c t d C)

/-- What a row block's last grid point writes back is its rows of the second result. -/
theorem flushed4_eq (c : Dev nD) (t : Fin cfg0.N) :
    (dats m 0 c).flushed 4 t = ((cfg0.win 4).blk t).view.read (Elt Ideal) (result4 m c) := by
  have b0 := coord0 (grid0.coords t)
  have e : (dats m 0 c).flushed 4 t = (dats m 0 c).after 4 t := rfl
  rw [e, after0_4]
  funext j
  obtain ⟨R, C, rfl⟩ : ∃ (R : Fin 1024) (C : Fin 1024), j = (ix2 R C : S1024x1024.Idx) := exists_ix2 (j : S1024x1024.Idx)
  show k0_pay2 (hid m c t.val) (iblk m c 2 (start t.val)) (ix2 R C) = _
  show _ = result4 m c (((cfg0.win 4).blk t).view.emb (ix2 R C))
  have hi : ((cfg0.win 4).blk t).view.emb (ix2 R C)
      = (ix2 (Fin.ofNat 32768 ((grid0.coords t 0).val * 1024 + R.val)) C : S32768x1024.Idx) := by
    funext a
    apply Fin.ext
    fin_cases a
    · show cc0_transform_4 (grid0.coords t) 0 * 1024 + 1 * R.val = ((grid0.coords t 0).val * 1024 + R.val) % 32768
      rw [index4]
      show (grid0.coords t 0).val * 1024 + 1 * R.val = _
      omega
    · show cc0_transform_4 (grid0.coords t) 1 * 1024 + 1 * C.val = C.val
      rw [index4]
      show 0 * 1024 + 1 * C.val = _
      omega
  refine Eq.trans ?_ (congrArg (result4 m c) hi.symm)
  refine (pay2_apply _ _ R C).trans ?_
  refine (Finset.sum_congr rfl fun d _ => Ideal.mul_congr (hid_apply m c t R d) (iblk2_apply m c (start t.val) d C)).trans ?_
  unfold result4 projected
  refine Finset.sum_congr rfl fun d _ => Ideal.mul_congr rfl ?_
  refine congrArg (fun k => (m ((c.tc : Thread nD τ).loc main_arg2) : Vec Ideal S2048x6144 .f32) (ix2 d k)) (Fin.ext ?_)
  show ((grid0.coords (start t.val) 1).val * 1024 + C.val) % 6144 = C.val % 6144
  rw [start_column t, Nat.zero_mul, Nat.zero_add]

/-- Every index of the projections is in some point's tile. -/
theorem cover3 (i : S32768x6144.Idx) : ∃ t : Fin cfg0.N, (cfg0.win 3).flush t = true ∧ i ∈ ((cfg0.win 3).blk t).view.set := by
  have h0 : (i 0).val < 32768 := (i 0).isLt
  have h1 : (i 1).val < 6144 := (i 1).isLt
  have hN : grid0.N = 192 := N_0
  have hn : (i 0).val / 1024 * 6 + (i 1).val / 1024 < grid0.N := by omega
  obtain ⟨t, ht⟩ : ∃ t : Fin grid0.N, t.val = (i 0).val / 1024 * 6 + (i 1).val / 1024 := ⟨⟨_, hn⟩, rfl⟩
  obtain ⟨k0, k1⟩ := coords_eq t
  have e : ((cfg0.win 3).blk t).view.set = ((cfg0.win 3).rect t).set := View.set_slice_whole main_v2_0 _
  have hmem : i ∈ ((cfg0.win 3).rect t).set ↔ ∀ a : Fin 2, cc0_transform_3 (grid0.coords t) a * S1024x1024.size a ≤ (i a).val
      ∧ (i a).val < cc0_transform_3 (grid0.coords t) a * S1024x1024.size a + S1024x1024.size a := Rect.mem_set_unit
  refine ⟨t, flush0_3 _, (iff_of_eq (congrArg (i ∈ ·) e)).mpr (hmem.mpr fun a => ?_)⟩
  rw [index3]
  match a with
  | ⟨0, _⟩ =>
    show (grid0.coords t 0).val * 1024 ≤ (i 0).val ∧ (i 0).val < (grid0.coords t 0).val * 1024 + 1024
    omega
  | ⟨1, _⟩ =>
    show (grid0.coords t 1).val * 1024 ≤ (i 1).val ∧ (i 1).val < (grid0.coords t 1).val * 1024 + 1024
    omega

/-- Every index of the second result is in the block that some row block's last point writes back. -/
theorem cover4 (i : S32768x1024.Idx) : ∃ t : Fin cfg0.N, (cfg0.win 4).flush t = true ∧ i ∈ ((cfg0.win 4).blk t).view.set := by
  have h0 : (i 0).val < 32768 := (i 0).isLt
  have h1 : (i 1).val < 1024 := (i 1).isLt
  have hN : grid0.N = 192 := N_0
  have hn : (i 0).val / 1024 * 6 + 5 < grid0.N := by omega
  obtain ⟨t, ht⟩ : ∃ t : Fin grid0.N, t.val = (i 0).val / 1024 * 6 + 5 := ⟨⟨_, hn⟩, rfl⟩
  obtain ⟨k0, k1⟩ := coords_eq t
  have e : ((cfg0.win 4).blk t).view.set = ((cfg0.win 4).rect t).set := View.set_slice_whole main_v2_1 _
  have hmem : i ∈ ((cfg0.win 4).rect t).set ↔ ∀ a : Fin 2, cc0_transform_4 (grid0.coords t) a * S1024x1024.size a ≤ (i a).val
      ∧ (i a).val < cc0_transform_4 (grid0.coords t) a * S1024x1024.size a + S1024x1024.size a := Rect.mem_set_unit
  refine ⟨t, (flush0_4 t).mpr (by omega), (iff_of_eq (congrArg (i ∈ ·) e)).mpr (hmem.mpr fun a => ?_)⟩
  rw [index4]
  match a with
  | ⟨0, _⟩ =>
    show (grid0.coords t 0).val * 1024 ≤ (i 0).val ∧ (i 0).val < (grid0.coords t 0).val * 1024 + 1024
    omega
  | ⟨1, _⟩ =>
    show 0 * 1024 ≤ (i 1).val ∧ (i 1).val < 0 * 1024 + 1024
    omega

/-- The projections' array ends at the claimed one. -/
theorem final3_eq (c : Dev nD) : (dats m 0 c).arrAt 3 cfg0.N = result3 m c :=
  (dats m 0 c).arrAt_eq_of_cover 3 (result3 m c) (fun t _ => flushed3_eq m c t) cover3

/-- The second array ends at the claimed one. -/
theorem final4_eq (c : Dev nD) : (dats m 0 c).arrAt 4 cfg0.N = result4 m c :=
  (dats m 0 c).arrAt_eq_of_cover 4 (result4 m c) (fun t _ => flushed4_eq m c t) cover4

/-! ## The claims -/

/-- The reference leaves its arguments unchanged. -/
theorem frame_reference : Cert.quiescent_EvenProjReferenceIdeal := fun m ρ _ =>
  (θ_run Cert.EvenProjReferenceIdeal.defs _ _).mono (fun r h => ⟨fun c => (h c).2.2, sem_eq_zero_of_no_sems (by decide) r.2⟩)
    (Cert.EvenProjReferenceIdeal.Value.run (F := Ideal) m ρ)

/-- The call and its reference give the same two arrays over the extended reals. -/
theorem algebraic : Cert.algebraic_EvenProjIdeal_EvenProjReferenceIdeal := by
  intro m ρ m' ρ' _ hagree
  refine ⟨fun c => result3 m c, fun c => result4 m c, (θ_run defs _ _).mono (fun _ h c => ?_)
    (θ_run_and (frame_of m ρ (dats m) (A_eq m) (run_main m ρ)) (run_main m ρ)), ?_⟩
  · exact ⟨((h.2 c).1 3).trans (final3_eq m c), ((h.2 c).1 4).trans (final4_eq m c), h.1 c⟩
  refine (θ_run Cert.EvenProjReferenceIdeal.defs _ _).mono (fun _ h c => ⟨(h c).1.trans ?_, (h c).2.1.trans ?_, (h c).2.2⟩)
    (Cert.EvenProjReferenceIdeal.Value.run (F := Ideal) m' ρ')
  · rw [(hagree c).1, (hagree c).2.1, (hagree c).2.2]
    funext i
    obtain ⟨R, C, rfl⟩ := exists_ix2 (i : S32768x6144.Idx)
    unfold result3 projected normed scaled
    pointwise
  · rw [(hagree c).1, (hagree c).2.1, (hagree c).2.2]
    funext i
    obtain ⟨R, C, rfl⟩ := exists_ix2 (i : S32768x1024.Idx)
    unfold result4 projected normed scaled
    pointwise
    refine Finset.sum_congr rfl fun x _ => ?_
    refine Ideal.mul_congr rfl (congrArg (fun k => (m ((c.tc : Thread nD τ).loc main_arg2) : Vec Ideal S2048x6144 .f32) (ix2 x k)) (Fin.ext ?_))
    show C.val = C.val % 6144
    omega

end Cert.EvenProjProof

end
-- ==== Proof.DiffWords.lean ====
/- The word arithmetic of the differential attention call: where a step of its loop reads the keys and the values, as natural numbers,
   for a start word `s ≤ a` at the pair of query blocks `a`. -/
module

public import proofs.«01_k».proof.Proof.Gen.DiffAttnIdeal.Points

@[expose] public section

set_option maxRecDepth 16384

noncomputable section

namespace Cert.Diff

open Idealize.ShloMosaic Idealize.ShloMosaic.TcCoe
open Cert.DiffAttnIdeal Cert.DiffAttnIdeal.Gen

/-- Grid coordinates with the pair of query blocks `a` and the first batch and head. -/
def pairAt (a : Fin 16) : grid0.Coords := fun j => match j with
  | ⟨0, _⟩ => (0 : Fin 2)
  | ⟨1, _⟩ => (0 : Fin 8)
  | ⟨2, _⟩ => a

set_option maxHeartbeats 4000000 in
/-- The loads of the loop are in bounds, checked for every pair of query block and start. -/
theorem chk_pairAt : ∀ a s : Fin 16, s ≤ a → k0_chk1 (pairAt a) (BitVec.ofNat 32 s.val) := by
  decide +kernel

/-- The loads of the loop are in bounds at a grid point whose start is at or before its own pair. -/
theorem chk_of_le (i : grid0.Coords) (s : Fin 16) (h : s.val ≤ (i 2).val) : k0_chk1 i (BitVec.ofNat 32 s.val) :=
  chk_pairAt (i 2) s h

/-- The number of trips of the loop, checked for every pair of query block and start. -/
theorem trips_pairAt : ∀ a s : Fin 16, s ≤ a → (k0_t1_loop (pairAt a) (BitVec.ofNat 32 s.val)).trips = a.val - s.val := by
  decide +kernel

/-- The second loop has no trips, checked for every pair of query block and start. -/
theorem trips2_pairAt : ∀ a s : Fin 16, s ≤ a → (k0_t2_loop (pairAt a) (BitVec.ofNat 32 s.val)).trips = 0 := by
  decide +kernel

/-- The number of trips of the loop at a grid point. -/
theorem trips_eq (i : grid0.Coords) (s : Fin 16) (h : s.val ≤ (i 2).val) :
    (k0_t1_loop i (BitVec.ofNat 32 s.val)).trips = (i 2).val - s.val :=
  trips_pairAt (i 2) s h

/-- The second loop has no trips at a grid point. -/
theorem trips2_eq (i : grid0.Coords) (s : Fin 16) (h : s.val ≤ (i 2).val) :
    (k0_t2_loop i (BitVec.ofNat 32 s.val)).trips = 0 :=
  trips2_pairAt (i 2) s h

/-- The key blocks that a trip reads, checked for every pair of query block and start. -/
theorem off3_pairAt : ∀ a s : Fin 16, s ≤ a → ∀ k : Fin (k0_t1_loop (pairAt a) (BitVec.ofNat 32 s.val)).trips,
    k0_off3 (pairAt a) (BitVec.ofNat 32 s.val) k 1#32 = ![512 * (2 * (s.val + k.val) + 1), 0]
    ∧ k0_off3 (pairAt a) (BitVec.ofNat 32 s.val) k 2#32 = ![512 * (2 * (s.val + k.val) + 2), 0]
    ∧ k0_off4 (pairAt a) (BitVec.ofNat 32 s.val) k = ![512 * (2 * (s.val + k.val)), 0] := by
  decide +kernel

/-- The key blocks that a trip reads, at a grid point. -/
theorem off_loop (i : grid0.Coords) (s : Fin 16) (h : s.val ≤ (i 2).val) (k : Fin (k0_t1_loop i (BitVec.ofNat 32 s.val)).trips) :
    k0_off3 i (BitVec.ofNat 32 s.val) k 1#32 = ![512 * (2 * (s.val + k.val) + 1), 0]
    ∧ k0_off3 i (BitVec.ofNat 32 s.val) k 2#32 = ![512 * (2 * (s.val + k.val) + 2), 0]
    ∧ k0_off4 i (BitVec.ofNat 32 s.val) k = ![512 * (2 * (s.val + k.val)), 0] :=
  off3_pairAt (i 2) s h k

/-- The key block read before the loop. -/
theorem off2_eq : ∀ s : Fin 16, k0_off2 (BitVec.ofNat 32 s.val) = ![512 * (2 * s.val), 0] := by
  decide +kernel

/-- The key blocks read after the loop, checked for every query block. -/
theorem off_last_pairAt : ∀ a : Fin 16, k0_off7 (pairAt a) = ![512 * (2 * a.val + 1), 0]
    ∧ k0_off8 (pairAt a) = ![512 * (2 * a.val), 0] := by
  decide +kernel

/-- The key blocks read after the loop, at a grid point. -/
theorem off_last (i : grid0.Coords) : k0_off7 i = ![512 * (2 * (i 2).val + 1), 0]
    ∧ k0_off8 i = ![512 * (2 * (i 2).val), 0] :=
  off_last_pairAt (i 2)

/-- The entry of the start table that a grid point reads. -/
theorem off1_eq (i : grid0.Coords) : k0_off1 i = ![((i 0).val * 8 + (i 1).val) * 16 + (i 2).val] := by
  have h : ∀ (a : Fin 2) (b : Fin 8) (c : Fin 16), k0_off1 (fun j => match j with
      | ⟨0, _⟩ => a | ⟨1, _⟩ => b | ⟨2, _⟩ => c) = ![(a.val * 8 + b.val) * 16 + c.val] := by
    decide +kernel
  exact h (i 0) (i 1) (i 2)

end Cert.Diff

end
-- ==== Proof.DiffSteps.lean ====
/- The differential attention call's body as functions of whole blocks: the scores of a block of keys, one step of the running maximum
   and of the running numerator and denominator, and what one trip of its loop makes of its four scratch buffers. -/
module

public import proofs.«01_k».proof.Proof.Gen.DiffAttnIdeal.Loops
public import proofs.«01_k».proof.Proof.DiffWords
public import proofs.«01_k».proof.Proof.Trip
public import Idealize.ShloMosaic.Lib.WholeRead
public import Idealize.ShloMosaic.Lib.WritesUnit
public import Idealize.ShloMosaic.Lib.Pipeline.ReadBack
public import Idealize.ShloMosaic.Lib.ValueIdxCore

@[expose] public section

set_option maxRecDepth 16384

noncomputable section

namespace Cert.Diff

open Idealize.ShloMosaic Idealize.ShloMosaic.TcCoe
open Idealize.ShloMosaic.ValueIdx
open Cert.DiffAttnIdeal Cert.DiffAttnIdeal.Gen

open Cert.Fox (rows chunk0 chunk1 chunk2 chunk3 rowMax weights withOnes readAt_writes_same readAt_writes_other)

variable {F : FTy → Type} [FloatOps F]

/-- The scores of 512 queries against 512 keys. -/
def score (q k : Vec F S512x128 .bf16) : Vec F S1x1x512x512 .f32 := k0_pay189 q k

/-- A score block, flat. -/
def flat (s : Vec F S1x1x512x512 .f32) : FVec F S512x512 .f32 := shapeCast S512x512 s shapeCasts_S1x1x512x512_S512x512

/-- A score block, flat, with the keys after the query set to minus infinity. -/
def masked (s : Vec F S1x1x512x512 .f32) : FVec F S512x512 .f32 :=
  select k0_pay188 (flat s) (broadcast S512x512 (Scalar.ofBits .f32 0xFF800000#32))

/-- The running maximum, without its leading axes of one. -/
def flatM (m : Vec F S1x1x512x128 .f32) : FVec F S512x128 .f32 := shapeCast S512x128 m shapeCasts_S1x1x512x128_S512x128

/-- The running maximum after one more block. -/
def newMax (t : FVec F S512x512 .f32) (m : Vec F S1x1x512x128 .f32) : FVec F S512x128 .f32 := maximumf (flatM m) (rowMax t)

/-- The factor which takes the old numerator and denominator to the new maximum. -/
def rescale (m : Vec F S1x1x512x128 .f32) (n : FVec F S512x128 .f32) : FVec F S512x256 .f32 :=
  concatenate S512x256 1 [⟨S512x128, exp2 (subf (flatM m) n)⟩, ⟨S512x128, exp2 (subf (flatM m) n)⟩]
    concatenates_S512x128_S512x128_S512x256_d1

/-- The running numerator and denominator after one more block. -/
def newAcc (t : FVec F S512x512 .f32) (v : Vec F S512x128 .bf16) (m : Vec F S1x1x512x128 .f32) (a : Vec F S1x1x512x256 .f32) :
    Vec F S1x1x512x256 .f32 :=
  shapeCast S1x1x512x256 (addf (mulf (rescale m (newMax t m)) (shapeCast S512x256 a shapeCasts_S1x1x512x256_S512x256))
    (matmul dot_S512x512_S512x256_S512x256_1_0_0_1_n_n none (weights t (newMax t m)) (withOnes v) (constant S512x256 .f32 0x00000000#32)))
    shapeCasts_S512x256_S1x1x512x256

/-- The running maximum after one more block, with its leading axes of one. -/
def newM (t : FVec F S512x512 .f32) (m : Vec F S1x1x512x128 .f32) : Vec F S1x1x512x128 .f32 :=
  shapeCast S1x1x512x128 (newMax t m) shapeCasts_S512x128_S1x1x512x128

/-- What the scratch buffers hold, between two trips, of one half of the query block and one of its two sets of queries and
    keys: the running maximum, the running numerator and denominator, and the scores the next trip begins with. -/
structure Ch (F : FTy → Type) [FloatOps F] where
  m : Vec F S1x1x512x128 .f32
  a : Vec F S1x1x512x256 .f32
  s : Vec F S1x1x512x512 .f32

section

variable (q : Vec F S512x128 .bf16) (x1 : Vec F S16384x128 .bf16) (x2 : Vec F S16384x128 .bf16)

/-- Before the first trip, from the block of keys `n`. -/
def ch0 (n : ℕ) : Ch F where
  m := fun _ => Scalar.ofBits .f32 0xFF800000#32
  a := fun _ => Scalar.ofBits .f32 0x00000000#32
  s := score q (rows x1 n)

/-- One trip: the scores it finds (block `n`) with the values of block `n`, then those of block `n + 1`; the scores of
    block `n + 2` are left for the next trip. -/
def stepCh (ch : Ch F) (n : ℕ) : Ch F where
  m := newM (flat (score q (rows x1 (n + 1)))) (newM (flat ch.s) ch.m)
  a := newAcc (flat (score q (rows x1 (n + 1)))) (rows x2 (n + 1)) (newM (flat ch.s) ch.m)
    (newAcc (flat ch.s) (rows x2 n) ch.m ch.a)
  s := score q (rows x1 (n + 2))

/-- `k` trips from `ch`, the first at the block of keys `2 s`. -/
def stepK (s : ℕ) (ch : Ch F) : ℕ → Ch F
  | 0 => ch
  | k + 1 => stepCh q x1 x2 (stepK s ch k) (2 * (s + k))

/-- After `k` trips from the block of keys `2 s`. -/
def chAt (s k : ℕ) : Ch F := stepK q x1 x2 s (ch0 q x1 (2 * s)) k

end

/-- The body's scratch buffers between two trips: for the first half of the query block its first (`c00`) and second (`c10`)
    queries and keys, and for the second half its first (`c01`) and second (`c11`). -/
structure St (F : FTy → Type) [FloatOps F] where
  c00 : Ch F
  c10 : Ch F
  c01 : Ch F
  c11 : Ch F

section

variable (x0 x1 : Vec F S1024x128 .bf16) (y0 y1 x2 : Vec F S16384x128 .bf16)

/-- The scratch buffers before the first trip, from the block of keys `n`. -/
def st0 (n : ℕ) : St F where
  c00 := ch0 (rows x0 0) y0 n
  c10 := ch0 (rows x1 0) y1 n
  c01 := ch0 (rows x0 1) y0 n
  c11 := ch0 (rows x1 1) y1 n

/-- `k` trips from the state `st`, the first at the block of keys `2 s`. -/
def stepsK (s : ℕ) (st : St F) (k : ℕ) : St F where
  c00 := stepK (rows x0 0) y0 x2 s st.c00 k
  c10 := stepK (rows x1 0) y1 x2 s st.c10 k
  c01 := stepK (rows x0 1) y0 x2 s st.c01 k
  c11 := stepK (rows x1 1) y1 x2 s st.c11 k

/-- One trip from the state `st`. -/
def stepSt (st : St F) (n : ℕ) : St F where
  c00 := stepCh (rows x0 0) y0 x2 st.c00 n
  c10 := stepCh (rows x1 0) y1 x2 st.c10 n
  c01 := stepCh (rows x0 1) y0 x2 st.c01 n
  c11 := stepCh (rows x1 1) y1 x2 st.c11 n

/-- The scratch buffers after `k` trips from the block of keys `2 s`. -/
def stAt (s k : ℕ) : St F := stepsK x0 x1 y0 y1 x2 s (st0 x0 x1 y0 y1 (2 * s)) k

end

/-- A load of 512 rows of a whole buffer. -/
theorem read_rows {R C : ℕ} [NeZero R] {e : EltTy} {sp : Space} (a : Memref sig .tc sp (⟨2, ![R, C]⟩ : Shape) e) (h : a.IsWhole)
    (x : Vec F (⟨2, ![R, C]⟩ : Shape) e) (n : ℕ) {off : Fin 2 → ℕ} (ho : off = ![512 * n, 0])
    (inb : ∀ b, off b + (![512, C] : Fin 2 → ℕ) b ≤ (![R, C] : Fin 2 → ℕ) b) :
    View.readAt (Elt F) a.view (Rect.unit (s := (⟨2, ![R, C]⟩ : Shape)) off ![512, C] inb).toLoadRect (h.unread x) = rows x n := by
  subst ho
  funext j
  rw [Memref.IsWhole.readAt_unread]
  unfold rows
  congr 1
  have h0 := inb 0
  have hj : (j 0).val < 512 := (j 0).isLt
  simp only [Matrix.cons_val_zero] at h0
  funext b
  apply Fin.ext
  fin_cases b
  · show 512 * n + 1 * (j 0).val = (512 * n + (j 0).val) % R
    rw [Nat.mod_eq_of_lt (by omega)]; omega
  · show 0 + 1 * (j 1).val = (j 1).val
    omega

/-- A load of a whole buffer. -/
theorem read_all {R C : ℕ} {e : EltTy} {sp : Space} (a : Memref sig .tc sp (⟨2, ![R, C]⟩ : Shape) e) (h : a.IsWhole)
    (x : Vec F (⟨2, ![R, C]⟩ : Shape) e) (inb : ∀ b, (![0, 0] : Fin 2 → ℕ) b + (![R, C] : Fin 2 → ℕ) b ≤ (![R, C] : Fin 2 → ℕ) b) :
    View.readAt (Elt F) a.view (Rect.unit (s := (⟨2, ![R, C]⟩ : Shape)) ![0, 0] ![R, C] inb).toLoadRect (h.unread x) = x := by
  funext j
  rw [Memref.IsWhole.readAt_unread]
  congr 1
  funext b
  apply Fin.ext
  fin_cases b
  · show 0 + 1 * (j 0).val = (j 0).val
    omega
  · show 0 + 1 * (j 1).val = (j 1).val
    omega

end Cert.Diff

end
-- ==== Proof.DiffTrip.lean ====
/- One trip of the differential attention call's loop, in the terms of DiffSteps.lean. -/
module

public import proofs.«01_k».proof.Proof.DiffSteps

@[expose] public section

set_option maxRecDepth 16384

noncomputable section

namespace Cert.Diff

open Idealize.ShloMosaic Idealize.ShloMosaic.TcCoe
open Idealize.ShloMosaic.ValueIdx
open Cert.DiffAttnIdeal Cert.DiffAttnIdeal.Gen
open Cert.Fox (rows readAt_writes_same readAt_writes_other)

variable {F : FTy → Type} [FloatOps F]

/-- The four quarters of a scratch buffer. -/ abbrev hm00 : Rect S2x2x512x128 := Rect.unit ![0, 0, 0, 0] S1x1x512x128.size inb_S2x2x512x128_S1x1x512x128_0_0_0_0
@[inherit_doc hm00] abbrev hm10 : Rect S2x2x512x128 := Rect.unit ![1, 0, 0, 0] S1x1x512x128.size inb_S2x2x512x128_S1x1x512x128_1_0_0_0
@[inherit_doc hm00] abbrev hm01 : Rect S2x2x512x128 := Rect.unit ![0, 1, 0, 0] S1x1x512x128.size inb_S2x2x512x128_S1x1x512x128_0_1_0_0
@[inherit_doc hm00] abbrev hm11 : Rect S2x2x512x128 := Rect.unit ![1, 1, 0, 0] S1x1x512x128.size inb_S2x2x512x128_S1x1x512x128_1_1_0_0
@[inherit_doc hm00] abbrev ha00 : Rect S2x2x512x256 := Rect.unit ![0, 0, 0, 0] S1x1x512x256.size inb_S2x2x512x256_S1x1x512x256_0_0_0_0
@[inherit_doc hm00] abbrev ha10 : Rect S2x2x512x256 := Rect.unit ![1, 0, 0, 0] S1x1x512x256.size inb_S2x2x512x256_S1x1x512x256_1_0_0_0
@[inherit_doc hm00] abbrev ha01 : Rect S2x2x512x256 := Rect.unit ![0, 1, 0, 0] S1x1x512x256.size inb_S2x2x512x256_S1x1x512x256_0_1_0_0
@[inherit_doc hm00] abbrev ha11 : Rect S2x2x512x256 := Rect.unit ![1, 1, 0, 0] S1x1x512x256.size inb_S2x2x512x256_S1x1x512x256_1_1_0_0
@[inherit_doc hm00] abbrev hs00 : Rect S2x2x512x512 := Rect.unit ![0, 0, 0, 0] S1x1x512x512.size inb_S2x2x512x512_S1x1x512x512_0_0_0_0
@[inherit_doc hm00] abbrev hs10 : Rect S2x2x512x512 := Rect.unit ![1, 0, 0, 0] S1x1x512x512.size inb_S2x2x512x512_S1x1x512x512_1_0_0_0
@[inherit_doc hm00] abbrev hs01 : Rect S2x2x512x512 := Rect.unit ![0, 1, 0, 0] S1x1x512x512.size inb_S2x2x512x512_S1x1x512x512_0_1_0_0
@[inherit_doc hm00] abbrev hs11 : Rect S2x2x512x512 := Rect.unit ![1, 1, 0, 0] S1x1x512x512.size inb_S2x2x512x512_S1x1x512x512_1_1_0_0

/-- The state three scratch buffers hold. The first two are indexed by the set of queries and keys, then by the half of the
    query block; the scores the other way round. -/
def getSt (arg16 : Memref sig .tc .vmem S2x2x512x128 .f32) (arg17 : Memref sig .tc .vmem S2x2x512x256 .f32)
    (arg18 : Memref sig .tc .vmem S2x2x512x512 .f32) (f16 : BufTy.Contents (Elt F) arg16.view.ty)
    (f17 : BufTy.Contents (Elt F) arg17.view.ty) (f18 : BufTy.Contents (Elt F) arg18.view.ty) : St F where
  c00 := ⟨arg16.view.readAt (Elt F) hm00.toLoadRect f16, arg17.view.readAt (Elt F) ha00.toLoadRect f17, arg18.view.readAt (Elt F) hs00.toLoadRect f18⟩
  c10 := ⟨arg16.view.readAt (Elt F) hm10.toLoadRect f16, arg17.view.readAt (Elt F) ha10.toLoadRect f17, arg18.view.readAt (Elt F) hs01.toLoadRect f18⟩
  c01 := ⟨arg16.view.readAt (Elt F) hm01.toLoadRect f16, arg17.view.readAt (Elt F) ha01.toLoadRect f17, arg18.view.readAt (Elt F) hs10.toLoadRect f18⟩
  c11 := ⟨arg16.view.readAt (Elt F) hm11.toLoadRect f16, arg17.view.readAt (Elt F) ha11.toLoadRect f17, arg18.view.readAt (Elt F) hs11.toLoadRect f18⟩

/-- The three scratch buffers hold `st`, quarter by quarter. -/
structure Holds (arg16 : Memref sig .tc .vmem S2x2x512x128 .f32) (arg17 : Memref sig .tc .vmem S2x2x512x256 .f32)
    (arg18 : Memref sig .tc .vmem S2x2x512x512 .f32) (st : St F) (f16 : BufTy.Contents (Elt F) arg16.view.ty)
    (f17 : BufTy.Contents (Elt F) arg17.view.ty) (f18 : BufTy.Contents (Elt F) arg18.view.ty) : Prop where
  m00 : arg16.view.readAt (Elt F) hm00.toLoadRect f16 = st.c00.m
  m10 : arg16.view.readAt (Elt F) hm10.toLoadRect f16 = st.c10.m
  m01 : arg16.view.readAt (Elt F) hm01.toLoadRect f16 = st.c01.m
  m11 : arg16.view.readAt (Elt F) hm11.toLoadRect f16 = st.c11.m
  a00 : arg17.view.readAt (Elt F) ha00.toLoadRect f17 = st.c00.a
  a10 : arg17.view.readAt (Elt F) ha10.toLoadRect f17 = st.c10.a
  a01 : arg17.view.readAt (Elt F) ha01.toLoadRect f17 = st.c01.a
  a11 : arg17.view.readAt (Elt F) ha11.toLoadRect f17 = st.c11.a
  s00 : arg18.view.readAt (Elt F) hs00.toLoadRect f18 = st.c00.s
  s10 : arg18.view.readAt (Elt F) hs01.toLoadRect f18 = st.c10.s
  s01 : arg18.view.readAt (Elt F) hs10.toLoadRect f18 = st.c01.s
  s11 : arg18.view.readAt (Elt F) hs11.toLoadRect f18 = st.c11.s

/-- The state that the buffers hold is the one read off them. -/
theorem Holds.eq {arg16 : Memref sig .tc .vmem S2x2x512x128 .f32} {arg17 : Memref sig .tc .vmem S2x2x512x256 .f32}
    {arg18 : Memref sig .tc .vmem S2x2x512x512 .f32} {f16 : BufTy.Contents (Elt F) arg16.view.ty}
    {f17 : BufTy.Contents (Elt F) arg17.view.ty} {f18 : BufTy.Contents (Elt F) arg18.view.ty} {st : St F}
    (H : Holds arg16 arg17 arg18 st f16 f17 f18) : getSt arg16 arg17 arg18 f16 f17 f18 = st := by
  obtain ⟨h1, h2, h3, h4, h5, h6, h7, h8, h9, h10, h11, h12⟩ := H
  unfold getSt
  rw [h1, h2, h3, h4, h5, h6, h7, h8, h9, h10, h11, h12]

/-- The buffers hold the state read off them. -/
theorem holds_getSt (arg16 : Memref sig .tc .vmem S2x2x512x128 .f32) (arg17 : Memref sig .tc .vmem S2x2x512x256 .f32)
    (arg18 : Memref sig .tc .vmem S2x2x512x512 .f32) (f16 : BufTy.Contents (Elt F) arg16.view.ty)
    (f17 : BufTy.Contents (Elt F) arg17.view.ty) (f18 : BufTy.Contents (Elt F) arg18.view.ty) :
    Holds arg16 arg17 arg18 (getSt arg16 arg17 arg18 f16 f17 f18) f16 f17 f18 :=
  ⟨rfl, rfl, rfl, rfl, rfl, rfl, rfl, rfl, rfl, rfl, rfl, rfl⟩

section

variable (x0 x1 : Vec F S1024x128 .bf16) (y0 y1 x2 : Vec F S16384x128 .bf16)
variable (𝒱 : Variants) (c : Dev nD) (bd : Option 𝒱.V) (i : grid0.Coords) (arg3 : Memref sig .tc .smem S256 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S16384x128 .bf16) (harg8 : arg8.IsWhole) (arg9 : Memref sig .tc .vmem S1024x128 .bf16) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x128 .f32) (harg14 : arg14.IsWhole) (arg15 : Memref sig .tc .vmem S1024x128 .bf16) (harg15 : arg15.IsWhole) (arg16 : Memref sig .tc .vmem S2x2x512x128 .f32) (harg16 : arg16.IsWhole) (arg17 : Memref sig .tc .vmem S2x2x512x256 .f32) (harg17 : arg17.IsWhole) (arg18 : Memref sig .tc .vmem S2x2x512x512 .f32) (harg18 : arg18.IsWhole) (arg19 : Memref sig .tc .vmem S2x2x512x512 .f32) (harg19 : arg19.IsWhole)
  (arg2 : BitVec 32) (s : Fin 16) (hs : s.val ≤ (i 2).val) (hw : k0_chk1 i (BitVec.ofNat 32 s.val)) (v17 c42 c43 c44 c1 : BitVec 32)
  (k : Fin (k0_t1_loop i (BitVec.ofNat 32 s.val)).trips)

include hs in
set_option maxHeartbeats 1000000 in
/-- One trip takes the state `st` to `stepSt`. -/
theorem trip_holds (st : St F) (f16 : BufTy.Contents (Elt F) arg16.view.ty) (f17 : BufTy.Contents (Elt F) arg17.view.ty)
    (f18 : BufTy.Contents (Elt F) arg18.view.ty) (f19 : BufTy.Contents (Elt F) arg19.view.ty) (H : Holds arg16 arg17 arg18 st f16 f17 f18) :
    let T := trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (BitVec.ofNat 32 s.val) hw v17 c42 c43 c44 c1 (harg4.unread x0) (harg5.unread x1) (harg6.unread y0) (harg7.unread y1) (harg8.unread x2) k
    Holds arg16 arg17 arg18 (stepSt x0 x1 y0 y1 x2 st (2 * (s.val + k.val)))
      (arg16.view.writes (Elt F) f16 (T.1 f16 f17 f18 f19)) (arg17.view.writes (Elt F) f17 (T.2.1 f16 f17 f18 f19))
      (arg18.view.writes (Elt F) f18 (T.2.2.1 f16 f17 f18 f19)) := by
  obtain ⟨o1, o2, o3⟩ := off_loop i s hs k
  have q00 : View.readAt (Elt F) arg4.view (Rect.unit (s := S1024x128) ![0, 0] S512x128.size inb_S1024x128_S512x128_0_0).toLoadRect (harg4.unread x0) = rows x0 0 :=
    read_rows arg4 harg4 x0 0 rfl _
  have q01 : View.readAt (Elt F) arg4.view (Rect.unit (s := S1024x128) ![512, 0] S512x128.size inb_S1024x128_S512x128_512_0).toLoadRect (harg4.unread x0) = rows x0 1 :=
    read_rows arg4 harg4 x0 1 rfl _
  have q10 : View.readAt (Elt F) arg5.view (Rect.unit (s := S1024x128) ![0, 0] S512x128.size inb_S1024x128_S512x128_0_0).toLoadRect (harg5.unread x1) = rows x1 0 :=
    read_rows arg5 harg5 x1 0 rfl _
  have q11 : View.readAt (Elt F) arg5.view (Rect.unit (s := S1024x128) ![512, 0] S512x128.size inb_S1024x128_S512x128_512_0).toLoadRect (harg5.unread x1) = rows x1 1 :=
    read_rows arg5 harg5 x1 1 rfl _
  have k01 := fun inb => read_rows arg6 harg6 y0 (2 * (s.val + k.val) + 1) o1 inb
  have k02 := fun inb => read_rows arg6 harg6 y0 (2 * (s.val + k.val) + 2) o2 inb
  have k11 := fun inb => read_rows arg7 harg7 y1 (2 * (s.val + k.val) + 1) o1 inb
  have k12 := fun inb => read_rows arg7 harg7 y1 (2 * (s.val + k.val) + 2) o2 inb
  have w0 := fun inb => read_rows arg8 harg8 x2 (2 * (s.val + k.val)) o3 inb
  have w1 := fun inb => read_rows arg8 harg8 x2 (2 * (s.val + k.val) + 1) o1 inb
  intro T
  unfold T trip_k0_t1
  dsimp only
  have es00 : trip_k0_t1.sl.v743 i arg4 arg5 arg6 arg7 arg19 (BitVec.ofNat 32 s.val) hw (harg4.unread x0) (harg5.unread x1) (harg6.unread y0) (harg7.unread y1) k
      = score (rows x0 0) (rows y0 (2 * (s.val + k.val) + 1)) := by
    unfold trip_k0_t1.sl.v743 trip_k0_t1.sl.HW_arg19_4
    rw [View.readCov_skip _ _ _ _ _ (by decide), View.readCov_skip _ _ _ _ _ (by decide), View.readCov_skip _ _ _ _ _ (by decide), View.readCov_cons_toLoadRect, q00]
    erw [k01]
    rfl
  have es10 : trip_k0_t1.sl.v790 i arg4 arg5 arg6 arg7 arg19 (BitVec.ofNat 32 s.val) hw (harg4.unread x0) (harg5.unread x1) (harg6.unread y0) (harg7.unread y1) k
      = score (rows x1 0) (rows y1 (2 * (s.val + k.val) + 1)) := by
    unfold trip_k0_t1.sl.v790 trip_k0_t1.sl.HW_arg19_4
    rw [View.readCov_skip _ _ _ _ _ (by decide), View.readCov_skip _ _ _ _ _ (by decide), View.readCov_cons_toLoadRect, q10]
    erw [k11]
    rfl
  have es01 : trip_k0_t1.sl.v837 i arg4 arg5 arg6 arg7 arg19 (BitVec.ofNat 32 s.val) hw (harg4.unread x0) (harg5.unread x1) (harg6.unread y0) (harg7.unread y1) k
      = score (rows x0 1) (rows y0 (2 * (s.val + k.val) + 1)) := by
    unfold trip_k0_t1.sl.v837 trip_k0_t1.sl.HW_arg19_4 trip_k0_t1.sl.r
    rw [View.readCov_skip _ _ _ _ _ (by decide), View.readCov_cons_toLoadRect, q01]
    erw [k01]
    rfl
  have es11 : trip_k0_t1.sl.v884 i arg4 arg5 arg6 arg7 arg19 (BitVec.ofNat 32 s.val) hw (harg4.unread x0) (harg5.unread x1) (harg6.unread y0) (harg7.unread y1) k
      = score (rows x1 1) (rows y1 (2 * (s.val + k.val) + 1)) := by
    unfold trip_k0_t1.sl.v884 trip_k0_t1.sl.HW_arg19_4
    rw [View.readCov_cons_toLoadRect, q11]
    erw [k11]
    rfl
  have em00 : trip_k0_t1.sl.v755 arg16 arg18 f16 f18 = newM (flat st.c00.s) st.c00.m := by
    unfold trip_k0_t1.sl.v755 trip_k0_t1.sl.HW_arg16_4
    rw [View.readCov_skip _ _ _ _ _ (by decide), View.readCov_skip _ _ _ _ _ (by decide), View.readCov_skip _ _ _ _ _ (by decide), View.readCov_cons_toLoadRect]
    unfold trip_k0_t1.sl.r_4
    rw [H.m00, H.s00]
    rfl
  have ea00 : trip_k0_t1.sl.v778 i arg8 arg16 arg17 arg18 (BitVec.ofNat 32 s.val) hw (harg8.unread x2) k f16 f17 f18 = newAcc (flat st.c00.s) (rows x2 (2 * (s.val + k.val))) st.c00.m st.c00.a := by
    unfold trip_k0_t1.sl.v778 trip_k0_t1.sl.HW_arg17_4
    rw [View.readCov_skip _ _ _ _ _ (by decide), View.readCov_skip _ _ _ _ _ (by decide), View.readCov_skip _ _ _ _ _ (by decide), View.readCov_cons_toLoadRect]
    unfold trip_k0_t1.sl.r_1 trip_k0_t1.sl.r_2 trip_k0_t1.sl.r_3 trip_k0_t1.sl.r_4 trip_k0_t1.sl.r_5 trip_k0_t1.sl.r_6 trip_k0_t1.sl.r_7
    rw [H.m00, H.s00, H.a00]
    erw [w0]
    rfl
  have em10 : trip_k0_t1.sl.v802 i arg4 arg5 arg6 arg7 arg16 arg18 arg19 (BitVec.ofNat 32 s.val) hw (harg4.unread x0) (harg5.unread x1) (harg6.unread y0) (harg7.unread y1) k f16 f18 = newM (flat st.c10.s) st.c10.m := by
    unfold trip_k0_t1.sl.v802 trip_k0_t1.sl.HW_arg16_5 trip_k0_t1.sl.HW_arg16_4
    rw [View.readCov_skip _ _ _ _ _ (by decide), View.readCov_skip _ _ _ _ _ (by decide), View.readCov_skip _ _ _ _ _ (by decide), View.readCov_cons_toLoadRect]
    unfold trip_k0_t1.sl.r_12 trip_k0_t1.sl.r_13 trip_k0_t1.sl.r_14 trip_k0_t1.sl.v568
    rw [H.m10, H.s10]
    rfl
  have ea10 : trip_k0_t1.sl.v825 i arg4 arg5 arg6 arg7 arg8 arg16 arg17 arg18 arg19 (BitVec.ofNat 32 s.val) hw (harg4.unread x0) (harg5.unread x1) (harg6.unread y0) (harg7.unread y1) (harg8.unread x2) k f16 f17 f18 = newAcc (flat st.c10.s) (rows x2 (2 * (s.val + k.val))) st.c10.m st.c10.a := by
    unfold trip_k0_t1.sl.v825 trip_k0_t1.sl.HW_arg17_5 trip_k0_t1.sl.HW_arg17_4
    rw [View.readCov_skip _ _ _ _ _ (by decide), View.readCov_skip _ _ _ _ _ (by decide), View.readCov_skip _ _ _ _ _ (by decide), View.readCov_cons_toLoadRect]
    unfold trip_k0_t1.sl.r_8 trip_k0_t1.sl.r_9 trip_k0_t1.sl.r_10 trip_k0_t1.sl.r_11 trip_k0_t1.sl.r_12 trip_k0_t1.sl.r_13 trip_k0_t1.sl.r_14 trip_k0_t1.sl.v568 trip_k0_t1.sl.v591
    rw [H.m10, H.s10, H.a10]
    erw [w0]
    rfl
  have em01 : trip_k0_t1.sl.v849 i arg4 arg5 arg6 arg7 arg16 arg18 arg19 (BitVec.ofNat 32 s.val) hw (harg4.unread x0) (harg5.unread x1) (harg6.unread y0) (harg7.unread y1) k f16 f18 = newM (flat st.c01.s) st.c01.m := by
    unfold trip_k0_t1.sl.v849 trip_k0_t1.sl.HW_arg16_6 trip_k0_t1.sl.HW_arg16_5 trip_k0_t1.sl.HW_arg16_4
    rw [View.readCov_skip _ _ _ _ _ (by decide), View.readCov_skip _ _ _ _ _ (by decide), View.readCov_skip _ _ _ _ _ (by decide), View.readCov_cons_toLoadRect]
    unfold trip_k0_t1.sl.r_15 trip_k0_t1.sl.v615
    rw [H.m01, H.s01]
    rfl
  have ea01 : trip_k0_t1.sl.v872 i arg4 arg5 arg6 arg7 arg8 arg16 arg17 arg18 arg19 (BitVec.ofNat 32 s.val) hw (harg4.unread x0) (harg5.unread x1) (harg6.unread y0) (harg7.unread y1) (harg8.unread x2) k f16 f17 f18 = newAcc (flat st.c01.s) (rows x2 (2 * (s.val + k.val))) st.c01.m st.c01.a := by
    unfold trip_k0_t1.sl.v872 trip_k0_t1.sl.HW_arg17_6 trip_k0_t1.sl.HW_arg17_5 trip_k0_t1.sl.HW_arg17_4
    rw [View.readCov_skip _ _ _ _ _ (by decide), View.readCov_skip _ _ _ _ _ (by decide), View.readCov_skip _ _ _ _ _ (by decide), View.readCov_cons_toLoadRect]
    unfold trip_k0_t1.sl.r_15 trip_k0_t1.sl.r_16 trip_k0_t1.sl.v615 trip_k0_t1.sl.v638
    rw [H.m01, H.s01, H.a01]
    erw [w0]
    rfl
  have em11 : trip_k0_t1.sl.v896 i arg4 arg5 arg6 arg7 arg16 arg18 arg19 (BitVec.ofNat 32 s.val) hw (harg4.unread x0) (harg5.unread x1) (harg6.unread y0) (harg7.unread y1) k f16 f18 = newM (flat st.c11.s) st.c11.m := by
    unfold trip_k0_t1.sl.v896 trip_k0_t1.sl.HW_arg16_7 trip_k0_t1.sl.HW_arg16_6 trip_k0_t1.sl.HW_arg16_5 trip_k0_t1.sl.HW_arg16_4
    rw [View.readCov_skip _ _ _ _ _ (by decide), View.readCov_skip _ _ _ _ _ (by decide), View.readCov_skip _ _ _ _ _ (by decide), View.readCov_cons_toLoadRect]
    unfold trip_k0_t1.sl.r_17 trip_k0_t1.sl.v662
    rw [H.m11, H.s11]
    rfl
  have ea11 : trip_k0_t1.sl.v919 i arg4 arg5 arg6 arg7 arg8 arg16 arg17 arg18 arg19 (BitVec.ofNat 32 s.val) hw (harg4.unread x0) (harg5.unread x1) (harg6.unread y0) (harg7.unread y1) (harg8.unread x2) k f16 f17 f18 = newAcc (flat st.c11.s) (rows x2 (2 * (s.val + k.val))) st.c11.m st.c11.a := by
    unfold trip_k0_t1.sl.v919 trip_k0_t1.sl.HW_arg17_7 trip_k0_t1.sl.HW_arg17_6 trip_k0_t1.sl.HW_arg17_5 trip_k0_t1.sl.HW_arg17_4
    rw [View.readCov_skip _ _ _ _ _ (by decide), View.readCov_skip _ _ _ _ _ (by decide), View.readCov_skip _ _ _ _ _ (by decide), View.readCov_cons_toLoadRect]
    unfold trip_k0_t1.sl.r_18 trip_k0_t1.sl.v662 trip_k0_t1.sl.v685
    rw [H.m11, H.s11, H.a11]
    erw [w0]
    rfl
  constructor
  · unfold trip_k0_t1.sl.HW_arg16_7 trip_k0_t1.sl.HW_arg16_6 trip_k0_t1.sl.HW_arg16_5; rw [readAt_writes_other _ _ _ _ _ _ (by decide), readAt_writes_other _ _ _ _ _ _ (by decide), readAt_writes_other _ _ _ _ _ _ (by decide), readAt_writes_same]
    unfold trip_k0_t1.sl.r_25 trip_k0_t1.sl.r_26
    rw [es00, em00]
    rfl
  · unfold trip_k0_t1.sl.HW_arg16_7 trip_k0_t1.sl.HW_arg16_6; rw [readAt_writes_other _ _ _ _ _ _ (by decide), readAt_writes_other _ _ _ _ _ _ (by decide), readAt_writes_same]
    unfold trip_k0_t1.sl.r_28 trip_k0_t1.sl.r_29 trip_k0_t1.sl.r_30 trip_k0_t1.sl.r_31
    rw [es10, em10]
    rfl
  · unfold trip_k0_t1.sl.HW_arg16_7; rw [readAt_writes_other _ _ _ _ _ _ (by decide), readAt_writes_same]
    unfold trip_k0_t1.sl.r_33 trip_k0_t1.sl.r_32
    rw [es01, em01]
    rfl
  · rw [readAt_writes_same]
    unfold trip_k0_t1.sl.r_34
    rw [es11, em11]
    rfl
  · unfold trip_k0_t1.sl.HW_arg17_7 trip_k0_t1.sl.HW_arg17_6 trip_k0_t1.sl.HW_arg17_5; rw [readAt_writes_other _ _ _ _ _ _ (by decide), readAt_writes_other _ _ _ _ _ _ (by decide), readAt_writes_other _ _ _ _ _ _ (by decide), readAt_writes_same]
    unfold trip_k0_t1.sl.r_20 trip_k0_t1.sl.r_21 trip_k0_t1.sl.r_22 trip_k0_t1.sl.r_23 trip_k0_t1.sl.r_24 trip_k0_t1.sl.r_25 trip_k0_t1.sl.r_26
    rw [es00, em00, ea00]
    erw [w1]
    rfl
  · unfold trip_k0_t1.sl.HW_arg17_7 trip_k0_t1.sl.HW_arg17_6; rw [readAt_writes_other _ _ _ _ _ _ (by decide), readAt_writes_other _ _ _ _ _ _ (by decide), readAt_writes_same]
    unfold trip_k0_t1.sl.r_27 trip_k0_t1.sl.r_28 trip_k0_t1.sl.r_29 trip_k0_t1.sl.r_30 trip_k0_t1.sl.r_31
    rw [es10, em10, ea10]
    erw [w1]
    rfl
  · unfold trip_k0_t1.sl.HW_arg17_7; rw [readAt_writes_other _ _ _ _ _ _ (by decide), readAt_writes_same]
    unfold trip_k0_t1.sl.r_32
    rw [es01, em01, ea01]
    erw [w1]
    rfl
  · rw [readAt_writes_same]
    unfold trip_k0_t1.sl.r_35 trip_k0_t1.sl.r_36
    rw [es11, em11, ea11]
    erw [w1]
    rfl
  · rw [readAt_writes_other _ _ _ _ _ _ (by decide), readAt_writes_other _ _ _ _ _ _ (by decide), readAt_writes_other _ _ _ _ _ _ (by decide), readAt_writes_same]
    rw [q00]
    erw [k02]
    rfl
  · rw [readAt_writes_other _ _ _ _ _ _ (by decide), readAt_writes_other _ _ _ _ _ _ (by decide), readAt_writes_same]
    rw [q10]
    erw [k12]
    rfl
  · rw [readAt_writes_other _ _ _ _ _ _ (by decide), readAt_writes_same]
    unfold trip_k0_t1.sl.r_19; rw [q01]
    erw [k02]
    rfl
  · rw [readAt_writes_same]
    rw [q11]
    erw [k12]
    rfl

end

end Cert.Diff

end
-- ==== Proof.DiffBody.lean ====
/- The differential attention call's body, run once at any block and any value type: its loop by the invariant that the scratch
   buffers hold the state of DiffSteps.lean, and what it leaves in its output block. -/
module

public import proofs.«01_k».proof.Proof.DiffTrip
public import proofs.«01_k».proof.Proof.Gen.DiffAttnIdeal.Frame.Runs

@[expose] public section

set_option maxRecDepth 16384

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.DiffAttnIdeal Cert.DiffAttnIdeal.Gen
open Cert.Fox (rows readAt_writes_same readAt_writes_other)

variable {F : FTy → Type} [FloatOps F]

local notation "𝕄" => MT nD τ sig Unit (Elt F) ℕ (UR sig nD τ) ℕ

section Loop

variable (x0 x1 : Vec F S1024x128 .bf16) (y0 y1 x2 : Vec F S16384x128 .bf16)
variable (𝒱 : Variants) (c : Dev nD) (bd : Option 𝒱.V) (E : Set ℕ) (i : grid0.Coords) (arg3 : Memref sig .tc .smem S256 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S16384x128 .bf16) (harg8 : arg8.IsWhole) (arg9 : Memref sig .tc .vmem S1024x128 .bf16) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x128 .f32) (harg14 : arg14.IsWhole) (arg15 : Memref sig .tc .vmem S1024x128 .bf16) (harg15 : arg15.IsWhole) (arg16 : Memref sig .tc .vmem S2x2x512x128 .f32) (harg16 : arg16.IsWhole) (arg17 : Memref sig .tc .vmem S2x2x512x256 .f32) (harg17 : arg17.IsWhole) (arg18 : Memref sig .tc .vmem S2x2x512x512 .f32) (harg18 : arg18.IsWhole) (arg19 : Memref sig .tc .vmem S2x2x512x512 .f32) (harg19 : arg19.IsWhole)
  (arg2 : BitVec 32) (v5 : Elt F .i32) (hw : k0_chk1 i v5) (v17 c42 c43 c44 c1 : BitVec 32)

/-- What the loop holds before its trip `k`: the five blocks it reads, and in its scratch buffers the state `k` trips make of
    the one it began with. -/
abbrev loopHolds (s : ℕ) (G16 : BufTy.Contents (Elt F) arg16.view.ty) (G17 : BufTy.Contents (Elt F) arg17.view.ty)
    (G18 : BufTy.Contents (Elt F) arg18.view.ty) (k : ℕ) (_u : PUnit) : sProp 𝕄 :=
  iprop((arg4.view.loc (c : Thread nD τ) ↦[arg4.view.set]{fullShare} harg4.unread x0)
    ∗ (arg5.view.loc (c : Thread nD τ) ↦[arg5.view.set]{fullShare} harg5.unread x1)
    ∗ (arg6.view.loc (c : Thread nD τ) ↦[arg6.view.set]{fullShare} harg6.unread y0)
    ∗ (arg7.view.loc (c : Thread nD τ) ↦[arg7.view.set]{fullShare} harg7.unread y1)
    ∗ (arg8.view.loc (c : Thread nD τ) ↦[arg8.view.set]{fullShare} harg8.unread x2)
    ∗ (∃ f16 f17 f18, (arg16.view.loc (c : Thread nD τ) ↦[arg16.view.set]{fullShare} f16)
        ∗ (arg17.view.loc (c : Thread nD τ) ↦[arg17.view.set]{fullShare} f17)
        ∗ (arg18.view.loc (c : Thread nD τ) ↦[arg18.view.set]{fullShare} f18)
        ∗ ⌜getSt arg16 arg17 arg18 f16 f17 f18 = stepsK x0 x1 y0 y1 x2 s (getSt arg16 arg17 arg18 G16 G17 G18) k⌝)
    ∗ (∃ f19, (arg19.view.loc (c : Thread nD τ) ↦[arg19.view.set]{fullShare} f19)))

set_option warn.classDefReducibility false in
/-- The loop by that invariant. -/
def diffLoop (s : Fin 16) (hs : s.val ≤ (i 2).val) (hv : v5 = BitVec.ofNat 32 s.val)
    (G16 : BufTy.Contents (Elt F) arg16.view.ty) (G17 : BufTy.Contents (Elt F) arg17.view.ty) (G18 : BufTy.Contents (Elt F) arg18.view.ty) :
    LoopInv (M := MT nD τ sig Unit (Elt F) ℕ (UR sig nD τ) ℕ) Idealize.ShloMosaic.frame (wpE (defs₀ (F := F)) 𝒱 (c : Thread nD τ) bd) E
      (k0_t1_loop i v5).lb (k0_t1_loop i v5).ub (k0_t1_loop i v5).st (k0_t1_ok i v5 hw) () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v5 hw v17 c42 c43 c44 c1) where
  inv := loopHolds x0 x1 y0 y1 x2 c arg4 harg4 arg5 harg5 arg6 harg6 arg7 harg7 arg8 harg8 arg16 arg17 arg18 arg19 s.val G16 G17 G18
  step k acc := by
    subst hv
    iintro ⟨H4, H5, H6, H7, H8, ⟨%f16, %f17, %f18, H16, H17, H18, %h⟩, ⟨%f19, H19⟩⟩
    iapply (wp_wand_r Idealize.ShloMosaic.frame (wpE (defs₀ (F := F)) 𝒱 (c : Thread nD τ) bd) E)
    isplitl [H4 H5 H6 H7 H8 H16 H17 H18 H19]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (BitVec.ofNat 32 s.val) hw v17 c42 c43 c44 c1 (harg4.unread x0) (harg5.unread x1) (harg6.unread y0) (harg7.unread y1) (harg8.unread x2) k).2.2.2.2 E f16 f17 f18 f19)
      isplitl [H4]; · iexact H4
      isplitl [H5]; · iexact H5
      isplitl [H6]; · iexact H6
      isplitl [H7]; · iexact H7
      isplitl [H8]; · iexact H8
      isplitl [H16]; · iexact H16
      isplitl [H17]; · iexact H17
      isplitl [H18]; · iexact H18
      iexact H19
    · iintro %_ ⟨H4, H5, H6, H7, H8, H16, H17, H18, H19⟩
      isplitl [H4]; · iexact H4
      isplitl [H5]; · iexact H5
      isplitl [H6]; · iexact H6
      isplitl [H7]; · iexact H7
      isplitl [H8]; · iexact H8
      isplitl [H16 H17 H18]
      · iexists _, _, _
        isplitl [H16]; · iexact H16
        isplitl [H17]; · iexact H17
        isplitl [H18]; · iexact H18
        ipureintro
        exact (trip_holds x0 x1 y0 y1 x2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 s hs hw v17 c42 c43 c44 c1 k (stepsK x0 x1 y0 y1 x2 s.val (getSt arg16 arg17 arg18 G16 G17 G18) k.val) f16 f17 f18 f19 (h ▸ holds_getSt _ _ _ _ _ _)).eq
      iexists _; iexact H19

end Loop

/-! ### After the loop -/

section Tail

variable (x0 x1 : Vec F S1024x128 .bf16) (y0 y1 x2 : Vec F S16384x128 .bf16) (x3 : Vec F S1024x128 .bf16)
  (l0 l1 l2 l3 : Vec F S1x64 .f32) (g : Vec F S1x128 .f32)

/-- The first 512 rows' numerator and denominator at the end: the diagonal block of keys `2 a`, masked. -/
def fin0 (a : ℕ) (ch : Ch F) : Vec F S1x1x512x256 .f32 := newAcc (masked ch.s) (rows x2 (2 * a)) ch.m ch.a

/-- The last 512 rows' numerator and denominator at the end: the block of keys `2 a` whole, then `2 a + 1`, masked. -/
def fin1 (q : Vec F S512x128 .bf16) (y : Vec F S16384x128 .bf16) (a : ℕ) (ch : Ch F) : Vec F S1x1x512x256 .f32 :=
  newAcc (masked (score q (rows y (2 * a + 1)))) (rows x2 (2 * a + 1)) (newM (flat ch.s) ch.m)
    (newAcc (flat ch.s) (rows x2 (2 * a)) ch.m ch.a)

/-- The weight of the second softmax, from the four vectors. -/
def lamOf : FVec F S1x1 .f32 := k0_pay268 l0 l1 l2 l3

/-- The first quotient of numerator and denominator less the weighted second, normalised and gated. -/
def gate (lam : FVec F S1x1 .f32) (a b : Vec F S1x1x512x256 .f32) (g : Vec F S1x128 .f32) (z : Vec F S512x128 .bf16) : FVec F S512x128 .bf16 :=
  k0_pay269 lam a b g z

/-- What the body leaves in its output block, from the state its loop ends in. -/
def outOf (a : ℕ) (st : St F) : Vec F S1024x128 .bf16 := fun j =>
  if (j 0).val < 512 then gate (lamOf l0 l1 l2 l3) (fin0 x2 a st.c00) (fin0 x2 a st.c10) g (rows x3 0) (ix2 (Fin.ofNat 512 (j 0).val) (j 1))
  else gate (lamOf l0 l1 l2 l3) (fin1 x2 (rows x0 1) y0 a st.c01) (fin1 x2 (rows x1 1) y1 a st.c11) g (rows x3 1)
    (ix2 (Fin.ofNat 512 ((j 0).val - 512)) (j 1))

/-- What the body leaves in its output block at the pair of query blocks `a`, from the start word `s`. -/
def outBlk (a s : ℕ) : Vec F S1024x128 .bf16 := outOf x0 x1 y0 y1 x2 x3 l0 l1 l2 l3 g a (stAt x0 x1 y0 y1 x2 s (a - s))

end Tail

/-- The start word the body reads at grid point `i`. -/
abbrev word (c : Dev nD) (i : grid0.Coords) (xt0 : TbBuf0 (F := F) c tbM0_0) : Elt F .i32 :=
  tbM0_0.view.readAt (Elt F) (Rect.unit (s := S256) (k0_off1 i) S1.size (k0_off1_inb i)).toLoadRect xt0 (Shape.Idx.first (numel1_S1.symm ▸ Nat.one_pos))

/-- What the scratch buffers hold before the loop. -/
theorem init_st (c : Dev nD) (i : grid0.Coords) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg16 : Memref sig .tc .vmem S2x2x512x128 .f32) (arg17 : Memref sig .tc .vmem S2x2x512x256 .f32) (arg18 : Memref sig .tc .vmem S2x2x512x512 .f32)
    (x0 x1 : Vec F S1024x128 .bf16) (y0 y1 : Vec F S16384x128 .bf16) (w : BitVec 32) (s : Fin 16) (hv : w = BitVec.ofNat 32 s.val) (hw : k0_chk1 i w) :
    getSt arg16 arg17 arg18
    (arg16.view.writes (Elt F) arg16.view.junk [⟨Rect.unit (s := S2x2x512x128) ![0, 0, 0, 0] S2x2x512x128.size inb_S2x2x512x128_S2x2x512x128_0_0_0_0, k0_pay186 (F := F)⟩])
    (arg17.view.writes (Elt F) arg17.view.junk [⟨Rect.unit (s := S2x2x512x256) ![0, 0, 0, 0] S2x2x512x256.size inb_S2x2x512x256_S2x2x512x256_0_0_0_0, k0_pay187 (F := F)⟩])
    (arg18.view.writes (Elt F) arg18.view.junk
      [⟨hs11, k0_pay192 (View.readAt (Elt F) arg5.view (Rect.unit (s := S1024x128) ![512, 0] S512x128.size inb_S1024x128_S512x128_512_0).toLoadRect (harg5.unread x1))
          (View.readAt (Elt F) arg7.view (Rect.unit (s := S16384x128) (k0_off2 w) S512x128.size (k0_off2_inb i _ hw)).toLoadRect (harg7.unread y1))⟩,
       ⟨hs10, k0_pay191 (View.readAt (Elt F) arg4.view (Rect.unit (s := S1024x128) ![512, 0] S512x128.size inb_S1024x128_S512x128_512_0).toLoadRect (harg4.unread x0))
          (View.readAt (Elt F) arg6.view (Rect.unit (s := S16384x128) (k0_off2 w) S512x128.size (k0_off2_inb i _ hw)).toLoadRect (harg6.unread y0))⟩,
       ⟨hs01, k0_pay190 (View.readAt (Elt F) arg5.view (Rect.unit (s := S1024x128) ![0, 0] S512x128.size inb_S1024x128_S512x128_0_0).toLoadRect (harg5.unread x1))
          (View.readAt (Elt F) arg7.view (Rect.unit (s := S16384x128) (k0_off2 w) S512x128.size (k0_off2_inb i _ hw)).toLoadRect (harg7.unread y1))⟩,
       ⟨hs00, k0_pay189 (View.readAt (Elt F) arg4.view (Rect.unit (s := S1024x128) ![0, 0] S512x128.size inb_S1024x128_S512x128_0_0).toLoadRect (harg4.unread x0))
          (View.readAt (Elt F) arg6.view (Rect.unit (s := S16384x128) (k0_off2 w) S512x128.size (k0_off2_inb i _ hw)).toLoadRect (harg6.unread y0))⟩])
    = st0 x0 x1 y0 y1 (2 * s.val) := by
  subst hv
  have q00 : View.readAt (Elt F) arg4.view (Rect.unit (s := S1024x128) ![0, 0] S512x128.size inb_S1024x128_S512x128_0_0).toLoadRect (harg4.unread x0) = rows x0 0 :=
    read_rows arg4 harg4 x0 0 rfl _
  have q01 : View.readAt (Elt F) arg4.view (Rect.unit (s := S1024x128) ![512, 0] S512x128.size inb_S1024x128_S512x128_512_0).toLoadRect (harg4.unread x0) = rows x0 1 :=
    read_rows arg4 harg4 x0 1 rfl _
  have q10 : View.readAt (Elt F) arg5.view (Rect.unit (s := S1024x128) ![0, 0] S512x128.size inb_S1024x128_S512x128_0_0).toLoadRect (harg5.unread x1) = rows x1 0 :=
    read_rows arg5 harg5 x1 0 rfl _
  have q11 : View.readAt (Elt F) arg5.view (Rect.unit (s := S1024x128) ![512, 0] S512x128.size inb_S1024x128_S512x128_512_0).toLoadRect (harg5.unread x1) = rows x1 1 :=
    read_rows arg5 harg5 x1 1 rfl _
  have k0 := fun inb => read_rows arg6 harg6 y0 (2 * s.val) (off2_eq s) inb
  have k1 := fun inb => read_rows arg7 harg7 y1 (2 * s.val) (off2_eq s) inb
  apply Holds.eq
  constructor
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · exact (View.readCov_fill _ _ _ _ _ (by decide)).trans rfl
  · rw [readAt_writes_other _ _ _ _ _ _ (by decide), readAt_writes_other _ _ _ _ _ _ (by decide), readAt_writes_other _ _ _ _ _ _ (by decide), readAt_writes_same, q00]
    erw [k0]
    rfl
  · rw [readAt_writes_other _ _ _ _ _ _ (by decide), readAt_writes_other _ _ _ _ _ _ (by decide), readAt_writes_same, q10]
    erw [k1]
    rfl
  · rw [readAt_writes_other _ _ _ _ _ _ (by decide), readAt_writes_same, q01]
    erw [k0]
    rfl
  · rw [readAt_writes_same, q11]
    erw [k1]
    rfl

set_option maxHeartbeats 8000000 in
/-- The body on whole memrefs, its inputs' at their contents and everything else at anything: it ends with its inputs as
    they were and `outBlk` in its output block. -/
theorem body_run (c : Dev nD) (i : grid0.Coords) (arg4 : Memref sig .tc .vmem S1024x128 .bf16) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S16384x128 .bf16) (harg8 : arg8.IsWhole) (arg9 : Memref sig .tc .vmem S1024x128 .bf16) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x128 .f32) (harg14 : arg14.IsWhole) (arg15 : Memref sig .tc .vmem S1024x128 .bf16) (harg15 : arg15.IsWhole) (arg16 : Memref sig .tc .vmem S2x2x512x128 .f32) (harg16 : arg16.IsWhole) (arg17 : Memref sig .tc .vmem S2x2x512x256 .f32) (harg17 : arg17.IsWhole) (arg18 : Memref sig .tc .vmem S2x2x512x512 .f32) (harg18 : arg18.IsWhole) (arg19 : Memref sig .tc .vmem S2x2x512x512 .f32) (harg19 : arg19.IsWhole)
    (x0 : Vec F S1024x128 .bf16) (x1 : Vec F S1024x128 .bf16) (y0 : Vec F S16384x128 .bf16) (y1 : Vec F S16384x128 .bf16) (x2 : Vec F S16384x128 .bf16) (x3 : Vec F S1024x128 .bf16) (l0 : Vec F S1x64 .f32) (l1 : Vec F S1x64 .f32) (l2 : Vec F S1x64 .f32) (l3 : Vec F S1x64 .f32) (g : Vec F S1x128 .f32) (xt0 : TbBuf0 (F := F) c tbM0_0)
    (s : Fin 16) (hs : s.val ≤ (i 2).val)
    (hv : word c i xt0 = BitVec.ofNat 32 s.val)
    (E : Set ℕ) (K : PUnit → sProp 𝕄) :
    iprop(owns (c : Thread nD τ) arg4 fullShare x0 ∗ owns (c : Thread nD τ) arg5 fullShare x1 ∗ owns (c : Thread nD τ) arg6 fullShare y0 ∗ owns (c : Thread nD τ) arg7 fullShare y1 ∗ owns (c : Thread nD τ) arg8 fullShare x2 ∗ owns (c : Thread nD τ) arg9 fullShare x3 ∗ owns (c : Thread nD τ) arg10 fullShare l0 ∗ owns (c : Thread nD τ) arg11 fullShare l1 ∗ owns (c : Thread nD τ) arg12 fullShare l2 ∗ owns (c : Thread nD τ) arg13 fullShare l3 ∗ owns (c : Thread nD τ) arg14 fullShare g ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg4 fullShare x0 ∗ owns (c : Thread nD τ) arg5 fullShare x1 ∗ owns (c : Thread nD τ) arg6 fullShare y0 ∗ owns (c : Thread nD τ) arg7 fullShare y1 ∗ owns (c : Thread nD τ) arg8 fullShare x2 ∗ owns (c : Thread nD τ) arg9 fullShare x3 ∗ owns (c : Thread nD τ) arg10 fullShare l0 ∗ owns (c : Thread nD τ) arg11 fullShare l1 ∗ owns (c : Thread nD τ) arg12 fullShare l2 ∗ owns (c : Thread nD τ) arg13 fullShare l3 ∗ owns (c : Thread nD τ) arg14 fullShare g ∗ owns (c : Thread nD τ) arg15 fullShare (outBlk x0 x1 y0 y1 x2 x3 l0 l1 l2 l3 g (i 2).val s.val) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩))
          ⊢ wp frame (wpE (defs₀ (F := F)) Variants.none c none) E (cc0_da_attn i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hw : k0_chk1 i (word c i xt0) := by
    rw [hv]; exact chk_of_le i s hs
  have htr : (k0_t2_loop i (word c i xt0)).trips = 0 := by
    rw [hv]; exact trips2_eq i s hs
  simp only [cc0_da_attn_eq_skeleton]; unfold cc0_da_attn_skel
  simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds16, %fs16, -, H16⟩, ⟨%ds17, %fs17, -, H17⟩, ⟨%ds18, %fs18, -, H18⟩, ⟨%ds19, %fs19, -, H19⟩, HT0, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  let L := diffLoop x0 x1 y0 y1 x2 Variants.none c none E i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val)
    (word c i xt0) hw
    (Scalar.muli 2#32 (BitVec.ofNat 32 (i 2).val)) 0#32 0#32 0#32 1#32
    s hs hv
    (arg16.view.writes (Elt F) arg16.view.junk [⟨Rect.unit (s := S2x2x512x128) ![0, 0, 0, 0] S2x2x512x128.size inb_S2x2x512x128_S2x2x512x128_0_0_0_0, k0_pay186 (F := F)⟩])
    (arg17.view.writes (Elt F) arg17.view.junk [⟨Rect.unit (s := S2x2x512x256) ![0, 0, 0, 0] S2x2x512x256.size inb_S2x2x512x256_S2x2x512x256_0_0_0_0, k0_pay187 (F := F)⟩])
    (arg18.view.writes (Elt F) arg18.view.junk
      [⟨hs11, k0_pay192 (View.readAt (Elt F) arg5.view (Rect.unit (s := S1024x128) ![512, 0] S512x128.size inb_S1024x128_S512x128_512_0).toLoadRect (harg5.unread x1))
          (View.readAt (Elt F) arg7.view (Rect.unit (s := S16384x128) (k0_off2 (word c i xt0)) S512x128.size (k0_off2_inb i _ hw)).toLoadRect (harg7.unread y1))⟩,
       ⟨hs10, k0_pay191 (View.readAt (Elt F) arg4.view (Rect.unit (s := S1024x128) ![512, 0] S512x128.size inb_S1024x128_S512x128_512_0).toLoadRect (harg4.unread x0))
          (View.readAt (Elt F) arg6.view (Rect.unit (s := S16384x128) (k0_off2 (word c i xt0)) S512x128.size (k0_off2_inb i _ hw)).toLoadRect (harg6.unread y0))⟩,
       ⟨hs01, k0_pay190 (View.readAt (Elt F) arg5.view (Rect.unit (s := S1024x128) ![0, 0] S512x128.size inb_S1024x128_S512x128_0_0).toLoadRect (harg5.unread x1))
          (View.readAt (Elt F) arg7.view (Rect.unit (s := S16384x128) (k0_off2 (word c i xt0)) S512x128.size (k0_off2_inb i _ hw)).toLoadRect (harg7.unread y1))⟩,
       ⟨hs00, k0_pay189 (View.readAt (Elt F) arg4.view (Rect.unit (s := S1024x128) ![0, 0] S512x128.size inb_S1024x128_S512x128_0_0).toLoadRect (harg4.unread x0))
          (View.readAt (Elt F) arg6.view (Rect.unit (s := S16384x128) (k0_off2 (word c i xt0)) S512x128.size (k0_off2_inb i _ hw)).toLoadRect (harg6.unread y0))⟩])
  let L2 : LoopInvTy_k0_t2 (F := F) Unit ℕ (UR sig nD τ) ℕ Variants.none c none E i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val)
      (word c i xt0) hw (Scalar.muli 2#32 (BitVec.ofNat 32 (i 2).val)) 0#32 0#32 0#32 1#32
      (Scalar.addi (word c i xt0) (Scalar.muli (Scalar.divsi (Scalar.subi (BitVec.ofNat 32 (i 2).val) (word c i xt0)) 1#32) 1#32)) :=
    LoopInv.ofNoTrips _ _ _ _ _ _ _ _ _ htr
  sl_exec (disch := first | sl_exact hw)
  sl_step
  have hst : getSt arg16 arg17 arg18 f16L0 f17L1 f18L2 = stAt x0 x1 y0 y1 x2 s.val ((i 2).val - s.val) := by
    rw [hL8]
    have ht : Scf.trips (k0_t1_loop i (word c i xt0)).lb (k0_t1_loop i (word c i xt0)).ub (k0_t1_loop i (word c i xt0)).st = (i 2).val - s.val := by
      rw [hv]; exact trips_eq i s hs
    rw [ht]
    unfold stAt
    congr 1
    exact init_st c i arg4 harg4 arg5 harg5 arg6 harg6 arg7 harg7 arg16 arg17 arg18 x0 x1 y0 y1 _ s hv hw
  have e15 : View.read (Elt F) arg15.view (arg15.view.writes (Elt F) f15
      [⟨Rect.unit (s := S1024x128) ![512, 0] ![512, 128] inb_S1024x128_S512x128_512_0,
          k0_pay1
            (body_run.sl.r_30 c i arg4 harg4 arg5 harg5 arg6 harg6 arg7 harg7 arg8 harg8 arg10 harg10 arg11 harg11 arg12 harg12 arg13 harg13 arg14 harg14 arg16 arg17 arg18 arg19 x0 x1 y0 y1 x2 l0 l1 l2 l3 g f16L0 f17L1 f18L2)
            (body_run.sl.r_31 c arg9 harg9 x3)⟩,
        ⟨Rect.unit (s := S1024x128) ![0, 0] S512x128.size inb_S1024x128_S512x128_0_0,
          body_run.sl.r_29 c i arg4 harg4 arg5 harg5 arg6 harg6 arg7 harg7 arg8 harg8 arg9 harg9 arg10 harg10 arg11 harg11 arg12 harg12 arg13 harg13 arg14 harg14 arg16 arg17 arg18 arg19 x0 x1 y0 y1 x2 x3 l0 l1 l2 l3 g f16L0 f17L1 f18L2⟩])
      = outBlk x0 x1 y0 y1 x2 x3 l0 l1 l2 l3 g (i 2).val s.val := by
    obtain ⟨o7, o8⟩ := off_last i
    unfold outBlk
    rw [← hst]
    have q0 : View.readAt (Elt F) arg4.view (Rect.unit (s := S1024x128) ![512, 0] S512x128.size inb_S1024x128_S512x128_512_0).toLoadRect (harg4.unread x0) = rows x0 1 :=
      read_rows arg4 harg4 x0 1 rfl _
    have q1 : View.readAt (Elt F) arg5.view (Rect.unit (s := S1024x128) ![512, 0] S512x128.size inb_S1024x128_S512x128_512_0).toLoadRect (harg5.unread x1) = rows x1 1 :=
      read_rows arg5 harg5 x1 1 rfl _
    have z0 : View.readAt (Elt F) arg9.view (Rect.unit (s := S1024x128) ![0, 0] S512x128.size inb_S1024x128_S512x128_0_0).toLoadRect (harg9.unread x3) = rows x3 0 :=
      read_rows arg9 harg9 x3 0 rfl _
    have z1 : View.readAt (Elt F) arg9.view (Rect.unit (s := S1024x128) ![512, 0] S512x128.size inb_S1024x128_S512x128_512_0).toLoadRect (harg9.unread x3) = rows x3 1 :=
      read_rows arg9 harg9 x3 1 rfl _
    have k0 := fun inb => read_rows arg6 harg6 y0 (2 * (i 2).val + 1) o7 inb
    have k1 := fun inb => read_rows arg7 harg7 y1 (2 * (i 2).val + 1) o7 inb
    have w0 := fun inb => read_rows arg8 harg8 x2 (2 * (i 2).val) o8 inb
    have w1 := fun inb => read_rows arg8 harg8 x2 (2 * (i 2).val + 1) o7 inb
    have e28 : body_run.sl.r_28 c arg10 harg10 arg11 harg11 arg12 harg12 arg13 harg13 l0 l1 l2 l3 = lamOf l0 l1 l2 l3 := by
      unfold body_run.sl.r_28
      rw [read_all arg10 harg10 l0, read_all arg11 harg11 l1, read_all arg12 harg12 l2, read_all arg13 harg13 l3]
      rfl
    have eg : View.readAt (Elt F) arg14.view (Rect.unit (s := S1x128) ![0, 0] S1x128.size inb_S1x128_S1x128_0_0).toLoadRect (harg14.unread g) = g :=
      read_all arg14 harg14 g _
    have s0 : body_run.sl.v264 i arg4 harg4 arg5 harg5 arg6 harg6 arg7 harg7 arg19 x0 x1 y0 y1 = score (rows x0 1) (rows y0 (2 * (i 2).val + 1)) := by
      unfold body_run.sl.v264 body_run.sl.H19_2
      rw [View.readCov_skip _ _ _ _ _ (by decide), View.readCov_cons_toLoadRect, q0]
      erw [k0]
      rfl
    have s1 : body_run.sl.v311 i arg4 harg4 arg5 harg5 arg6 harg6 arg7 harg7 arg19 x0 x1 y0 y1 = score (rows x1 1) (rows y1 (2 * (i 2).val + 1)) := by
      unfold body_run.sl.v311 body_run.sl.H19_2 body_run.sl.r_1
      rw [View.readCov_cons_toLoadRect, q1]
      erw [k1]
      rfl
    have m0 : body_run.sl.v278 c arg16 arg18 f16L0 f18L2 = newM (flat (getSt arg16 arg17 arg18 f16L0 f17L1 f18L2).c01.s) (getSt arg16 arg17 arg18 f16L0 f17L1 f18L2).c01.m := by
      unfold body_run.sl.v278 body_run.sl.H16_4
      rw [View.readCov_skip _ _ _ _ _ (by decide), View.readCov_cons_toLoadRect]
      rfl
    have m1 : body_run.sl.v325 c i arg4 harg4 arg5 harg5 arg6 harg6 arg7 harg7 arg16 arg18 arg19 x0 x1 y0 y1 f16L0 f18L2 = newM (flat (getSt arg16 arg17 arg18 f16L0 f17L1 f18L2).c11.s) (getSt arg16 arg17 arg18 f16L0 f17L1 f18L2).c11.m := by
      unfold body_run.sl.v325 body_run.sl.H16_5 body_run.sl.H16_4
      rw [View.readCov_skip _ _ _ _ _ (by decide), View.readCov_cons_toLoadRect]
      rfl
    have a0 : body_run.sl.v301 c i arg8 harg8 arg16 arg17 arg18 x2 f16L0 f17L1 f18L2 = newAcc (flat (getSt arg16 arg17 arg18 f16L0 f17L1 f18L2).c01.s) (rows x2 (2 * (i 2).val)) (getSt arg16 arg17 arg18 f16L0 f17L1 f18L2).c01.m (getSt arg16 arg17 arg18 f16L0 f17L1 f18L2).c01.a := by
      unfold body_run.sl.v301 body_run.sl.H17_4
      rw [View.readCov_skip _ _ _ _ _ (by decide), View.readCov_cons_toLoadRect]
      unfold body_run.sl.r_12
      erw [w0]
      rfl
    have a1 : body_run.sl.v348 c i arg4 harg4 arg5 harg5 arg6 harg6 arg7 harg7 arg8 harg8 arg16 arg17 arg18 arg19 x0 x1 y0 y1 x2 f16L0 f17L1 f18L2 = newAcc (flat (getSt arg16 arg17 arg18 f16L0 f17L1 f18L2).c11.s) (rows x2 (2 * (i 2).val)) (getSt arg16 arg17 arg18 f16L0 f17L1 f18L2).c11.m (getSt arg16 arg17 arg18 f16L0 f17L1 f18L2).c11.a := by
      unfold body_run.sl.v348 body_run.sl.H17_5 body_run.sl.H17_4
      rw [View.readCov_skip _ _ _ _ _ (by decide), View.readCov_cons_toLoadRect]
      unfold body_run.sl.r_20
      erw [w0]
      rfl
    have e377 : body_run.sl.v377 c i arg4 harg4 arg5 harg5 arg6 harg6 arg7 harg7 arg8 harg8 arg16 arg17 arg18 arg19 x0 x1 y0 y1 x2 f16L0 f17L1 f18L2 = fin0 x2 (i 2).val (getSt arg16 arg17 arg18 f16L0 f17L1 f18L2).c00 := by
      unfold body_run.sl.v377 body_run.sl.H17_6 body_run.sl.H17_5 body_run.sl.H17_4
      rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
      unfold body_run.sl.r_3
      erw [w0]
      rfl
    have e379 : body_run.sl.v379 c i arg4 harg4 arg5 harg5 arg6 harg6 arg7 harg7 arg8 harg8 arg16 arg17 arg18 arg19 x0 x1 y0 y1 x2 f16L0 f17L1 f18L2 = fin0 x2 (i 2).val (getSt arg16 arg17 arg18 f16L0 f17L1 f18L2).c10 := by
      unfold body_run.sl.v379 body_run.sl.H17_6 body_run.sl.H17_5 body_run.sl.H17_4
      rw [View.readCov_skip _ _ _ _ _ (by decide), View.readCov_skip _ _ _ _ _ (by decide), View.readCov_skip _ _ _ _ _ (by decide), View.readCov_skip _ _ _ _ _ (by decide), View.readCov_cons_toLoadRect]
      unfold body_run.sl.r_5
      erw [w0]
      rfl
    have e419 : body_run.sl.v419 c i arg4 harg4 arg5 harg5 arg6 harg6 arg7 harg7 arg8 harg8 arg16 arg17 arg18 arg19 x0 x1 y0 y1 x2 f16L0 f17L1 f18L2 = fin1 x2 (rows x0 1) y0 (i 2).val (getSt arg16 arg17 arg18 f16L0 f17L1 f18L2).c01 := by
      unfold body_run.sl.v419 body_run.sl.H17_6 body_run.sl.H17_5
      rw [View.readCov_skip _ _ _ _ _ (by decide), View.readCov_cons_toLoadRect]
      unfold body_run.sl.r_23
      rw [s0, m0, a0]
      erw [w1]
      rfl
    have e421 : body_run.sl.v421 c i arg4 harg4 arg5 harg5 arg6 harg6 arg7 harg7 arg8 harg8 arg16 arg17 arg18 arg19 x0 x1 y0 y1 x2 f16L0 f17L1 f18L2 = fin1 x2 (rows x1 1) y1 (i 2).val (getSt arg16 arg17 arg18 f16L0 f17L1 f18L2).c11 := by
      unfold body_run.sl.v421 body_run.sl.H17_6
      rw [View.readCov_cons_toLoadRect]
      unfold body_run.sl.r_24 body_run.sl.r_26 body_run.sl.r_27
      rw [s1, m1, a1]
      erw [w1]
      rfl
    generalize getSt arg16 arg17 arg18 f16L0 f17L1 f18L2 = st at *
    unfold body_run.sl.r_29 body_run.sl.r_30 body_run.sl.r_31
    rw [e28, eg, z0, z1, e377, e379, e419, e421]
    funext y
    have hy : (y 0).val < 1024 := (y 0).isLt
    unfold outOf
    by_cases h : (y 0).val < 512
    · rw [if_pos h, View.read_writes_cons_unit_of_not_mem _ _ _ _ _ y rfl 0 (.inl h)]
      refine (View.read_writes_cons_unit_of_mem _ _ _ _ _ y
        (ix2 (Fin.ofNat 512 (y 0).val) (y 1)) rfl ?_).trans rfl
      intro b; fin_cases b
      · show (y 0).val = 0 + (y 0).val % 512
        rw [Nat.mod_eq_of_lt h]; omega
      · show (y 1).val = 0 + (y 1).val
        omega
    · rw [if_neg h]
      refine (View.read_writes_cons_unit_of_mem _ _ _ _ _ y
        (ix2 (Fin.ofNat 512 ((y 0).val - 512)) (y 1)) rfl ?_).trans rfl
      intro b; fin_cases b
      · show (y 0).val = 512 + ((y 0).val - 512) % 512
        rw [Nat.mod_eq_of_lt (by omega)]; omega
      · show (y 1).val = 0 + (y 1).val
        omega
  iapply Hk
  isplitl [H4]; · iexists _; isplitr; swap; · iexact H4
                  ipureintro; exact harg4.read_unread _
  isplitl [H5]; · iexists _; isplitr; swap; · iexact H5
                  ipureintro; exact harg5.read_unread _
  isplitl [H6]; · iexists _; isplitr; swap; · iexact H6
                  ipureintro; exact harg6.read_unread _
  isplitl [H7]; · iexists _; isplitr; swap; · iexact H7
                  ipureintro; exact harg7.read_unread _
  isplitl [H8]; · iexists _; isplitr; swap; · iexact H8
                  ipureintro; exact harg8.read_unread _
  isplitl [H9]; · iexists _; isplitr; swap; · iexact H9
                  ipureintro; exact harg9.read_unread _
  isplitl [H10]; · iexists _; isplitr; swap; · iexact H10
                   ipureintro; exact harg10.read_unread _
  isplitl [H11]; · iexists _; isplitr; swap; · iexact H11
                   ipureintro; exact harg11.read_unread _
  isplitl [H12]; · iexists _; isplitr; swap; · iexact H12
                   ipureintro; exact harg12.read_unread _
  isplitl [H13]; · iexists _; isplitr; swap; · iexact H13
                   ipureintro; exact harg13.read_unread _
  isplitl [H14]; · iexists _; isplitr; swap; · iexact H14
                   ipureintro; exact harg14.read_unread _
  isplitl [H15]; · iexists _; isplitr; swap; · iexact H15
                   ipureintro; exact e15
  isplitl [H16]; · iexists _, _; isplitr; swap; · iexact H16
                   ipureintro; rfl
  isplitl [H17]; · iexists _, _; isplitr; swap; · iexact H17
                   ipureintro; rfl
  isplitl [H18]; · iexists _, _; isplitr; swap; · iexact H18
                   ipureintro; rfl
  isplitl [H19]; · iexists _, _; isplitr; swap; · iexact H19
                   ipureintro; rfl
  iexact HT0

end Cert.Diff

end
-- ==== Proof.DiffRun.lean ====
/- The differential attention call's run at any value type: what each grid point leaves in the output block, the run of the whole grid,
   and the frame, where every start word names a pair of key blocks at or before the query block's. -/
module

public import proofs.«01_k».proof.Proof.DiffBody
public import Idealize.ShloMosaic.Lib.Claim

@[expose] public section

set_option maxRecDepth 16384

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffAttnIdeal Cert.DiffAttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every start word names a pair of key blocks at or before the query block's own. -/
def Starts (hO : Ok m) : Prop := ∀ (c : Dev nD) (t : Fin (cfgM m hO).N),
  ∃ s : Fin 16, s.val ≤ (grid0.coords t 2).val ∧ word c (grid0.coords t) (tbl m 0) = BitVec.ofNat 32 s.val

/-- The pair the start word of grid point `t` names. -/
def startOf {m : (ℓ : Loc nD τ sig) → Buf (Elt F) ℓ} {hO : Ok m} (hH : Starts m hO) (c : Dev nD) (t : Fin (cfgM m hO).N) : Fin 16 :=
  (hH c t).choose

/-- What the output's staging buffer holds after grid point `t`. -/
def outsAt (hO : Ok m) (hH : Starts m hO) (c : Dev nD) (t : Fin (cfgM m hO).N) : Vec F S1024x128 .bf16 :=
  outBlk (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (grid0.coords t 2).val (startOf hH c t).val

/-! ## The pipeline's proof data -/

/-- The pipeline's data: every input's buffer holds its block after the body, the output's what `outsAt` says. -/
def dats (hO : Ok m) (hH : Starts m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => (outsAt m hO hH c t)
  Φ _ := iprop(Pipeline.ΦA spec0 c ∗ Pipeline.ΦT pre0 (tbl m) c)
  q w := Pipeline.shareOf spec0 w
  owed _ := 0

/-- The arrays are as the pipeline finds them. -/
theorem A_eq (hO : Ok m) (hH : Starts m hO) (c : Dev nD) (w : Fin (cfgM m hO).W) : (dats m hO hH 0 c).A w = V m c (Pipeline.arrRef spec0 w) := by
  dsimp only [dats]

/-- What the body leaves, window by window. -/
theorem after0_0 (hO : Ok m) (hH : Starts m hO) (c : Dev nD) (t : Fin (cfgM m hO).N) : (dats m hO hH 0 c).after 0 t = iblk m hO c 0 t := by dsimp only [dats]; try rfl
theorem after0_1 (hO : Ok m) (hH : Starts m hO) (c : Dev nD) (t : Fin (cfgM m hO).N) : (dats m hO hH 0 c).after 1 t = iblk m hO c 1 t := by dsimp only [dats]; try rfl
theorem after0_2 (hO : Ok m) (hH : Starts m hO) (c : Dev nD) (t : Fin (cfgM m hO).N) : (dats m hO hH 0 c).after 2 t = iblk m hO c 2 t := by dsimp only [dats]; try rfl
theorem after0_3 (hO : Ok m) (hH : Starts m hO) (c : Dev nD) (t : Fin (cfgM m hO).N) : (dats m hO hH 0 c).after 3 t = iblk m hO c 3 t := by dsimp only [dats]; try rfl
theorem after0_4 (hO : Ok m) (hH : Starts m hO) (c : Dev nD) (t : Fin (cfgM m hO).N) : (dats m hO hH 0 c).after 4 t = iblk m hO c 4 t := by dsimp only [dats]; try rfl
theorem after0_5 (hO : Ok m) (hH : Starts m hO) (c : Dev nD) (t : Fin (cfgM m hO).N) : (dats m hO hH 0 c).after 5 t = iblk m hO c 5 t := by dsimp only [dats]; try rfl
theorem after0_6 (hO : Ok m) (hH : Starts m hO) (c : Dev nD) (t : Fin (cfgM m hO).N) : (dats m hO hH 0 c).after 6 t = iblk m hO c 6 t := by dsimp only [dats]; try rfl
theorem after0_7 (hO : Ok m) (hH : Starts m hO) (c : Dev nD) (t : Fin (cfgM m hO).N) : (dats m hO hH 0 c).after 7 t = iblk m hO c 7 t := by dsimp only [dats]; try rfl
theorem after0_8 (hO : Ok m) (hH : Starts m hO) (c : Dev nD) (t : Fin (cfgM m hO).N) : (dats m hO hH 0 c).after 8 t = iblk m hO c 8 t := by dsimp only [dats]; try rfl
theorem after0_9 (hO : Ok m) (hH : Starts m hO) (c : Dev nD) (t : Fin (cfgM m hO).N) : (dats m hO hH 0 c).after 9 t = iblk m hO c 9 t := by dsimp only [dats]; try rfl
theorem after0_10 (hO : Ok m) (hH : Starts m hO) (c : Dev nD) (t : Fin (cfgM m hO).N) : (dats m hO hH 0 c).after 10 t = iblk m hO c 10 t := by dsimp only [dats]; try rfl
theorem after0_11 (hO : Ok m) (hH : Starts m hO) (c : Dev nD) (t : Fin (cfgM m hO).N) : (dats m hO hH 0 c).after 11 t = (outsAt m hO hH c t) := by dsimp only [dats]; try rfl

/-- Each input's buffer holds its block before the body. -/
theorem before0_0 (hO : Ok m) (hH : Starts m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Starts m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Starts m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Starts m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Starts m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Starts m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Starts m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Starts m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Starts m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Starts m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Starts m hO) (c : Dev nD) (t : Fin (cfgM m hO).N) (d) : (dats m hO hH 0 c).before 10 t d = iblk m hO c 10 t :=
  before0_10_of m hO (dats m hO hH 0 c) (A_eq m hO hH c 10) (after0_10 m hO hH c) t d

/-! ## The body obligation, at a generic point -/

/-- What the body is called with at point `t`, -/
def bodyPre (hO : Ok m) (hH : Starts m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d)))

/-- and what it returns. -/
def bodyPost (hO : Ok m) (hH : Starts m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t))

set_option maxHeartbeats 800000 in
/-- The body at any point, by `body_run`. -/
theorem sound_body (hO : Ok m) (hH : Starts m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9, after0_10, after0_11]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)
    (startOf hH c t) (hH c t).choose_spec.1 (hH c t).choose_spec.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at point `t`, as the run calls it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (hH : Starts m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

set_option backward.isDefEq.respectTransparency.types false in
/-- The run of the whole grid, ending with every semaphore at zero. -/
theorem run_main_quiescent (hO : Ok m) (hH : Starts m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_shared (Q' := _) pcfgs (fun _ => adm m hO) (dats m hO hH) (0 : Fin 1) launch₀0 defs₀ Variants.none m ρ main
    (hbody := fun c => (body_obligation m hO hH c).loose) (hq := fun _ _ _ => rfl)
    (howed := fun _ _ => rfl) (V := V m) (hmain := hmain m Variants.none) (hA := A_eq m hO hH) (hpf := V_pre m)
    (hΦ := fun _ _ => rfl)

/-- The run of the whole grid: every array of the pipeline ends at what `dats` says. -/
theorem run_main (hO : Ok m) (hH : Starts m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The argument arrays end unchanged. -/
theorem unchanged (hO : Ok m) (hH : Starts m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (dats m hO hH) (A_eq m hO hH) (run_main m ρ hO hH)

/-- The frame: the argument arrays end unchanged and every semaphore at zero. -/
theorem frame (hO : Ok m) (hH : Starts m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO hH) ((θ_run defs _ _).mono (fun _ h => h.2) (run_main_quiescent m ρ hO hH))

end Cert.Diff

end
-- ==== Proof.DiffPre.lean ====
/- What the differential attention call's preconditions say of its start table and of its other arguments, and that the table
   then names, at every grid point, a pair of key blocks at or before the query block's own. -/
module

public import proofs.«01_k».proof.Defs
public import proofs.«01_k».proof.Proof.Pre
public import proofs.«01_k».proof.Proof.DiffRun
public import proofs.«01_k».proof.Proof.Gen.Pre_pairs_named

@[expose] public section

set_option maxRecDepth 16384

noncomputable section

namespace Cert.Diff

open Idealize.ShloMosaic Idealize.ShloMosaic.TcCoe
open Cert.DiffAttnIdeal Cert.DiffAttnIdeal.Gen
open Cert.Fox (andi_eq_one ofBool_eq_one word_of_bounds)

/-- The second precondition's shape facts. -/
instance finiteFacts : Cert.Pre_pairs_named_all_finite.Facts where
  bcast_S16_S1x16_1 := by decide
  bcast_S1x16_S16x16_0_1 := by decide
  shapeCasts_S16x16_S256 := by decide
  bcast_S_S256 := by decide
  bcast_S256_S256x1x1_0 := by decide
  bcast_S256x1x1_S256x128x1024_0_1_2 := by decide
  shapeCasts_S256x128x1024_S32768x1024 := by decide
  bcast_S_S64 := by decide
  bcast_S64_S1x1x64_2 := by decide
  bcast_S1x1x64_S32768x16x64_0_1_2 := by decide
  shapeCasts_S32768x16x64_S32768x1024 := by decide
  bitsLt_bf16_f32 := by decide
  bcast_S_S32768x1024 := by decide
  slices_S32768x6144_S32768x1024_0_4096 := by decide

/-- Every entry of the start table names a pair of key blocks at or before the query block it belongs to. -/
def StartTable (a : IVec S256 32) : Prop := ∀ y : S256.Idx, ∃ s : Fin 16, s.val ≤ (y 0).val % 16 ∧ a y = BitVec.ofNat 32 s.val

/-- The bound a word is compared with, as a number. -/
theorem pair_bound (h : (⟨2, ![16, 16]⟩ : Shape).ShapeCasts ⟨1, ![256]⟩) (h1 : (⟨1, ![16]⟩ : Shape).BroadcastsInDim ⟨2, ![1, 16]⟩ (![1] : Fin 1 → Fin 2))
    (h2 : (⟨2, ![1, 16]⟩ : Shape).BroadcastsInDim ⟨2, ![16, 16]⟩ (![0, 1] : Fin 2 → Fin 2)) (y : S256.Idx) :
    shapeCast (⟨1, ![256]⟩ : Shape) (broadcastInDim (⟨2, ![16, 16]⟩ : Shape) ![0, 1] h2 (broadcastInDim (⟨2, ![1, 16]⟩ : Shape) ![1] h1 (iotaInDim (⟨1, ![16]⟩ : Shape) 32 0))) h y
      = BitVec.ofNat 32 ((y 0).val % 16) := by
  pointwise

/-- The precondition, read off the start table: every word is a pair at or before its own. -/
theorem table_of_names {F : FTy → Type} [FloatOps F] (a : IVec S256 32) (x1 x2 x3 x4 : FVec F S32768x1024 .bf16) (p : FVec F S32768x6144 .bf16)
    (l0 l1 l2 l3 : FVec F S64 .f32) (g : FVec F S128 .f32)
    (h : Cert.Pre_pairs_named.fn (F := F) a x1 x2 x3 x4 p l0 l1 l2 l3 g = fun _ => 1#1) : StartTable a := by
  intro p
  have e := congrFun h p
  simp only [Cert.Pre_pairs_named.fn, andi, cmpi] at e
  rw [andi_eq_one, pair_bound] at e
  simp only [IntOp.cmpi, ofBool_eq_one] at e
  exact word_of_bounds _ _ (Nat.mod_lt _ (by decide)) e.1 e.2

/-- A number less than infinity in absolute value is real. -/
theorem real_of_lt (v : EReal) (hv : Ideal.cmp .olt (max v (-v)) (Ideal.ofBits .f32 0x7F800000#32) = 1#1) : ∃ r : ℝ, v = (r : EReal) := by
  have htop : (Ideal.ofBits .f32 0x7F800000#32 : EReal) = ⊤ := by simp [Ideal.ofBits, Ideal.ieee]
  rw [htop] at hv
  simp only [Ideal.cmp, ofBool_eq_one, decide_eq_true_eq] at hv
  induction v with
  | bot => simp at hv
  | top => simp at hv
  | coe r => exact ⟨r, rfl⟩

/-- What the second precondition says: of the start table the same, and that every query, key and value and the four vectors
    that make the second softmax's weight are real. -/
structure AllReal (a : IVec S256 32) (x1 x2 x3 x4 : FVec Ideal S32768x1024 .bf16) (p : FVec Ideal S32768x6144 .bf16) (l0 l1 l2 l3 : FVec Ideal S64 .f32) : Prop where
  table : StartTable a
  q1 : ∀ j, ∃ r : ℝ, x1 j = (r : EReal)
  q2 : ∀ j, ∃ r : ℝ, x2 j = (r : EReal)
  k1 : ∀ j, ∃ r : ℝ, x3 j = (r : EReal)
  k2 : ∀ j, ∃ r : ℝ, x4 j = (r : EReal)
  v : ∀ (i : Fin 32768) (c : Fin 1024), ∃ r : ℝ, p (ix2 i (⟨4096 + c.val, by omega⟩ : Fin 6144)) = (r : EReal)
  l : ∀ d : Fin 64, (∃ r : ℝ, l0 (ix1 d) = (r : EReal)) ∧ (∃ r : ℝ, l1 (ix1 d) = (r : EReal)) ∧ (∃ r : ℝ, l2 (ix1 d) = (r : EReal)) ∧ (∃ r : ℝ, l3 (ix1 d) = (r : EReal))

/-- The precondition of the value claim, read off its arrays: the start table as above, and the numbers it names real. -/
theorem of_finite (a : IVec S256 32) (x1 x2 x3 x4 : FVec Ideal S32768x1024 .bf16) (p : FVec Ideal S32768x6144 .bf16)
    (l0 l1 l2 l3 : FVec Ideal S64 .f32) (g : FVec Ideal S128 .f32)
    (h : Cert.Pre_pairs_named_all_finite.fn (F := Ideal) a x1 x2 x3 x4 p l0 l1 l2 l3 g = fun _ => 1#1) : AllReal a x1 x2 x3 x4 p l0 l1 l2 l3 := by
  have H : ∀ j, _ := fun j => congrFun h j
  simp only [Cert.Pre_pairs_named_all_finite.fn, Cert.Pre_pairs_named_all_finite.fn_part1, Cert.Pre_pairs_named_all_finite.fn_part2, andi, cmpi] at H
  refine ⟨fun y => ?_, fun j => ?_, fun j => ?_, fun j => ?_, fun j => ?_, fun i c => ?_, fun d => ?_⟩
  · have e := H (ix2 (⟨128 * (y 0).val, by have := (y 0).isLt; simp at this; omega⟩ : Fin 32768) (0 : Fin 1024))
    simp only [andi_eq_one] at e
    have e := e.1.1.1.1.1.1
    pointwise at e
    rw [andi_eq_one] at e
    simp only [IntOp.cmpi, ofBool_eq_one] at e
    exact word_of_bounds _ _ (Nat.mod_lt _ (by decide)) e.1 e.2
  · have e := H j
    simp only [andi_eq_one] at e
    exact real_of_lt _ e.1.1.1.1.2
  · have e := H j
    simp only [andi_eq_one] at e
    exact real_of_lt _ e.1.1.1.2
  · have e := H j
    simp only [andi_eq_one] at e
    exact real_of_lt _ e.1.1.2
  · have e := H j
    simp only [andi_eq_one] at e
    exact real_of_lt _ e.1.2
  · have e := H (ix2 i c)
    simp only [andi_eq_one] at e
    have e := e.2
    pointwise at e
    exact real_of_lt _ e
  · have e := H (ix2 (0 : Fin 32768) (⟨d.val, by omega⟩ : Fin 1024))
    simp only [andi_eq_one] at e
    have e := e.1.1.1.1.1.2
    pointwise at e
    simp only [andi_eq_one] at e
    have hd : ∀ h, (⟨d.val % 64, h⟩ : Fin 64) = d := fun h => Fin.ext (Nat.mod_eq_of_lt d.isLt)
    simp only [hd] at e
    exact ⟨real_of_lt _ e.1.1.1, real_of_lt _ e.1.1.2, real_of_lt _ e.1.2, real_of_lt _ e.2⟩

section

variable {F : FTy → Type} [FloatOps F] (m : (ℓ : Loc nD τ sig) → Buf (Elt F) ℓ)

/-- The launch asks nothing of the prefetched table. -/
theorem ok_all : Ok m := trivial

/-- The word grid point `i` reads. -/
theorem word_eq (c : Dev nD) (i : grid0.Coords) (xt : TbBuf0 (F := F) c tbM0_0) (h : ((i 0).val * 8 + (i 1).val) * 16 + (i 2).val < 256) :
    word c i xt = xt (ix1 (⟨((i 0).val * 8 + (i 1).val) * 16 + (i 2).val, h⟩ : Fin 256)) := by
  unfold word
  rw [View.readAt_apply, View.read_apply, cast_eq]
  congr 1
  refine (eq_ix1 (n0 := 256) _).trans (congrArg ix1 (Fin.ext ?_))
  have := congrFun (off1_eq i) 0
  show k0_off1 i 0 + 1 * 0 = _
  rw [this]
  rfl

/-- Every grid point's word names a pair of key blocks at or before the query block's, where the table does. -/
theorem starts_of (h : ∀ c : Dev nD, StartTable (m ((c.tc : Thread nD τ).loc main_arg0))) : Starts m (ok_all m) := by
  intro c t
  have h0 : (grid0.coords t 0).val < 2 := (grid0.coords t 0).isLt
  have h1 : (grid0.coords t 1).val < 8 := (grid0.coords t 1).isLt
  have h2 : (grid0.coords t 2).val < 16 := (grid0.coords t 2).isLt
  have hb : ((grid0.coords t 0).val * 8 + (grid0.coords t 1).val) * 16 + (grid0.coords t 2).val < 256 := by omega
  obtain ⟨s, hs, hw⟩ := h 0 (ix1 (⟨_, hb⟩ : Fin 256))
  refine ⟨s, ?_, ?_⟩
  · have : ((ix1 (⟨_, hb⟩ : Fin 256) : S256.Idx) 0).val = ((grid0.coords t 0).val * 8 + (grid0.coords t 1).val) * 16 + (grid0.coords t 2).val := rfl
    rw [this] at hs
    omega
  · exact (word_eq c _ (tbl m 0) hb).trans hw

end

end Cert.Diff
-- ==== Proof.DiffFrames.lean ====
/- The differential attention call's frames: the kernel's, from its one run at any value type, and the reference's, from its
   straight line of operations. -/
module

public import proofs.«01_k».proof.Proof.DiffPre
public import proofs.«01_k».proof.Proof.Gen.DiffAttn
public import proofs.«01_k».proof.Proof.Gen.DiffAttnReferenceIdeal
public import proofs.«01_k».proof.Proof.Gen.DiffAttnReferenceIdeal.Run
public import Idealize.ShloMosaic.Adequacy
public import Idealize.ShloMosaic.Init

@[expose] public section

set_option maxRecDepth 16384

noncomputable section

namespace Cert.Diff

open Idealize.ShloMosaic Idealize.ShloMosaic.TcCoe Idealize.SL.Sem

set_option maxHeartbeats 4000000 in
/-- The two printed texts of the kernel's body are one, at the hardware's values. -/
theorem body_eq : @Cert.DiffAttn.cc0_da_attn Bits _ _ = @Cert.DiffAttnIdeal.cc0_da_attn Bits _ _ := rfl

set_option maxHeartbeats 4000000 in
/-- The two printed tables of bodies are one, at the hardware's values. -/
theorem defs₀_eq : Cert.DiffAttn.defs₀ (F := Bits) = Cert.DiffAttnIdeal.defs₀ (F := Bits) := by
  unfold Cert.DiffAttn.defs₀ Cert.DiffAttnIdeal.defs₀
  refine congrArg Defs.onTc ?_
  funext l x
  match l, x with
  | 0, (t, s) =>
    dsimp only
    rw [body_eq]
    rfl

set_option maxHeartbeats 4000000 in
/-- So are the two tables with the pipelines added. -/
theorem defs_eq : Cert.DiffAttn.defs (F := Bits) = Cert.DiffAttnIdeal.defs (F := Bits) :=
  congrArg (Pipeline.defs (Cert.DiffAttnIdeal.pcfgs (F := Bits))) defs₀_eq

set_option maxHeartbeats 4000000 in
/-- The kernel's frame at the hardware's values: its text is the idealized kernel's, run at those values. -/
theorem frame_kernel : Cert.quiescent_DiffAttn := by
  intro m ρ h
  have e := frame (F := Bits) m ρ (ok_all m) (starts_of m fun c => table_of_names _ _ _ _ _ _ _ _ _ _ _ (h c))
  rw [← defs_eq] at e
  exact e

/-- The idealized kernel runs and leaves its arguments as they were. -/
theorem frame_kernelIdeal : Cert.quiescent_DiffAttnIdeal := fun m ρ h =>
  frame (F := Ideal) m ρ (ok_all m) (starts_of m fun c => table_of_names _ _ _ _ _ _ _ _ _ _ _ (h c))

/-- The same, under the precondition of the value claim. -/
theorem frame_kernelIdeal_finite : Cert.quiescent_DiffAttnIdeal_pre_pairs_named_all_finite := fun m ρ h =>
  frame (F := Ideal) m ρ (ok_all m) (starts_of m fun c => (of_finite _ _ _ _ _ _ _ _ _ _ _ (h c)).table)

/-- The reference runs and leaves its arguments as they were. -/
theorem frame_reference : Cert.quiescent_DiffAttnReferenceIdeal := fun m ρ _ =>
  (θ_run Cert.DiffAttnReferenceIdeal.defs _ _).mono (fun r h => ⟨fun c => (h c).2, sem_eq_zero_of_no_sems (by decide) r.2⟩)
    (Cert.DiffAttnReferenceIdeal.Value.run (F := Ideal) m ρ)

/-- The same, under the precondition of the value claim. -/
theorem frame_reference_finite : Cert.quiescent_DiffAttnReferenceIdeal_pre_pairs_named_all_finite := fun m ρ _ => frame_reference m ρ trivial

end Cert.Diff
-- ==== Proof.DiffRow.lean ====
/- The differential attention call's functions of whole blocks at one row: scores as sums over the 128 columns of a query and a
   key, the masked block, one step of the running maximum, numerator and denominator, the second softmax's weight and the norm
   and gate. -/
module

public import proofs.«01_k».proof.Proof.DiffBody
public import proofs.«01_k».proof.Proof.Block
public import Idealize.ShloMosaic.Lib.Pointwise.Tactic
public import Idealize.ShloMosaic.Lib.Pointwise
public import Idealize.ShloMosaic.Lib.Pointwise.IndexBridge

@[expose] public section

set_option maxRecDepth 16384

noncomputable section

namespace Cert.Diff

open Idealize.ShloMosaic Idealize.ShloMosaic.TcCoe
open Cert.DiffAttnIdeal Cert.DiffAttnIdeal.Gen
open Cert.Fox (rows rowMax weights withOnes ofBits_ninf rows_apply rowMax_apply weights_apply withOnes_apply silu)

/-- A block of scores without its axes of one, at an index. -/
theorem flat_apply (s : Vec Ideal S1x1x512x512 .f32) (r j : Fin 512) : flat s (ix2 r j) = s (ix4 0 0 r j) := by
  unfold flat
  pointwise

/-- A score at an index of its block: the product of a query row and a key row. -/
theorem flat_score_apply (q k : Vec Ideal S512x128 .bf16) (r j : Fin 512) :
    flat (score q k) (ix2 r j) = ∑ d : Fin 128, q (ix2 r d) * k (ix2 j d) := by
  unfold flat score
  unfold_payloads
  pointwise

/-- The block on the diagonal at an index: a key after the query gives minus infinity. -/
theorem masked_apply (s : Vec Ideal S1x1x512x512 .f32) (r j : Fin 512) :
    masked s (ix2 r j) = if j.val ≤ r.val then flat s (ix2 r j) else ⊥ := by
  rw [flat_apply]
  unfold masked
  unfold_payloads
  pointwise [flat]
  rw [ofBits_ninf]
  unfold Scalar.select IntOp.cmpi
  have hr := r.isLt
  have hj := j.isLt
  have e : (BitVec.ofNat 32 j.val).sle (BitVec.ofNat 32 r.val) = decide (j.val ≤ r.val) := by
    rw [BitVec.sle_eq_decide, BitVec.toInt_eq_toNat_of_lt, BitVec.toInt_eq_toNat_of_lt, BitVec.toNat_ofNat, BitVec.toNat_ofNat,
      Nat.mod_eq_of_lt, Nat.mod_eq_of_lt] <;> simp <;> omega
  simp only [e]
  by_cases h : j.val ≤ r.val <;> simp [h]

/-- The running maximum without its axes of one, at an index. -/
theorem flatM_apply (m : Vec Ideal S1x1x512x128 .f32) (r : Fin 512) (c : Fin 128) : flatM m (ix2 r c) = m (ix4 0 0 r c) := by
  unfold flatM
  pointwise

/-- The new maximum at an index: the larger of the old one and the largest score of the row. -/
theorem newMax_apply (t : FVec Ideal S512x512 .f32) (m : Vec Ideal S1x1x512x128 .f32) (r : Fin 512) (c : Fin 128) :
    newMax t m (ix2 r c) = max (m (ix4 0 0 r c)) (Finset.univ.sup fun j : Fin 512 => t (ix2 r j)) := by
  rw [← flatM_apply m, ← rowMax_apply t r c]; rfl

/-- The new maximum with its axes of one, at an index. -/
theorem newM_apply (t : FVec Ideal S512x512 .f32) (m : Vec Ideal S1x1x512x128 .f32) (r : Fin 512) (c : Fin 128) :
    newM t m (ix4 0 0 r c) = newMax t m (ix2 r c) := by
  unfold newM
  pointwise

/-- The factor that brings the old sums to the new maximum, at an index. -/
theorem rescale_apply (m : Vec Ideal S1x1x512x128 .f32) (n : FVec Ideal S512x128 .f32) (r : Fin 512) (c : Fin 256) :
    rescale m n (ix2 r c) = Ideal.exp2 (m (ix4 0 0 r (Fin.ofNat 128 c.val)) - n (ix2 r (Fin.ofNat 128 c.val))) := by
  unfold rescale flatM
  pointwise
  have hc := c.isLt
  have key : ∀ l : Fin 128, l.val = c.val % 128 → (FloatOps.exp2 (m (ix4 0 0 r l) - n (ix2 r l)) : Ideal .f32)
      = Ideal.exp2 (m (ix4 0 0 r (Fin.ofNat 128 c.val)) - n (ix2 r (Fin.ofNat 128 c.val))) := by
    intro l hl
    obtain rfl : l = Fin.ofNat 128 c.val := Fin.ext hl
    rfl
  split
  · exact key _ (by dsimp only; omega)
  · exact key _ (by dsimp only; omega)

/-- The new sums at an index: the old ones rescaled, and those of the block of keys added. -/
theorem newAcc_apply (t : FVec Ideal S512x512 .f32) (v : Vec Ideal S512x128 .bf16) (m : Vec Ideal S1x1x512x128 .f32) (a : Vec Ideal S1x1x512x256 .f32)
    (r : Fin 512) (c : Fin 256) :
    newAcc t v m a (ix4 0 0 r c) = rescale m (newMax t m) (ix2 r c) * a (ix4 0 0 r c)
      + ∑ j : Fin 512, weights t (newMax t m) (ix2 r j) * withOnes v (ix2 j c) := by
  unfold newAcc
  pointwise

/-- The second softmax's weight from the four vectors. -/
def weight (l0 l1 l2 l3 : Fin 64 → EReal) : EReal :=
  Ideal.exp (∑ d, l0 d * l1 d) - Ideal.exp (∑ d, l2 d * l3 d) + Ideal.ofBits .f32 0x3E4CCCCD#32

/-- Column `c` of a row `o` of 128 numbers, normed, with its gain and the constant factor. -/
def normed (o g : Fin 128 → EReal) (c : Fin 128) : EReal :=
  o c * Ideal.rsqrt (Ideal.div (∑ d, o d * o d) (Ideal.ofBits .f32 0x43000000#32) + Ideal.ofBits .f32 0x358637BD#32) * g c
    * Ideal.ofBits .f32 0x3F4CCCCD#32

/-- The weight of the second softmax, as the kernel computes it. -/
theorem lamOf_apply (l0 l1 l2 l3 : Vec Ideal S1x64 .f32) :
    lamOf l0 l1 l2 l3 (ix2 0 0) = weight (fun d => l0 (ix2 0 d)) (fun d => l1 (ix2 0 d)) (fun d => l2 (ix2 0 d)) (fun d => l3 (ix2 0 d)) := by
  unfold lamOf weight
  unfold_payloads
  pointwise

/-- What is written out at an index, from the sums and the gate. -/
theorem gate_apply (lam : FVec Ideal S1x1 .f32) (a b : Vec Ideal S1x1x512x256 .f32) (g : Vec Ideal S1x128 .f32) (z : Vec Ideal S512x128 .bf16)
    (r : Fin 512) (c : Fin 128) :
    gate lam a b g z (ix2 r c) = normed (fun c => Ideal.div (a (ix4 0 0 r (⟨c.val, by omega⟩ : Fin 256))) (a (ix4 0 0 r (⟨128 + c.val, by omega⟩ : Fin 256)))
        - lam (ix2 0 0) * Ideal.div (b (ix4 0 0 r (⟨c.val, by omega⟩ : Fin 256))) (b (ix4 0 0 r (⟨128 + c.val, by omega⟩ : Fin 256))))
      (fun c => g (ix2 0 c)) c * silu (z (ix2 r c)) := by
  unfold gate normed silu
  unfold_payloads
  pointwise

end Cert.Diff
-- ==== Proof.DiffBlock.lean ====
/- The differential attention call's output block at the extended reals: each row is the difference of two softmaxes of its
   scores over the keys it sees, each times the values, normed and gated. -/
module

public import proofs.«01_k».proof.Proof.DiffRow

@[expose] public section

set_option maxRecDepth 16384

noncomputable section

namespace Cert.Diff

open Idealize.ShloMosaic Idealize.ShloMosaic.TcCoe
open Cert.DiffAttnIdeal Cert.DiffAttnIdeal.Gen
open Cert.Fox (rows rowMax weights withOnes ofBits_ninf rows_apply weights_apply withOnes_apply silu softRow colOf top mass top_self mass_self
  top_step mass_step softmax_eq ofBits_zero')

/-- Row `r` of a running maximum and of a running numerator and denominator are those of the keys from `lo` up to `hi`. -/
structure Seen (σ : ℕ → EReal) (v : Fin 128 → ℕ → EReal) (lo hi : ℕ) (r : Fin 512) (m : Vec Ideal S1x1x512x128 .f32) (a : Vec Ideal S1x1x512x256 .f32) : Prop where
  max : ∀ c : Fin 128, m (ix4 0 0 r c) = top σ lo hi
  acc : ∀ c : Fin 256, a (ix4 0 0 r c) = mass σ (colOf v c) lo hi

/-- One more block of 512 keys, whose first the query sees. -/
theorem Seen.step {σ : ℕ → EReal} {v : Fin 128 → ℕ → EReal} {lo hi : ℕ} {r : Fin 512}
    {m : Vec Ideal S1x1x512x128 .f32} {a : Vec Ideal S1x1x512x256 .f32} (H : Seen σ v lo hi r m a) (t : FVec Ideal S512x512 .f32) (w : Vec Ideal S512x128 .bf16)
    (ht : ∀ j : Fin 512, t (ix2 r j) = σ (hi + j.val)) (hw : ∀ (j : Fin 512) (c : Fin 128), w (ix2 j c) = v c (hi + j.val))
    (hσ : ∀ j, σ j ≠ ⊤) (h : lo ≤ hi) (hs : σ hi ≠ ⊥) : Seen σ v lo (hi + 512) r (newM t m) (newAcc t w m a) := by
  have hn : ∀ c : Fin 128, newMax t m (ix2 r c) = top σ lo (hi + 512) := fun c => by
    rw [newMax_apply, H.max, top_step h]
    simp only [ht]
  refine ⟨fun c => by rw [newM_apply, hn], fun c => ?_⟩
  rw [newAcc_apply, rescale_apply, hn, H.max, H.acc, mass_step hσ h 512 h (Nat.lt_add_of_pos_right (by norm_num)) hs]
  congr 1
  refine Finset.sum_congr rfl fun j _ => ?_
  rw [weights_apply, withOnes_apply, hn, ht]
  congr 1
  unfold colOf
  split
  · exact hw _ _
  · rfl

/-- The score of query row `R` and key `j`. -/
def dotRow (x : Vec Ideal S1024x128 .bf16) (y : Vec Ideal S16384x128 .bf16) (R : Fin 1024) (j : ℕ) : EReal :=
  ∑ d : Fin 128, x (ix2 R d) * y (ix2 (Fin.ofNat 16384 j) d)

/-- That score, minus infinity for a key after position `p`. -/
def seenRow (x : Vec Ideal S1024x128 .bf16) (y : Vec Ideal S16384x128 .bf16) (p : ℕ) (R : Fin 1024) (j : ℕ) : EReal :=
  if j ≤ p then dotRow x y R j else ⊥

/-- The values' columns. -/
def valCol (v : Vec Ideal S16384x128 .bf16) (c : Fin 128) (j : ℕ) : EReal := v (ix2 (Fin.ofNat 16384 j) c)

/-- All scores are real. -/
def RealScores (x : Vec Ideal S1024x128 .bf16) (y : Vec Ideal S16384x128 .bf16) : Prop := ∀ R j, ∃ r : ℝ, dotRow x y R j = r

/-- The scores of the keys from `lo` up to position `p`, minus infinity for the others. -/
def scoresOf (x : Vec Ideal S1024x128 .bf16) (y : Vec Ideal S16384x128 .bf16) (lo p : ℕ) (R : Fin 1024) : Fin 16384 → EReal :=
  fun j => if lo ≤ j.val ∧ j.val ≤ p then dotRow x y R j.val else ⊥

/-- A block of scores, as the products of the rows of queries and keys it is made of. -/
theorem flat_score_rows (x : Vec Ideal S1024x128 .bf16) (y : Vec Ideal S16384x128 .bf16) (h n : ℕ) (r j : Fin 512) :
    flat (score (rows x h) (rows y n)) (ix2 r j) = dotRow x y (Fin.ofNat 1024 (512 * h + r.val)) (512 * n + j.val) := by
  rw [flat_score_apply]
  exact Finset.sum_congr rfl fun d _ => by rw [rows_apply, rows_apply]

/-- No score of a row is plus infinity. -/
theorem seenRow_ne_top {x : Vec Ideal S1024x128 .bf16} {y : Vec Ideal S16384x128 .bf16} (hr : RealScores x y) (p : ℕ) (R : Fin 1024) (j : ℕ) :
    seenRow x y p R j ≠ ⊤ := by
  obtain ⟨r, h⟩ := hr R j
  unfold seenRow
  split
  · rw [h]; exact EReal.coe_ne_top r
  · exact bot_ne_top

/-- The score of a key that is not after the query is not minus infinity. -/
theorem seenRow_ne_bot {x : Vec Ideal S1024x128 .bf16} {y : Vec Ideal S16384x128 .bf16} (hr : RealScores x y) {p : ℕ} (R : Fin 1024) {j : ℕ} (hj : j ≤ p) :
    seenRow x y p R j ≠ ⊥ := by
  obtain ⟨r, h⟩ := hr R j
  unfold seenRow
  rw [if_pos hj, h]; exact EReal.coe_ne_bot r

/-- What a chain holds, for half `h` of the query block whose first query of that half is at position `p0`, when the keys from
    `lo` up to block `n` have been taken in and the scores of block `n` are at hand. -/
structure Upto (x : Vec Ideal S1024x128 .bf16) (y v : Vec Ideal S16384x128 .bf16) (h p0 lo n : ℕ) (m : Vec Ideal S1x1x512x128 .f32) (a : Vec Ideal S1x1x512x256 .f32) : Prop where
  seen : ∀ r : Fin 512, Seen (seenRow x y (p0 + r.val) (Fin.ofNat 1024 (512 * h + r.val))) (valCol v) lo (512 * n) r m a

section Chain

variable {x : Vec Ideal S1024x128 .bf16} {y v : Vec Ideal S16384x128 .bf16} {h p0 lo n : ℕ} {m : Vec Ideal S1x1x512x128 .f32} {a : Vec Ideal S1x1x512x256 .f32}

/-- One whole block of keys, none after the first query. -/
theorem Upto.full (hr : RealScores x y) (H : Upto x y v h p0 lo n m a) (hlo : lo ≤ 512 * n) (hp : 512 * n + 511 ≤ p0) :
    Upto x y v h p0 lo (n + 1) (newM (flat (score (rows x h) (rows y n))) m) (newAcc (flat (score (rows x h) (rows y n))) (rows v n) m a) := by
  refine ⟨fun r => (H.seen r).step _ _ (fun j => ?_) (fun j c => ?_) (seenRow_ne_top hr _ _) hlo (seenRow_ne_bot hr _ (by omega))⟩
  · rw [flat_score_rows]; unfold seenRow; rw [if_pos (by have := j.isLt; omega)]
  · rw [rows_apply]; rfl

/-- The block of keys the queries themselves are in. -/
theorem Upto.last (hr : RealScores x y) (H : Upto x y v h p0 lo n m a) (hlo : lo ≤ 512 * n) (hp : p0 = 512 * n) :
    Upto x y v h p0 lo (n + 1) (newM (masked (score (rows x h) (rows y n))) m) (newAcc (masked (score (rows x h) (rows y n))) (rows v n) m a) := by
  refine ⟨fun r => (H.seen r).step _ _ (fun j => ?_) (fun j c => ?_) (seenRow_ne_top hr _ _) hlo (seenRow_ne_bot hr _ (by omega))⟩
  · rw [masked_apply, flat_score_rows]; unfold seenRow
    by_cases hj : j.val ≤ r.val
    · rw [if_pos hj, if_pos (by omega)]
    · rw [if_neg hj, if_neg (by omega)]
  · rw [rows_apply]; rfl

/-- A chain between trips. -/
theorem chAt_upto (hr : RealScores x y) (s a p0 : ℕ) (hp : 1024 * a ≤ p0) : ∀ k, s + k ≤ a →
    (chAt (rows x h) y v s k).s = score (rows x h) (rows y (2 * (s + k)))
      ∧ Upto x y v h p0 (1024 * s) (2 * (s + k)) (chAt (rows x h) y v s k).m (chAt (rows x h) y v s k).a
  | 0, _ => by
    refine ⟨rfl, ⟨fun r => ?_⟩⟩
    have e : 512 * (2 * (s + 0)) = 1024 * s := by omega
    rw [e]
    exact ⟨fun c => ofBits_ninf.trans top_self.symm, fun c => ofBits_zero'.trans mass_self.symm⟩
  | k + 1, hk => by
    obtain ⟨hs, H⟩ := chAt_upto hr s a p0 hp k (by omega)
    have e : 2 * (s + (k + 1)) = 2 * (s + k) + 1 + 1 := by omega
    rw [show chAt (rows x h) y v s (k + 1) = stepCh (rows x h) y v (chAt (rows x h) y v s k) (2 * (s + k)) from rfl]
    generalize chAt (rows x h) y v s k = ch at hs H
    rw [e]
    refine ⟨rfl, ?_⟩
    have G := (H.full hr (by omega) (by omega)).full hr (by omega) (by omega)
    rw [← hs] at G
    exact G

/-- The quotient of numerator and denominator is the softmax times the values. -/
theorem Upto.quotient (hr : RealScores x y) (H : Upto x y v h p0 lo n m a) (r : Fin 512) (hlo : lo ≤ p0 + r.val) (hp : p0 + r.val < 512 * n)
    (hn : 512 * n ≤ 16384) (c : Fin 128) :
    Ideal.div (a (ix4 0 0 r (⟨c.val, by omega⟩ : Fin 256))) (a (ix4 0 0 r (⟨128 + c.val, by omega⟩ : Fin 256)))
      = softRow (scoresOf x y lo (p0 + r.val) (Fin.ofNat 1024 (512 * h + r.val))) (fun j => v (ix2 j c)) := by
  rw [(H.seen r).acc, (H.seen r).acc]
  unfold softRow
  have e1 : colOf (valCol v) ⟨c.val, by omega⟩ = valCol v c := dif_pos c.isLt
  have e2 : colOf (valCol v) ⟨128 + c.val, by omega⟩ = fun _ => 1 := dif_neg (by simp)
  rw [e1, e2]
  symm
  refine softmax_eq (σ := seenRow x y (p0 + r.val) (Fin.ofNat 1024 (512 * h + r.val))) (v := valCol v c) (lo := lo) (hi := 512 * n) (N := 16384) (j0 := lo) _ _
    (seenRow_ne_top hr _ _) le_rfl (by omega) (seenRow_ne_bot hr _ hlo) hn ?_ ?_ ?_
  · intro j h0 h1
    unfold seenRow scoresOf
    by_cases h : j.val ≤ p0 + r.val
    · rw [if_pos ⟨h0, h⟩, if_pos h]
    · rw [if_neg (fun h' => h h'.2), if_neg h]
  · intro j h
    unfold scoresOf
    rw [if_neg (by omega)]
  · intro j _ _
    unfold valCol
    rw [show Fin.ofNat 16384 j.val = j from Fin.ext (Nat.mod_eq_of_lt j.isLt)]

/-- The first half's last quotient. -/
theorem fin0_quotient (hr : RealScores x y) {s a : ℕ} (hs : s ≤ a) (ha : a < 16) (r : Fin 512) (c : Fin 128) :
    Ideal.div (fin0 v a (chAt (rows x 0) y v s (a - s)) (ix4 0 0 r (⟨c.val, by omega⟩ : Fin 256)))
        (fin0 v a (chAt (rows x 0) y v s (a - s)) (ix4 0 0 r (⟨128 + c.val, by omega⟩ : Fin 256)))
      = softRow (scoresOf x y (1024 * s) (1024 * a + r.val) (Fin.ofNat 1024 (512 * 0 + r.val))) (fun j => v (ix2 j c)) := by
  obtain ⟨e, H⟩ := chAt_upto (h := 0) (v := v) hr s a (1024 * a) le_rfl (a - s) (by omega)
  rw [show s + (a - s) = a by omega] at e H
  have G := H.last hr (by omega) (by omega)
  rw [← e] at G
  exact G.quotient hr r (by omega) (by have := r.isLt; omega) (by omega) c

/-- The second half's last quotient. -/
theorem fin1_quotient (hr : RealScores x y) {s a : ℕ} (hs : s ≤ a) (ha : a < 16) (r : Fin 512) (c : Fin 128) :
    Ideal.div (fin1 v (rows x 1) y a (chAt (rows x 1) y v s (a - s)) (ix4 0 0 r (⟨c.val, by omega⟩ : Fin 256)))
        (fin1 v (rows x 1) y a (chAt (rows x 1) y v s (a - s)) (ix4 0 0 r (⟨128 + c.val, by omega⟩ : Fin 256)))
      = softRow (scoresOf x y (1024 * s) (1024 * a + 512 + r.val) (Fin.ofNat 1024 (512 * 1 + r.val))) (fun j => v (ix2 j c)) := by
  obtain ⟨e, H⟩ := chAt_upto (h := 1) (v := v) hr s a (1024 * a + 512) (by omega) (a - s) (by omega)
  rw [show s + (a - s) = a by omega] at e H
  have G := (H.full hr (by omega) (by omega)).last hr (by omega) (by omega)
  rw [← e] at G
  exact G.quotient hr r (by omega) (by have := r.isLt; omega) (by omega) c

end Chain

/-- The output block of the pair of query blocks `a`, the first pair of key blocks `s`. -/
theorem outBlk_apply (x0 x1 : Vec Ideal S1024x128 .bf16) (y0 y1 x2 : Vec Ideal S16384x128 .bf16) (x3 : Vec Ideal S1024x128 .bf16)
    (l0 l1 l2 l3 : Vec Ideal S1x64 .f32) (g : Vec Ideal S1x128 .f32) (hr0 : RealScores x0 y0) (hr1 : RealScores x1 y1)
    {a s : ℕ} (hs : s ≤ a) (ha : a < 16) (R : Fin 1024) (c : Fin 128) :
    outBlk x0 x1 y0 y1 x2 x3 l0 l1 l2 l3 g a s (ix2 R c)
      = normed (fun c => softRow (scoresOf x0 y0 (1024 * s) (1024 * a + R.val) R) (fun j => x2 (ix2 j c))
          - lamOf l0 l1 l2 l3 (ix2 0 0) * softRow (scoresOf x1 y1 (1024 * s) (1024 * a + R.val) R) (fun j => x2 (ix2 j c)))
        (fun c => g (ix2 0 c)) c * silu (x3 (ix2 R c)) := by
  unfold outBlk outOf
  have hR := R.isLt
  by_cases h : R.val < 512
  · refine (if_pos h).trans ?_
    have er : (Fin.ofNat 512 R.val) = ⟨R.val, h⟩ := Fin.ext (Nat.mod_eq_of_lt h)
    have eR : (Fin.ofNat 1024 (512 * 0 + R.val)) = R := Fin.ext (by show (512 * 0 + R.val) % 1024 = R.val; omega)
    refine Eq.trans (?_ : _ = gate (lamOf l0 l1 l2 l3) (fin0 x2 a (chAt (rows x0 0) y0 x2 s (a - s))) (fin0 x2 a (chAt (rows x1 0) y1 x2 s (a - s))) g (rows x3 0) (ix2 (⟨R.val, h⟩ : Fin 512) c)) ?_
    · rw [ix2_eq_valueIdx, ← er]; rfl
    · rw [gate_apply, rows_apply]
      simp only [fin0_quotient hr0 hs ha, fin0_quotient hr1 hs ha, eR]
  · refine (if_neg h).trans ?_
    have hlt : R.val - 512 < 512 := by omega
    have er : (Fin.ofNat 512 (R.val - 512)) = ⟨R.val - 512, hlt⟩ := Fin.ext (Nat.mod_eq_of_lt hlt)
    have eR : (Fin.ofNat 1024 (512 * 1 + (R.val - 512))) = R := Fin.ext (by show (512 * 1 + (R.val - 512)) % 1024 = R.val; omega)
    have ep : 1024 * a + 512 + (R.val - 512) = 1024 * a + R.val := by omega
    refine Eq.trans (?_ : _ = gate (lamOf l0 l1 l2 l3) (fin1 x2 (rows x0 1) y0 a (chAt (rows x0 1) y0 x2 s (a - s))) (fin1 x2 (rows x1 1) y1 a (chAt (rows x1 1) y1 x2 s (a - s))) g (rows x3 1) (ix2 (⟨R.val - 512, hlt⟩ : Fin 512) c)) ?_
    · rw [ix2_eq_valueIdx, ← er]; rfl
    · rw [gate_apply, rows_apply]
      simp only [fin1_quotient hr0 hs ha, fin1_quotient hr1 hs ha, eR, ep]

end Cert.Diff
-- ==== Proof.DiffArray.lean ====
/- The differential attention call's output array at the extended reals, from its output blocks. -/
module

public import proofs.«01_k».proof.Proof.DiffBlock
public import proofs.«01_k».proof.Proof.DiffPre
public import proofs.«01_k».proof.Proof.Array
public import Idealize.ShloMosaic.Lib.Pipeline.Value

@[expose] public section

set_option maxRecDepth 16384

noncomputable section

namespace Cert.Diff

open Idealize.ShloMosaic Idealize.ShloMosaic.TcCoe Idealize.SL.Sem
open Idealize.ShloMosaic.Pipeline (Dat)
open Cert.DiffAttnIdeal Cert.DiffAttnIdeal.Gen
open Cert.Fox (silu softRow real_sum exists_ix2)

/-! ## The windows' blocks -/

/-- The block of each window at a grid point. -/
theorem index0 (i : grid0.Coords) : cc0_transform_0 i = ![(i 0).val * 16 + (i 2).val, (i 1).val] := by
  revert i; decide +kernel
theorem index1 (i : grid0.Coords) : cc0_transform_1 i = ![(i 0).val * 16 + (i 2).val, (i 1).val] := by
  revert i; decide +kernel
theorem index2 (i : grid0.Coords) : cc0_transform_2 i = ![(i 0).val, (i 1).val] := by
  revert i; decide +kernel
theorem index3 (i : grid0.Coords) : cc0_transform_3 i = ![(i 0).val, (i 1).val] := by
  revert i; decide +kernel
theorem index4 (i : grid0.Coords) : cc0_transform_4 i = ![(i 0).val, 32 + (i 1).val] := by
  revert i; decide +kernel
theorem index5 (i : grid0.Coords) : cc0_transform_5 i = ![(i 0).val * 16 + (i 2).val, 40 + (i 1).val] := by
  revert i; decide +kernel
theorem index6 (i : grid0.Coords) : cc0_transform_6 i = ![0, 0] := by
  revert i; decide +kernel
theorem index7 (i : grid0.Coords) : cc0_transform_7 i = ![0, 0] := by
  revert i; decide +kernel
theorem index8 (i : grid0.Coords) : cc0_transform_8 i = ![0, 0] := by
  revert i; decide +kernel
theorem index9 (i : grid0.Coords) : cc0_transform_9 i = ![0, 0] := by
  revert i; decide +kernel
theorem index10 (i : grid0.Coords) : cc0_transform_10 i = ![0, 0] := by
  revert i; decide +kernel
theorem index11 (i : grid0.Coords) : cc0_transform_11 i = ![(i 0).val * 16 + (i 2).val, (i 1).val] := by
  revert i; decide +kernel

/-- The grid coordinates are in range. -/
theorem coord0 (i : grid0.Coords) : (i 0).val < 2 := (i 0).isLt
theorem coord1 (i : grid0.Coords) : (i 1).val < 8 := (i 1).isLt
theorem coord2 (i : grid0.Coords) : (i 2).val < 16 := (i 2).isLt

section Blocks

variable {F : FTy → Type} [FloatOps F]
variable (m : (ℓ : Loc nD τ sig) → Buf (Elt F) ℓ)

/-- The first queries' block: the rows of the point's query block, the columns of its head. -/
theorem iblk0_apply (hO : Ok m) (c : Dev nD) (t : Fin (cfgM m hO).N) (r : Fin 1024) (d : Fin 128) :
    (iblk m hO c 0 t : Vec F S1024x128 .bf16) (ix2 r d)
      = (m ((c.tc : Thread nD τ).loc main_arg1) : Vec F S32768x1024 .bf16)
        (ix2 (Fin.ofNat 32768 (((grid0.coords t 0).val * 16 + (grid0.coords t 2).val) * 1024 + r.val)) (Fin.ofNat 1024 ((grid0.coords t 1).val * 128 + d.val))) := by
  have b0 := coord0 (grid0.coords t); have b1 := coord1 (grid0.coords t); have b2 := coord2 (grid0.coords t)
  unfold iblk
  refine (View.read_apply _ _).trans ?_
  show (V m c main_arg1 : Vec F S32768x1024 .bf16) _ = _
  rw [V_main_arg1]
  refine congrArg (m ((c.tc : Thread nD τ).loc main_arg1) : Vec F S32768x1024 .bf16) ?_
  funext a
  apply Fin.ext
  fin_cases a
  · show cc0_transform_0 (grid0.coords t) 0 * 1024 + 1 * r.val = (((grid0.coords t 0).val * 16 + (grid0.coords t 2).val) * 1024 + r.val) % 32768
    rw [index0]
    show ((grid0.coords t 0).val * 16 + (grid0.coords t 2).val) * 1024 + 1 * r.val = _
    omega
  · show cc0_transform_0 (grid0.coords t) 1 * 128 + 1 * d.val = ((grid0.coords t 1).val * 128 + d.val) % 1024
    rw [index0]
    show (grid0.coords t 1).val * 128 + 1 * d.val = _
    omega

/-- The second queries' block. -/
theorem iblk1_apply (hO : Ok m) (c : Dev nD) (t : Fin (cfgM m hO).N) (r : Fin 1024) (d : Fin 128) :
    (iblk m hO c 1 t : Vec F S1024x128 .bf16) (ix2 r d)
      = (m ((c.tc : Thread nD τ).loc main_arg2) : Vec F S32768x1024 .bf16)
        (ix2 (Fin.ofNat 32768 (((grid0.coords t 0).val * 16 + (grid0.coords t 2).val) * 1024 + r.val)) (Fin.ofNat 1024 ((grid0.coords t 1).val * 128 + d.val))) := by
  have b0 := coord0 (grid0.coords t); have b1 := coord1 (grid0.coords t); have b2 := coord2 (grid0.coords t)
  unfold iblk
  refine (View.read_apply _ _).trans ?_
  show (V m c main_arg2 : Vec F S32768x1024 .bf16) _ = _
  rw [V_main_arg2]
  refine congrArg (m ((c.tc : Thread nD τ).loc main_arg2) : Vec F S32768x1024 .bf16) ?_
  funext a
  apply Fin.ext
  fin_cases a
  · show cc0_transform_1 (grid0.coords t) 0 * 1024 + 1 * r.val = (((grid0.coords t 0).val * 16 + (grid0.coords t 2).val) * 1024 + r.val) % 32768
    rw [index1]
    show ((grid0.coords t 0).val * 16 + (grid0.coords t 2).val) * 1024 + 1 * r.val = _
    omega
  · show cc0_transform_1 (grid0.coords t) 1 * 128 + 1 * d.val = ((grid0.coords t 1).val * 128 + d.val) % 1024
    rw [index1]
    show (grid0.coords t 1).val * 128 + 1 * d.val = _
    omega

/-- The first keys' block: all rows of the batch, the columns of the head. -/
theorem iblk2_apply (hO : Ok m) (c : Dev nD) (t : Fin (cfgM m hO).N) (r : Fin 16384) (d : Fin 128) :
    (iblk m hO c 2 t : Vec F S16384x128 .bf16) (ix2 r d)
      = (m ((c.tc : Thread nD τ).loc main_arg3) : Vec F S32768x1024 .bf16)
        (ix2 (Fin.ofNat 32768 ((grid0.coords t 0).val * 16384 + r.val)) (Fin.ofNat 1024 ((grid0.coords t 1).val * 128 + d.val))) := by
  have b0 := coord0 (grid0.coords t); have b1 := coord1 (grid0.coords t); have b2 := coord2 (grid0.coords t)
  unfold iblk
  refine (View.read_apply _ _).trans ?_
  show (V m c main_arg3 : Vec F S32768x1024 .bf16) _ = _
  rw [V_main_arg3]
  refine congrArg (m ((c.tc : Thread nD τ).loc main_arg3) : Vec F S32768x1024 .bf16) ?_
  funext a
  apply Fin.ext
  fin_cases a
  · show cc0_transform_2 (grid0.coords t) 0 * 16384 + 1 * r.val = ((grid0.coords t 0).val * 16384 + r.val) % 32768
    rw [index2]
    show (grid0.coords t 0).val * 16384 + 1 * r.val = _
    omega
  · show cc0_transform_2 (grid0.coords t) 1 * 128 + 1 * d.val = ((grid0.coords t 1).val * 128 + d.val) % 1024
    rw [index2]
    show (grid0.coords t 1).val * 128 + 1 * d.val = _
    omega

/-- The second keys' block. -/
theorem iblk3_apply (hO : Ok m) (c : Dev nD) (t : Fin (cfgM m hO).N) (r : Fin 16384) (d : Fin 128) :
    (iblk m hO c 3 t : Vec F S16384x128 .bf16) (ix2 r d)
      = (m ((c.tc : Thread nD τ).loc main_arg4) : Vec F S32768x1024 .bf16)
        (ix2 (Fin.ofNat 32768 ((grid0.coords t 0).val * 16384 + r.val)) (Fin.ofNat 1024 ((grid0.coords t 1).val * 128 + d.val))) := by
  have b0 := coord0 (grid0.coords t); have b1 := coord1 (grid0.coords t); have b2 := coord2 (grid0.coords t)
  unfold iblk
  refine (View.read_apply _ _).trans ?_
  show (V m c main_arg4 : Vec F S32768x1024 .bf16) _ = _
  rw [V_main_arg4]
  refine congrArg (m ((c.tc : Thread nD τ).loc main_arg4) : Vec F S32768x1024 .bf16) ?_
  funext a
  apply Fin.ext
  fin_cases a
  · show cc0_transform_3 (grid0.coords t) 0 * 16384 + 1 * r.val = ((grid0.coords t 0).val * 16384 + r.val) % 32768
    rw [index3]
    show (grid0.coords t 0).val * 16384 + 1 * r.val = _
    omega
  · show cc0_transform_3 (grid0.coords t) 1 * 128 + 1 * d.val = ((grid0.coords t 1).val * 128 + d.val) % 1024
    rw [index3]
    show (grid0.coords t 1).val * 128 + 1 * d.val = _
    omega

/-- The values' block: all rows of the batch, the head's columns of the values. -/
theorem iblk4_apply (hO : Ok m) (c : Dev nD) (t : Fin (cfgM m hO).N) (r : Fin 16384) (d : Fin 128) :
    (iblk m hO c 4 t : Vec F S16384x128 .bf16) (ix2 r d)
      = (m ((c.tc : Thread nD τ).loc main_arg5) : Vec F S32768x6144 .bf16)
        (ix2 (Fin.ofNat 32768 ((grid0.coords t 0).val * 16384 + r.val)) (Fin.ofNat 6144 (4096 + ((grid0.coords t 1).val * 128 + d.val)))) := by
  have b0 := coord0 (grid0.coords t); have b1 := coord1 (grid0.coords t); have b2 := coord2 (grid0.coords t)
  unfold iblk
  refine (View.read_apply _ _).trans ?_
  show (V m c main_arg5 : Vec F S32768x6144 .bf16) _ = _
  rw [V_main_arg5]
  refine congrArg (m ((c.tc : Thread nD τ).loc main_arg5) : Vec F S32768x6144 .bf16) ?_
  funext a
  apply Fin.ext
  fin_cases a
  · show cc0_transform_4 (grid0.coords t) 0 * 16384 + 1 * r.val = ((grid0.coords t 0).val * 16384 + r.val) % 32768
    rw [index4]
    show (grid0.coords t 0).val * 16384 + 1 * r.val = _
    omega
  · show cc0_transform_4 (grid0.coords t) 1 * 128 + 1 * d.val = (4096 + ((grid0.coords t 1).val * 128 + d.val)) % 6144
    rw [index4]
    show (32 + (grid0.coords t 1).val) * 128 + 1 * d.val = _
    omega

/-- The gate's block: the rows of the query block, the head's columns of the gate. -/
theorem iblk5_apply (hO : Ok m) (c : Dev nD) (t : Fin (cfgM m hO).N) (r : Fin 1024) (d : Fin 128) :
    (iblk m hO c 5 t : Vec F S1024x128 .bf16) (ix2 r d)
      = (m ((c.tc : Thread nD τ).loc main_arg5) : Vec F S32768x6144 .bf16)
        (ix2 (Fin.ofNat 32768 (((grid0.coords t 0).val * 16 + (grid0.coords t 2).val) * 1024 + r.val)) (Fin.ofNat 6144 (5120 + ((grid0.coords t 1).val * 128 + d.val)))) := by
  have b0 := coord0 (grid0.coords t); have b1 := coord1 (grid0.coords t); have b2 := coord2 (grid0.coords t)
  unfold iblk
  refine (View.read_apply _ _).trans ?_
  show (V m c main_arg5 : Vec F S32768x6144 .bf16) _ = _
  rw [V_main_arg5]
  refine congrArg (m ((c.tc : Thread nD τ).loc main_arg5) : Vec F S32768x6144 .bf16) ?_
  funext a
  apply Fin.ext
  fin_cases a
  · show cc0_transform_5 (grid0.coords t) 0 * 1024 + 1 * r.val = (((grid0.coords t 0).val * 16 + (grid0.coords t 2).val) * 1024 + r.val) % 32768
    rw [index5]
    show ((grid0.coords t 0).val * 16 + (grid0.coords t 2).val) * 1024 + 1 * r.val = _
    omega
  · show cc0_transform_5 (grid0.coords t) 1 * 128 + 1 * d.val = (5120 + ((grid0.coords t 1).val * 128 + d.val)) % 6144
    rw [index5]
    show (40 + (grid0.coords t 1).val) * 128 + 1 * d.val = _
    omega

/-- The first of the four vectors, as a row. -/
theorem iblk6_apply (hO : Ok m) (c : Dev nD) (t : Fin (cfgM m hO).N) (d : Fin 64) :
    (iblk m hO c 6 t : Vec F S1x64 .f32) (ix2 0 d) = (m ((c.tc : Thread nD τ).loc main_arg6) : Vec F S64 .f32) (ix1 d) := by
  have e : V m c main_v0 = shapeCast S1x64 (m ((c.tc : Thread nD τ).loc main_arg6) : Vec F S64 .f32) shapeCasts_S64_S1x64 := by
    show StableHlo.after hostOps0 _ (Proc.devRef .tc main_v0) = _
    after_results
    rfl
  have e' : (V m c main_v0 : Vec F S1x64 .f32) (ix2 0 d) = (m ((c.tc : Thread nD τ).loc main_arg6) : Vec F S64 .f32) (ix1 d) := by
    rw [e]
    pointwise
  unfold iblk
  refine (View.read_apply _ _).trans ?_
  show (V m c main_v0 : Vec F S1x64 .f32) _ = _
  refine Eq.trans ?_ e'
  refine congrArg (V m c main_v0 : Vec F S1x64 .f32) ?_
  funext a
  apply Fin.ext
  fin_cases a
  · show cc0_transform_6 (grid0.coords t) 0 * 1 + 1 * 0 = 0
    rw [index6]
    rfl
  · show cc0_transform_6 (grid0.coords t) 1 * 64 + 1 * d.val = d.val
    rw [index6]
    show 0 * 64 + 1 * d.val = _
    omega

/-- The second. -/
theorem iblk7_apply (hO : Ok m) (c : Dev nD) (t : Fin (cfgM m hO).N) (d : Fin 64) :
    (iblk m hO c 7 t : Vec F S1x64 .f32) (ix2 0 d) = (m ((c.tc : Thread nD τ).loc main_arg7) : Vec F S64 .f32) (ix1 d) := by
  have e : V m c main_v1 = shapeCast S1x64 (m ((c.tc : Thread nD τ).loc main_arg7) : Vec F S64 .f32) shapeCasts_S64_S1x64 := by
    show StableHlo.after hostOps0 _ (Proc.devRef .tc main_v1) = _
    after_results
    rfl
  have e' : (V m c main_v1 : Vec F S1x64 .f32) (ix2 0 d) = (m ((c.tc : Thread nD τ).loc main_arg7) : Vec F S64 .f32) (ix1 d) := by
    rw [e]
    pointwise
  unfold iblk
  refine (View.read_apply _ _).trans ?_
  show (V m c main_v1 : Vec F S1x64 .f32) _ = _
  refine Eq.trans ?_ e'
  refine congrArg (V m c main_v1 : Vec F S1x64 .f32) ?_
  funext a
  apply Fin.ext
  fin_cases a
  · show cc0_transform_7 (grid0.coords t) 0 * 1 + 1 * 0 = 0
    rw [index7]
    rfl
  · show cc0_transform_7 (grid0.coords t) 1 * 64 + 1 * d.val = d.val
    rw [index7]
    show 0 * 64 + 1 * d.val = _
    omega

/-- The third. -/
theorem iblk8_apply (hO : Ok m) (c : Dev nD) (t : Fin (cfgM m hO).N) (d : Fin 64) :
    (iblk m hO c 8 t : Vec F S1x64 .f32) (ix2 0 d) = (m ((c.tc : Thread nD τ).loc main_arg8) : Vec F S64 .f32) (ix1 d) := by
  have e : V m c main_v2 = shapeCast S1x64 (m ((c.tc : Thread nD τ).loc main_arg8) : Vec F S64 .f32) shapeCasts_S64_S1x64 := by
    show StableHlo.after hostOps0 _ (Proc.devRef .tc main_v2) = _
    after_results
    rfl
  have e' : (V m c main_v2 : Vec F S1x64 .f32) (ix2 0 d) = (m ((c.tc : Thread nD τ).loc main_arg8) : Vec F S64 .f32) (ix1 d) := by
    rw [e]
    pointwise
  unfold iblk
  refine (View.read_apply _ _).trans ?_
  show (V m c main_v2 : Vec F S1x64 .f32) _ = _
  refine Eq.trans ?_ e'
  refine congrArg (V m c main_v2 : Vec F S1x64 .f32) ?_
  funext a
  apply Fin.ext
  fin_cases a
  · show cc0_transform_8 (grid0.coords t) 0 * 1 + 1 * 0 = 0
    rw [index8]
    rfl
  · show cc0_transform_8 (grid0.coords t) 1 * 64 + 1 * d.val = d.val
    rw [index8]
    show 0 * 64 + 1 * d.val = _
    omega

/-- The fourth. -/
theorem iblk9_apply (hO : Ok m) (c : Dev nD) (t : Fin (cfgM m hO).N) (d : Fin 64) :
    (iblk m hO c 9 t : Vec F S1x64 .f32) (ix2 0 d) = (m ((c.tc : Thread nD τ).loc main_arg9) : Vec F S64 .f32) (ix1 d) := by
  have e : V m c main_v3 = shapeCast S1x64 (m ((c.tc : Thread nD τ).loc main_arg9) : Vec F S64 .f32) shapeCasts_S64_S1x64 := by
    show StableHlo.after hostOps0 _ (Proc.devRef .tc main_v3) = _
    after_results
    rfl
  have e' : (V m c main_v3 : Vec F S1x64 .f32) (ix2 0 d) = (m ((c.tc : Thread nD τ).loc main_arg9) : Vec F S64 .f32) (ix1 d) := by
    rw [e]
    pointwise
  unfold iblk
  refine (View.read_apply _ _).trans ?_
  show (V m c main_v3 : Vec F S1x64 .f32) _ = _
  refine Eq.trans ?_ e'
  refine congrArg (V m c main_v3 : Vec F S1x64 .f32) ?_
  funext a
  apply Fin.ext
  fin_cases a
  · show cc0_transform_9 (grid0.coords t) 0 * 1 + 1 * 0 = 0
    rw [index9]
    rfl
  · show cc0_transform_9 (grid0.coords t) 1 * 64 + 1 * d.val = d.val
    rw [index9]
    show 0 * 64 + 1 * d.val = _
    omega

/-- The gain, as a row. -/
theorem iblk10_apply (hO : Ok m) (c : Dev nD) (t : Fin (cfgM m hO).N) (d : Fin 128) :
    (iblk m hO c 10 t : Vec F S1x128 .f32) (ix2 0 d) = (m ((c.tc : Thread nD τ).loc main_arg10) : Vec F S128 .f32) (ix1 d) := by
  have e : V m c main_v4 = shapeCast S1x128 (m ((c.tc : Thread nD τ).loc main_arg10) : Vec F S128 .f32) shapeCasts_S128_S1x128 := by
    show StableHlo.after hostOps0 _ (Proc.devRef .tc main_v4) = _
    after_results
    rfl
  have e' : (V m c main_v4 : Vec F S1x128 .f32) (ix2 0 d) = (m ((c.tc : Thread nD τ).loc main_arg10) : Vec F S128 .f32) (ix1 d) := by
    rw [e]
    pointwise
  unfold iblk
  refine (View.read_apply _ _).trans ?_
  show (V m c main_v4 : Vec F S1x128 .f32) _ = _
  refine Eq.trans ?_ e'
  refine congrArg (V m c main_v4 : Vec F S1x128 .f32) ?_
  funext a
  apply Fin.ext
  fin_cases a
  · show cc0_transform_10 (grid0.coords t) 0 * 1 + 1 * 0 = 0
    rw [index10]
    rfl
  · show cc0_transform_10 (grid0.coords t) 1 * 128 + 1 * d.val = d.val
    rw [index10]
    show 0 * 128 + 1 * d.val = _
    omega

/-- An index of the output is in a point's block exactly when its row and column are. -/
theorem mem_blk (hO : Ok m) (t : Fin (cfgM m hO).N) (i : S32768x1024.Idx) :
    i ∈ (((cfgM m hO).win 11).blk t).view.set ↔ (i 0).val / 1024 = (grid0.coords t 0).val * 16 + (grid0.coords t 2).val ∧ (i 1).val / 128 = (grid0.coords t 1).val := by
  have e : (((cfgM m hO).win 11).blk t).view.set = (((cfgM m hO).win 11).rect t).set := View.set_slice_whole main_v5 _
  have hmem : i ∈ (((cfgM m hO).win 11).rect t).set ↔ ∀ a : Fin 2, cc0_transform_11 (grid0.coords t) a * S1024x128.size a ≤ (i a).val
      ∧ (i a).val < cc0_transform_11 (grid0.coords t) a * S1024x128.size a + S1024x128.size a := Rect.mem_set_unit
  refine (iff_of_eq (congrArg (i ∈ ·) e)).trans (hmem.trans ?_)
  constructor
  · intro h
    have h0 : cc0_transform_11 (grid0.coords t) 0 * 1024 ≤ (i 0).val ∧ (i 0).val < cc0_transform_11 (grid0.coords t) 0 * 1024 + 1024 := h 0
    have h1 : cc0_transform_11 (grid0.coords t) 1 * 128 ≤ (i 1).val ∧ (i 1).val < cc0_transform_11 (grid0.coords t) 1 * 128 + 128 := h 1
    rw [index11] at h0 h1
    change ((grid0.coords t 0).val * 16 + (grid0.coords t 2).val) * 1024 ≤ _ ∧ _ < ((grid0.coords t 0).val * 16 + (grid0.coords t 2).val) * 1024 + 1024 at h0
    change (grid0.coords t 1).val * 128 ≤ _ ∧ _ < (grid0.coords t 1).val * 128 + 128 at h1
    omega
  · intro h a
    match a with
    | ⟨0, _⟩ =>
      show cc0_transform_11 (grid0.coords t) 0 * 1024 ≤ (i 0).val ∧ (i 0).val < cc0_transform_11 (grid0.coords t) 0 * 1024 + 1024
      rw [index11]
      show ((grid0.coords t 0).val * 16 + (grid0.coords t 2).val) * 1024 ≤ _ ∧ _ < ((grid0.coords t 0).val * 16 + (grid0.coords t 2).val) * 1024 + 1024
      omega
    | ⟨1, _⟩ =>
      show cc0_transform_11 (grid0.coords t) 1 * 128 ≤ (i 1).val ∧ (i 1).val < cc0_transform_11 (grid0.coords t) 1 * 128 + 128
      rw [index11]
      show (grid0.coords t 1).val * 128 ≤ _ ∧ _ < (grid0.coords t 1).val * 128 + 128
      omega

/-- The coordinates of the grid's points, in order. -/
theorem coords_eq : ∀ t : Fin grid0.N, (grid0.coords t 0).val = t.val / 128 ∧ (grid0.coords t 1).val = t.val / 16 % 8 ∧ (grid0.coords t 2).val = t.val % 16 := by
  decide +kernel

/-- Every index of the output is in some point's tile. -/
theorem cover (hO : Ok m) (i : S32768x1024.Idx) :
    ∃ t : Fin (cfgM m hO).N, ((cfgM m hO).win 11).flush t = true ∧ i ∈ (((cfgM m hO).win 11).blk t).view.set := by
  have h0 : (i 0).val < 32768 := (i 0).isLt
  have h1 : (i 1).val < 1024 := (i 1).isLt
  have hN := N_0
  have hn : (i 0).val / 16384 * 128 + (i 1).val / 128 * 16 + (i 0).val / 1024 % 16 < grid0.N := by omega
  obtain ⟨t, ht⟩ : ∃ t : Fin grid0.N, t.val = (i 0).val / 16384 * 128 + (i 1).val / 128 * 16 + (i 0).val / 1024 % 16 := ⟨⟨_, hn⟩, rfl⟩
  obtain ⟨k0, k1, k2⟩ := coords_eq t
  refine ⟨t, flush0_11 _ _, (mem_blk m hO t i).mpr ⟨?_, ?_⟩⟩
  · refine Eq.trans ?_ (congrArg₂ (fun x y => x * 16 + y) k0 k2).symm
    dsimp only
    omega
  · refine Eq.trans ?_ k1.symm
    omega

end Blocks

/-! ## The output array -/

/-- The scores, of one set of queries and keys, that position `p` of batch `b` and head `h` sees: those of the keys from the
    start on and not after it; minus infinity for the others. -/
def rowScores (a0 : IVec S256 32) (q k : FVec Ideal S32768x1024 .bf16) (b h p : ℕ) : Fin 16384 → EReal := fun j =>
  if 1024 * (a0 (ix1 (Fin.ofNat 256 ((b * 8 + h) * 16 + p / 1024)))).toNat ≤ j.val ∧ j.val ≤ p then
    ∑ d : Fin 128, q (ix2 (Fin.ofNat 32768 (b * 16384 + p)) (Fin.ofNat 1024 (h * 128 + d.val)))
      * k (ix2 (Fin.ofNat 32768 (b * 16384 + j.val)) (Fin.ofNat 1024 (h * 128 + d.val)))
  else ⊥

/-- Column `c` of the values of batch `b`, head `h`. -/
def valuesOf (a5 : FVec Ideal S32768x6144 .bf16) (b h : ℕ) (c : Fin 128) : Fin 16384 → EReal := fun j =>
  a5 (ix2 (Fin.ofNat 32768 (b * 16384 + j.val)) (Fin.ofNat 6144 (4096 + (h * 128 + c.val))))

/-- The second softmax's weight. -/
def weightOf (l0 l1 l2 l3 : FVec Ideal S64 .f32) : EReal :=
  weight (fun d => l0 (ix1 d)) (fun d => l1 (ix1 d)) (fun d => l2 (ix1 d)) (fun d => l3 (ix1 d))

/-- Differential attention of batch `b`, position `p`, head `h`, column `e`: the difference of the two softmaxes times the
    values, normed and gated. -/
def attentionAt (a0 : IVec S256 32) (a1 a2 a3 a4 : FVec Ideal S32768x1024 .bf16) (a5 : FVec Ideal S32768x6144 .bf16) (l0 l1 l2 l3 : FVec Ideal S64 .f32)
    (g : FVec Ideal S128 .f32) (b p h : ℕ) (e : Fin 128) : EReal :=
  normed (fun c => softRow (rowScores a0 a1 a3 b h p) (valuesOf a5 b h c)
      - weightOf l0 l1 l2 l3 * softRow (rowScores a0 a2 a4 b h p) (valuesOf a5 b h c)) (fun c => g (ix1 c)) e
    * silu (a5 (ix2 (Fin.ofNat 32768 (b * 16384 + p)) (Fin.ofNat 6144 (5120 + (h * 128 + e.val)))))

/-- The whole array of it. -/
def attention (a0 : IVec S256 32) (a1 a2 a3 a4 : FVec Ideal S32768x1024 .bf16) (a5 : FVec Ideal S32768x6144 .bf16) (l0 l1 l2 l3 : FVec Ideal S64 .f32)
    (g : FVec Ideal S128 .f32) : FVec Ideal S32768x1024 .bf16 :=
  fun i => attentionAt a0 a1 a2 a3 a4 a5 l0 l1 l2 l3 g ((i 0).val / 16384) ((i 0).val % 16384) ((i 1).val / 128) (Fin.ofNat 128 ((i 1).val % 128))

variable (m : (ℓ : Loc nD τ sig) → Buf (Elt Ideal) ℓ) (ρ : Dev nD → PrngReg)

/-- The attention of the arguments device `c` holds. -/
def result (c : Dev nD) : FVec Ideal S32768x1024 .bf16 :=
  attention (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The arguments device `c` holds are as the second precondition says. -/
abbrev Fine (c : Dev nD) : Prop :=
  AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable {m}

/-- The start word of grid point `t`, at the table's index of any of the block's rows. -/
theorem start_eq (hO : Ok m) (hH : Starts m hO) (c : Dev nD) (t : Fin (cfgM m hO).N) (R : Fin 1024) :
    (((m ((c.tc : Thread nD τ).loc main_arg0) : IVec S256 32) (ix1 (Fin.ofNat 256 (((grid0.coords t 0).val * 8 + (grid0.coords t 1).val) * 16 + (1024 * (grid0.coords t 2).val + R.val) / 1024)))).toNat)
      = (startOf hH c t).val := by
  have b0 := coord0 (grid0.coords t); have b1 := coord1 (grid0.coords t); have b2 := coord2 (grid0.coords t)
  have hs := (hH c t).choose_spec
  have hR := R.isLt
  have hn : ((grid0.coords t 0).val * 8 + (grid0.coords t 1).val) * 16 + (grid0.coords t 2).val < 256 := by omega
  have ei : (Fin.ofNat 256 (((grid0.coords t 0).val * 8 + (grid0.coords t 1).val) * 16 + (1024 * (grid0.coords t 2).val + R.val) / 1024)) = ⟨_, hn⟩ := by
    apply Fin.ext
    show ((((grid0.coords t 0).val * 8 + (grid0.coords t 1).val) * 16 + (1024 * (grid0.coords t 2).val + R.val) / 1024) % 256) = ((grid0.coords t 0).val * 8 + (grid0.coords t 1).val) * 16 + (grid0.coords t 2).val
    omega
  rw [ei]
  have e := (word_eq c (grid0.coords t) (tbl m 0) hn).symm.trans hs.2
  have e0 : (m ((c.tc : Thread nD τ).loc main_arg0) : IVec S256 32) = tbl m 0 := (V_main_arg0 m c).symm.trans (V_pre m c 0)
  refine (congrArg BitVec.toNat ((congrFun e0 _).trans e)).trans ?_
  have := (startOf hH c t).isLt
  show (startOf hH c t).val % 2 ^ 32 = _
  omega

/-- What a grid point writes out is its tile of the result. -/
theorem flushed_eq (hO : Ok m) (hH : Starts m hO) (c : Dev nD) (hf : Fine m c)
    (t : Fin (cfgM m hO).N) : (dats m hO hH 0 c).flushed 11 t = (((cfgM m hO).win 11).blk t).view.read (Elt Ideal) (result m c) := by
  have b0 := coord0 (grid0.coords t); have b1 := coord1 (grid0.coords t); have b2 := coord2 (grid0.coords t)
  show ((cfgM m hO).win 11).cut (grid0.coords t) ((dats m hO hH 0 c).after 11 t) = _
  rw [after0_11]
  funext j
  obtain ⟨R, C, rfl⟩ : ∃ (R : Fin 1024) (C : Fin 128), j = (ix2 R C : S1024x128.Idx) := exists_ix2 (j : S1024x128.Idx)
  show outsAt m hO hH c t (ix2 R C) = _
  refine Eq.trans ?_ (View.read_apply _ _).symm
  show _ = result m c _
  have hs := (hH c t).choose_spec
  have hr0 : RealScores (iblk m hO c 0 t : Vec Ideal S1024x128 .bf16) (iblk m hO c 2 t : Vec Ideal S16384x128 .bf16) := by
    intro R j
    refine real_sum _ _ (fun d => ?_) (fun d => ?_)
    · rw [iblk0_apply]; exact hf.q1 _
    · rw [iblk2_apply]; exact hf.k1 _
  have hr1 : RealScores (iblk m hO c 1 t : Vec Ideal S1024x128 .bf16) (iblk m hO c 3 t : Vec Ideal S16384x128 .bf16) := by
    intro R j
    refine real_sum _ _ (fun d => ?_) (fun d => ?_)
    · rw [iblk1_apply]; exact hf.q2 _
    · rw [iblk3_apply]; exact hf.k2 _
  refine (outBlk_apply _ _ _ _ _ _ _ _ _ _ _ hr0 hr1 hs.1 b2 R C).trans ?_
  have hi : (((cfgM m hO).win 11).blk t).view.emb (ix2 R C) = (ix2 (Fin.ofNat 32768 (((grid0.coords t 0).val * 16 + (grid0.coords t 2).val) * 1024 + R.val)) (Fin.ofNat 1024 ((grid0.coords t 1).val * 128 + C.val)) : S32768x1024.Idx) := by
    funext a
    apply Fin.ext
    fin_cases a
    · show cc0_transform_11 (grid0.coords t) 0 * 1024 + 1 * R.val = (((grid0.coords t 0).val * 16 + (grid0.coords t 2).val) * 1024 + R.val) % 32768
      rw [index11]
      show ((grid0.coords t 0).val * 16 + (grid0.coords t 2).val) * 1024 + 1 * R.val = _
      omega
    · show cc0_transform_11 (grid0.coords t) 1 * 128 + 1 * C.val = ((grid0.coords t 1).val * 128 + C.val) % 1024
      rw [index11]
      show (grid0.coords t 1).val * 128 + 1 * C.val = _
      omega
  refine Eq.trans ?_ (congrArg (result m c) hi.symm)
  have e0 : ((grid0.coords t 0).val * 16 + (grid0.coords t 2).val) * 1024 + R.val = (grid0.coords t 0).val * 16384 + (1024 * (grid0.coords t 2).val + R.val) := by omega
  have hat : result m c (ix2 (Fin.ofNat 32768 (((grid0.coords t 0).val * 16 + (grid0.coords t 2).val) * 1024 + R.val)) (Fin.ofNat 1024 ((grid0.coords t 1).val * 128 + C.val)))
      = attentionAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (grid0.coords t 0).val (1024 * (grid0.coords t 2).val + R.val) (grid0.coords t 1).val C := by
    have hR := R.isLt; have hC := C.isLt
    have h1 : (((grid0.coords t 0).val * 16 + (grid0.coords t 2).val) * 1024 + R.val) % 32768 / 16384 = (grid0.coords t 0).val := by omega
    have h2 : (((grid0.coords t 0).val * 16 + (grid0.coords t 2).val) * 1024 + R.val) % 32768 % 16384 = 1024 * (grid0.coords t 2).val + R.val := by omega
    have h3 : ((grid0.coords t 1).val * 128 + C.val) % 1024 / 128 = (grid0.coords t 1).val := by omega
    have h4 : Fin.ofNat 128 (((grid0.coords t 1).val * 128 + C.val) % 1024 % 128) = C := Fin.ext (by show ((grid0.coords t 1).val * 128 + C.val) % 1024 % 128 % 128 = C.val; omega)
    show attentionAt _ _ _ _ _ _ _ _ _ _ _ ((((grid0.coords t 0).val * 16 + (grid0.coords t 2).val) * 1024 + R.val) % 32768 / 16384)
      ((((grid0.coords t 0).val * 16 + (grid0.coords t 2).val) * 1024 + R.val) % 32768 % 16384)
      (((grid0.coords t 1).val * 128 + C.val) % 1024 / 128) (Fin.ofNat 128 (((grid0.coords t 1).val * 128 + C.val) % 1024 % 128)) = _
    rw [h1, h2, h3, h4]
  rw [hat]
  unfold attentionAt
  have hσ0 : scoresOf (iblk m hO c 0 t : Vec Ideal S1024x128 .bf16) (iblk m hO c 2 t : Vec Ideal S16384x128 .bf16) (1024 * (startOf hH c t).val) (1024 * (grid0.coords t 2).val + R.val) R
      = rowScores (m ((c.tc : Thread nD τ).loc main_arg0)) (m ((c.tc : Thread nD τ).loc main_arg1)) (m ((c.tc : Thread nD τ).loc main_arg3)) (grid0.coords t 0).val (grid0.coords t 1).val (1024 * (grid0.coords t 2).val + R.val) := by
    funext j
    unfold scoresOf rowScores
    rw [start_eq hO hH c t R]
    refine if_congr Iff.rfl ?_ rfl
    unfold dotRow
    refine Finset.sum_congr rfl fun d _ => ?_
    rw [← e0]
    refine Ideal.mul_congr (iblk0_apply m hO c t R d) ((iblk2_apply m hO c t _ d).trans ?_)
    rw [show (Fin.ofNat 16384 j.val).val = j.val from Nat.mod_eq_of_lt j.isLt]
  have hσ1 : scoresOf (iblk m hO c 1 t : Vec Ideal S1024x128 .bf16) (iblk m hO c 3 t : Vec Ideal S16384x128 .bf16) (1024 * (startOf hH c t).val) (1024 * (grid0.coords t 2).val + R.val) R
      = rowScores (m ((c.tc : Thread nD τ).loc main_arg0)) (m ((c.tc : Thread nD τ).loc main_arg2)) (m ((c.tc : Thread nD τ).loc main_arg4)) (grid0.coords t 0).val (grid0.coords t 1).val (1024 * (grid0.coords t 2).val + R.val) := by
    funext j
    unfold scoresOf rowScores
    rw [start_eq hO hH c t R]
    refine if_congr Iff.rfl ?_ rfl
    unfold dotRow
    refine Finset.sum_congr rfl fun d _ => ?_
    rw [← e0]
    refine Ideal.mul_congr (iblk1_apply m hO c t R d) ((iblk3_apply m hO c t _ d).trans ?_)
    rw [show (Fin.ofNat 16384 j.val).val = j.val from Nat.mod_eq_of_lt j.isLt]
  have hv : ∀ c' : Fin 128, (fun j : Fin 16384 => (iblk m hO c 4 t : Vec Ideal S16384x128 .bf16) (ix2 j c')) = valuesOf (m ((c.tc : Thread nD τ).loc main_arg5)) (grid0.coords t 0).val (grid0.coords t 1).val c' :=
    fun c' => funext fun j => iblk4_apply m hO c t j c'
  have hl : lamOf (iblk m hO c 6 t : Vec Ideal S1x64 .f32) (iblk m hO c 7 t : Vec Ideal S1x64 .f32) (iblk m hO c 8 t : Vec Ideal S1x64 .f32) (iblk m hO c 9 t : Vec Ideal S1x64 .f32) (ix2 0 0)
      = weightOf (m ((c.tc : Thread nD τ).loc main_arg6)) (m ((c.tc : Thread nD τ).loc main_arg7)) (m ((c.tc : Thread nD τ).loc main_arg8)) (m ((c.tc : Thread nD τ).loc main_arg9)) := by
    refine (lamOf_apply _ _ _ _).trans ?_
    exact congr (congr (congr (congrArg weight (funext fun d => iblk6_apply m hO c t d)) (funext fun d => iblk7_apply m hO c t d))
      (funext fun d => iblk8_apply m hO c t d)) (funext fun d => iblk9_apply m hO c t d)
  refine Ideal.mul_congr (congrArg₂ (fun o g => normed o g C) ?_ ?_) (congrArg silu ?_)
  · funext c'
    refine congrArg₂ (fun x y : EReal => x - y) (congrArg₂ softRow hσ0 (hv c')) (Ideal.mul_congr hl (congrArg₂ softRow hσ1 (hv c')))
  · funext d
    exact iblk10_apply m hO c t d
  · rw [← e0]
    exact iblk5_apply m hO c t R C

/-- The output array, whole. -/
theorem final_eq (hO : Ok m) (hH : Starts m hO) (c : Dev nD) (hf : Fine m c) :
    (dats m hO hH 0 c).arrAt 11 (cfgM m hO).N = result m c :=
  (dats m hO hH 0 c).arrAt_eq_of_cover 11 (result m c) (fun t _ => flushed_eq hO hH c hf t) (cover m hO)

variable (m)

/-- The run, with the output array named. -/
theorem run (hO : Ok m) (hH : Starts m hO) (hf : ∀ c : Dev nD, Fine m c) :
    θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 11).trans (final_eq hO hH c (hf c)), h.2 c⟩)
    (θ_run_and (run_main m ρ hO hH) (unchanged m ρ hO hH))

end Cert.Diff
-- ==== Proof.DiffRef.lean ====
/- The differential attention's reference at an index: the mask of the keys seen, the two sets of scores, their softmaxes, the
   weighted difference, its product with the values, the norm and the gate. -/
module

public import proofs.«01_k».proof.Proof.Gen.DiffAttnReferenceIdeal.Run
public import proofs.«01_k».proof.Proof.Ref
public import proofs.«01_k».proof.Proof.DiffArray

@[expose] public section

set_option maxRecDepth 16384

noncomputable section

namespace Cert.Diff.Ref

open Idealize.ShloMosaic Idealize.ShloMosaic.TcCoe Idealize.SL.Sem
open Cert.DiffAttnReferenceIdeal Cert.DiffAttnReferenceIdeal.Gen
open Cert.Fox (silu softRow real_sum exp2_nonneg exp2_coe exp2_bot pow_two ofBits_ninf andi_eq_one ofBool_eq_one)
open Cert.Fox.Ref (ofNat_mk ofBits_two sge_iff)

/-- Which keys a query sees: those not after it and not before its first pair of key blocks. -/
def seen (a0 : IVec S256 32) : IVec S2x8x16384x16384 1 :=
  andi (broadcastInDim S2x8x16384x16384 ![0, 1, 2, 3] bcast_S1x1x16384x16384_S2x8x16384x16384_0_1_2_3 (broadcastInDim S1x1x16384x16384 ![2, 3] bcast_S16384x16384_S1x1x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))))
    (cmpi .sge (broadcastInDim S2x8x16384x16384 ![0, 1, 2, 3] bcast_S1x1x1x16384_S2x8x16384x16384_0_1_2_3 (broadcastInDim S1x1x1x16384 ![3] bcast_S16384_S1x1x1x16384_3 (iotaInDim S16384 32 0))) (broadcastInDim S2x8x16384x16384 ![0, 1, 2, 3] bcast_S2x8x16384x1_S2x8x16384x16384_0_1_2_3 (shapeCast S2x8x16384x1 (broadcastInDim S2x8x16x1024 ![0, 1, 2, 3] bcast_S2x8x16x1_S2x8x16x1024_0_1_2_3 (shapeCast S2x8x16x1 (muli (broadcastInDim S256 ![] bcast_S_S256 (constantI S_ 32 1024#32)) a0) shapeCasts_S256_S2x8x16x1)) shapeCasts_S2x8x16x1024_S2x8x16384x1)))

/-- All scores. -/
def scores (a1 a2 : FVec Ideal S32768x1024 .bf16) : FVec Ideal S2x8x16384x16384 .f32 :=
  Host.dotGeneral dot_S2x8x16384x128_S2x8x16384x128_S2x8x16384x16384_3_3_2_2_01_01 none (extf .f32 (transpose S2x8x16384x128 [0, 2, 1, 3] (shapeCast S2x16384x8x128 a1 shapeCasts_S32768x1024_S2x16384x8x128) transposes_S2x16384x8x128_S2x8x16384x128_0_2_1_3) bitsLt_bf16_f32) (extf .f32 (transpose S2x8x16384x128 [0, 2, 1, 3] (shapeCast S2x16384x8x128 a2 shapeCasts_S32768x1024_S2x16384x8x128) transposes_S2x16384x8x128_S2x8x16384x128_0_2_1_3) bitsLt_bf16_f32)

/-- The scores of the keys seen, minus infinity for the others. -/
def maskedScores (a0 : IVec S256 32) (a1 a2 : FVec Ideal S32768x1024 .bf16) : FVec Ideal S2x8x16384x16384 .f32 :=
  select (seen a0) (scores a1 a2) (broadcastInDim S2x8x16384x16384 ![] bcast_S_S2x8x16384x16384 (id (constant S_ .f32 0xFF800000#32)))

/-- Powers of two of the scores less the largest of their row. -/
def powers (M : FVec Ideal S2x8x16384x16384 .f32) : FVec Ideal S2x8x16384x16384 .f32 :=
  Host.powf (broadcastInDim S2x8x16384x16384 ![] bcast_S_S2x8x16384x16384 (constant S_ .f32 0x40000000#32)) (subf M (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduce FloatOps.maximumf M (constant S_ .f32 0xFF800000#32) reducesTo_S2x8x16384x16384_S2x8x16384_d3 h_S_))))

/-- Each divided by the sum of its row. -/
def shares (E : FVec Ideal S2x8x16384x16384 .f32) : FVec Ideal S2x8x16384x16384 .f32 :=
  Host.divf E (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd E (constant S_ .f32 0x00000000#32) reducesTo_S2x8x16384x16384_S2x8x16384_d3 h_S_)))

/-- The first shares less the second, weighed. -/
def difference (P Q : FVec Ideal S2x8x16384x16384 .f32) (l0 l1 l2 l3 : FVec Ideal S64 .f32) : FVec Ideal S2x8x16384x16384 .f32 :=
  subf P (mulf (broadcastInDim S2x8x16384x16384 ![] bcast_S_S2x8x16384x16384 (addf (subf (Host.exp (Host.reduceAdd (mulf l0 l1) (constant S_ .f32 0x00000000#32) reducesTo_S64_S_d0 h_S_)) (Host.exp (Host.reduceAdd (mulf l2 l3) (constant S_ .f32 0x00000000#32) reducesTo_S64_S_d0 h_S_))) (constant S_ .f32 0x3E4CCCCD#32))) Q)

/-- The shares times the values. -/
def weighed (P : FVec Ideal S2x8x16384x16384 .f32) (a5 : FVec Ideal S32768x6144 .bf16) : FVec Ideal S2x8x16384x128 .f32 :=
  Host.dotGeneral dot_S2x8x16384x16384_S2x8x16384x128_S2x8x16384x128_3_2_2_3_01_01 none P (extf .f32 (transpose S2x8x16384x128 [0, 2, 1, 3] (shapeCast S2x16384x8x128 (extractStridedSlice S32768x1024 ![0, 4096] a5 slices_S32768x6144_S32768x1024_0_4096) shapeCasts_S32768x1024_S2x16384x8x128) transposes_S2x16384x8x128_S2x8x16384x128_0_2_1_3) bitsLt_bf16_f32)

/-- Each row normed, with its gain and the constant factor. -/
def normedRows (O : FVec Ideal S2x8x16384x128 .f32) (g : FVec Ideal S128 .f32) : FVec Ideal S2x8x16384x128 .f32 :=
  mulf (mulf (mulf O (broadcastInDim S2x8x16384x128 ![0, 1, 2, 3] bcast_S2x8x16384x1_S2x8x16384x128_0_1_2_3 (Host.rsqrt (addf (Host.divf (broadcastInDim S2x8x16384x1 ![0, 1, 2] bcast_S2x8x16384_S2x8x16384x1_0_1_2 (Host.reduceAdd (mulf O O) (constant S_ .f32 0x00000000#32) reducesTo_S2x8x16384x128_S2x8x16384_d3 h_S_)) (broadcastInDim S2x8x16384x1 ![] bcast_S_S2x8x16384x1 (constant S_ .f32 0x43000000#32))) (broadcastInDim S2x8x16384x1 ![] bcast_S_S2x8x16384x1 (constant S_ .f32 0x358637BD#32)))))) (broadcastInDim S2x8x16384x128 ![0, 1, 2, 3] bcast_S1x1x1x128_S2x8x16384x128_0_1_2_3 (broadcastInDim S1x1x1x128 ![3] bcast_S128_S1x1x1x128_3 g))) (broadcastInDim S2x8x16384x128 ![] bcast_S_S2x8x16384x128 (constant S_ .f32 0x3F4CCCCD#32))

/-- The heads side by side again, times the gate. -/
def gated (O : FVec Ideal S2x8x16384x128 .f32) (a5 : FVec Ideal S32768x6144 .bf16) : FVec Ideal S32768x1024 .bf16 :=
  truncf .bf16 (mulf (shapeCast S32768x1024 (transpose S2x16384x8x128 [0, 2, 1, 3] O transposes_S2x8x16384x128_S2x16384x8x128_0_2_1_3) shapeCasts_S2x16384x8x128_S32768x1024) (mulf (extf .f32 (extractStridedSlice S32768x1024 ![0, 5120] a5 slices_S32768x6144_S32768x1024_0_5120) bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 5120] a5 slices_S32768x6144_S32768x1024_0_5120) bitsLt_bf16_f32))))))) bitsLt_bf16_f32

/-- The reference's array from its arguments. -/
def out (a0 : IVec S256 32) (a1 a2 a3 a4 : FVec Ideal S32768x1024 .bf16) (a5 : FVec Ideal S32768x6144 .bf16) (l0 l1 l2 l3 : FVec Ideal S64 .f32)
    (g : FVec Ideal S128 .f32) : FVec Ideal S32768x1024 .bf16 :=
  gated (normedRows (weighed (difference (shares (powers (maskedScores a0 a1 a3))) (shares (powers (maskedScores a0 a2 a4))) l0 l1 l2 l3) a5) g) a5

set_option maxHeartbeats 4000000 in
/-- The reference's printed result is the array built from the parts above. -/
theorem res_eq (m : (ℓ : Loc nD τ sig) → Buf (Elt Ideal) ℓ) (c : Dev nD) :
    Cert.DiffAttnReferenceIdeal.Value.res_main_v91 m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

/-- A score at an index: the product of a query and a key. -/
theorem scores_apply (a1 a2 : FVec Ideal S32768x1024 .bf16) (b : Fin 2) (h : Fin 8) (p j : Fin 16384) :
    scores a1 a2 (ix4 b h p j) = ∑ d : Fin 128, a1 (ix2 (Fin.ofNat 32768 (b.val * 16384 + p.val)) (Fin.ofNat 1024 (h.val * 128 + d.val)))
      * a2 (ix2 (Fin.ofNat 32768 (b.val * 16384 + j.val)) (Fin.ofNat 1024 (h.val * 128 + d.val))) := by
  unfold scores
  pointwise
  have hb := b.isLt; have hh := h.isLt; have hp := p.isLt; have hj := j.isLt
  refine Finset.sum_congr rfl fun d _ => ?_
  have hd := d.isLt
  rw [ofNat_mk (b.val * 16384 + p.val) (by omega), ofNat_mk (b.val * 16384 + j.val) (by omega), ofNat_mk (h.val * 128 + d.val) (by omega)]

/-- The mask's word: set exactly when the key is at or after the start and not after the query. -/
theorem seen_apply (a0 : IVec S256 32) (b : Fin 2) (h : Fin 8) (p j : Fin 16384)
    (hs : (a0 (ix1 (Fin.ofNat 256 ((b.val * 8 + h.val) * 16 + p.val / 1024)))).toNat < 16) :
    seen a0 (ix4 b h p j) = 1#1 ↔ 1024 * (a0 (ix1 (Fin.ofNat 256 ((b.val * 8 + h.val) * 16 + p.val / 1024)))).toNat ≤ j.val ∧ j.val ≤ p.val := by
  have hb := b.isLt; have hh := h.isLt; have hp := p.isLt; have hj := j.isLt
  have e : seen a0 (ix4 b h p j) = IntOp.andi (IntOp.cmpi .sge (BitVec.ofNat 32 p.val) (BitVec.ofNat 32 j.val))
      (IntOp.cmpi .sge (BitVec.ofNat 32 j.val) (IntOp.muli 1024#32 (a0 (ix1 (Fin.ofNat 256 ((b.val * 8 + h.val) * 16 + p.val / 1024)))))) := by
    unfold seen
    pointwise
    have ei : (b.val * 8 + h.val) * 16 + p.val / 1024 = b.val * 128 + h.val * 16 + p.val / 1024 := by omega
    rw [ei, ofNat_mk (b.val * 128 + h.val * 16 + p.val / 1024) (by omega)]
  rw [e, andi_eq_one]
  generalize a0 _ = w at hs ⊢
  have hw : IntOp.muli 1024#32 w = BitVec.ofNat 32 (1024 * w.toNat) := by
    apply BitVec.eq_of_toNat_eq
    show (1024#32 * w).toNat = _
    rw [BitVec.toNat_mul, BitVec.toNat_ofNat, BitVec.toNat_ofNat]
  rw [hw, sge_iff hp hj, sge_iff hj (by omega), and_comm]

/-- A masked score at an index: the score of a key that is seen, else minus infinity. -/
theorem maskedScores_apply (a0 : IVec S256 32) (a1 a2 : FVec Ideal S32768x1024 .bf16) (b : Fin 2) (h : Fin 8) (p j : Fin 16384)
    (hs : (a0 (ix1 (Fin.ofNat 256 ((b.val * 8 + h.val) * 16 + p.val / 1024)))).toNat < 16) :
    maskedScores a0 a1 a2 (ix4 b h p j)
      = if 1024 * (a0 (ix1 (Fin.ofNat 256 ((b.val * 8 + h.val) * 16 + p.val / 1024)))).toNat ≤ j.val ∧ j.val ≤ p.val then
          ∑ d : Fin 128, a1 (ix2 (Fin.ofNat 32768 (b.val * 16384 + p.val)) (Fin.ofNat 1024 (h.val * 128 + d.val)))
            * a2 (ix2 (Fin.ofNat 32768 (b.val * 16384 + j.val)) (Fin.ofNat 1024 (h.val * 128 + d.val)))
        else ⊥ := by
  rw [← scores_apply]
  show (if seen a0 (ix4 b h p j) = 1#1 then scores a1 a2 (ix4 b h p j) else Ideal.ofBits .f32 4286578688#32) = _
  rw [ofBits_ninf]
  exact if_congr (seen_apply a0 b h p j hs) rfl rfl

/-- A power at an index: two raised to the score less the row's largest. -/
theorem powers_apply (M : FVec Ideal S2x8x16384x16384 .f32) (b : Fin 2) (h : Fin 8) (p j : Fin 16384) :
    powers M (ix4 b h p j) = Ideal.exp2 (M (ix4 b h p j) - Finset.univ.fold max ⊥ fun x => M (ix4 b h p x)) := by
  unfold powers
  pointwise
  rw [ofBits_two, ofBits_ninf, pow_two]

/-- A share at an index: the power over the sum of the row's powers. -/
theorem shares_apply (E : FVec Ideal S2x8x16384x16384 .f32) (b : Fin 2) (h : Fin 8) (p j : Fin 16384) :
    shares E (ix4 b h p j) = Ideal.div (E (ix4 b h p j)) (∑ x, E (ix4 b h p x)) := by
  unfold shares
  pointwise

/-- The product with the values at an index: the sum over the keys. -/
theorem weighed_apply (P : FVec Ideal S2x8x16384x16384 .f32) (a5 : FVec Ideal S32768x6144 .bf16) (b : Fin 2) (h : Fin 8) (p : Fin 16384) (e : Fin 128) :
    weighed P a5 (ix4 b h p e)
      = ∑ x : Fin 16384, P (ix4 b h p x) * a5 (ix2 (Fin.ofNat 32768 (b.val * 16384 + x.val)) (Fin.ofNat 6144 (4096 + (h.val * 128 + e.val)))) := by
  unfold weighed
  pointwise
  have hb := b.isLt; have hh := h.isLt; have he := e.isLt
  refine Finset.sum_congr rfl fun x _ => ?_
  have hx := x.isLt
  rw [ofNat_mk (b.val * 16384 + x.val) (by omega), ofNat_mk (4096 + (h.val * 128 + e.val)) (by omega)]

/-- The difference of the shares at an index. -/
theorem difference_apply (P Q : FVec Ideal S2x8x16384x16384 .f32) (l0 l1 l2 l3 : FVec Ideal S64 .f32) (b : Fin 2) (h : Fin 8) (p j : Fin 16384) :
    difference P Q l0 l1 l2 l3 (ix4 b h p j) = P (ix4 b h p j) - weightOf l0 l1 l2 l3 * Q (ix4 b h p j) := by
  unfold difference weightOf weight
  pointwise

/-- A normed row at an index. -/
theorem normedRows_apply (O : FVec Ideal S2x8x16384x128 .f32) (g : FVec Ideal S128 .f32) (b : Fin 2) (h : Fin 8) (p : Fin 16384) (e : Fin 128) :
    normedRows O g (ix4 b h p e) = normed (fun c => O (ix4 b h p c)) (fun c => g (ix1 c)) e := by
  unfold normedRows normed
  pointwise

/-- The gated array at an index. -/
theorem gated_apply (O : FVec Ideal S2x8x16384x128 .f32) (a5 : FVec Ideal S32768x6144 .bf16) (r : Fin 32768) (c : Fin 1024) :
    gated O a5 (ix2 r c) = O (ix4 (⟨r.val / 16384, by omega⟩ : Fin 2) (⟨c.val / 128, by omega⟩ : Fin 8) (⟨r.val % 16384, by omega⟩ : Fin 16384) (⟨c.val % 128, by omega⟩ : Fin 128))
      * silu (a5 (ix2 r (⟨5120 + c.val, by omega⟩ : Fin 6144))) := by
  unfold gated silu
  pointwise
  rw [zero_sub]

/-! ## The difference of two softmaxes times the values -/

/-- A sum of reals, taken in the extended reals. -/
theorem coe_sum {n : ℕ} (f : Fin n → ℝ) : ∑ j, (f j : EReal) = ((∑ j, f j : ℝ) : EReal) :=
  (map_sum (⟨⟨Real.toEReal, rfl⟩, EReal.coe_add⟩ : ℝ →+ EReal) f Finset.univ).symm

/-- The shares of a row, some of whose scores are real and none plus infinity, are real. -/
theorem share_real {N : ℕ} (τ : Fin N → EReal) (ht : ∀ j, τ j ≠ ⊤) (j0 : Fin N) (hb : τ j0 ≠ ⊥) (j : Fin N) :
    ∃ r : ℝ, Ideal.div (Ideal.exp2 (τ j - Finset.univ.fold max ⊥ τ)) (∑ j, Ideal.exp2 (τ j - Finset.univ.fold max ⊥ τ)) = r := by
  have hM : ∃ M : ℝ, Finset.univ.fold max ⊥ τ = (M : EReal) := by
    have h1 : Finset.univ.fold max ⊥ τ ≠ ⊤ := ((Finset.sup_lt_iff bot_lt_top).2 fun j _ => lt_top_iff_ne_top.2 (ht j) : Finset.univ.sup τ < ⊤).ne
    have h2 : Finset.univ.fold max ⊥ τ ≠ ⊥ := fun h => hb (le_bot_iff.1 (h ▸ (Finset.le_sup (f := τ) (Finset.mem_univ j0) : τ j0 ≤ Finset.univ.sup τ)))
    exact ⟨_, (EReal.coe_toReal h1 h2).symm⟩
  obtain ⟨M, hM⟩ := hM
  rw [hM]
  have he : ∀ j, ∃ r : ℝ, Ideal.exp2 (τ j - (M : EReal)) = r := by
    intro j
    have := ht j
    generalize τ j = s at this
    induction s with
    | top => exact absurd rfl this
    | bot => exact ⟨0, by rw [EReal.bot_sub, exp2_bot]; rfl⟩
    | coe s => exact ⟨_, by rw [← EReal.coe_sub, exp2_coe]⟩
  have hpos : 0 < ∑ j, Ideal.exp2 (τ j - (M : EReal)) := by
    refine lt_of_lt_of_le ?_ (Finset.single_le_sum (f := fun j => Ideal.exp2 (τ j - (M : EReal))) (fun j _ => exp2_nonneg _) (Finset.mem_univ j0))
    have h1 := ht j0
    show 0 < Ideal.exp2 (τ j0 - (M : EReal))
    generalize τ j0 = s at h1 hb
    induction s with
    | top => exact absurd rfl h1
    | bot => exact absurd rfl hb
    | coe s => rw [← EReal.coe_sub, exp2_coe]; exact EReal.coe_pos.2 (Real.rpow_pos_of_pos (by norm_num) _)
  choose f hf using he
  simp only [hf] at hpos ⊢
  rw [coe_sum] at hpos ⊢
  refine ⟨f j * (∑ j, f j)⁻¹, ?_⟩
  unfold Ideal.div
  rw [if_neg hpos.ne', EReal.coe_mul, EReal.coe_inv]

/-- Sums of real products, the second less weighed. -/
theorem sub_mul_sum {N : ℕ} (p q w : Fin N → EReal) (l : EReal) (hp : ∀ j, ∃ r : ℝ, p j = r) (hq : ∀ j, ∃ r : ℝ, q j = r) (hw : ∀ j, ∃ r : ℝ, w j = r)
    (hl : ∃ r : ℝ, l = r) : ∑ j, (p j - l * q j) * w j = ∑ j, p j * w j - l * ∑ j, q j * w j := by
  choose p' hp using hp
  choose q' hq using hq
  choose w' hw using hw
  obtain ⟨l', rfl⟩ := hl
  simp only [hp, hq, hw, ← EReal.coe_mul, ← EReal.coe_sub, coe_sum]
  congr 1
  rw [Finset.mul_sum, ← Finset.sum_sub_distrib]
  exact Finset.sum_congr rfl fun j _ => by ring

/-- The weight of the second softmax is real if the four vectors are. -/
theorem weightOf_real (l0 l1 l2 l3 : FVec Ideal S64 .f32)
    (hl : ∀ d : Fin 64, (∃ r : ℝ, l0 (ix1 d) = (r : EReal)) ∧ (∃ r : ℝ, l1 (ix1 d) = (r : EReal)) ∧ (∃ r : ℝ, l2 (ix1 d) = (r : EReal)) ∧ (∃ r : ℝ, l3 (ix1 d) = (r : EReal))) :
    ∃ r : ℝ, weightOf l0 l1 l2 l3 = r := by
  obtain ⟨x, hx⟩ := real_sum (fun d : Fin 64 => l0 (ix1 d)) (fun d => l1 (ix1 d)) (fun d => (hl d).1) (fun d => (hl d).2.1)
  obtain ⟨y, hy⟩ := real_sum (fun d : Fin 64 => l2 (ix1 d)) (fun d => l3 (ix1 d)) (fun d => (hl d).2.2.1) (fun d => (hl d).2.2.2)
  have hz : ∃ z : ℝ, Ideal.ofBits .f32 0x3E4CCCCD#32 = (z : EReal) := by
    simp [Ideal.ofBits, Ideal.ieee, -EReal.coe_mul]
  obtain ⟨z, hz⟩ := hz
  refine ⟨Real.exp x - Real.exp y + z, ?_⟩
  unfold weightOf weight
  rw [hx, hy, hz]
  rfl

/-- The scores of a row are not plus infinity, and a query's own key is seen. -/
theorem rowScores_ne_top (a0 : IVec S256 32) (q k : FVec Ideal S32768x1024 .bf16) (hq : ∀ j, ∃ r : ℝ, q j = (r : EReal)) (hk : ∀ j, ∃ r : ℝ, k j = (r : EReal))
    (b h p : ℕ) (j : Fin 16384) : rowScores a0 q k b h p j ≠ ⊤ := by
  unfold rowScores
  split
  · obtain ⟨r, e⟩ := real_sum (fun d : Fin 128 => q (ix2 (Fin.ofNat 32768 (b * 16384 + p)) (Fin.ofNat 1024 (h * 128 + d.val))))
      (fun d => k (ix2 (Fin.ofNat 32768 (b * 16384 + j.val)) (Fin.ofNat 1024 (h * 128 + d.val)))) (fun d => hq _) (fun d => hk _)
    rw [e]; exact EReal.coe_ne_top r
  · exact bot_ne_top

/-- A query's own key is seen, so its score is not minus infinity. -/
theorem rowScores_self (a0 : IVec S256 32) (q k : FVec Ideal S32768x1024 .bf16) (hq : ∀ j, ∃ r : ℝ, q j = (r : EReal)) (hk : ∀ j, ∃ r : ℝ, k j = (r : EReal))
    (b h : ℕ) (p : Fin 16384) (hs : 1024 * (a0 (ix1 (Fin.ofNat 256 ((b * 8 + h) * 16 + p.val / 1024)))).toNat ≤ p.val) : rowScores a0 q k b h p.val p ≠ ⊥ := by
  unfold rowScores
  rw [if_pos ⟨hs, le_rfl⟩]
  obtain ⟨r, e⟩ := real_sum (fun d : Fin 128 => q (ix2 (Fin.ofNat 32768 (b * 16384 + p.val)) (Fin.ofNat 1024 (h * 128 + d.val))))
    (fun d => k (ix2 (Fin.ofNat 32768 (b * 16384 + p.val)) (Fin.ofNat 1024 (h * 128 + d.val)))) (fun d => hq _) (fun d => hk _)
  rw [e]; exact EReal.coe_ne_bot r

/-- A start word, as a number, is a pair at or before the query block's own. -/
theorem start_le {a0 : IVec S256 32} (ht : StartTable a0) (b h p : ℕ) (hb : b < 2) (hh : h < 8) (hp : p < 16384) :
    (a0 (ix1 (Fin.ofNat 256 ((b * 8 + h) * 16 + p / 1024)))).toNat < 16 ∧ 1024 * (a0 (ix1 (Fin.ofNat 256 ((b * 8 + h) * 16 + p / 1024)))).toNat ≤ p := by
  obtain ⟨s, hs, e⟩ := ht (ix1 (Fin.ofNat 256 ((b * 8 + h) * 16 + p / 1024)))
  have hv : ((ix1 (Fin.ofNat 256 ((b * 8 + h) * 16 + p / 1024)) : S256.Idx) 0).val = ((b * 8 + h) * 16 + p / 1024) % 256 := rfl
  rw [hv] at hs
  have hw : (a0 (ix1 (Fin.ofNat 256 ((b * 8 + h) * 16 + p / 1024)))).toNat = s.val := by
    refine (congrArg BitVec.toNat e).trans ?_
    have := s.isLt
    show s.val % 2 ^ 32 = _
    omega
  rw [hw]
  omega

/-- The reference's array is the attention's. -/
theorem out_eq (a0 : IVec S256 32) (a1 a2 a3 a4 : FVec Ideal S32768x1024 .bf16) (a5 : FVec Ideal S32768x6144 .bf16) (l0 l1 l2 l3 : FVec Ideal S64 .f32)
    (g : FVec Ideal S128 .f32) (hf : AllReal a0 a1 a2 a3 a4 a5 l0 l1 l2 l3) :
    out a0 a1 a2 a3 a4 a5 l0 l1 l2 l3 g = attention a0 a1 a2 a3 a4 a5 l0 l1 l2 l3 g := by
  funext i
  obtain ⟨r, c, rfl⟩ : ∃ (r : Fin 32768) (c : Fin 1024), i = ix2 r c := ⟨i 0, i 1, by funext a; fin_cases a <;> rfl⟩
  have hr := r.isLt; have hc := c.isLt
  unfold out
  rw [gated_apply, normedRows_apply]
  show _ = attentionAt a0 a1 a2 a3 a4 a5 l0 l1 l2 l3 g (r.val / 16384) (r.val % 16384) (c.val / 128) (Fin.ofNat 128 (c.val % 128))
  unfold attentionAt
  have e1 : r.val / 16384 * 16384 + r.val % 16384 = r.val := by omega
  have e3 : (Fin.ofNat 128 (c.val % 128)).val = c.val % 128 := by show c.val % 128 % 128 = _; omega
  have e4 : Fin.ofNat 128 (c.val % 128) = (⟨c.val % 128, by omega⟩ : Fin 128) := Fin.ext e3
  have hst := start_le hf.table (r.val / 16384) (c.val / 128) (r.val % 16384) (by omega) (by omega) (by omega)
  refine Ideal.mul_congr ?_ (congrArg silu ?_)
  · rw [e4]
    refine congrArg (fun o => normed o (fun c => g (ix1 c)) _) (funext fun c' => ?_)
    rw [weighed_apply]
    have hM : ∀ (q k : FVec Ideal S32768x1024 .bf16) (x : Fin 16384), maskedScores a0 q k (ix4 (⟨r.val / 16384, by omega⟩ : Fin 2) (⟨c.val / 128, by omega⟩ : Fin 8) (⟨r.val % 16384, by omega⟩ : Fin 16384) x)
        = rowScores a0 q k (r.val / 16384) (c.val / 128) (r.val % 16384) x :=
      fun q k x => maskedScores_apply a0 q k _ _ _ x hst.1
    simp only [difference_apply, shares_apply, powers_apply, hM]
    refine sub_mul_sum _ _ (valuesOf a5 (r.val / 16384) (c.val / 128) c') _ (fun j => ?_) (fun j => ?_) (fun j => ?_) (weightOf_real l0 l1 l2 l3 hf.l)
    · exact share_real _ (rowScores_ne_top a0 a1 a3 hf.q1 hf.k1 _ _ _) (⟨r.val % 16384, by omega⟩ : Fin 16384) (rowScores_self a0 a1 a3 hf.q1 hf.k1 _ _ _ hst.2) j
    · exact share_real _ (rowScores_ne_top a0 a2 a4 hf.q2 hf.k2 _ _ _) (⟨r.val % 16384, by omega⟩ : Fin 16384) (rowScores_self a0 a2 a4 hf.q2 hf.k2 _ _ _ hst.2) j
    · unfold valuesOf
      have hj := j.isLt; have hc' := c'.isLt
      rw [ofNat_mk (4096 + (c.val / 128 * 128 + c'.val)) (by omega)]
      exact hf.v _ (⟨c.val / 128 * 128 + c'.val, by omega⟩ : Fin 1024)
  · have e2 : 5120 + (c.val / 128 * 128 + c.val % 128) = 5120 + c.val := by omega
    rw [e1, e3, e2, ofNat_mk r.val hr, ofNat_mk (5120 + c.val) (by omega)]

end Cert.Diff.Ref

end
-- ==== Proof.DiffValue.lean ====
/- The differential attention's result is its reference's, at the extended reals. -/
module

public import proofs.«01_k».proof.Proof.DiffRef

@[expose] public section

set_option maxRecDepth 16384

noncomputable section

namespace Cert.Diff

open Idealize.ShloMosaic Idealize.ShloMosaic.TcCoe Idealize.SL.Sem

set_option maxHeartbeats 4000000 in
/-- From equal arguments that the precondition allows, the idealized call and its reference end with the same array. -/
theorem algebraic : Cert.algebraic_DiffAttnIdeal_DiffAttnReferenceIdeal_pre_pairs_named_all_finite := by
  intro m ρ m' ρ' hpre hagree
  have hf := fun c => of_finite _ _ _ _ _ _ _ _ _ _ _ (hpre c)
  refine ⟨fun c => result m c, run m ρ (ok_all m) (starts_of m fun c => (hf c).table) hf, ?_⟩
  refine (θ_run Cert.DiffAttnReferenceIdeal.defs _ _).mono (fun _ h c => ⟨((h c).1.trans (Ref.res_eq m' c)).trans ?_, (h c).2⟩)
    (Cert.DiffAttnReferenceIdeal.Value.run (F := Ideal) m' ρ')
  obtain ⟨h0, h1, h2, h3, h4, h5, h6, h7, h8, h9, h10⟩ := hagree c
  rw [h0, h1, h2, h3, h4, h5, h6, h7, h8, h9, h10]
  exact Ref.out_eq _ _ _ _ _ _ _ _ _ _ _ (hf c)

end Cert.Diff

end
-- ==== Proof.lean ====
module

public import proofs.«01_k».proof.Defs
public import proofs.«01_k».proof.Proof.Frames
public import proofs.«01_k».proof.Proof.Value
public import proofs.«01_k».proof.Proof.OddOut
public import proofs.«01_k».proof.Proof.EvenOut
public import proofs.«01_k».proof.Proof.OddProj
public import proofs.«01_k».proof.Proof.EvenProj
public import proofs.«01_k».proof.Proof.DiffFrames
public import proofs.«01_k».proof.Proof.DiffValue
public import proofs.«01_k».proof.Proof.Gen.Kernel
public import proofs.«01_k».proof.Proof.Gen.KernelIdeal
public import proofs.«01_k».proof.Proof.Gen.ReferenceIdeal
public import proofs.«01_k».proof.Proof.Gen.OddOut
public import proofs.«01_k».proof.Proof.Gen.OddOutIdeal
public import proofs.«01_k».proof.Proof.Gen.OddOutReferenceIdeal
public import proofs.«01_k».proof.Proof.Gen.EvenOut
public import proofs.«01_k».proof.Proof.Gen.EvenOutIdeal
public import proofs.«01_k».proof.Proof.Gen.EvenOutReferenceIdeal
public import proofs.«01_k».proof.Proof.Gen.OddProj
public import proofs.«01_k».proof.Proof.Gen.OddProjIdeal
public import proofs.«01_k».proof.Proof.Gen.OddProjReferenceIdeal
public import proofs.«01_k».proof.Proof.Gen.EvenProj
public import proofs.«01_k».proof.Proof.Gen.EvenProjIdeal
public import proofs.«01_k».proof.Proof.Gen.EvenProjReferenceIdeal
public import proofs.«01_k».proof.Proof.Gen.DiffAttn
public import proofs.«01_k».proof.Proof.Gen.DiffAttnIdeal
public import proofs.«01_k».proof.Proof.Gen.DiffAttnReferenceIdeal
public import proofs.«01_k».proof.Proof.Gen.Pre_start_names_a_pair
public import proofs.«01_k».proof.Proof.Gen.Pre_pairs_named

@[expose] public section

noncomputable section

namespace Cert.Proof

open Cert.Fox

/-- Everything that the certificate claims. -/
theorem claim : Cert.Claim :=
  ⟨Cert.Kernel.Gen.facts, Cert.KernelIdeal.Gen.facts, Cert.ReferenceIdeal.Gen.facts,
    Cert.OddOut.Gen.facts, Cert.OddOutIdeal.Gen.facts, Cert.OddOutReferenceIdeal.Gen.facts,
    Cert.EvenOut.Gen.facts, Cert.EvenOutIdeal.Gen.facts, Cert.EvenOutReferenceIdeal.Gen.facts,
    Cert.OddProj.Gen.facts, Cert.OddProjIdeal.Gen.facts, Cert.OddProjReferenceIdeal.Gen.facts,
    Cert.EvenProj.Gen.facts, Cert.EvenProjIdeal.Gen.facts, Cert.EvenProjReferenceIdeal.Gen.facts,
    Cert.DiffAttn.Gen.facts, Cert.DiffAttnIdeal.Gen.facts, Cert.DiffAttnReferenceIdeal.Gen.facts,
    Cert.Pre_start_names_a_pair.Gen.facts, Cert.Fox.finiteFacts, Cert.Pre_pairs_named.Gen.facts, Cert.Diff.finiteFacts,
    frame_kernel, frame_kernelIdeal, frame_kernelIdeal_finite, frame_reference, frame_reference_finite,
    Cert.OddOutProof.frame_kernel, Cert.OddOutProof.frame_ideal, Cert.OddOutProof.frame_reference,
    Cert.EvenOutProof.frame_kernel, Cert.EvenOutProof.frame_ideal, Cert.EvenOutProof.frame_reference,
    Cert.OddProjProof.frame_kernel, Cert.OddProjProof.frame_ideal, Cert.OddProjProof.frame_reference,
    Cert.EvenProjProof.frame_kernel, Cert.EvenProjProof.frame_ideal, Cert.EvenProjProof.frame_reference,
    Cert.Diff.frame_kernel, Cert.Diff.frame_kernelIdeal, Cert.Diff.frame_kernelIdeal_finite, Cert.Diff.frame_reference, Cert.Diff.frame_reference_finite,
    trivial, algebraic,
    trivial, Cert.OddOutProof.algebraic,
    trivial, Cert.EvenOutProof.algebraic,
    trivial, Cert.OddProjProof.algebraic,
    trivial, Cert.EvenProjProof.algebraic,
    trivial, Cert.Diff.algebraic⟩

end Cert.Proof
